-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "softplus_threshold" .f32 0x41A00000#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x64x2048 : Shape := ⟨3, ![2, 64, 2048]⟩
abbrev S2x96x128x128 : Shape := ⟨4, ![2, 96, 128, 128]⟩
abbrev S32x128x3x3 : Shape := ⟨4, ![32, 128, 3, 3]⟩
abbrev S32 : Shape := ⟨1, ![32]⟩
abbrev S2x64x32 : Shape := ⟨3, ![2, 64, 32]⟩
abbrev S2x32x32 : Shape := ⟨3, ![2, 32, 32]⟩
abbrev S2x32 : Shape := ⟨2, ![2, 32]⟩
abbrev S64x16 : Shape := ⟨2, ![64, 16]⟩
abbrev S64 : Shape := ⟨1, ![64]⟩
abbrev S32x512 : Shape := ⟨2, ![32, 512]⟩
abbrev S16x512 : Shape := ⟨2, ![16, 512]⟩
abbrev S512x32 : Shape := ⟨2, ![512, 32]⟩
abbrev S128x64 : Shape := ⟨2, ![128, 64]⟩
abbrev S64x128 : Shape := ⟨2, ![64, 128]⟩
abbrev S2x32x16 : Shape := ⟨3, ![2, 32, 16]⟩
abbrev S2x16x32 : Shape := ⟨3, ![2, 16, 32]⟩
abbrev S2x1x512 : Shape := ⟨3, ![2, 1, 512]⟩
abbrev S2x1x32 : Shape := ⟨3, ![2, 1, 32]⟩
abbrev S2x32x64 : Shape := ⟨3, ![2, 32, 64]⟩
abbrev S1x32 : Shape := ⟨2, ![1, 32]⟩
abbrev S3x3x128x32 : Shape := ⟨4, ![3, 3, 128, 32]⟩
abbrev S9x128x32 : Shape := ⟨3, ![9, 128, 32]⟩
abbrev S2x128x128x96 : Shape := ⟨4, ![2, 128, 128, 96]⟩
abbrev S_ : Shape := ⟨0, ![]⟩
abbrev S2x130x130x96 : Shape := ⟨4, ![2, 130, 130, 96]⟩
abbrev S9x32x32 : Shape := ⟨3, ![9, 32, 32]⟩
abbrev S9x96x32 : Shape := ⟨3, ![9, 96, 32]⟩
abbrev S2x128x4096 : Shape := ⟨3, ![2, 128, 4096]⟩
abbrev S1x64x2048 : Shape := ⟨3, ![1, 64, 2048]⟩
abbrev S1x130x130x96 : Shape := ⟨4, ![1, 130, 130, 96]⟩
abbrev S1x128x4096 : Shape := ⟨3, ![1, 128, 4096]⟩
abbrev S32x64x32 : Shape := ⟨3, ![32, 64, 32]⟩
abbrev S130x130x32 : Shape := ⟨3, ![130, 130, 32]⟩
abbrev S128x128x128 : Shape := ⟨3, ![128, 128, 128]⟩
abbrev S128x4096 : Shape := ⟨2, ![128, 4096]⟩
abbrev S64x2048 : Shape := ⟨2, ![64, 2048]⟩
abbrev S128x2048 : Shape := ⟨2, ![128, 2048]⟩
abbrev S32x2048 : Shape := ⟨2, ![32, 2048]⟩
abbrev S32x32x64 : Shape := ⟨3, ![32, 32, 64]⟩
abbrev S1024x64 : Shape := ⟨2, ![1024, 64]⟩
abbrev S1024x128 : Shape := ⟨2, ![1024, 128]⟩
abbrev S32x32x128 : Shape := ⟨3, ![32, 32, 128]⟩
abbrev S32x128x32 : Shape := ⟨3, ![32, 128, 32]⟩
abbrev S1x130x32 : Shape := ⟨3, ![1, 130, 32]⟩
abbrev S130x1x32 : Shape := ⟨3, ![130, 1, 32]⟩
abbrev S4096x32 : Shape := ⟨2, ![4096, 32]⟩
abbrev S1x32x128x96 : Shape := ⟨4, ![1, 32, 128, 96]⟩
abbrev S32x128x96 : Shape := ⟨3, ![32, 128, 96]⟩
abbrev S4096x96 : Shape := ⟨2, ![4096, 96]⟩
abbrev S1x32x32 : Shape := ⟨3, ![1, 32, 32]⟩
abbrev S32x32 : Shape := ⟨2, ![32, 32]⟩
abbrev S1x96x32 : Shape := ⟨3, ![1, 96, 32]⟩
abbrev S96x32 : Shape := ⟨2, ![96, 32]⟩
abbrev S1x32x64 : Shape := ⟨3, ![1, 32, 64]⟩
abbrev S32x64 : Shape := ⟨2, ![32, 64]⟩
abbrev S4096x64 : Shape := ⟨2, ![4096, 64]⟩
abbrev S1x1x32 : Shape := ⟨3, ![1, 1, 32]⟩
abbrev S4096x16 : Shape := ⟨2, ![4096, 16]⟩
abbrev S32x128x16 : Shape := ⟨3, ![32, 128, 16]⟩
abbrev S1x512 : Shape := ⟨2, ![1, 512]⟩
abbrev S1x1x512 : Shape := ⟨3, ![1, 1, 512]⟩
abbrev S1x128x128 : Shape := ⟨3, ![1, 128, 128]⟩
abbrev S128x128 : Shape := ⟨2, ![128, 128]⟩
abbrev S128x32 : Shape := ⟨2, ![128, 32]⟩
abbrev S128x16 : Shape := ⟨2, ![128, 16]⟩
abbrev S128x512 : Shape := ⟨2, ![128, 512]⟩
abbrev S127x512 : Shape := ⟨2, ![127, 512]⟩
abbrev S2x512 : Shape := ⟨2, ![2, 512]⟩
abbrev S126x512 : Shape := ⟨2, ![126, 512]⟩
abbrev S4x512 : Shape := ⟨2, ![4, 512]⟩
abbrev S124x512 : Shape := ⟨2, ![124, 512]⟩
abbrev S8x512 : Shape := ⟨2, ![8, 512]⟩
abbrev S120x512 : Shape := ⟨2, ![120, 512]⟩
abbrev S112x512 : Shape := ⟨2, ![112, 512]⟩
abbrev S96x512 : Shape := ⟨2, ![96, 512]⟩
abbrev S64x512 : Shape := ⟨2, ![64, 512]⟩
abbrev S1x128x32 : Shape := ⟨3, ![1, 128, 32]⟩
abbrev S128x1x128 : Shape := ⟨3, ![128, 1, 128]⟩
abbrev S128x1x32 : Shape := ⟨3, ![128, 1, 32]⟩
abbrev S32x128 : Shape := ⟨2, ![32, 128]⟩
abbrev S32x128x1 : Shape := ⟨3, ![32, 128, 1]⟩
abbrev S32x4096 : Shape := ⟨2, ![32, 4096]⟩
abbrev S2x128x128x32 : Shape := ⟨4, ![2, 128, 128, 32]⟩
abbrev S2x32x128x128 : Shape := ⟨4, ![2, 32, 128, 128]⟩

abbrev nBuf : Space → Nat
  | .hbm => 37
  | .vmem => 26
  | .smem => 0
  | _ => 0

abbrev bufTy : (tb : Table) → Fin (tcTables nBuf tb) → BufTy
  | .hbm, ⟨0, _⟩ => ⟨S2x64x2048, .f32⟩
  | .hbm, ⟨1, _⟩ => ⟨S2x96x128x128, .f32⟩
  | .hbm, ⟨2, _⟩ => ⟨S32x128x3x3, .f32⟩
  | .hbm, ⟨3, _⟩ => ⟨S32, .f32⟩
  | .hbm, ⟨4, _⟩ => ⟨S2x64x32, .f32⟩
  | .hbm, ⟨5, _⟩ => ⟨S2x32x32, .f32⟩
  | .hbm, ⟨6, _⟩ => ⟨S2x32, .f32⟩
  | .hbm, ⟨7, _⟩ => ⟨S64x16, .f32⟩
  | .hbm, ⟨8, _⟩ => ⟨S64, .f32⟩
  | .hbm, ⟨9, _⟩ => ⟨S32, .f32⟩
  | .hbm, ⟨10, _⟩ => ⟨S32, .f32⟩
  | .hbm, ⟨11, _⟩ => ⟨S32x512, .f32⟩
  | .hbm, ⟨12, _⟩ => ⟨S16x512, .f32⟩
  | .hbm, ⟨13, _⟩ => ⟨S512x32, .f32⟩
  | .hbm, ⟨14, _⟩ => ⟨S128x64, .f32⟩
  | .hbm, ⟨15, _⟩ => ⟨S64x128, .f32⟩
  | .hbm, ⟨16, _⟩ => ⟨S2x32x16, .f32⟩
  | .hbm, ⟨17, _⟩ => ⟨S2x16x32, .f32⟩
  | .hbm, ⟨18, _⟩ => ⟨S2x1x512, .f32⟩
  | .hbm, ⟨19, _⟩ => ⟨S2x1x32, .f32⟩
  | .hbm, ⟨20, _⟩ => ⟨S2x1x32, .f32⟩
  | .hbm, ⟨21, _⟩ => ⟨S2x32x64, .f32⟩
  | .hbm, ⟨22, _⟩ => ⟨S2x32x32, .f32⟩
  | .hbm, ⟨23, _⟩ => ⟨S1x32, .f32⟩
  | .hbm, ⟨24, _⟩ => ⟨S1x32, .f32⟩
  | .hbm, ⟨25, _⟩ => ⟨S3x3x128x32, .f32⟩
  | .hbm, ⟨26, _⟩ => ⟨S9x128x32, .f32⟩
  | .hbm, ⟨27, _⟩ => ⟨S2x128x128x96, .f32⟩
  | .hbm, ⟨28, _⟩ => ⟨S_, .i32⟩
  | .hbm, ⟨29, _⟩ => ⟨S_, .f32⟩
  | .hbm, ⟨30, _⟩ => ⟨S2x130x130x96, .f32⟩
  | .hbm, ⟨31, _⟩ => ⟨S9x32x32, .f32⟩
  | .hbm, ⟨32, _⟩ => ⟨S9x96x32, .f32⟩
  | .hbm, ⟨33, _⟩ => ⟨S1x32, .f32⟩
  | .hbm, ⟨34, _⟩ => ⟨S2x128x4096, .f32⟩
  | .hbm, ⟨35, _⟩ => ⟨S2x128x128x32, .f32⟩
  | .hbm, ⟨36, _⟩ => ⟨S2x32x128x128, .f32⟩
  | .local _ .vmem, ⟨0, _⟩ => ⟨S1x64x2048, .f32⟩
  | .local _ .vmem, ⟨1, _⟩ => ⟨S1x64x2048, .f32⟩
  | .local _ .vmem, ⟨2, _⟩ => ⟨S1x130x130x96, .f32⟩
  | .local _ .vmem, ⟨3, _⟩ => ⟨S1x130x130x96, .f32⟩
  | .local _ .vmem, ⟨4, _⟩ => ⟨S9x32x32, .f32⟩
  | .local _ .vmem, ⟨5, _⟩ => ⟨S9x96x32, .f32⟩
  | .local _ .vmem, ⟨6, _⟩ => ⟨S1x32, .f32⟩
  | .local _ .vmem, ⟨7, _⟩ => ⟨S128x64, .f32⟩
  | .local _ .vmem, ⟨8, _⟩ => ⟨S64x128, .f32⟩
  | .local _ .vmem, ⟨9, _⟩ => ⟨S2x32x64, .f32⟩
  | .local _ .vmem, ⟨10, _⟩ => ⟨S2x32x32, .f32⟩
  | .local _ .vmem, ⟨11, _⟩ => ⟨S2x1x32, .f32⟩
  | .local _ .vmem, ⟨12, _⟩ => ⟨S2x1x512, .f32⟩
  | .local _ .vmem, ⟨13, _⟩ => ⟨S2x1x32, .f32⟩
  | .local _ .vmem, ⟨14, _⟩ => ⟨S1x32, .f32⟩
  | .local _ .vmem, ⟨15, _⟩ => ⟨S1x32, .f32⟩
  | .local _ .vmem, ⟨16, _⟩ => ⟨S32x512, .f32⟩
  | .local _ .vmem, ⟨17, _⟩ => ⟨S16x512, .f32⟩
  | .local _ .vmem, ⟨18, _⟩ => ⟨S512x32, .f32⟩
  | .local _ .vmem, ⟨19, _⟩ => ⟨S1x128x4096, .f32⟩
  | .local _ .vmem, ⟨20, _⟩ => ⟨S1x128x4096, .f32⟩
  | .local _ .vmem, ⟨21, _⟩ => ⟨S32x64x32, .f32⟩
  | .local _ .vmem, ⟨22, _⟩ => ⟨S130x130x32, .f32⟩
  | .local _ .vmem, ⟨23, _⟩ => ⟨S128x128x128, .f32⟩
  | .local _ .vmem, ⟨24, _⟩ => ⟨S128x128x128, .f32⟩
  | .local _ .vmem, ⟨25, _⟩ => ⟨S128x4096, .f32⟩
  | _, _ => ⟨S2x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_cst_2 : Ref sig .tc := ⟨.hbm, 14, rfl⟩
abbrev main_cst_3 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_call0_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c128_i32 : BitVec 32 := 128#32
  let v857 : BitVec 32 := Scalar.addi c0_i32 c128_i32
  let c1_i32 : BitVec 32 := 1#32
  ⟨c0_i32, v857, c1_i32⟩
def k0_off1 (k0_t1 : Fin k0_t1_loop.trips) : Fin 3 → Nat :=
  let c0_i32 : BitVec 32 := 0#32
  let c1_i32 : BitVec 32 := 1#32
  let arg24 : BitVec 32 := Scf.iv c0_i32 c1_i32 k0_t1
  let v1005 : Index := Scalar.indexCast arg24
  let c0_882 : Index := 0#32
  let c0_883 : Index := 0#32
  ![v1005.toNat, 0, 0]
def k0_off2 (k0_t1 : Fin k0_t1_loop.trips) : Fin 3 → Nat :=
  let c0_i32 : BitVec 32 := 0#32
  let c1_i32 : BitVec 32 := 1#32
  let arg24 : BitVec 32 := Scf.iv c0_i32 c1_i32 k0_t1
  let v1100 : Index := Scalar.indexCast arg24
  let c0_916 : Index := 0#32
  let c96_917 : Index := 96#32
  ![v1100.toNat, 0, 96]
@[reducible] def k0_t2_loop : Scf.Loop 32 :=
  let c0_i32_805 : BitVec 32 := 0#32
  let c128_i32_806 : BitVec 32 := 128#32
  let v859 : BitVec 32 := Scalar.addi c0_i32_805 c128_i32_806
  let c1_i32_807 : BitVec 32 := 1#32
  ⟨c0_i32_805, v859, c1_i32_807⟩
def k0_off3 (k0_t2 : Fin k0_t2_loop.trips) : Fin 3 → Nat :=
  let c0_882 : Index := 0#32
  let c0_i32_805 : BitVec 32 := 0#32
  let c1_i32_807 : BitVec 32 := 1#32
  let arg24 : BitVec 32 := Scf.iv c0_i32_805 c1_i32_807 k0_t2
  let v1005 : Index := Scalar.indexCast arg24
  let c0_883 : Index := 0#32
  ![0, v1005.toNat, 0]
def k0_off4 (k0_t2 : Fin k0_t2_loop.trips) : Fin 3 → Nat :=
  let c0_916 : Index := 0#32
  let c0_i32_805 : BitVec 32 := 0#32
  let c1_i32_807 : BitVec 32 := 1#32
  let arg24 : BitVec 32 := Scf.iv c0_i32_805 c1_i32_807 k0_t2
  let v1101 : Index := Scalar.indexCast arg24
  let c96_917 : Index := 96#32
  ![0, v1101.toNat, 96]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x130x130x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x96x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x128x4096 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "softplus_threshold" => some ⊤
  | _ => none
-- ==== ReferenceIdeal.lean ====
abbrev S2x64x2048 : Shape := ⟨3, ![2, 64, 2048]⟩
abbrev S2x96x128x128 : Shape := ⟨4, ![2, 96, 128, 128]⟩
abbrev S32x128x3x3 : Shape := ⟨4, ![32, 128, 3, 3]⟩
abbrev S32 : Shape := ⟨1, ![32]⟩
abbrev S2x64x32 : Shape := ⟨3, ![2, 64, 32]⟩
abbrev S2x32x32 : Shape := ⟨3, ![2, 32, 32]⟩
abbrev S2x32 : Shape := ⟨2, ![2, 32]⟩
abbrev S64x16 : Shape := ⟨2, ![64, 16]⟩
abbrev S64 : Shape := ⟨1, ![64]⟩
abbrev S128x64 : Shape := ⟨2, ![128, 64]⟩
abbrev S2x64x64x32 : Shape := ⟨4, ![2, 64, 64, 32]⟩
abbrev S2x32x64x64 : Shape := ⟨4, ![2, 32, 64, 64]⟩
abbrev S2x32x64x128 : Shape := ⟨4, ![2, 32, 64, 128]⟩
abbrev S2x32x128x64 : Shape := ⟨4, ![2, 32, 128, 64]⟩
abbrev S2x32x128x128 : Shape := ⟨4, ![2, 32, 128, 128]⟩
abbrev S2x128x128x128 : Shape := ⟨4, ![2, 128, 128, 128]⟩
abbrev S_ : Shape := ⟨0, ![]⟩
abbrev S2x128x130x130 : Shape := ⟨4, ![2, 128, 130, 130]⟩
abbrev S32x128x1x1 : Shape := ⟨4, ![32, 128, 1, 1]⟩
abbrev S32x128 : Shape := ⟨2, ![32, 128]⟩
abbrev S32x2x128x128 : Shape := ⟨4, ![32, 2, 128, 128]⟩
abbrev S1x32x1x1 : Shape := ⟨4, ![1, 32, 1, 1]⟩
abbrev S2x32x16384 : Shape := ⟨3, ![2, 32, 16384]⟩
abbrev S2x1x32x16384 : Shape := ⟨4, ![2, 1, 32, 16384]⟩
abbrev S2x2x32x16384 : Shape := ⟨4, ![2, 2, 32, 16384]⟩
abbrev S2x64x2x16384 : Shape := ⟨4, ![2, 64, 2, 16384]⟩
abbrev S2x2x64x16384 : Shape := ⟨4, ![2, 2, 64, 16384]⟩
abbrev S2x2x16x16384 : Shape := ⟨4, ![2, 2, 16, 16384]⟩
abbrev S2x32x2x16384 : Shape := ⟨4, ![2, 32, 2, 16384]⟩
abbrev S2x32x16 : Shape := ⟨3, ![2, 32, 16]⟩
abbrev S1x2x32x1 : Shape := ⟨4, ![1, 2, 32, 1]⟩
abbrev S16384x2x2x32 : Shape := ⟨4, ![16384, 2, 2, 32]⟩
abbrev S16384x2x2x16 : Shape := ⟨4, ![16384, 2, 2, 16]⟩
abbrev S2x2x32x16 : Shape := ⟨4, ![2, 2, 32, 16]⟩
abbrev S1x2x2x32 : Shape := ⟨4, ![1, 2, 2, 32]⟩
abbrev S2x2x32 : Shape := ⟨3, ![2, 2, 32]⟩
abbrev S1x2x2x16 : Shape := ⟨4, ![1, 2, 2, 16]⟩
abbrev S2x2x16 : Shape := ⟨3, ![2, 2, 16]⟩
abbrev S2x2x32x1 : Shape := ⟨4, ![2, 2, 32, 1]⟩
abbrev S1x2x32x16 : Shape := ⟨4, ![1, 2, 32, 16]⟩
abbrev S2x2x1x16 : Shape := ⟨4, ![2, 2, 1, 16]⟩
abbrev S1x2x32 : Shape := ⟨3, ![1, 2, 32]⟩
abbrev S2x128x128 : Shape := ⟨3, ![2, 128, 128]⟩
abbrev S2x1x128x128 : Shape := ⟨4, ![2, 1, 128, 128]⟩

abbrev nBuf : Space → Nat
  | .hbm => 235
  | .vmem => 0
  | .smem => 0
  | _ => 0

abbrev hbmTy0_0 (i : Nat) : BufTy := match i % 128 with
  | 0 => ⟨S2x64x2048, .f32⟩
  | 1 => ⟨S2x96x128x128, .f32⟩
  | 2 => ⟨S32x128x3x3, .f32⟩
  | 3 => ⟨S32, .f32⟩
  | 4 => ⟨S2x64x32, .f32⟩
  | 5 => ⟨S2x32x32, .f32⟩
  | 6 => ⟨S2x32, .f32⟩
  | 7 => ⟨S64x16, .f32⟩
  | 8 => ⟨S64, .f32⟩
  | 9 => ⟨S32, .f32⟩
  | 10 => ⟨S32, .f32⟩
  | 11 => ⟨S128x64, .f32⟩
  | 12 => ⟨S128x64, .f32⟩
  | 13 => ⟨S2x64x64x32, .f32⟩
  | 14 => ⟨S2x32x64x64, .f32⟩
  | 15 => ⟨S2x32x64x128, .f32⟩
  | 16 => ⟨S2x32x128x64, .f32⟩
  | 17 => ⟨S2x32x128x128, .f32⟩
  | 18 => ⟨S2x128x128x128, .f32⟩
  | 19 => ⟨S_, .i32⟩
  | 20 => ⟨S_, .f32⟩
  | 21 => ⟨S2x128x130x130, .f32⟩
  | 22 => ⟨S2x128x128x128, .f32⟩
  | 23 => ⟨S32x128x1x1, .f32⟩
  | 24 => ⟨S32x128, .f32⟩
  | 25 => ⟨S32x2x128x128, .f32⟩
  | 26 => ⟨S2x32x128x128, .f32⟩
  | 27 => ⟨S_, .f32⟩
  | 28 => ⟨S2x32x128x128, .f32⟩
  | 29 => ⟨S2x32x128x128, .f32⟩
  | 30 => ⟨S2x128x128x128, .f32⟩
  | 31 => ⟨S32x128x1x1, .f32⟩
  | 32 => ⟨S32x128, .f32⟩
  | 33 => ⟨S32x2x128x128, .f32⟩
  | 34 => ⟨S2x32x128x128, .f32⟩
  | 35 => ⟨S2x32x128x128, .f32⟩
  | 36 => ⟨S2x128x128x128, .f32⟩
  | 37 => ⟨S32x128x1x1, .f32⟩
  | 38 => ⟨S32x128, .f32⟩
  | 39 => ⟨S32x2x128x128, .f32⟩
  | 40 => ⟨S2x32x128x128, .f32⟩
  | 41 => ⟨S2x32x128x128, .f32⟩
  | 42 => ⟨S2x128x128x128, .f32⟩
  | 43 => ⟨S32x128x1x1, .f32⟩
  | 44 => ⟨S32x128, .f32⟩
  | 45 => ⟨S32x2x128x128, .f32⟩
  | 46 => ⟨S2x32x128x128, .f32⟩
  | 47 => ⟨S2x32x128x128, .f32⟩
  | 48 => ⟨S2x128x128x128, .f32⟩
  | 49 => ⟨S32x128x1x1, .f32⟩
  | 50 => ⟨S32x128, .f32⟩
  | 51 => ⟨S32x2x128x128, .f32⟩
  | 52 => ⟨S2x32x128x128, .f32⟩
  | 53 => ⟨S2x32x128x128, .f32⟩
  | 54 => ⟨S2x128x128x128, .f32⟩
  | 55 => ⟨S32x128x1x1, .f32⟩
  | 56 => ⟨S32x128, .f32⟩
  | 57 => ⟨S32x2x128x128, .f32⟩
  | 58 => ⟨S2x32x128x128, .f32⟩
  | 59 => ⟨S2x32x128x128, .f32⟩
  | 60 => ⟨S2x128x128x128, .f32⟩
  | 61 => ⟨S32x128x1x1, .f32⟩
  | 62 => ⟨S32x128, .f32⟩
  | 63 => ⟨S32x2x128x128, .f32⟩
  | 64 => ⟨S2x32x128x128, .f32⟩
  | 65 => ⟨S2x32x128x128, .f32⟩
  | 66 => ⟨S2x128x128x128, .f32⟩
  | 67 => ⟨S32x128x1x1, .f32⟩
  | 68 => ⟨S32x128, .f32⟩
  | 69 => ⟨S32x2x128x128, .f32⟩
  | 70 => ⟨S2x32x128x128, .f32⟩
  | 71 => ⟨S2x32x128x128, .f32⟩
  | 72 => ⟨S2x128x128x128, .f32⟩
  | 73 => ⟨S32x128x1x1, .f32⟩
  | 74 => ⟨S32x128, .f32⟩
  | 75 => ⟨S32x2x128x128, .f32⟩
  | 76 => ⟨S2x32x128x128, .f32⟩
  | 77 => ⟨S2x32x128x128, .f32⟩
  | 78 => ⟨S1x32x1x1, .f32⟩
  | 79 => ⟨S2x32x128x128, .f32⟩
  | 80 => ⟨S2x32x128x128, .f32⟩
  | 81 => ⟨S2x32x16384, .f32⟩
  | 82 => ⟨S2x32x128x128, .f32⟩
  | 83 => ⟨S2x32x16384, .f32⟩
  | 84 => ⟨S2x1x32x16384, .f32⟩
  | 85 => ⟨S2x1x32x16384, .f32⟩
  | 86 => ⟨S2x2x32x16384, .f32⟩
  | 87 => ⟨S2x64x2x16384, .f32⟩
  | 88 => ⟨S2x2x64x16384, .f32⟩
  | 89 => ⟨S2x2x32x16384, .f32⟩
  | 90 => ⟨S2x2x16x16384, .f32⟩
  | 91 => ⟨S2x2x16x16384, .f32⟩
  | 92 => ⟨S2x32x2x16384, .f32⟩
  | 93 => ⟨S2x2x32x16384, .f32⟩
  | 94 => ⟨S64x16, .f32⟩
  | 95 => ⟨S2x32x16, .f32⟩
  | 96 => ⟨S2x32x16, .f32⟩
  | 97 => ⟨S2x32, .f32⟩
  | 98 => ⟨S1x2x32x1, .f32⟩
  | 99 => ⟨S2x2x32x16384, .f32⟩
  | 100 => ⟨S2x2x32x16384, .f32⟩
  | 101 => ⟨S_, .f32⟩
  | 102 => ⟨S2x2x32x16384, .f32⟩
  | 103 => ⟨S2x2x32x16384, .f32⟩
  | 104 => ⟨S2x2x32x16384, .f32⟩
  | 105 => ⟨S2x2x32x16384, .f32⟩
  | 106 => ⟨S2x2x32x16384, .i1⟩
  | 107 => ⟨S2x2x32x16384, .f32⟩
  | 108 => ⟨S2x2x32x16384, .f32⟩
  | 109 => ⟨S2x2x32x16384, .f32⟩
  | 110 => ⟨S2x2x32x16384, .f32⟩
  | 111 => ⟨S2x2x32x16384, .f32⟩
  | 112 => ⟨S2x2x32x16384, .f32⟩
  | 113 => ⟨S2x2x32x16384, .f32⟩
  | 114 => ⟨S2x2x32x16384, .f32⟩
  | 115 => ⟨S16384x2x2x32, .f32⟩
  | 116 => ⟨S16384x2x2x32, .f32⟩
  | 117 => ⟨S16384x2x2x16, .f32⟩
  | 118 => ⟨S16384x2x2x16, .f32⟩
  | 119 => ⟨S_, .f32⟩
  | 120 => ⟨S2x2x32x16, .f32⟩
  | 121 => ⟨S_, .f32⟩
  | 122 => ⟨S16384x2x2x32, .f32⟩
  | 123 => ⟨S_, .i32⟩
  | 124 => ⟨S16384x2x2x32, .f32⟩
  | 125 => ⟨S16384x2x2x32, .f32⟩
  | 126 => ⟨S16384x2x2x16, .f32⟩
  | 127 => ⟨S16384x2x2x16, .f32⟩
  | _ => ⟨S2x64x2048, .f32⟩

abbrev hbmTy0_1 (i : Nat) : BufTy := match i % 128 with
  | 0 => ⟨S2x32x16, .f32⟩
  | 1 => ⟨S2x32, .f32⟩
  | 2 => ⟨S_, .i32⟩
  | 3 => ⟨S2x2x32x16, .f32⟩
  | 4 => ⟨S16384x2x2x32, .f32⟩
  | 5 => ⟨S_, .i32⟩
  | 6 => ⟨S_, .i1⟩
  | 7 => ⟨S_, .i32⟩
  | 8 => ⟨S_, .i32⟩
  | 9 => ⟨S_, .i32⟩
  | 10 => ⟨S1x2x2x32, .f32⟩
  | 11 => ⟨S2x2x32, .f32⟩
  | 12 => ⟨S_, .i32⟩
  | 13 => ⟨S_, .i32⟩
  | 14 => ⟨S_, .i32⟩
  | 15 => ⟨S1x2x2x32, .f32⟩
  | 16 => ⟨S2x2x32, .f32⟩
  | 17 => ⟨S_, .i32⟩
  | 18 => ⟨S_, .i32⟩
  | 19 => ⟨S_, .i32⟩
  | 20 => ⟨S1x2x2x16, .f32⟩
  | 21 => ⟨S2x2x16, .f32⟩
  | 22 => ⟨S_, .i32⟩
  | 23 => ⟨S_, .i32⟩
  | 24 => ⟨S_, .i32⟩
  | 25 => ⟨S1x2x2x16, .f32⟩
  | 26 => ⟨S2x2x16, .f32⟩
  | 27 => ⟨S2x2x32x1, .f32⟩
  | 28 => ⟨S1x2x32x16, .f32⟩
  | 29 => ⟨S2x2x32x16, .f32⟩
  | 30 => ⟨S2x2x32x16, .f32⟩
  | 31 => ⟨S2x2x32x16, .f32⟩
  | 32 => ⟨S2x2x32x16, .f32⟩
  | 33 => ⟨S2x2x32x16, .f32⟩
  | 34 => ⟨S2x2x32, .f32⟩
  | 35 => ⟨S2x2x32x1, .f32⟩
  | 36 => ⟨S2x2x1x16, .f32⟩
  | 37 => ⟨S2x2x32x16, .f32⟩
  | 38 => ⟨S2x2x32x16, .f32⟩
  | 39 => ⟨S2x2x32x16, .f32⟩
  | 40 => ⟨S2x2x32x16, .f32⟩
  | 41 => ⟨S2x2x32, .f32⟩
  | 42 => ⟨S1x2x32, .f32⟩
  | 43 => ⟨S2x2x32, .f32⟩
  | 44 => ⟨S2x2x32, .f32⟩
  | 45 => ⟨S2x2x32, .f32⟩
  | 46 => ⟨S1x2x2x32, .f32⟩
  | 47 => ⟨S_, .i32⟩
  | 48 => ⟨S_, .i32⟩
  | 49 => ⟨S_, .i32⟩
  | 50 => ⟨S16384x2x2x32, .f32⟩
  | 51 => ⟨S_, .i32⟩
  | 52 => ⟨S_, .i32⟩
  | 53 => ⟨S2x2x32x16384, .f32⟩
  | 54 => ⟨S2x1x32x16384, .f32⟩
  | 55 => ⟨S2x32x16384, .f32⟩
  | 56 => ⟨S2x32x128x128, .f32⟩
  | 57 => ⟨S2x32x128x128, .f32⟩
  | 58 => ⟨S2x32x16384, .f32⟩
  | 59 => ⟨S2x1x32x16384, .f32⟩
  | 60 => ⟨S2x32x16384, .f32⟩
  | 61 => ⟨S2x32x16384, .f32⟩
  | 62 => ⟨S2x32x128x128, .f32⟩
  | 63 => ⟨S_, .f32⟩
  | 64 => ⟨S2x128x128, .f32⟩
  | 65 => ⟨S2x1x128x128, .f32⟩
  | 66 => ⟨S_, .f32⟩
  | 67 => ⟨S2x1x128x128, .f32⟩
  | 68 => ⟨S2x1x128x128, .f32⟩
  | 69 => ⟨S_, .i32⟩
  | 70 => ⟨S_, .f32⟩
  | 71 => ⟨S2x128x128, .f32⟩
  | 72 => ⟨S2x1x128x128, .f32⟩
  | 73 => ⟨S_, .f32⟩
  | 74 => ⟨S2x1x128x128, .f32⟩
  | 75 => ⟨S2x1x128x128, .f32⟩
  | 76 => ⟨S2x32x128x128, .f32⟩
  | 77 => ⟨S2x32x128x128, .f32⟩
  | 78 => ⟨S2x32x128x128, .f32⟩
  | 79 => ⟨S_, .f32⟩
  | 80 => ⟨S_, .f32⟩
  | 81 => ⟨S_, .f32⟩
  | 82 => ⟨S_, .f32⟩
  | 83 => ⟨S2x128x128, .f32⟩
  | 84 => ⟨S2x1x128x128, .f32⟩
  | 85 => ⟨S2x1x128x128, .f32⟩
  | 86 => ⟨S2x1x128x128, .f32⟩
  | 87 => ⟨S_, .f32⟩
  | 88 => ⟨S_, .i1⟩
  | 89 => ⟨S_, .f32⟩
  | 90 => ⟨S_, .f32⟩
  | 91 => ⟨S2x1x128x128, .f32⟩
  | 92 => ⟨S2x1x128x128, .f32⟩
  | 93 => ⟨S2x32x128x128, .f32⟩
  | 94 => ⟨S2x32x128x128, .f32⟩
  | 95 => ⟨S_, .f32⟩
  | 96 => ⟨S2x1x128x128, .f32⟩
  | 97 => ⟨S2x1x128x128, .f32⟩
  | 98 => ⟨S2x1x128x128, .f32⟩
  | 99 => ⟨S2x32x128x128, .f32⟩
  | 100 => ⟨S2x32x128x128, .f32⟩
  | 101 => ⟨S1x32x1x1, .f32⟩
  | 102 => ⟨S2x32x128x128, .f32⟩
  | 103 => ⟨S2x32x128x128, .f32⟩
  | 104 => ⟨S1x32x1x1, .f32⟩
  | 105 => ⟨S2x32x128x128, .f32⟩
  | 106 => ⟨S2x32x128x128, .f32⟩
  | _ => ⟨S2x64x2048, .f32⟩

abbrev hbmTy (i : Nat) : BufTy := match i / 128 with
  | 0 => hbmTy0_0 i
  | 1 => hbmTy0_1 i
  | _ => ⟨S2x64x2048, .f32⟩

abbrev bufTy : (tb : Table) → Fin (tcTables nBuf tb) → BufTy
  | .hbm, ⟨i, _⟩ => hbmTy i
  | _, _ => ⟨S2x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_2 : Ref sig .tc := ⟨.hbm, 119, rfl⟩
abbrev main_v90 : Ref sig .tc := ⟨.hbm, 120, rfl⟩
abbrev main_cst_3 : Ref sig .tc := ⟨.hbm, 121, rfl⟩
abbrev main_v91 : Ref sig .tc := ⟨.hbm, 122, rfl⟩
abbrev main_c_4 : Ref sig .tc := ⟨.hbm, 123, rfl⟩
abbrev main_v92_0 : Ref sig .tc := ⟨.hbm, 124, rfl⟩
abbrev main_v92_1 : Ref sig .tc := ⟨.hbm, 125, rfl⟩
abbrev main_v92_2 : Ref sig .tc := ⟨.hbm, 126, rfl⟩
abbrev main_v92_3 : Ref sig .tc := ⟨.hbm, 127, rfl⟩
abbrev main_v92_4 : Ref sig .tc := ⟨.hbm, 128, rfl⟩
abbrev main_v92_5 : Ref sig .tc := ⟨.hbm, 129, rfl⟩
abbrev main_v92_6 : Ref sig .tc := ⟨.hbm, 130, rfl⟩
abbrev main_v92_7 : Ref sig .tc := ⟨.hbm, 131, rfl⟩
abbrev main_v92_8 : Ref sig .tc := ⟨.hbm, 132, rfl⟩
abbrev main_while0c_c_17 : Ref sig .tc := ⟨.hbm, 133, rfl⟩
abbrev main_while0c_v121 : Ref sig .tc := ⟨.hbm, 134, rfl⟩
abbrev main_while0b_call2_c : Ref sig .tc := ⟨.hbm, 135, rfl⟩
abbrev main_while0b_call2_c_0 : Ref sig .tc := ⟨.hbm, 136, rfl⟩
abbrev main_while0b_call2_c_1 : Ref sig .tc := ⟨.hbm, 137, rfl⟩
abbrev main_while0b_call2_v0 : Ref sig .tc := ⟨.hbm, 138, rfl⟩
abbrev main_while0b_v121 : Ref sig .tc := ⟨.hbm, 139, rfl⟩
abbrev main_while0b_call3_c : Ref sig .tc := ⟨.hbm, 140, rfl⟩
abbrev main_while0b_call3_c_0 : Ref sig .tc := ⟨.hbm, 141, rfl⟩
abbrev main_while0b_call3_c_1 : Ref sig .tc := ⟨.hbm, 142, rfl⟩
abbrev main_while0b_call3_v0 : Ref sig .tc := ⟨.hbm, 143, rfl⟩
abbrev main_while0b_v122 : Ref sig .tc := ⟨.hbm, 144, rfl⟩
abbrev main_while0b_call4_c : Ref sig .tc := ⟨.hbm, 145, rfl⟩
abbrev main_while0b_call4_c_0 : Ref sig .tc := ⟨.hbm, 146, rfl⟩
abbrev main_while0b_call4_c_1 : Ref sig .tc := ⟨.hbm, 147, rfl⟩
abbrev main_while0b_call4_v0 : Ref sig .tc := ⟨.hbm, 148, rfl⟩
abbrev main_while0b_v123 : Ref sig .tc := ⟨.hbm, 149, rfl⟩
abbrev main_while0b_call5_c : Ref sig .tc := ⟨.hbm, 150, rfl⟩
abbrev main_while0b_call5_c_0 : Ref sig .tc := ⟨.hbm, 151, rfl⟩
abbrev main_while0b_call5_c_1 : Ref sig .tc := ⟨.hbm, 152, rfl⟩
abbrev main_while0b_call5_v0 : Ref sig .tc := ⟨.hbm, 153, rfl⟩
abbrev main_while0b_v124 : Ref sig .tc := ⟨.hbm, 154, rfl⟩
abbrev main_while0b_v125 : Ref sig .tc := ⟨.hbm, 155, rfl⟩
abbrev main_while0b_v126 : Ref sig .tc := ⟨.hbm, 156, rfl⟩
abbrev main_while0b_v127 : Ref sig .tc := ⟨.hbm, 157, rfl⟩
abbrev main_while0b_v128 : Ref sig .tc := ⟨.hbm, 158, rfl⟩
abbrev main_while0b_v129 : Ref sig .tc := ⟨.hbm, 159, rfl⟩
abbrev main_while0b_v130 : Ref sig .tc := ⟨.hbm, 160, rfl⟩
abbrev main_while0b_v131 : Ref sig .tc := ⟨.hbm, 161, rfl⟩
abbrev main_while0b_v132 : Ref sig .tc := ⟨.hbm, 162, rfl⟩
abbrev main_while0b_v133 : Ref sig .tc := ⟨.hbm, 163, rfl⟩
abbrev main_while0b_v134 : Ref sig .tc := ⟨.hbm, 164, rfl⟩
abbrev main_while0b_v135 : Ref sig .tc := ⟨.hbm, 165, rfl⟩
abbrev main_while0b_v136 : Ref sig .tc := ⟨.hbm, 166, rfl⟩
abbrev main_while0b_v137 : Ref sig .tc := ⟨.hbm, 167, rfl⟩
abbrev main_while0b_v138 : Ref sig .tc := ⟨.hbm, 168, rfl⟩
abbrev main_while0b_v139 : Ref sig .tc := ⟨.hbm, 169, rfl⟩
abbrev main_while0b_v140 : Ref sig .tc := ⟨.hbm, 170, rfl⟩
abbrev main_while0b_v141 : Ref sig .tc := ⟨.hbm, 171, rfl⟩
abbrev main_while0b_v142 : Ref sig .tc := ⟨.hbm, 172, rfl⟩
abbrev main_while0b_v143 : Ref sig .tc := ⟨.hbm, 173, rfl⟩
abbrev main_while0b_call6_v0 : Ref sig .tc := ⟨.hbm, 174, rfl⟩
abbrev main_while0b_call6_c : Ref sig .tc := ⟨.hbm, 175, rfl⟩
abbrev main_while0b_call6_c_0 : Ref sig .tc := ⟨.hbm, 176, rfl⟩
abbrev main_while0b_call6_c_1 : Ref sig .tc := ⟨.hbm, 177, rfl⟩
abbrev main_while0b_v144 : Ref sig .tc := ⟨.hbm, 178, rfl⟩
abbrev main_while0b_c_17 : Ref sig .tc := ⟨.hbm, 179, rfl⟩
abbrev main_while0b_v145 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_cst_5 : Ref sig .tc := ⟨.hbm, 191, rfl⟩
abbrev main_v103 : Ref sig .tc := ⟨.hbm, 192, rfl⟩
abbrev main_v104 : Ref sig .tc := ⟨.hbm, 193, rfl⟩
abbrev main_cst_6 : Ref sig .tc := ⟨.hbm, 194, rfl⟩
abbrev main_v105 : Ref sig .tc := ⟨.hbm, 195, rfl⟩
abbrev main_v106 : Ref sig .tc := ⟨.hbm, 196, rfl⟩
abbrev main_c_7 : Ref sig .tc := ⟨.hbm, 197, rfl⟩
abbrev main_call7_cst : Ref sig .tc := ⟨.hbm, 198, rfl⟩
abbrev main_call7_v0 : Ref sig .tc := ⟨.hbm, 199, rfl⟩
abbrev main_call7_v1 : Ref sig .tc := ⟨.hbm, 200, rfl⟩
abbrev main_call7_cst_0 : Ref sig .tc := ⟨.hbm, 201, rfl⟩
abbrev main_call7_v2 : Ref sig .tc := ⟨.hbm, 202, rfl⟩
abbrev main_call7_v3 : Ref sig .tc := ⟨.hbm, 203, rfl⟩
abbrev main_call7_v4 : Ref sig .tc := ⟨.hbm, 204, rfl⟩
abbrev main_call7_v5 : Ref sig .tc := ⟨.hbm, 205, rfl⟩
abbrev main_call7_v6 : Ref sig .tc := ⟨.hbm, 206, rfl⟩
abbrev main_call7_v7 : Ref sig .tc := ⟨.hbm, 207, rfl⟩
abbrev main_call7_cst_1 : Ref sig .tc := ⟨.hbm, 208, rfl⟩
abbrev main_call7_v8 : Ref sig .tc := ⟨.hbm, 209, rfl⟩
abbrev main_call7_cst_2 : Ref sig .tc := ⟨.hbm, 210, rfl⟩
abbrev main_call7_v9 : Ref sig .tc := ⟨.hbm, 211, rfl⟩
abbrev main_call7_v10 : Ref sig .tc := ⟨.hbm, 212, rfl⟩
abbrev main_call7_v11 : Ref sig .tc := ⟨.hbm, 213, rfl⟩
abbrev main_call7_v12 : Ref sig .tc := ⟨.hbm, 214, rfl⟩
abbrev main_call7_cst_3 : Ref sig .tc := ⟨.hbm, 215, rfl⟩
abbrev main_call7_v13 : Ref sig .tc := ⟨.hbm, 216, rfl⟩
abbrev main_call7_cst_4 : Ref sig .tc := ⟨.hbm, 217, rfl⟩
abbrev main_call7_call0_v0 : Ref sig .tc := ⟨.hbm, 218, rfl⟩
abbrev main_call7_call0_v1 : Ref sig .tc := ⟨.hbm, 219, rfl⟩
abbrev main_v107 : Ref sig .tc := ⟨.hbm, 220, rfl⟩
abbrev main_v108 : Ref sig .tc := ⟨.hbm, 221, rfl⟩
abbrev main_v109 : Ref sig .tc := ⟨.hbm, 222, rfl⟩
abbrev main_cst_8 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩

abbrev nD : Nat := 1
abbrev τ : Topo := Topo.v7x

variable {F : FTy → Type} [FloatOps F]

abbrev main_while0_count : Scf.Loop 32 := ⟨0#32, 16384#32, 1#32⟩
-- ==== Proof.K.Frame.lean ====
module

public import proofs.«01_k».proof.Proof.K.Body
public import Idealize.ShloMosaic.Lib.Pipeline.Frame
public import Idealize.ShloMosaic.Lib.Pipeline.FrameSuffix

@[expose] public section

noncomputable section

namespace Cert.Proof.KernelRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [∀ e, Nonempty (Elt F e)]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S1x64x2048 .f32 := win0_0.stage (cfg0.slots t 0)
abbrev hs0 (t : Fin cfg0.N) : (ms0 t).IsWhole := hstage0_0 (cfg0.slots t 0)
abbrev ms1 (t : Fin cfg0.N) : Memref sig .tc .vmem S1x130x130x96 .f32 := win0_1.stage (cfg0.slots t 1)
abbrev hs1 (t : Fin cfg0.N) : (ms1 t).IsWhole := hstage0_1 (cfg0.slots t 1)
abbrev ms2 (t : Fin cfg0.N) : Memref sig .tc .vmem S9x32x32 .f32 := win0_2.stage (cfg0.slots t 2)
abbrev hs2 (t : Fin cfg0.N) : (ms2 t).IsWhole := hstage0_2 (cfg0.slots t 2)
abbrev ms3 (t : Fin cfg0.N) : Memref sig .tc .vmem S9x96x32 .f32 := win0_3.stage (cfg0.slots t 3)
abbrev hs3 (t : Fin cfg0.N) : (ms3 t).IsWhole := hstage0_3 (cfg0.slots t 3)
abbrev ms4 (t : Fin cfg0.N) : Memref sig .tc .vmem S1x32 .f32 := win0_4.stage (cfg0.slots t 4)
abbrev hs4 (t : Fin cfg0.N) : (ms4 t).IsWhole := hstage0_4 (cfg0.slots t 4)
abbrev ms5 (t : Fin cfg0.N) : Memref sig .tc .vmem S128x64 .f32 := win0_5.stage (cfg0.slots t 5)
abbrev hs5 (t : Fin cfg0.N) : (ms5 t).IsWhole := hstage0_5 (cfg0.slots t 5)
abbrev ms6 (t : Fin cfg0.N) : Memref sig .tc .vmem S64x128 .f32 := win0_6.stage (cfg0.slots t 6)
abbrev hs6 (t : Fin cfg0.N) : (ms6 t).IsWhole := hstage0_6 (cfg0.slots t 6)
abbrev ms7 (t : Fin cfg0.N) : Memref sig .tc .vmem S2x32x64 .f32 := win0_7.stage (cfg0.slots t 7)
abbrev hs7 (t : Fin cfg0.N) : (ms7 t).IsWhole := hstage0_7 (cfg0.slots t 7)
abbrev ms8 (t : Fin cfg0.N) : Memref sig .tc .vmem S2x32x32 .f32 := win0_8.stage (cfg0.slots t 8)
abbrev hs8 (t : Fin cfg0.N) : (ms8 t).IsWhole := hstage0_8 (cfg0.slots t 8)
abbrev ms9 (t : Fin cfg0.N) : Memref sig .tc .vmem S2x1x32 .f32 := win0_9.stage (cfg0.slots t 9)
abbrev hs9 (t : Fin cfg0.N) : (ms9 t).IsWhole := hstage0_9 (cfg0.slots t 9)
abbrev ms10 (t : Fin cfg0.N) : Memref sig .tc .vmem S2x1x512 .f32 := win0_10.stage (cfg0.slots t 10)
abbrev hs10 (t : Fin cfg0.N) : (ms10 t).IsWhole := hstage0_10 (cfg0.slots t 10)
abbrev ms11 (t : Fin cfg0.N) : Memref sig .tc .vmem S2x1x32 .f32 := win0_11.stage (cfg0.slots t 11)
abbrev hs11 (t : Fin cfg0.N) : (ms11 t).IsWhole := hstage0_11 (cfg0.slots t 11)
abbrev ms12 (t : Fin cfg0.N) : Memref sig .tc .vmem S1x32 .f32 := win0_12.stage (cfg0.slots t 12)
abbrev hs12 (t : Fin cfg0.N) : (ms12 t).IsWhole := hstage0_12 (cfg0.slots t 12)
abbrev ms13 (t : Fin cfg0.N) : Memref sig .tc .vmem S1x32 .f32 := win0_13.stage (cfg0.slots t 13)
abbrev hs13 (t : Fin cfg0.N) : (ms13 t).IsWhole := hstage0_13 (cfg0.slots t 13)
abbrev ms14 (t : Fin cfg0.N) : Memref sig .tc .vmem S32x512 .f32 := win0_14.stage (cfg0.slots t 14)
abbrev hs14 (t : Fin cfg0.N) : (ms14 t).IsWhole := hstage0_14 (cfg0.slots t 14)
abbrev ms15 (t : Fin cfg0.N) : Memref sig .tc .vmem S16x512 .f32 := win0_15.stage (cfg0.slots t 15)
abbrev hs15 (t : Fin cfg0.N) : (ms15 t).IsWhole := hstage0_15 (cfg0.slots t 15)
abbrev ms16 (t : Fin cfg0.N) : Memref sig .tc .vmem S512x32 .f32 := win0_16.stage (cfg0.slots t 16)
abbrev hs16 (t : Fin cfg0.N) : (ms16 t).IsWhole := hstage0_16 (cfg0.slots t 16)
abbrev ms17 (t : Fin cfg0.N) : Memref sig .tc .vmem S1x128x4096 .f32 := win0_17.stage (cfg0.slots t 17)
abbrev hs17 (t : Fin cfg0.N) : (ms17 t).IsWhole := hstage0_17 (cfg0.slots t 17)
abbrev sc0 : Memref sig .tc .vmem S32x64x32 .f32 := Memref.whole cc0_scratch0
abbrev sc1 : Memref sig .tc .vmem S130x130x32 .f32 := Memref.whole cc0_scratch1
abbrev sc2 : Memref sig .tc .vmem S128x128x128 .f32 := Memref.whole cc0_scratch2
abbrev sc3 : Memref sig .tc .vmem S128x128x128 .f32 := Memref.whole cc0_scratch3
abbrev sc4 : Memref sig .tc .vmem S128x4096 .f32 := Memref.whole cc0_scratch4

/-- The invariant between the ends of a point: the five scratch buffers at some contents and the generator register. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA
  rw [scopedRest0_eq]; simp only [sc0, sc1, sc2, sc3, sc4, owns_whole]; try rfl

/-- The output window is forgotten: nothing here reads what the kernel leaves in it. -/
def forgets0 : Fin 18 → Bool := fun w => decide (w = 17)

/-- The arrays as the region finds them; each input's buffer keeps its block; the output's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (A_eq m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (A_eq m c 14) (after_14 m c) t d
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  before0_15_of m (dats m 0 c) (A_eq m c 15) (after_15 m c) t d
theorem after_16 (c : Dev nD) (t : Fin cfg0.N) : (dats m 0 c).after 16 t = iblk m c 16 t := by dsimp only [dats]
theorem before_16 (c : Dev nD) (t : Fin cfg0.N) (d) : (dats m 0 c).before 16 t d = iblk m c 16 t :=
  before0_16_of m (dats m 0 c) (A_eq m c 16) (after_16 m c) t d

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)) ∗ (∃ d, owns (c : Thread nD τ) (ms15 t) fullShare ((dats m 0 c).before 15 t d)) ∗ (∃ d, owns (c : Thread nD τ) (ms16 t) fullShare ((dats m 0 c).before 16 t d)) ∗ (∃ d, owns (c : Thread nD τ) (ms17 t) fullShare d))
/-- What it returns. -/
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t) ∗ owns (c : Thread nD τ) (ms12 t) fullShare ((dats m 0 c).after 12 t) ∗ owns (c : Thread nD τ) (ms13 t) fullShare ((dats m 0 c).after 13 t) ∗ owns (c : Thread nD τ) (ms14 t) fullShare ((dats m 0 c).after 14 t) ∗ owns (c : Thread nD τ) (ms15 t) fullShare ((dats m 0 c).after 15 t) ∗ owns (c : Thread nD τ) (ms16 t) fullShare ((dats m 0 c).after 16 t) ∗ (∃ d, owns (c : Thread nD τ) (ms17 t) fullShare d))

/-- The body at point `t`, on its staging buffers and the scratch. -/
def bodyHere (t : Fin cfg0.N) : Prog (TpuEff nD τ sig (Elt F) Λ₀ .tc) PUnit :=
  cc0__stage_body (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc0 (Memref.isWhole_whole _) sc1 (Memref.isWhole_whole _) sc2 (Memref.isWhole_whole _) sc3 (Memref.isWhole_whole _) sc4 (Memref.isWhole_whole _)

/-- The body at the point: the invariant opened, the body's run, the invariant closed. -/
theorem sound_body (c : Dev nD) (t : Fin cfg0.N) :
    bodyPre m c t ⊢ wp frame (wpE (defs₀ (F := F)) 𝒱₀ c none) Set.univ (bodyHere t) (fun _ => bodyPost m c t) := by
  unfold bodyPre bodyPost bodyHere
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before_0, after_0, before_1, after_1, before_2, after_2, before_3, after_3, before_4, after_4, before_5, after_5, before_6, after_6, before_7, after_7, before_8, after_8, before_9, after_9, before_10, after_10, before_11, after_11, before_12, after_12, before_13, after_13, before_14, after_14, before_15, after_15, before_16, after_16]
  iintro ⟨⟨⟨⟨%g0, S0⟩, ⟨%g1, S1⟩, ⟨%g2, S2⟩, ⟨%g3, S3⟩, ⟨%g4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) d17 g0 g1 g2 g3 g4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, H17, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexists _; iexact H17

/-- The body table's row at the point is the body as `bodyHere` spells it. -/
theorem defs₀_row (t : Fin cfg0.N) : defs₀ (F := F) .tc cfg0.body (cfg0.bodyArgs t (cfg0.slots t)) = bodyHere t := by
  unfold defs₀; rw [Defs.onTc_tc]; rfl

/-- The library's body obligation with the output forgotten. -/
theorem body_obligation (c : Dev nD) :
    BodyObligation (dats (F := F) m 0 c) (defs₀ (F := F)) 𝒱₀ () Set.univ forgets0 := fun t => by
  rw [bigSep_W0, bigSep_W0, defs₀_row]
  exact triple_restated (sound_body m c t) rfl .rfl fun _ => .rfl

/-- The buffers that the lines after the region write. -/
def tails : Finset (Ref sig .tc) := {main_v17, main_v18}

theorem tails_mem : ∀ ops ∈ ([hostOps1] : List (List (HloOp τ sig (Elt F)))), ∀ op ∈ ops, ∀ b : Ref sig .tc,
    Proc.devRef .tc b ∈ op.writes → b ∈ tails := by
  intro ops hops op hop b hb
  simp only [List.mem_cons, List.mem_nil_iff, or_false] at hops
  subst hops
  simp only [hostOps1, List.mem_cons, List.mem_nil_iff, or_false] at hop
  rcases hop with rfl | rfl
  all_goals
    simp only [StableHlo.unary_writes, StableHlo.reshape_writes, Finset.mem_singleton] at hb
    have := Proc.devRef_injective .tc hb
    subst this
    decide

set_option backward.isDefEq.respectTransparency.types false in
/-- Every weakly fair execution of @main terminates, with every array that is neither the output nor written after the
    region as the region found it and every counter at zero. -/
theorem run_main :
    θ_run defs (onTc (τ := τ) (main (F := F))) (s₀ m ρ)
      (fun r => Pipeline.RDat.FramePostR (cfgs 0) (fun c => (dats m 0 c).toRForget forgets0) tails (V m) r ∧ r.2.sem = fun _ => 0) :=
  Pipeline.θ_run_frame_around_T_forget (Q' := _) cfgs (dats m) (0 : Fin 1) launch0 defs₀ 𝒱₀ forgets0 tails m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tails_mem) (hmain := hmain m 𝒱₀) (hA := A_eq m) (hΦ := fun _ _ => rfl) (hQ' := fun _ h => h)

/-- The arguments are left as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun r h => ⟨fun c => by
    have rest : ∀ b : Ref sig .tc, b ∈ Pipeline.restRefs sig (cfgs 0).spec \ tails →
        r.2.mem ((c : Thread nD τ).loc b) = V m c b := (h.1 c).2
    refine ⟨?_, (rest main_arg1 (by decide)).trans (V_main_arg1 m c), (rest main_arg2 (by decide)).trans (V_main_arg2 m c), (rest main_arg3 (by decide)).trans (V_main_arg3 m c), (rest main_arg4 (by decide)).trans (V_main_arg4 m c), (rest main_arg5 (by decide)).trans (V_main_arg5 m c), (rest main_arg6 (by decide)).trans (V_main_arg6 m c), (rest main_arg7 (by decide)).trans (V_main_arg7 m c), (rest main_arg8 (by decide)).trans (V_main_arg8 m c), (rest main_arg9 (by decide)).trans (V_main_arg9 m c), (rest main_arg10 (by decide)).trans (V_main_arg10 m c)⟩
    have h0 := (h.1 c).1 0
    rw [((dats m 0 c).toRForget forgets0).ArrAt_in 0 rfl] at h0
    exact h0.trans (V_main_arg0 m c), h.2⟩) (run_main m ρ)

end Cert.Proof.KernelRun

end
-- ==== Proof.Ref.Segments.lean ====
/- The reference program as a chain of stretches of host operations around one counted loop. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 2084

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 9 host operations of @main, in order. -/
abbrev hostOps0 : List (HloOp τ sig (Elt F)) :=
  [ StableHlo.nullary main_cst (fun i => FloatOps.ofBits .f32 (lit0 (S128x64.rowMajor i))),
    StableHlo.nullary main_cst_0 (fun i => FloatOps.ofBits .f32 (lit1 (S128x64.rowMajor i))),
    StableHlo.reshape main_arg0 main_v0 (rfl : (.f32 : EltTy) = .f32) shapeCasts_S2x64x2048_S2x64x64x32,
    StableHlo.unary main_v0 main_v1 ((transpose S2x32x64x64 [0, 3, 1, 2] · transposes_S2x64x64x32_S2x32x64x64_0_3_1_2) : (⟨S2x64x64x32, .f32⟩ : BufTy).Contents (Elt F) → (⟨S2x32x64x64, .f32⟩ : BufTy).Contents (Elt F)),
    StableHlo.binary main_v1 main_cst main_v2 ((fun l r => Host.dotGeneral dot_S2x32x64x64_S128x64_S2x32x64x128_2_1_013_0_n_n none l r) : (⟨S2x32x64x64, .f32⟩ : BufTy).Contents (Elt F) → (⟨S128x64, .f32⟩ : BufTy).Contents (Elt F) → (⟨S2x32x64x128, .f32⟩ : BufTy).Contents (Elt F)),
    StableHlo.unary main_v2 main_v3 ((transpose S2x32x128x64 [0, 1, 3, 2] · transposes_S2x32x64x128_S2x32x128x64_0_1_3_2) : (⟨S2x32x64x128, .f32⟩ : BufTy).Contents (Elt F) → (⟨S2x32x128x64, .f32⟩ : BufTy).Contents (Elt F)),
    StableHlo.binary main_v3 main_cst_0 main_v4 ((fun l r => Host.dotGeneral dot_S2x32x128x64_S128x64_S2x32x128x128_3_1_012_0_n_n none l r) : (⟨S2x32x128x64, .f32⟩ : BufTy).Contents (Elt F) → (⟨S128x64, .f32⟩ : BufTy).Contents (Elt F) → (⟨S2x32x128x128, .f32⟩ : BufTy).Contents (Elt F)),
    StableHlo.binary main_v4 main_arg1 main_v5 ((fun a b => concatenate S2x128x128x128 1 [⟨S2x32x128x128, a⟩, ⟨S2x96x128x128, b⟩] concatenates_S2x32x128x128_S2x96x128x128_S2x128x128x128_d1) : (⟨S2x32x128x128, .f32⟩ : BufTy).Contents (Elt F) → (⟨S2x96x128x128, .f32⟩ : BufTy).Contents (Elt F) → (⟨S2x128x128x128, .f32⟩ : BufTy).Contents (Elt F)),
    StableHlo.nullary main_c (constantI S_ 32 0#32) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.nullary_bufs_sub .., StableHlo.reshape_bufs_sub .., StableHlo.unary_bufs_sub .., StableHlo.binary_bufs_sub .., StableHlo.unary_bufs_sub .., StableHlo.binary_bufs_sub .., StableHlo.binary_bufs_sub .., StableHlo.nullary_bufs_sub ..⟩
/-- 2 host operations of @_pad (main_call0), in order. -/
abbrev hostOps0_1 : List (HloOp τ sig (Elt F)) :=
  [ StableHlo.TRef.unary (.of main_c : StableHlo.TRef sig ⟨S_, .i32⟩) (.of main_call0_v0 : StableHlo.TRef sig ⟨S_, .f32⟩) (sitofp .f32),
    StableHlo.TRef.binary (.of main_v5 : StableHlo.TRef sig ⟨S2x128x128x128, .f32⟩) (.of main_call0_v0 : StableHlo.TRef sig ⟨S_, .f32⟩) (.of main_v6 : StableHlo.TRef sig ⟨S2x128x130x130, .f32⟩) (fun x v => pad S2x128x130x130 ![0, 0, 1, 1] ![0, 0, 1, 1] ![0, 0, 0, 0] x v pads_S2x128x128x128_S2x128x130x130_000_000_110_110 h_S_) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.binary_bufs_sub ..⟩
set_option maxHeartbeats 40000000 in  -- a long stretch: its list (or the term over it) exceeds the default budget
/-- 79 host operations of @main, in order. -/
abbrev hostOps0_2 : List (HloOp τ sig (Elt F)) :=
  ( StableHlo.unary main_v6 main_v7 ((extractStridedSlice S2x128x128x128 ![0, 0, 0, 0] · slices_S2x128x130x130_S2x128x128x128_0_0_0_0) : (⟨S2x128x130x130, .f32⟩ : BufTy).Contents (Elt F) → (⟨S2x128x128x128, .f32⟩ : BufTy).Contents (Elt F))
  :: StableHlo.unary main_arg2 main_v8 ((extractStridedSlice S32x128x1x1 ![0, 0, 0, 0] · slices_S32x128x3x3_S32x128x1x1_0_0_0_0) : (⟨S32x128x3x3, .f32⟩ : BufTy).Contents (Elt F) → (⟨S32x128x1x1, .f32⟩ : BufTy).Contents (Elt F))
  :: StableHlo.reshape main_v8 main_v9 (rfl : (.f32 : EltTy) = .f32) shapeCasts_S32x128x1x1_S32x128
  :: StableHlo.binary main_v9 main_v7 main_v10 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v10 main_v11 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.nullary main_cst_1 (constant S_ .f32 0x00000000#32)
  :: StableHlo.unary main_cst_1 main_v12 (broadcastInDim S2x32x128x128 ![] bcast_S_S2x32x128x128 : (⟨S_, .f32⟩ : BufTy).Contents (Elt F) → (⟨S2x32x128x128, .f32⟩ : BufTy).Contents (Elt F))
  :: StableHlo.binary main_v12 main_v11 main_v13 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v14 ((extractStridedSlice S2x128x128x128 ![0, 0, 0, 1] · slices_S2x128x130x130_S2x128x128x128_0_0_0_1) : (⟨S2x128x130x130, .f32⟩ : BufTy).Contents (Elt F) → (⟨S2x128x128x128, .f32⟩ : BufTy).Contents (Elt F))
  :: StableHlo.unary main_arg2 main_v15 ((extractStridedSlice S32x128x1x1 ![0, 0, 0, 1] · slices_S32x128x3x3_S32x128x1x1_0_0_0_1) : (⟨S32x128x3x3, .f32⟩ : BufTy).Contents (Elt F) → (⟨S32x128x1x1, .f32⟩ : BufTy).Contents (Elt F))
  :: StableHlo.reshape main_v15 main_v16 (rfl : (.f32 : EltTy) = .f32) shapeCasts_S32x128x1x1_S32x128
  :: StableHlo.binary main_v16 main_v14 main_v17 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v17 main_v18 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v13 main_v18 main_v19 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v20 ((extractStridedSlice S2x128x128x128 ![0, 0, 0, 2] · slices_S2x128x130x130_S2x128x128x128_0_0_0_2) : (⟨S2x128x130x130, .f32⟩ : BufTy).Contents (Elt F) → (⟨S2x128x128x128, .f32⟩ : BufTy).Contents (Elt F))
  :: StableHlo.unary main_arg2 main_v21 ((extractStridedSlice S32x128x1x1 ![0, 0, 0, 2] · slices_S32x128x3x3_S32x128x1x1_0_0_0_2) : (⟨S32x128x3x3, .f32⟩ : BufTy).Contents (Elt F) → (⟨S32x128x1x1, .f32⟩ : BufTy).Contents (Elt F))
  :: StableHlo.reshape main_v21 main_v22 (rfl : (.f32 : EltTy) = .f32) shapeCasts_S32x128x1x1_S32x128
  :: StableHlo.binary main_v22 main_v20 main_v23 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v23 main_v24 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v19 main_v24 main_v25 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v26 ((extractStridedSlice S2x128x128x128 ![0, 0, 1, 0] · slices_S2x128x130x130_S2x128x128x128_0_0_1_0) : (⟨S2x128x130x130, .f32⟩ : BufTy).Contents (Elt F) → (⟨S2x128x128x128, .f32⟩ : BufTy).Contents (Elt F))
  :: StableHlo.unary main_arg2 main_v27 ((extractStridedSlice S32x128x1x1 ![0, 0, 1, 0] · slices_S32x128x3x3_S32x128x1x1_0_0_1_0) : (⟨S32x128x3x3, .f32⟩ : BufTy).Contents (Elt F) → (⟨S32x128x1x1, .f32⟩ : BufTy).Contents (Elt F))
  :: StableHlo.reshape main_v27 main_v28 (rfl : (.f32 : EltTy) = .f32) shapeCasts_S32x128x1x1_S32x128
  :: StableHlo.binary main_v28 main_v26 main_v29 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v29 main_v30 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v25 main_v30 main_v31 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v32 ((extractStridedSlice S2x128x128x128 ![0, 0, 1, 1] · slices_S2x128x130x130_S2x128x128x128_0_0_1_1) : (⟨S2x128x130x130, .f32⟩ : BufTy).Contents (Elt F) → (⟨S2x128x128x128, .f32⟩ : BufTy).Contents (Elt F))
  :: StableHlo.unary main_arg2 main_v33 ((extractStridedSlice S32x128x1x1 ![0, 0, 1, 1] · slices_S32x128x3x3_S32x128x1x1_0_0_1_1) : (⟨S32x128x3x3, .f32⟩ : BufTy).Contents (Elt F) → (⟨S32x128x1x1, .f32⟩ : BufTy).Contents (Elt F))
  :: StableHlo.reshape main_v33 main_v34 (rfl : (.f32 : EltTy) = .f32) shapeCasts_S32x128x1x1_S32x128
  :: StableHlo.binary main_v34 main_v32 main_v35 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v35 main_v36 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v31 main_v36 main_v37 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v38 ((extractStridedSlice S2x128x128x128 ![0, 0, 1, 2] · slices_S2x128x130x130_S2x128x128x128_0_0_1_2) : (⟨S2x128x130x130, .f32⟩ : BufTy).Contents (Elt F) → (⟨S2x128x128x128, .f32⟩ : BufTy).Contents (Elt F))
  :: StableHlo.unary main_arg2 main_v39 ((extractStridedSlice S32x128x1x1 ![0, 0, 1, 2] · slices_S32x128x3x3_S32x128x1x1_0_0_1_2) : (⟨S32x128x3x3, .f32⟩ : BufTy).Contents (Elt F) → (⟨S32x128x1x1, .f32⟩ : BufTy).Contents (Elt F))
  :: StableHlo.reshape main_v39 main_v40 (rfl : (.f32 : EltTy) = .f32) shapeCasts_S32x128x1x1_S32x128
  :: StableHlo.binary main_v40 main_v38 main_v41 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v41 main_v42 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v37 main_v42 main_v43 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v44 ((extractStridedSlice S2x128x128x128 ![0, 0, 2, 0] · slices_S2x128x130x130_S2x128x128x128_0_0_2_0) : (⟨S2x128x130x130, .f32⟩ : BufTy).Contents (Elt F) → (⟨S2x128x128x128, .f32⟩ : BufTy).Contents (Elt F))
  :: StableHlo.unary main_arg2 main_v45 ((extractStridedSlice S32x128x1x1 ![0, 0, 2, 0] · slices_S32x128x3x3_S32x128x1x1_0_0_2_0) : (⟨S32x128x3x3, .f32⟩ : BufTy).Contents (Elt F) → (⟨S32x128x1x1, .f32⟩ : BufTy).Contents (Elt F))
  :: StableHlo.reshape main_v45 main_v46 (rfl : (.f32 : EltTy) = .f32) shapeCasts_S32x128x1x1_S32x128
  :: StableHlo.binary main_v46 main_v44 main_v47 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v47 main_v48 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v43 main_v48 main_v49 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v50 ((extractStridedSlice S2x128x128x128 ![0, 0, 2, 1] · slices_S2x128x130x130_S2x128x128x128_0_0_2_1) : (⟨S2x128x130x130, .f32⟩ : BufTy).Contents (Elt F) → (⟨S2x128x128x128, .f32⟩ : BufTy).Contents (Elt F))
  :: StableHlo.unary main_arg2 main_v51 ((extractStridedSlice S32x128x1x1 ![0, 0, 2, 1] · slices_S32x128x3x3_S32x128x1x1_0_0_2_1) : (⟨S32x128x3x3, .f32⟩ : BufTy).Contents (Elt F) → (⟨S32x128x1x1, .f32⟩ : BufTy).Contents (Elt F))
  :: StableHlo.reshape main_v51 main_v52 (rfl : (.f32 : EltTy) = .f32) shapeCasts_S32x128x1x1_S32x128
  :: StableHlo.binary main_v52 main_v50 main_v53 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v53 main_v54 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v49 main_v54 main_v55 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v56 ((extractStridedSlice S2x128x128x128 ![0, 0, 2, 2] · slices_S2x128x130x130_S2x128x128x128_0_0_2_2) : (⟨S2x128x130x130, .f32⟩ : BufTy).Contents (Elt F) → (⟨S2x128x128x128, .f32⟩ : BufTy).Contents (Elt F))
  :: StableHlo.unary main_arg2 main_v57 ((extractStridedSlice S32x128x1x1 ![0, 0, 2, 2] · slices_S32x128x3x3_S32x128x1x1_0_0_2_2) : (⟨S32x128x3x3, .f32⟩ : BufTy).Contents (Elt F) → (⟨S32x128x1x1, .f32⟩ : BufTy).Contents (Elt F))
  :: StableHlo.reshape main_v57 main_v58 (rfl : (.f32 : EltTy) = .f32) shapeCasts_S32x128x1x1_S32x128
  :: StableHlo.binary main_v58 main_v56 main_v59 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v59 main_v60 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v55 main_v60 main_v61 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_arg3 main_v62 (broadcastInDim S1x32x1x1 ![1] bcast_S32_S1x32x1x1_1 : (⟨S32, .f32⟩ : BufTy).Contents (Elt F) → (⟨S1x32x1x1, .f32⟩ : BufTy).Contents (Elt F))
  :: StableHlo.unary main_v62 main_v63 (broadcastInDim S2x32x128x128 ![0, 1, 2, 3] bcast_S1x32x1x1_S2x32x128x128_0_1_2_3 : (⟨S1x32x1x1, .f32⟩ : BufTy).Contents (Elt F) → (⟨S2x32x128x128, .f32⟩ : BufTy).Contents (Elt F))
  :: StableHlo.binary main_v61 main_v63 main_v64 (addf : (⟨S2x32x128x128, .f32⟩ : BufTy).Contents (Elt F) → (⟨S2x32x128x128, .f32⟩ : BufTy).Contents (Elt F) → (⟨S2x32x128x128, .f32⟩ : BufTy).Contents (Elt F))
  :: StableHlo.reshape main_v64 main_v65 (rfl : (.f32 : EltTy) = .f32) shapeCasts_S2x32x128x128_S2x32x16384
  :: StableHlo.unary main_v64 main_v66 ((transpose S2x32x128x128 [0, 1, 3, 2] · transposes_S2x32x128x128_S2x32x128x128_0_1_3_2) : (⟨S2x32x128x128, .f32⟩ : BufTy).Contents (Elt F) → (⟨S2x32x128x128, .f32⟩ : BufTy).Contents (Elt F))
  :: StableHlo.reshape main_v66 main_v67 (rfl : (.f32 : EltTy) = .f32) shapeCasts_S2x32x128x128_S2x32x16384
  :: StableHlo.unary main_v65 main_v68 (broadcastInDim S2x1x32x16384 ![0, 2, 3] bcast_S2x32x16384_S2x1x32x16384_0_2_3 : (⟨S2x32x16384, .f32⟩ : BufTy).Contents (Elt F) → (⟨S2x1x32x16384, .f32⟩ : BufTy).Contents (Elt F))
  :: StableHlo.unary main_v67 main_v69 (broadcastInDim S2x1x32x16384 ![0, 2, 3] bcast_S2x32x16384_S2x1x32x16384_0_2_3 : (⟨S2x32x16384, .f32⟩ : BufTy).Contents (Elt F) → (⟨S2x1x32x16384, .f32⟩ : BufTy).Contents (Elt F))
  :: StableHlo.binary main_v68 main_v69 main_v70 ((fun a b => concatenate S2x2x32x16384 1 [⟨S2x1x32x16384, a⟩, ⟨S2x1x32x16384, b⟩] concatenates_S2x1x32x16384_S2x1x32x16384_S2x2x32x16384_d1) : (⟨S2x1x32x16384, .f32⟩ : BufTy).Contents (Elt F) → (⟨S2x1x32x16384, .f32⟩ : BufTy).Contents (Elt F) → (⟨S2x2x32x16384, .f32⟩ : BufTy).Contents (Elt F))
  :: StableHlo.binary main_arg4 main_v70 main_v71 ((fun l r => Host.dotGeneral dot_S2x64x32_S2x2x32x16384_S2x64x2x16384_2_2_1_03_0_1 none l r) : (⟨S2x64x32, .f32⟩ : BufTy).Contents (Elt F) → (⟨S2x2x32x16384, .f32⟩ : BufTy).Contents (Elt F) → (⟨S2x64x2x16384, .f32⟩ : BufTy).Contents (Elt F))
  :: StableHlo.unary main_v71 main_v72 ((transpose S2x2x64x16384 [2, 0, 1, 3] · transposes_S2x64x2x16384_S2x2x64x16384_2_0_1_3) : (⟨S2x64x2x16384, .f32⟩ : BufTy).Contents (Elt F) → (⟨S2x2x64x16384, .f32⟩ : BufTy).Contents (Elt F))
  :: StableHlo.unary main_v72 main_v73 ((extractStridedSlice S2x2x32x16384 ![0, 0, 0, 0] · slices_S2x2x64x16384_S2x2x32x16384_0_0_0_0) : (⟨S2x2x64x16384, .f32⟩ : BufTy).Contents (Elt F) → (⟨S2x2x32x16384, .f32⟩ : BufTy).Contents (Elt F))
  :: StableHlo.unary main_v72 main_v74 ((extractStridedSlice S2x2x16x16384 ![0, 0, 32, 0] · slices_S2x2x64x16384_S2x2x16x16384_0_0_32_0) : (⟨S2x2x64x16384, .f32⟩ : BufTy).Contents (Elt F) → (⟨S2x2x16x16384, .f32⟩ : BufTy).Contents (Elt F))
  :: StableHlo.unary main_v72 main_v75 ((extractStridedSlice S2x2x16x16384 ![0, 0, 48, 0] · slices_S2x2x64x16384_S2x2x16x16384_0_0_48_0) : (⟨S2x2x64x16384, .f32⟩ : BufTy).Contents (Elt F) → (⟨S2x2x16x16384, .f32⟩ : BufTy).Contents (Elt F))
  :: StableHlo.binary main_arg5 main_v73 main_v76 ((fun l r => Host.dotGeneral dot_S2x32x32_S2x2x32x16384_S2x32x2x16384_2_2_1_03_0_1 none l r) : (⟨S2x32x32, .f32⟩ : BufTy).Contents (Elt F) → (⟨S2x2x32x16384, .f32⟩ : BufTy).Contents (Elt F) → (⟨S2x32x2x16384, .f32⟩ : BufTy).Contents (Elt F))
  :: StableHlo.unary main_v76 main_v77 ((transpose S2x2x32x16384 [2, 0, 1, 3] · transposes_S2x32x2x16384_S2x2x32x16384_2_0_1_3) : (⟨S2x32x2x16384, .f32⟩ : BufTy).Contents (Elt F) → (⟨S2x2x32x16384, .f32⟩ : BufTy).Contents (Elt F))
  :: StableHlo.unary main_arg7 main_v78 (Host.exp : (⟨S64x16, .f32⟩ : BufTy).Contents (Elt F) → (⟨S64x16, .f32⟩ : BufTy).Contents (Elt F))
  :: StableHlo.reshape main_v78 main_v79 (rfl : (.f32 : EltTy) = .f32) shapeCasts_S64x16_S2x32x16
  :: StableHlo.unary main_v79 main_v80 (Host.negf : (⟨S2x32x16, .f32⟩ : BufTy).Contents (Elt F) → (⟨S2x32x16, .f32⟩ : BufTy).Contents (Elt F))
  :: StableHlo.reshape main_arg8 main_v81 (rfl : (.f32 : EltTy) = .f32) shapeCasts_S64_S2x32
  :: StableHlo.unary main_arg6 main_v82 (broadcastInDim S1x2x32x1 ![1, 2] bcast_S2x32_S1x2x32x1_1_2 : (⟨S2x32, .f32⟩ : BufTy).Contents (Elt F) → (⟨S1x2x32x1, .f32⟩ : BufTy).Contents (Elt F))
  :: StableHlo.unary main_v82 main_v83 (broadcastInDim S2x2x32x16384 ![0, 1, 2, 3] bcast_S1x2x32x1_S2x2x32x16384_0_1_2_3 : (⟨S1x2x32x1, .f32⟩ : BufTy).Contents (Elt F) → (⟨S2x2x32x16384, .f32⟩ : BufTy).Contents (Elt F))
  :: StableHlo.binary main_v77 main_v83 main_v84 (addf : (⟨S2x2x32x16384, .f32⟩ : BufTy).Contents (Elt F) → (⟨S2x2x32x16384, .f32⟩ : BufTy).Contents (Elt F) → (⟨S2x2x32x16384, .f32⟩ : BufTy).Contents (Elt F))
  :: [] )
set_option maxHeartbeats 40000000 in  -- a long stretch: its list (or the term over it) exceeds the default budget
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.unary_bufs_sub .., StableHlo.reshape_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub ..⟩
/-- 14 host operations of @softplus (main_call1), in order. -/
abbrev hostOps0_3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S2x2x32x16384, .f32⟩) (broadcastInDim S2x2x32x16384 ![] bcast_S_S2x2x32x16384),
    StableHlo.TRef.binary (.of main_v84 : StableHlo.TRef sig ⟨S2x2x32x16384, .f32⟩) (.of main_call1_v0 : StableHlo.TRef sig ⟨S2x2x32x16384, .f32⟩) (.of main_call1_v1 : StableHlo.TRef sig ⟨S2x2x32x16384, .f32⟩) maximumf,
    StableHlo.TRef.unary (.of main_call1_cst : StableHlo.TRef sig ⟨S_, .f32⟩) (.of main_call1_v2 : StableHlo.TRef sig ⟨S2x2x32x16384, .f32⟩) (broadcastInDim S2x2x32x16384 ![] bcast_S_S2x2x32x16384),
    StableHlo.TRef.binary (.of main_v84 : StableHlo.TRef sig ⟨S2x2x32x16384, .f32⟩) (.of main_call1_v2 : StableHlo.TRef sig ⟨S2x2x32x16384, .f32⟩) (.of main_call1_v3 : StableHlo.TRef sig ⟨S2x2x32x16384, .f32⟩) subf,
    StableHlo.TRef.binary (.of main_call1_v3 : StableHlo.TRef sig ⟨S2x2x32x16384, .f32⟩) (.of main_call1_v3 : StableHlo.TRef sig ⟨S2x2x32x16384, .f32⟩) (.of main_call1_v4 : StableHlo.TRef sig ⟨S2x2x32x16384, .i1⟩) (cmpf .une),
    StableHlo.TRef.unary (.of main_call1_cst : StableHlo.TRef sig ⟨S_, .f32⟩) (.of main_call1_v5 : StableHlo.TRef sig ⟨S2x2x32x16384, .f32⟩) (broadcastInDim S2x2x32x16384 ![] bcast_S_S2x2x32x16384),
    StableHlo.TRef.binary (.of main_v84 : StableHlo.TRef sig ⟨S2x2x32x16384, .f32⟩) (.of main_call1_v5 : StableHlo.TRef sig ⟨S2x2x32x16384, .f32⟩) (.of main_call1_v6 : StableHlo.TRef sig ⟨S2x2x32x16384, .f32⟩) addf,
    StableHlo.TRef.unary (.of main_call1_v3 : StableHlo.TRef sig ⟨S2x2x32x16384, .f32⟩) (.of main_call1_v7 : StableHlo.TRef sig ⟨S2x2x32x16384, .f32⟩) Host.absf,
    StableHlo.TRef.unary (.of main_call1_v7 : StableHlo.TRef sig ⟨S2x2x32x16384, .f32⟩) (.of main_call1_v8 : StableHlo.TRef sig ⟨S2x2x32x16384, .f32⟩) Host.negf,
    StableHlo.TRef.unary (.of main_call1_v8 : StableHlo.TRef sig ⟨S2x2x32x16384, .f32⟩) (.of main_call1_v9 : StableHlo.TRef sig ⟨S2x2x32x16384, .f32⟩) Host.exp,
    StableHlo.TRef.unary (.of main_call1_v9 : StableHlo.TRef sig ⟨S2x2x32x16384, .f32⟩) (.of main_call1_v10 : StableHlo.TRef sig ⟨S2x2x32x16384, .f32⟩) Host.log1p,
    StableHlo.TRef.binary (.of main_call1_v1 : StableHlo.TRef sig ⟨S2x2x32x16384, .f32⟩) (.of main_call1_v10 : StableHlo.TRef sig ⟨S2x2x32x16384, .f32⟩) (.of main_call1_v11 : StableHlo.TRef sig ⟨S2x2x32x16384, .f32⟩) addf,
    StableHlo.TRef.ternary (.of main_call1_v4 : StableHlo.TRef sig ⟨S2x2x32x16384, .i1⟩) (.of main_call1_v6 : StableHlo.TRef sig ⟨S2x2x32x16384, .f32⟩) (.of main_call1_v11 : StableHlo.TRef sig ⟨S2x2x32x16384, .f32⟩) (.of main_v85 : StableHlo.TRef sig ⟨S2x2x32x16384, .f32⟩) select ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub ..⟩
/-- 18 host operations of @main, in order. -/
abbrev hostOps0_4 : List (HloOp τ sig (Elt F)) :=
  [ StableHlo.unary main_v70 main_v86 ((transpose S16384x2x2x32 [3, 0, 1, 2] · transposes_S2x2x32x16384_S16384x2x2x32_3_0_1_2) : (⟨S2x2x32x16384, .f32⟩ : BufTy).Contents (Elt F) → (⟨S16384x2x2x32, .f32⟩ : BufTy).Contents (Elt F)),
    StableHlo.unary main_v85 main_v87 ((transpose S16384x2x2x32 [3, 0, 1, 2] · transposes_S2x2x32x16384_S16384x2x2x32_3_0_1_2) : (⟨S2x2x32x16384, .f32⟩ : BufTy).Contents (Elt F) → (⟨S16384x2x2x32, .f32⟩ : BufTy).Contents (Elt F)),
    StableHlo.unary main_v74 main_v88 ((transpose S16384x2x2x16 [3, 0, 1, 2] · transposes_S2x2x16x16384_S16384x2x2x16_3_0_1_2) : (⟨S2x2x16x16384, .f32⟩ : BufTy).Contents (Elt F) → (⟨S16384x2x2x16, .f32⟩ : BufTy).Contents (Elt F)),
    StableHlo.unary main_v75 main_v89 ((transpose S16384x2x2x16 [3, 0, 1, 2] · transposes_S2x2x16x16384_S16384x2x2x16_3_0_1_2) : (⟨S2x2x16x16384, .f32⟩ : BufTy).Contents (Elt F) → (⟨S16384x2x2x16, .f32⟩ : BufTy).Contents (Elt F)),
    StableHlo.nullary main_cst_2 (constant S_ .f32 0x00000000#32),
    StableHlo.unary main_cst_2 main_v90 (broadcastInDim S2x2x32x16 ![] bcast_S_S2x2x32x16 : (⟨S_, .f32⟩ : BufTy).Contents (Elt F) → (⟨S2x2x32x16, .f32⟩ : BufTy).Contents (Elt F)),
    StableHlo.nullary main_cst_3 (constant S_ .f32 0x00000000#32),
    StableHlo.unary main_cst_3 main_v91 (broadcastInDim S16384x2x2x32 ![] bcast_S_S16384x2x2x32 : (⟨S_, .f32⟩ : BufTy).Contents (Elt F) → (⟨S16384x2x2x32, .f32⟩ : BufTy).Contents (Elt F)),
    StableHlo.nullary main_c_4 (constantI S_ 32 0#32),
    StableHlo.unary main_v86 main_v92_0 id,
    StableHlo.unary main_v87 main_v92_1 id,
    StableHlo.unary main_v88 main_v92_2 id,
    StableHlo.unary main_v89 main_v92_3 id,
    StableHlo.unary main_v80 main_v92_4 id,
    StableHlo.unary main_v81 main_v92_5 id,
    StableHlo.unary main_c_4 main_v92_6 id,
    StableHlo.unary main_v90 main_v92_7 id,
    StableHlo.unary main_v91 main_v92_8 id ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 17 host operations of @main, in order. -/
abbrev hostOps0_5 : List (HloOp τ sig (Elt F)) :=
  [ StableHlo.unary main_v92_8 main_v93 ((transpose S2x2x32x16384 [1, 2, 3, 0] · transposes_S16384x2x2x32_S2x2x32x16384_1_2_3_0) : (⟨S16384x2x2x32, .f32⟩ : BufTy).Contents (Elt F) → (⟨S2x2x32x16384, .f32⟩ : BufTy).Contents (Elt F)),
    StableHlo.unary main_v93 main_v94 ((extractStridedSlice S2x1x32x16384 ![0, 1, 0, 0] · slices_S2x2x32x16384_S2x1x32x16384_0_1_0_0) : (⟨S2x2x32x16384, .f32⟩ : BufTy).Contents (Elt F) → (⟨S2x1x32x16384, .f32⟩ : BufTy).Contents (Elt F)),
    StableHlo.reshape main_v94 main_v95 (rfl : (.f32 : EltTy) = .f32) shapeCasts_S2x1x32x16384_S2x32x16384,
    StableHlo.reshape main_v95 main_v96 (rfl : (.f32 : EltTy) = .f32) shapeCasts_S2x32x16384_S2x32x128x128,
    StableHlo.unary main_v96 main_v97 ((transpose S2x32x128x128 [0, 1, 3, 2] · transposes_S2x32x128x128_S2x32x128x128_0_1_3_2) : (⟨S2x32x128x128, .f32⟩ : BufTy).Contents (Elt F) → (⟨S2x32x128x128, .f32⟩ : BufTy).Contents (Elt F)),
    StableHlo.reshape main_v97 main_v98 (rfl : (.f32 : EltTy) = .f32) shapeCasts_S2x32x128x128_S2x32x16384,
    StableHlo.unary main_v93 main_v99 ((extractStridedSlice S2x1x32x16384 ![0, 0, 0, 0] · slices_S2x2x32x16384_S2x1x32x16384_0_0_0_0) : (⟨S2x2x32x16384, .f32⟩ : BufTy).Contents (Elt F) → (⟨S2x1x32x16384, .f32⟩ : BufTy).Contents (Elt F)),
    StableHlo.reshape main_v99 main_v100 (rfl : (.f32 : EltTy) = .f32) shapeCasts_S2x1x32x16384_S2x32x16384,
    StableHlo.binary main_v100 main_v98 main_v101 (addf : (⟨S2x32x16384, .f32⟩ : BufTy).Contents (Elt F) → (⟨S2x32x16384, .f32⟩ : BufTy).Contents (Elt F) → (⟨S2x32x16384, .f32⟩ : BufTy).Contents (Elt F)),
    StableHlo.reshape main_v101 main_v102 (rfl : (.f32 : EltTy) = .f32) shapeCasts_S2x32x16384_S2x32x128x128,
    StableHlo.nullary main_cst_5 (constant S_ .f32 0x00000000#32),
    StableHlo.binary main_v102 main_cst_5 main_v103 ((fun x v => Host.reduceAdd x v reducesTo_S2x32x128x128_S2x128x128_d1 h_S_) : (⟨S2x32x128x128, .f32⟩ : BufTy).Contents (Elt F) → (⟨S_, .f32⟩ : BufTy).Contents (Elt F) → (⟨S2x128x128, .f32⟩ : BufTy).Contents (Elt F)),
    StableHlo.unary main_v103 main_v104 (broadcastInDim S2x1x128x128 ![0, 2, 3] bcast_S2x128x128_S2x1x128x128_0_2_3 : (⟨S2x128x128, .f32⟩ : BufTy).Contents (Elt F) → (⟨S2x1x128x128, .f32⟩ : BufTy).Contents (Elt F)),
    StableHlo.nullary main_cst_6 (constant S_ .f32 0x42000000#32),
    StableHlo.unary main_cst_6 main_v105 (broadcastInDim S2x1x128x128 ![] bcast_S_S2x1x128x128 : (⟨S_, .f32⟩ : BufTy).Contents (Elt F) → (⟨S2x1x128x128, .f32⟩ : BufTy).Contents (Elt F)),
    StableHlo.binary main_v104 main_v105 main_v106 (Host.divf : (⟨S2x1x128x128, .f32⟩ : BufTy).Contents (Elt F) → (⟨S2x1x128x128, .f32⟩ : BufTy).Contents (Elt F) → (⟨S2x1x128x128, .f32⟩ : BufTy).Contents (Elt F)),
    StableHlo.nullary main_c_7 (constantI S_ 32 0#32) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.unary_bufs_sub .., StableHlo.unary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.reshape_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- 23 host operations of @_var (main_call7), in order. -/
abbrev hostOps0_6 : List (HloOp τ sig (Elt F)) :=
  [ StableHlo.TRef.nullary (.of main_call7_cst : StableHlo.TRef sig ⟨S_, .f32⟩) (constant S_ .f32 0x00000000#32),
    StableHlo.TRef.binary (.of main_v102 : StableHlo.TRef sig ⟨S2x32x128x128, .f32⟩) (.of main_call7_cst : StableHlo.TRef sig ⟨S_, .f32⟩) (.of main_call7_v0 : StableHlo.TRef sig ⟨S2x128x128, .f32⟩) (fun x v => Host.reduceAdd x v reducesTo_S2x32x128x128_S2x128x128_d1 h_S_),
    StableHlo.TRef.unary (.of main_call7_v0 : StableHlo.TRef sig ⟨S2x128x128, .f32⟩) (.of main_call7_v1 : StableHlo.TRef sig ⟨S2x1x128x128, .f32⟩) (broadcastInDim S2x1x128x128 ![0, 2, 3] bcast_S2x128x128_S2x1x128x128_0_2_3),
    StableHlo.TRef.nullary (.of main_call7_cst_0 : StableHlo.TRef sig ⟨S_, .f32⟩) (constant S_ .f32 0x42000000#32),
    StableHlo.TRef.unary (.of main_call7_cst_0 : StableHlo.TRef sig ⟨S_, .f32⟩) (.of main_call7_v2 : StableHlo.TRef sig ⟨S2x1x128x128, .f32⟩) (broadcastInDim S2x1x128x128 ![] bcast_S_S2x1x128x128),
    StableHlo.TRef.binary (.of main_call7_v1 : StableHlo.TRef sig ⟨S2x1x128x128, .f32⟩) (.of main_call7_v2 : StableHlo.TRef sig ⟨S2x1x128x128, .f32⟩) (.of main_call7_v3 : StableHlo.TRef sig ⟨S2x1x128x128, .f32⟩) Host.divf,
    StableHlo.TRef.unary (.of main_call7_v3 : StableHlo.TRef sig ⟨S2x1x128x128, .f32⟩) (.of main_call7_v4 : StableHlo.TRef sig ⟨S2x32x128x128, .f32⟩) (broadcastInDim S2x32x128x128 ![0, 1, 2, 3] bcast_S2x1x128x128_S2x32x128x128_0_1_2_3),
    StableHlo.TRef.binary (.of main_v102 : StableHlo.TRef sig ⟨S2x32x128x128, .f32⟩) (.of main_call7_v4 : StableHlo.TRef sig ⟨S2x32x128x128, .f32⟩) (.of main_call7_v5 : StableHlo.TRef sig ⟨S2x32x128x128, .f32⟩) subf,
    StableHlo.TRef.binary (.of main_call7_v5 : StableHlo.TRef sig ⟨S2x32x128x128, .f32⟩) (.of main_call7_v5 : StableHlo.TRef sig ⟨S2x32x128x128, .f32⟩) (.of main_call7_v6 : StableHlo.TRef sig ⟨S2x32x128x128, .f32⟩) mulf,
    StableHlo.TRef.unary (.of main_c_7 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x42000000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S2x32x128x128, .f32⟩) (.of main_call7_cst_2 : StableHlo.TRef sig ⟨S_, .f32⟩) (.of main_call7_v9 : StableHlo.TRef sig ⟨S2x128x128, .f32⟩) (fun x v => Host.reduceAdd x v reducesTo_S2x32x128x128_S2x128x128_d1 h_S_),
    StableHlo.TRef.unary (.of main_call7_v9 : StableHlo.TRef sig ⟨S2x128x128, .f32⟩) (.of main_call7_v10 : StableHlo.TRef sig ⟨S2x1x128x128, .f32⟩) (broadcastInDim S2x1x128x128 ![0, 2, 3] bcast_S2x128x128_S2x1x128x128_0_2_3),
    StableHlo.TRef.unary (.of main_call7_v8 : StableHlo.TRef sig ⟨S_, .f32⟩) (.of main_call7_v11 : StableHlo.TRef sig ⟨S2x1x128x128, .f32⟩) (broadcastInDim S2x1x128x128 ![] bcast_S_S2x1x128x128),
    StableHlo.TRef.binary (.of main_call7_v10 : StableHlo.TRef sig ⟨S2x1x128x128, .f32⟩) (.of main_call7_v11 : StableHlo.TRef sig ⟨S2x1x128x128, .f32⟩) (.of main_call7_v12 : StableHlo.TRef sig ⟨S2x1x128x128, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v13 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S2x1x128x128, .f32⟩) (broadcastInDim S2x1x128x128 ![] bcast_S_S2x1x128x128),
    StableHlo.TRef.ternary (.of main_call7_v13 : StableHlo.TRef sig ⟨S_, .i1⟩) (.of main_call7_v12 : StableHlo.TRef sig ⟨S2x1x128x128, .f32⟩) (.of main_call7_call0_v1 : StableHlo.TRef sig ⟨S2x1x128x128, .f32⟩) (.of main_v107 : StableHlo.TRef sig ⟨S2x1x128x128, .f32⟩) (fun p a b => select (broadcastInDim S2x1x128x128 ![] bcast_S_S2x1x128x128 p) a b) ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 14 host operations of @main, in order. -/
abbrev hostOps0_7 : List (HloOp τ sig (Elt F)) :=
  [ StableHlo.unary main_v106 main_v108 (broadcastInDim S2x32x128x128 ![0, 1, 2, 3] bcast_S2x1x128x128_S2x32x128x128_0_1_2_3 : (⟨S2x1x128x128, .f32⟩ : BufTy).Contents (Elt F) → (⟨S2x32x128x128, .f32⟩ : BufTy).Contents (Elt F)),
    StableHlo.binary main_v102 main_v108 main_v109 (subf : (⟨S2x32x128x128, .f32⟩ : BufTy).Contents (Elt F) → (⟨S2x32x128x128, .f32⟩ : BufTy).Contents (Elt F) → (⟨S2x32x128x128, .f32⟩ : BufTy).Contents (Elt F)),
    StableHlo.nullary main_cst_8 (constant S_ .f32 0x3727C5AC#32),
    StableHlo.unary main_cst_8 main_v110 (broadcastInDim S2x1x128x128 ![] bcast_S_S2x1x128x128 : (⟨S_, .f32⟩ : BufTy).Contents (Elt F) → (⟨S2x1x128x128, .f32⟩ : BufTy).Contents (Elt F)),
    StableHlo.binary main_v107 main_v110 main_v111 (addf : (⟨S2x1x128x128, .f32⟩ : BufTy).Contents (Elt F) → (⟨S2x1x128x128, .f32⟩ : BufTy).Contents (Elt F) → (⟨S2x1x128x128, .f32⟩ : BufTy).Contents (Elt F)),
    StableHlo.unary main_v111 main_v112 (Host.sqrt : (⟨S2x1x128x128, .f32⟩ : BufTy).Contents (Elt F) → (⟨S2x1x128x128, .f32⟩ : BufTy).Contents (Elt F)),
    StableHlo.unary main_v112 main_v113 (broadcastInDim S2x32x128x128 ![0, 1, 2, 3] bcast_S2x1x128x128_S2x32x128x128_0_1_2_3 : (⟨S2x1x128x128, .f32⟩ : BufTy).Contents (Elt F) → (⟨S2x32x128x128, .f32⟩ : BufTy).Contents (Elt F)),
    StableHlo.binary main_v109 main_v113 main_v114 (Host.divf : (⟨S2x32x128x128, .f32⟩ : BufTy).Contents (Elt F) → (⟨S2x32x128x128, .f32⟩ : BufTy).Contents (Elt F) → (⟨S2x32x128x128, .f32⟩ : BufTy).Contents (Elt F)),
    StableHlo.unary main_arg9 main_v115 (broadcastInDim S1x32x1x1 ![1] bcast_S32_S1x32x1x1_1 : (⟨S32, .f32⟩ : BufTy).Contents (Elt F) → (⟨S1x32x1x1, .f32⟩ : BufTy).Contents (Elt F)),
    StableHlo.unary main_v115 main_v116 (broadcastInDim S2x32x128x128 ![0, 1, 2, 3] bcast_S1x32x1x1_S2x32x128x128_0_1_2_3 : (⟨S1x32x1x1, .f32⟩ : BufTy).Contents (Elt F) → (⟨S2x32x128x128, .f32⟩ : BufTy).Contents (Elt F)),
    StableHlo.binary main_v114 main_v116 main_v117 (mulf : (⟨S2x32x128x128, .f32⟩ : BufTy).Contents (Elt F) → (⟨S2x32x128x128, .f32⟩ : BufTy).Contents (Elt F) → (⟨S2x32x128x128, .f32⟩ : BufTy).Contents (Elt F)),
    StableHlo.unary main_arg10 main_v118 (broadcastInDim S1x32x1x1 ![1] bcast_S32_S1x32x1x1_1 : (⟨S32, .f32⟩ : BufTy).Contents (Elt F) → (⟨S1x32x1x1, .f32⟩ : BufTy).Contents (Elt F)),
    StableHlo.unary main_v118 main_v119 (broadcastInDim S2x32x128x128 ![0, 1, 2, 3] bcast_S1x32x1x1_S2x32x128x128_0_1_2_3 : (⟨S1x32x1x1, .f32⟩ : BufTy).Contents (Elt F) → (⟨S2x32x128x128, .f32⟩ : BufTy).Contents (Elt F)),
    StableHlo.binary main_v117 main_v119 main_v120 (addf : (⟨S2x32x128x128, .f32⟩ : BufTy).Contents (Elt F) → (⟨S2x32x128x128, .f32⟩ : BufTy).Contents (Elt F) → (⟨S2x32x128x128, .f32⟩ : BufTy).Contents (Elt F)) ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- 9 host operations of @main, window 0 (statements 1 … 60), in order. -/
abbrev main_part0_ops0 : List (HloOp τ sig (Elt F)) :=
  [ StableHlo.nullary main_cst (fun i => FloatOps.ofBits .f32 (lit0 (S128x64.rowMajor i))),
    StableHlo.nullary main_cst_0 (fun i => FloatOps.ofBits .f32 (lit1 (S128x64.rowMajor i))),
    StableHlo.reshape main_arg0 main_v0 (rfl : (.f32 : EltTy) = .f32) shapeCasts_S2x64x2048_S2x64x64x32,
    StableHlo.unary main_v0 main_v1 ((transpose S2x32x64x64 [0, 3, 1, 2] · transposes_S2x64x64x32_S2x32x64x64_0_3_1_2) : (⟨S2x64x64x32, .f32⟩ : BufTy).Contents (Elt F) → (⟨S2x32x64x64, .f32⟩ : BufTy).Contents (Elt F)),
    StableHlo.binary main_v1 main_cst main_v2 ((fun l r => Host.dotGeneral dot_S2x32x64x64_S128x64_S2x32x64x128_2_1_013_0_n_n none l r) : (⟨S2x32x64x64, .f32⟩ : BufTy).Contents (Elt F) → (⟨S128x64, .f32⟩ : BufTy).Contents (Elt F) → (⟨S2x32x64x128, .f32⟩ : BufTy).Contents (Elt F)),
    StableHlo.unary main_v2 main_v3 ((transpose S2x32x128x64 [0, 1, 3, 2] · transposes_S2x32x64x128_S2x32x128x64_0_1_3_2) : (⟨S2x32x64x128, .f32⟩ : BufTy).Contents (Elt F) → (⟨S2x32x128x64, .f32⟩ : BufTy).Contents (Elt F)),
    StableHlo.binary main_v3 main_cst_0 main_v4 ((fun l r => Host.dotGeneral dot_S2x32x128x64_S128x64_S2x32x128x128_3_1_012_0_n_n none l r) : (⟨S2x32x128x64, .f32⟩ : BufTy).Contents (Elt F) → (⟨S128x64, .f32⟩ : BufTy).Contents (Elt F) → (⟨S2x32x128x128, .f32⟩ : BufTy).Contents (Elt F)),
    StableHlo.binary main_v4 main_arg1 main_v5 ((fun a b => concatenate S2x128x128x128 1 [⟨S2x32x128x128, a⟩, ⟨S2x96x128x128, b⟩] concatenates_S2x32x128x128_S2x96x128x128_S2x128x128x128_d1) : (⟨S2x32x128x128, .f32⟩ : BufTy).Contents (Elt F) → (⟨S2x96x128x128, .f32⟩ : BufTy).Contents (Elt F) → (⟨S2x128x128x128, .f32⟩ : BufTy).Contents (Elt F)),
    StableHlo.nullary main_c (constantI S_ 32 0#32) ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.nullary_bufs_sub .., StableHlo.reshape_bufs_sub .., StableHlo.unary_bufs_sub .., StableHlo.binary_bufs_sub .., StableHlo.unary_bufs_sub .., StableHlo.binary_bufs_sub .., StableHlo.binary_bufs_sub .., StableHlo.nullary_bufs_sub ..⟩
/-- 2 host operations of @_pad (main_call0), window 0 (statements 1 … 60), in order. -/
abbrev main_part0_ops1 : List (HloOp τ sig (Elt F)) :=
  [ StableHlo.TRef.unary (.of main_c : StableHlo.TRef sig ⟨S_, .i32⟩) (.of main_call0_v0 : StableHlo.TRef sig ⟨S_, .f32⟩) (sitofp .f32),
    StableHlo.TRef.binary (.of main_v5 : StableHlo.TRef sig ⟨S2x128x128x128, .f32⟩) (.of main_call0_v0 : StableHlo.TRef sig ⟨S_, .f32⟩) (.of main_v6 : StableHlo.TRef sig ⟨S2x128x130x130, .f32⟩) (fun x v => pad S2x128x130x130 ![0, 0, 1, 1] ![0, 0, 1, 1] ![0, 0, 0, 0] x v pads_S2x128x128x128_S2x128x130x130_000_000_110_110 h_S_) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.unary_bufs_sub .., StableHlo.binary_bufs_sub ..⟩
/-- 50 host operations of @main, window 0 (statements 1 … 60), in order. -/
abbrev main_part0_ops2 : List (HloOp τ sig (Elt F)) :=
  ( StableHlo.unary main_v6 main_v7 ((extractStridedSlice S2x128x128x128 ![0, 0, 0, 0] · slices_S2x128x130x130_S2x128x128x128_0_0_0_0) : (⟨S2x128x130x130, .f32⟩ : BufTy).Contents (Elt F) → (⟨S2x128x128x128, .f32⟩ : BufTy).Contents (Elt F))
  :: StableHlo.unary main_arg2 main_v8 ((extractStridedSlice S32x128x1x1 ![0, 0, 0, 0] · slices_S32x128x3x3_S32x128x1x1_0_0_0_0) : (⟨S32x128x3x3, .f32⟩ : BufTy).Contents (Elt F) → (⟨S32x128x1x1, .f32⟩ : BufTy).Contents (Elt F))
  :: StableHlo.reshape main_v8 main_v9 (rfl : (.f32 : EltTy) = .f32) shapeCasts_S32x128x1x1_S32x128
  :: StableHlo.binary main_v9 main_v7 main_v10 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v10 main_v11 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.nullary main_cst_1 (constant S_ .f32 0x00000000#32)
  :: StableHlo.unary main_cst_1 main_v12 (broadcastInDim S2x32x128x128 ![] bcast_S_S2x32x128x128 : (⟨S_, .f32⟩ : BufTy).Contents (Elt F) → (⟨S2x32x128x128, .f32⟩ : BufTy).Contents (Elt F))
  :: StableHlo.binary main_v12 main_v11 main_v13 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v14 ((extractStridedSlice S2x128x128x128 ![0, 0, 0, 1] · slices_S2x128x130x130_S2x128x128x128_0_0_0_1) : (⟨S2x128x130x130, .f32⟩ : BufTy).Contents (Elt F) → (⟨S2x128x128x128, .f32⟩ : BufTy).Contents (Elt F))
  :: StableHlo.unary main_arg2 main_v15 ((extractStridedSlice S32x128x1x1 ![0, 0, 0, 1] · slices_S32x128x3x3_S32x128x1x1_0_0_0_1) : (⟨S32x128x3x3, .f32⟩ : BufTy).Contents (Elt F) → (⟨S32x128x1x1, .f32⟩ : BufTy).Contents (Elt F))
  :: StableHlo.reshape main_v15 main_v16 (rfl : (.f32 : EltTy) = .f32) shapeCasts_S32x128x1x1_S32x128
  :: StableHlo.binary main_v16 main_v14 main_v17 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v17 main_v18 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v13 main_v18 main_v19 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v20 ((extractStridedSlice S2x128x128x128 ![0, 0, 0, 2] · slices_S2x128x130x130_S2x128x128x128_0_0_0_2) : (⟨S2x128x130x130, .f32⟩ : BufTy).Contents (Elt F) → (⟨S2x128x128x128, .f32⟩ : BufTy).Contents (Elt F))
  :: StableHlo.unary main_arg2 main_v21 ((extractStridedSlice S32x128x1x1 ![0, 0, 0, 2] · slices_S32x128x3x3_S32x128x1x1_0_0_0_2) : (⟨S32x128x3x3, .f32⟩ : BufTy).Contents (Elt F) → (⟨S32x128x1x1, .f32⟩ : BufTy).Contents (Elt F))
  :: StableHlo.reshape main_v21 main_v22 (rfl : (.f32 : EltTy) = .f32) shapeCasts_S32x128x1x1_S32x128
  :: StableHlo.binary main_v22 main_v20 main_v23 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v23 main_v24 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v19 main_v24 main_v25 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v26 ((extractStridedSlice S2x128x128x128 ![0, 0, 1, 0] · slices_S2x128x130x130_S2x128x128x128_0_0_1_0) : (⟨S2x128x130x130, .f32⟩ : BufTy).Contents (Elt F) → (⟨S2x128x128x128, .f32⟩ : BufTy).Contents (Elt F))
  :: StableHlo.unary main_arg2 main_v27 ((extractStridedSlice S32x128x1x1 ![0, 0, 1, 0] · slices_S32x128x3x3_S32x128x1x1_0_0_1_0) : (⟨S32x128x3x3, .f32⟩ : BufTy).Contents (Elt F) → (⟨S32x128x1x1, .f32⟩ : BufTy).Contents (Elt F))
  :: StableHlo.reshape main_v27 main_v28 (rfl : (.f32 : EltTy) = .f32) shapeCasts_S32x128x1x1_S32x128
  :: StableHlo.binary main_v28 main_v26 main_v29 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v29 main_v30 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v25 main_v30 main_v31 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v32 ((extractStridedSlice S2x128x128x128 ![0, 0, 1, 1] · slices_S2x128x130x130_S2x128x128x128_0_0_1_1) : (⟨S2x128x130x130, .f32⟩ : BufTy).Contents (Elt F) → (⟨S2x128x128x128, .f32⟩ : BufTy).Contents (Elt F))
  :: StableHlo.unary main_arg2 main_v33 ((extractStridedSlice S32x128x1x1 ![0, 0, 1, 1] · slices_S32x128x3x3_S32x128x1x1_0_0_1_1) : (⟨S32x128x3x3, .f32⟩ : BufTy).Contents (Elt F) → (⟨S32x128x1x1, .f32⟩ : BufTy).Contents (Elt F))
  :: StableHlo.reshape main_v33 main_v34 (rfl : (.f32 : EltTy) = .f32) shapeCasts_S32x128x1x1_S32x128
  :: StableHlo.binary main_v34 main_v32 main_v35 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v35 main_v36 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v31 main_v36 main_v37 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v38 ((extractStridedSlice S2x128x128x128 ![0, 0, 1, 2] · slices_S2x128x130x130_S2x128x128x128_0_0_1_2) : (⟨S2x128x130x130, .f32⟩ : BufTy).Contents (Elt F) → (⟨S2x128x128x128, .f32⟩ : BufTy).Contents (Elt F))
  :: StableHlo.unary main_arg2 main_v39 ((extractStridedSlice S32x128x1x1 ![0, 0, 1, 2] · slices_S32x128x3x3_S32x128x1x1_0_0_1_2) : (⟨S32x128x3x3, .f32⟩ : BufTy).Contents (Elt F) → (⟨S32x128x1x1, .f32⟩ : BufTy).Contents (Elt F))
  :: StableHlo.reshape main_v39 main_v40 (rfl : (.f32 : EltTy) = .f32) shapeCasts_S32x128x1x1_S32x128
  :: StableHlo.binary main_v40 main_v38 main_v41 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v41 main_v42 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v37 main_v42 main_v43 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v44 ((extractStridedSlice S2x128x128x128 ![0, 0, 2, 0] · slices_S2x128x130x130_S2x128x128x128_0_0_2_0) : (⟨S2x128x130x130, .f32⟩ : BufTy).Contents (Elt F) → (⟨S2x128x128x128, .f32⟩ : BufTy).Contents (Elt F))
  :: StableHlo.unary main_arg2 main_v45 ((extractStridedSlice S32x128x1x1 ![0, 0, 2, 0] · slices_S32x128x3x3_S32x128x1x1_0_0_2_0) : (⟨S32x128x3x3, .f32⟩ : BufTy).Contents (Elt F) → (⟨S32x128x1x1, .f32⟩ : BufTy).Contents (Elt F))
  :: StableHlo.reshape main_v45 main_v46 (rfl : (.f32 : EltTy) = .f32) shapeCasts_S32x128x1x1_S32x128
  :: StableHlo.binary main_v46 main_v44 main_v47 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v47 main_v48 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v43 main_v48 main_v49 (addf : (⟨S2x32x128x128, .f32⟩ : BufTy).Contents (Elt F) → (⟨S2x32x128x128, .f32⟩ : BufTy).Contents (Elt F) → (⟨S2x32x128x128, .f32⟩ : BufTy).Contents (Elt F))
  :: StableHlo.unary main_v6 main_v50 ((extractStridedSlice S2x128x128x128 ![0, 0, 2, 1] · slices_S2x128x130x130_S2x128x128x128_0_0_2_1) : (⟨S2x128x130x130, .f32⟩ : BufTy).Contents (Elt F) → (⟨S2x128x128x128, .f32⟩ : BufTy).Contents (Elt F))
  :: StableHlo.unary main_arg2 main_v51 ((extractStridedSlice S32x128x1x1 ![0, 0, 2, 1] · slices_S32x128x3x3_S32x128x1x1_0_0_2_1) : (⟨S32x128x3x3, .f32⟩ : BufTy).Contents (Elt F) → (⟨S32x128x1x1, .f32⟩ : BufTy).Contents (Elt F))
  :: StableHlo.reshape main_v51 main_v52 (rfl : (.f32 : EltTy) = .f32) shapeCasts_S32x128x1x1_S32x128
  :: StableHlo.binary main_v52 main_v50 main_v53 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F))
  :: StableHlo.unary main_v53 main_v54 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F))
  :: StableHlo.binary main_v49 main_v54 main_v55 (addf : (⟨S2x32x128x128, .f32⟩ : BufTy).Contents (Elt F) → (⟨S2x32x128x128, .f32⟩ : BufTy).Contents (Elt F) → (⟨S2x32x128x128, .f32⟩ : BufTy).Contents (Elt F))
  :: [] )
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.unary_bufs_sub .., StableHlo.unary_bufs_sub .., StableHlo.reshape_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

/-- 29 host operations of @main, window 1 (statements 61 … 120), in order. -/
abbrev main_part1_ops0 : List (HloOp τ sig (Elt F)) :=
  [ StableHlo.unary main_v6 main_v56 ((extractStridedSlice S2x128x128x128 ![0, 0, 2, 2] · slices_S2x128x130x130_S2x128x128x128_0_0_2_2) : (⟨S2x128x130x130, .f32⟩ : BufTy).Contents (Elt F) → (⟨S2x128x128x128, .f32⟩ : BufTy).Contents (Elt F)),
    StableHlo.unary main_arg2 main_v57 ((extractStridedSlice S32x128x1x1 ![0, 0, 2, 2] · slices_S32x128x3x3_S32x128x1x1_0_0_2_2) : (⟨S32x128x3x3, .f32⟩ : BufTy).Contents (Elt F) → (⟨S32x128x1x1, .f32⟩ : BufTy).Contents (Elt F)),
    StableHlo.reshape main_v57 main_v58 (rfl : (.f32 : EltTy) = .f32) shapeCasts_S32x128x1x1_S32x128,
    StableHlo.binary main_v58 main_v56 main_v59 ((fun l r => Host.dotGeneral dot_S32x128_S2x128x128x128_S32x2x128x128_1_1_0_023_n_n none l r) : (⟨S32x128, .f32⟩ : BufTy).Contents (Elt F) → (⟨S2x128x128x128, .f32⟩ : BufTy).Contents (Elt F) → (⟨S32x2x128x128, .f32⟩ : BufTy).Contents (Elt F)),
    StableHlo.unary main_v59 main_v60 ((transpose S2x32x128x128 [1, 0, 2, 3] · transposes_S32x2x128x128_S2x32x128x128_1_0_2_3) : (⟨S32x2x128x128, .f32⟩ : BufTy).Contents (Elt F) → (⟨S2x32x128x128, .f32⟩ : BufTy).Contents (Elt F)),
    StableHlo.binary main_v55 main_v60 main_v61 (addf : (⟨S2x32x128x128, .f32⟩ : BufTy).Contents (Elt F) → (⟨S2x32x128x128, .f32⟩ : BufTy).Contents (Elt F) → (⟨S2x32x128x128, .f32⟩ : BufTy).Contents (Elt F)),
    StableHlo.unary main_arg3 main_v62 (broadcastInDim S1x32x1x1 ![1] bcast_S32_S1x32x1x1_1 : (⟨S32, .f32⟩ : BufTy).Contents (Elt F) → (⟨S1x32x1x1, .f32⟩ : BufTy).Contents (Elt F)),
    StableHlo.unary main_v62 main_v63 (broadcastInDim S2x32x128x128 ![0, 1, 2, 3] bcast_S1x32x1x1_S2x32x128x128_0_1_2_3 : (⟨S1x32x1x1, .f32⟩ : BufTy).Contents (Elt F) → (⟨S2x32x128x128, .f32⟩ : BufTy).Contents (Elt F)),
    StableHlo.binary main_v61 main_v63 main_v64 (addf : (⟨S2x32x128x128, .f32⟩ : BufTy).Contents (Elt F) → (⟨S2x32x128x128, .f32⟩ : BufTy).Contents (Elt F) → (⟨S2x32x128x128, .f32⟩ : BufTy).Contents (Elt F)),
    StableHlo.reshape main_v64 main_v65 (rfl : (.f32 : EltTy) = .f32) shapeCasts_S2x32x128x128_S2x32x16384,
    StableHlo.unary main_v64 main_v66 ((transpose S2x32x128x128 [0, 1, 3, 2] · transposes_S2x32x128x128_S2x32x128x128_0_1_3_2) : (⟨S2x32x128x128, .f32⟩ : BufTy).Contents (Elt F) → (⟨S2x32x128x128, .f32⟩ : BufTy).Contents (Elt F)),
    StableHlo.reshape main_v66 main_v67 (rfl : (.f32 : EltTy) = .f32) shapeCasts_S2x32x128x128_S2x32x16384,
    StableHlo.unary main_v65 main_v68 (broadcastInDim S2x1x32x16384 ![0, 2, 3] bcast_S2x32x16384_S2x1x32x16384_0_2_3 : (⟨S2x32x16384, .f32⟩ : BufTy).Contents (Elt F) → (⟨S2x1x32x16384, .f32⟩ : BufTy).Contents (Elt F)),
    StableHlo.unary main_v67 main_v69 (broadcastInDim S2x1x32x16384 ![0, 2, 3] bcast_S2x32x16384_S2x1x32x16384_0_2_3 : (⟨S2x32x16384, .f32⟩ : BufTy).Contents (Elt F) → (⟨S2x1x32x16384, .f32⟩ : BufTy).Contents (Elt F)),
    StableHlo.binary main_v68 main_v69 main_v70 ((fun a b => concatenate S2x2x32x16384 1 [⟨S2x1x32x16384, a⟩, ⟨S2x1x32x16384, b⟩] concatenates_S2x1x32x16384_S2x1x32x16384_S2x2x32x16384_d1) : (⟨S2x1x32x16384, .f32⟩ : BufTy).Contents (Elt F) → (⟨S2x1x32x16384, .f32⟩ : BufTy).Contents (Elt F) → (⟨S2x2x32x16384, .f32⟩ : BufTy).Contents (Elt F)),
    StableHlo.binary main_arg4 main_v70 main_v71 ((fun l r => Host.dotGeneral dot_S2x64x32_S2x2x32x16384_S2x64x2x16384_2_2_1_03_0_1 none l r) : (⟨S2x64x32, .f32⟩ : BufTy).Contents (Elt F) → (⟨S2x2x32x16384, .f32⟩ : BufTy).Contents (Elt F) → (⟨S2x64x2x16384, .f32⟩ : BufTy).Contents (Elt F)),
    StableHlo.unary main_v71 main_v72 ((transpose S2x2x64x16384 [2, 0, 1, 3] · transposes_S2x64x2x16384_S2x2x64x16384_2_0_1_3) : (⟨S2x64x2x16384, .f32⟩ : BufTy).Contents (Elt F) → (⟨S2x2x64x16384, .f32⟩ : BufTy).Contents (Elt F)),
    StableHlo.unary main_v72 main_v73 ((extractStridedSlice S2x2x32x16384 ![0, 0, 0, 0] · slices_S2x2x64x16384_S2x2x32x16384_0_0_0_0) : (⟨S2x2x64x16384, .f32⟩ : BufTy).Contents (Elt F) → (⟨S2x2x32x16384, .f32⟩ : BufTy).Contents (Elt F)),
    StableHlo.unary main_v72 main_v74 ((extractStridedSlice S2x2x16x16384 ![0, 0, 32, 0] · slices_S2x2x64x16384_S2x2x16x16384_0_0_32_0) : (⟨S2x2x64x16384, .f32⟩ : BufTy).Contents (Elt F) → (⟨S2x2x16x16384, .f32⟩ : BufTy).Contents (Elt F)),
    StableHlo.unary main_v72 main_v75 ((extractStridedSlice S2x2x16x16384 ![0, 0, 48, 0] · slices_S2x2x64x16384_S2x2x16x16384_0_0_48_0) : (⟨S2x2x64x16384, .f32⟩ : BufTy).Contents (Elt F) → (⟨S2x2x16x16384, .f32⟩ : BufTy).Contents (Elt F)),
    StableHlo.binary main_arg5 main_v73 main_v76 ((fun l r => Host.dotGeneral dot_S2x32x32_S2x2x32x16384_S2x32x2x16384_2_2_1_03_0_1 none l r) : (⟨S2x32x32, .f32⟩ : BufTy).Contents (Elt F) → (⟨S2x2x32x16384, .f32⟩ : BufTy).Contents (Elt F) → (⟨S2x32x2x16384, .f32⟩ : BufTy).Contents (Elt F)),
    StableHlo.unary main_v76 main_v77 ((transpose S2x2x32x16384 [2, 0, 1, 3] · transposes_S2x32x2x16384_S2x2x32x16384_2_0_1_3) : (⟨S2x32x2x16384, .f32⟩ : BufTy).Contents (Elt F) → (⟨S2x2x32x16384, .f32⟩ : BufTy).Contents (Elt F)),
    StableHlo.unary main_arg7 main_v78 (Host.exp : (⟨S64x16, .f32⟩ : BufTy).Contents (Elt F) → (⟨S64x16, .f32⟩ : BufTy).Contents (Elt F)),
    StableHlo.reshape main_v78 main_v79 (rfl : (.f32 : EltTy) = .f32) shapeCasts_S64x16_S2x32x16,
    StableHlo.unary main_v79 main_v80 (Host.negf : (⟨S2x32x16, .f32⟩ : BufTy).Contents (Elt F) → (⟨S2x32x16, .f32⟩ : BufTy).Contents (Elt F)),
    StableHlo.reshape main_arg8 main_v81 (rfl : (.f32 : EltTy) = .f32) shapeCasts_S64_S2x32,
    StableHlo.unary main_arg6 main_v82 (broadcastInDim S1x2x32x1 ![1, 2] bcast_S2x32_S1x2x32x1_1_2 : (⟨S2x32, .f32⟩ : BufTy).Contents (Elt F) → (⟨S1x2x32x1, .f32⟩ : BufTy).Contents (Elt F)),
    StableHlo.unary main_v82 main_v83 (broadcastInDim S2x2x32x16384 ![0, 1, 2, 3] bcast_S1x2x32x1_S2x2x32x16384_0_1_2_3 : (⟨S1x2x32x1, .f32⟩ : BufTy).Contents (Elt F) → (⟨S2x2x32x16384, .f32⟩ : BufTy).Contents (Elt F)),
    StableHlo.binary main_v77 main_v83 main_v84 (addf : (⟨S2x2x32x16384, .f32⟩ : BufTy).Contents (Elt F) → (⟨S2x2x32x16384, .f32⟩ : BufTy).Contents (Elt F) → (⟨S2x2x32x16384, .f32⟩ : BufTy).Contents (Elt F)) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub ..⟩
/-- 14 host operations of @softplus (main_call1), window 1 (statements 61 … 120), in order. -/
abbrev main_part1_ops1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S2x2x32x16384, .f32⟩) (broadcastInDim S2x2x32x16384 ![] bcast_S_S2x2x32x16384),
    StableHlo.TRef.binary (.of main_v84 : StableHlo.TRef sig ⟨S2x2x32x16384, .f32⟩) (.of main_call1_v0 : StableHlo.TRef sig ⟨S2x2x32x16384, .f32⟩) (.of main_call1_v1 : StableHlo.TRef sig ⟨S2x2x32x16384, .f32⟩) maximumf,
    StableHlo.TRef.unary (.of main_call1_cst : StableHlo.TRef sig ⟨S_, .f32⟩) (.of main_call1_v2 : StableHlo.TRef sig ⟨S2x2x32x16384, .f32⟩) (broadcastInDim S2x2x32x16384 ![] bcast_S_S2x2x32x16384),
    StableHlo.TRef.binary (.of main_v84 : StableHlo.TRef sig ⟨S2x2x32x16384, .f32⟩) (.of main_call1_v2 : StableHlo.TRef sig ⟨S2x2x32x16384, .f32⟩) (.of main_call1_v3 : StableHlo.TRef sig ⟨S2x2x32x16384, .f32⟩) subf,
    StableHlo.TRef.binary (.of main_call1_v3 : StableHlo.TRef sig ⟨S2x2x32x16384, .f32⟩) (.of main_call1_v3 : StableHlo.TRef sig ⟨S2x2x32x16384, .f32⟩) (.of main_call1_v4 : StableHlo.TRef sig ⟨S2x2x32x16384, .i1⟩) (cmpf .une),
    StableHlo.TRef.unary (.of main_call1_cst : StableHlo.TRef sig ⟨S_, .f32⟩) (.of main_call1_v5 : StableHlo.TRef sig ⟨S2x2x32x16384, .f32⟩) (broadcastInDim S2x2x32x16384 ![] bcast_S_S2x2x32x16384),
    StableHlo.TRef.binary (.of main_v84 : StableHlo.TRef sig ⟨S2x2x32x16384, .f32⟩) (.of main_call1_v5 : StableHlo.TRef sig ⟨S2x2x32x16384, .f32⟩) (.of main_call1_v6 : StableHlo.TRef sig ⟨S2x2x32x16384, .f32⟩) addf,
    StableHlo.TRef.unary (.of main_call1_v3 : StableHlo.TRef sig ⟨S2x2x32x16384, .f32⟩) (.of main_call1_v7 : StableHlo.TRef sig ⟨S2x2x32x16384, .f32⟩) Host.absf,
    StableHlo.TRef.unary (.of main_call1_v7 : StableHlo.TRef sig ⟨S2x2x32x16384, .f32⟩) (.of main_call1_v8 : StableHlo.TRef sig ⟨S2x2x32x16384, .f32⟩) Host.negf,
    StableHlo.TRef.unary (.of main_call1_v8 : StableHlo.TRef sig ⟨S2x2x32x16384, .f32⟩) (.of main_call1_v9 : StableHlo.TRef sig ⟨S2x2x32x16384, .f32⟩) Host.exp,
    StableHlo.TRef.unary (.of main_call1_v9 : StableHlo.TRef sig ⟨S2x2x32x16384, .f32⟩) (.of main_call1_v10 : StableHlo.TRef sig ⟨S2x2x32x16384, .f32⟩) Host.log1p,
    StableHlo.TRef.binary (.of main_call1_v1 : StableHlo.TRef sig ⟨S2x2x32x16384, .f32⟩) (.of main_call1_v10 : StableHlo.TRef sig ⟨S2x2x32x16384, .f32⟩) (.of main_call1_v11 : StableHlo.TRef sig ⟨S2x2x32x16384, .f32⟩) addf,
    StableHlo.TRef.ternary (.of main_call1_v4 : StableHlo.TRef sig ⟨S2x2x32x16384, .i1⟩) (.of main_call1_v6 : StableHlo.TRef sig ⟨S2x2x32x16384, .f32⟩) (.of main_call1_v11 : StableHlo.TRef sig ⟨S2x2x32x16384, .f32⟩) (.of main_v85 : StableHlo.TRef sig ⟨S2x2x32x16384, .f32⟩) select ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub ..⟩
/-- 18 host operations of @main, window 1 (statements 61 … 120), in order. -/
abbrev main_part1_ops2 : List (HloOp τ sig (Elt F)) :=
  [ StableHlo.unary main_v70 main_v86 ((transpose S16384x2x2x32 [3, 0, 1, 2] · transposes_S2x2x32x16384_S16384x2x2x32_3_0_1_2) : (⟨S2x2x32x16384, .f32⟩ : BufTy).Contents (Elt F) → (⟨S16384x2x2x32, .f32⟩ : BufTy).Contents (Elt F)),
    StableHlo.unary main_v85 main_v87 ((transpose S16384x2x2x32 [3, 0, 1, 2] · transposes_S2x2x32x16384_S16384x2x2x32_3_0_1_2) : (⟨S2x2x32x16384, .f32⟩ : BufTy).Contents (Elt F) → (⟨S16384x2x2x32, .f32⟩ : BufTy).Contents (Elt F)),
    StableHlo.unary main_v74 main_v88 ((transpose S16384x2x2x16 [3, 0, 1, 2] · transposes_S2x2x16x16384_S16384x2x2x16_3_0_1_2) : (⟨S2x2x16x16384, .f32⟩ : BufTy).Contents (Elt F) → (⟨S16384x2x2x16, .f32⟩ : BufTy).Contents (Elt F)),
    StableHlo.unary main_v75 main_v89 ((transpose S16384x2x2x16 [3, 0, 1, 2] · transposes_S2x2x16x16384_S16384x2x2x16_3_0_1_2) : (⟨S2x2x16x16384, .f32⟩ : BufTy).Contents (Elt F) → (⟨S16384x2x2x16, .f32⟩ : BufTy).Contents (Elt F)),
    StableHlo.nullary main_cst_2 (constant S_ .f32 0x00000000#32),
    StableHlo.unary main_cst_2 main_v90 (broadcastInDim S2x2x32x16 ![] bcast_S_S2x2x32x16 : (⟨S_, .f32⟩ : BufTy).Contents (Elt F) → (⟨S2x2x32x16, .f32⟩ : BufTy).Contents (Elt F)),
    StableHlo.nullary main_cst_3 (constant S_ .f32 0x00000000#32),
    StableHlo.unary main_cst_3 main_v91 (broadcastInDim S16384x2x2x32 ![] bcast_S_S16384x2x2x32 : (⟨S_, .f32⟩ : BufTy).Contents (Elt F) → (⟨S16384x2x2x32, .f32⟩ : BufTy).Contents (Elt F)),
    StableHlo.nullary main_c_4 (constantI S_ 32 0#32),
    StableHlo.unary main_v86 main_v92_0 id,
    StableHlo.unary main_v87 main_v92_1 id,
    StableHlo.unary main_v88 main_v92_2 id,
    StableHlo.unary main_v89 main_v92_3 id,
    StableHlo.unary main_v80 main_v92_4 id,
    StableHlo.unary main_v81 main_v92_5 id,
    StableHlo.unary main_c_4 main_v92_6 id,
    StableHlo.unary main_v90 main_v92_7 id,
    StableHlo.unary main_v91 main_v92_8 id ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 11 host operations of @main, window 1 (statements 61 … 120), in order. -/
abbrev main_part1_ops3 : List (HloOp τ sig (Elt F)) :=
  [ StableHlo.unary main_v92_8 main_v93 ((transpose S2x2x32x16384 [1, 2, 3, 0] · transposes_S16384x2x2x32_S2x2x32x16384_1_2_3_0) : (⟨S16384x2x2x32, .f32⟩ : BufTy).Contents (Elt F) → (⟨S2x2x32x16384, .f32⟩ : BufTy).Contents (Elt F)),
    StableHlo.unary main_v93 main_v94 ((extractStridedSlice S2x1x32x16384 ![0, 1, 0, 0] · slices_S2x2x32x16384_S2x1x32x16384_0_1_0_0) : (⟨S2x2x32x16384, .f32⟩ : BufTy).Contents (Elt F) → (⟨S2x1x32x16384, .f32⟩ : BufTy).Contents (Elt F)),
    StableHlo.reshape main_v94 main_v95 (rfl : (.f32 : EltTy) = .f32) shapeCasts_S2x1x32x16384_S2x32x16384,
    StableHlo.reshape main_v95 main_v96 (rfl : (.f32 : EltTy) = .f32) shapeCasts_S2x32x16384_S2x32x128x128,
    StableHlo.unary main_v96 main_v97 ((transpose S2x32x128x128 [0, 1, 3, 2] · transposes_S2x32x128x128_S2x32x128x128_0_1_3_2) : (⟨S2x32x128x128, .f32⟩ : BufTy).Contents (Elt F) → (⟨S2x32x128x128, .f32⟩ : BufTy).Contents (Elt F)),
    StableHlo.reshape main_v97 main_v98 (rfl : (.f32 : EltTy) = .f32) shapeCasts_S2x32x128x128_S2x32x16384,
    StableHlo.unary main_v93 main_v99 ((extractStridedSlice S2x1x32x16384 ![0, 0, 0, 0] · slices_S2x2x32x16384_S2x1x32x16384_0_0_0_0) : (⟨S2x2x32x16384, .f32⟩ : BufTy).Contents (Elt F) → (⟨S2x1x32x16384, .f32⟩ : BufTy).Contents (Elt F)),
    StableHlo.reshape main_v99 main_v100 (rfl : (.f32 : EltTy) = .f32) shapeCasts_S2x1x32x16384_S2x32x16384,
    StableHlo.binary main_v100 main_v98 main_v101 (addf : (⟨S2x32x16384, .f32⟩ : BufTy).Contents (Elt F) → (⟨S2x32x16384, .f32⟩ : BufTy).Contents (Elt F) → (⟨S2x32x16384, .f32⟩ : BufTy).Contents (Elt F)),
    StableHlo.reshape main_v101 main_v102 (rfl : (.f32 : EltTy) = .f32) shapeCasts_S2x32x16384_S2x32x128x128,
    StableHlo.nullary main_cst_5 (constant S_ .f32 0x00000000#32) ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  ⟨StableHlo.unary_bufs_sub .., StableHlo.unary_bufs_sub .., StableHlo.reshape_bufs_sub .., StableHlo.reshape_bufs_sub .., StableHlo.unary_bufs_sub .., StableHlo.reshape_bufs_sub .., StableHlo.unary_bufs_sub .., StableHlo.reshape_bufs_sub .., StableHlo.binary_bufs_sub .., StableHlo.reshape_bufs_sub .., StableHlo.nullary_bufs_sub ..⟩
/-- Window 1 of `main` (`main_part1`, statements 61 … 120) is the chain of ITS items ending in the last
    (`Pipeline.chainK`: no closing `pure`, the window's last statement being in tail position), each item but the last aligned with the
    window's statements, then `chain_rfl`. -/
theorem main_part1_chain (c : Dev nD) : main_part1 (F := F) c = (Pipeline.chainK
  [ StableHlo.seq main_part1_ops0,
    StableHlo.seq main_part1_ops1,
    StableHlo.seq main_part1_ops2,
    HostLoop.enter 0 ]
  (StableHlo.seq main_part1_ops3) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons]
  chain_rfl

/-- 6 host operations of @main, window 2 (statements 121 … 142), in order. -/
abbrev main_part2_ops0 : List (HloOp τ sig (Elt F)) :=
  [ StableHlo.binary main_v102 main_cst_5 main_v103 ((fun x v => Host.reduceAdd x v reducesTo_S2x32x128x128_S2x128x128_d1 h_S_) : (⟨S2x32x128x128, .f32⟩ : BufTy).Contents (Elt F) → (⟨S_, .f32⟩ : BufTy).Contents (Elt F) → (⟨S2x128x128, .f32⟩ : BufTy).Contents (Elt F)),
    StableHlo.unary main_v103 main_v104 (broadcastInDim S2x1x128x128 ![0, 2, 3] bcast_S2x128x128_S2x1x128x128_0_2_3 : (⟨S2x128x128, .f32⟩ : BufTy).Contents (Elt F) → (⟨S2x1x128x128, .f32⟩ : BufTy).Contents (Elt F)),
    StableHlo.nullary main_cst_6 (constant S_ .f32 0x42000000#32),
    StableHlo.unary main_cst_6 main_v105 (broadcastInDim S2x1x128x128 ![] bcast_S_S2x1x128x128 : (⟨S_, .f32⟩ : BufTy).Contents (Elt F) → (⟨S2x1x128x128, .f32⟩ : BufTy).Contents (Elt F)),
    StableHlo.binary main_v104 main_v105 main_v106 (Host.divf : (⟨S2x1x128x128, .f32⟩ : BufTy).Contents (Elt F) → (⟨S2x1x128x128, .f32⟩ : BufTy).Contents (Elt F) → (⟨S2x1x128x128, .f32⟩ : BufTy).Contents (Elt F)),
    StableHlo.nullary main_c_7 (constantI S_ 32 0#32) ]
/-- Each touches TensorCore references only (`HostSeg.ofOps` over `StableHlo.tcRefs`, or a subset by `sub_ucRefs`). -/
theorem main_part2_ops0_sub : (main_part2_ops0 : List (HloOp τ sig (Elt F))).Forall fun op => op.bufs ⊆ StableHlo.tcRefs τ sig :=
  ⟨StableHlo.binary_bufs_sub .., StableHlo.unary_bufs_sub .., StableHlo.nullary_bufs_sub .., StableHlo.unary_bufs_sub .., StableHlo.binary_bufs_sub .., StableHlo.nullary_bufs_sub ..⟩
/-- 23 host operations of @_var (main_call7), window 2 (statements 121 … 142), in order. -/
abbrev main_part2_ops1 : List (HloOp τ sig (Elt F)) :=
  [ StableHlo.TRef.nullary (.of main_call7_cst : StableHlo.TRef sig ⟨S_, .f32⟩) (constant S_ .f32 0x00000000#32),
    StableHlo.TRef.binary (.of main_v102 : StableHlo.TRef sig ⟨S2x32x128x128, .f32⟩) (.of main_call7_cst : StableHlo.TRef sig ⟨S_, .f32⟩) (.of main_call7_v0 : StableHlo.TRef sig ⟨S2x128x128, .f32⟩) (fun x v => Host.reduceAdd x v reducesTo_S2x32x128x128_S2x128x128_d1 h_S_),
    StableHlo.TRef.unary (.of main_call7_v0 : StableHlo.TRef sig ⟨S2x128x128, .f32⟩) (.of main_call7_v1 : StableHlo.TRef sig ⟨S2x1x128x128, .f32⟩) (broadcastInDim S2x1x128x128 ![0, 2, 3] bcast_S2x128x128_S2x1x128x128_0_2_3),
    StableHlo.TRef.nullary (.of main_call7_cst_0 : StableHlo.TRef sig ⟨S_, .f32⟩) (constant S_ .f32 0x42000000#32),
    StableHlo.TRef.unary (.of main_call7_cst_0 : StableHlo.TRef sig ⟨S_, .f32⟩) (.of main_call7_v2 : StableHlo.TRef sig ⟨S2x1x128x128, .f32⟩) (broadcastInDim S2x1x128x128 ![] bcast_S_S2x1x128x128),
    StableHlo.TRef.binary (.of main_call7_v1 : StableHlo.TRef sig ⟨S2x1x128x128, .f32⟩) (.of main_call7_v2 : StableHlo.TRef sig ⟨S2x1x128x128, .f32⟩) (.of main_call7_v3 : StableHlo.TRef sig ⟨S2x1x128x128, .f32⟩) Host.divf,
    StableHlo.TRef.unary (.of main_call7_v3 : StableHlo.TRef sig ⟨S2x1x128x128, .f32⟩) (.of main_call7_v4 : StableHlo.TRef sig ⟨S2x32x128x128, .f32⟩) (broadcastInDim S2x32x128x128 ![0, 1, 2, 3] bcast_S2x1x128x128_S2x32x128x128_0_1_2_3),
    StableHlo.TRef.binary (.of main_v102 : StableHlo.TRef sig ⟨S2x32x128x128, .f32⟩) (.of main_call7_v4 : StableHlo.TRef sig ⟨S2x32x128x128, .f32⟩) (.of main_call7_v5 : StableHlo.TRef sig ⟨S2x32x128x128, .f32⟩) subf,
    StableHlo.TRef.binary (.of main_call7_v5 : StableHlo.TRef sig ⟨S2x32x128x128, .f32⟩) (.of main_call7_v5 : StableHlo.TRef sig ⟨S2x32x128x128, .f32⟩) (.of main_call7_v6 : StableHlo.TRef sig ⟨S2x32x128x128, .f32⟩) mulf,
    StableHlo.TRef.unary (.of main_c_7 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x42000000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S2x32x128x128, .f32⟩) (.of main_call7_cst_2 : StableHlo.TRef sig ⟨S_, .f32⟩) (.of main_call7_v9 : StableHlo.TRef sig ⟨S2x128x128, .f32⟩) (fun x v => Host.reduceAdd x v reducesTo_S2x32x128x128_S2x128x128_d1 h_S_),
    StableHlo.TRef.unary (.of main_call7_v9 : StableHlo.TRef sig ⟨S2x128x128, .f32⟩) (.of main_call7_v10 : StableHlo.TRef sig ⟨S2x1x128x128, .f32⟩) (broadcastInDim S2x1x128x128 ![0, 2, 3] bcast_S2x128x128_S2x1x128x128_0_2_3),
    StableHlo.TRef.unary (.of main_call7_v8 : StableHlo.TRef sig ⟨S_, .f32⟩) (.of main_call7_v11 : StableHlo.TRef sig ⟨S2x1x128x128, .f32⟩) (broadcastInDim S2x1x128x128 ![] bcast_S_S2x1x128x128),
    StableHlo.TRef.binary (.of main_call7_v10 : StableHlo.TRef sig ⟨S2x1x128x128, .f32⟩) (.of main_call7_v11 : StableHlo.TRef sig ⟨S2x1x128x128, .f32⟩) (.of main_call7_v12 : StableHlo.TRef sig ⟨S2x1x128x128, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v13 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S2x1x128x128, .f32⟩) (broadcastInDim S2x1x128x128 ![] bcast_S_S2x1x128x128),
    StableHlo.TRef.ternary (.of main_call7_v13 : StableHlo.TRef sig ⟨S_, .i1⟩) (.of main_call7_v12 : StableHlo.TRef sig ⟨S2x1x128x128, .f32⟩) (.of main_call7_call0_v1 : StableHlo.TRef sig ⟨S2x1x128x128, .f32⟩) (.of main_v107 : StableHlo.TRef sig ⟨S2x1x128x128, .f32⟩) (fun p a b => select (broadcastInDim S2x1x128x128 ![] bcast_S_S2x1x128x128 p) a b) ]
/-- Each touches TensorCore references only (`HostSeg.ofOps` over `StableHlo.tcRefs`, or a subset by `sub_ucRefs`). -/
theorem main_part2_ops1_sub : (main_part2_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 14 host operations of @main, window 2 (statements 121 … 142), in order. -/
abbrev main_part2_ops2 : List (HloOp τ sig (Elt F)) :=
  [ StableHlo.unary main_v106 main_v108 (broadcastInDim S2x32x128x128 ![0, 1, 2, 3] bcast_S2x1x128x128_S2x32x128x128_0_1_2_3 : (⟨S2x1x128x128, .f32⟩ : BufTy).Contents (Elt F) → (⟨S2x32x128x128, .f32⟩ : BufTy).Contents (Elt F)),
    StableHlo.binary main_v102 main_v108 main_v109 (subf : (⟨S2x32x128x128, .f32⟩ : BufTy).Contents (Elt F) → (⟨S2x32x128x128, .f32⟩ : BufTy).Contents (Elt F) → (⟨S2x32x128x128, .f32⟩ : BufTy).Contents (Elt F)),
    StableHlo.nullary main_cst_8 (constant S_ .f32 0x3727C5AC#32),
    StableHlo.unary main_cst_8 main_v110 (broadcastInDim S2x1x128x128 ![] bcast_S_S2x1x128x128 : (⟨S_, .f32⟩ : BufTy).Contents (Elt F) → (⟨S2x1x128x128, .f32⟩ : BufTy).Contents (Elt F)),
    StableHlo.binary main_v107 main_v110 main_v111 (addf : (⟨S2x1x128x128, .f32⟩ : BufTy).Contents (Elt F) → (⟨S2x1x128x128, .f32⟩ : BufTy).Contents (Elt F) → (⟨S2x1x128x128, .f32⟩ : BufTy).Contents (Elt F)),
    StableHlo.unary main_v111 main_v112 (Host.sqrt : (⟨S2x1x128x128, .f32⟩ : BufTy).Contents (Elt F) → (⟨S2x1x128x128, .f32⟩ : BufTy).Contents (Elt F)),
    StableHlo.unary main_v112 main_v113 (broadcastInDim S2x32x128x128 ![0, 1, 2, 3] bcast_S2x1x128x128_S2x32x128x128_0_1_2_3 : (⟨S2x1x128x128, .f32⟩ : BufTy).Contents (Elt F) → (⟨S2x32x128x128, .f32⟩ : BufTy).Contents (Elt F)),
    StableHlo.binary main_v109 main_v113 main_v114 (Host.divf : (⟨S2x32x128x128, .f32⟩ : BufTy).Contents (Elt F) → (⟨S2x32x128x128, .f32⟩ : BufTy).Contents (Elt F) → (⟨S2x32x128x128, .f32⟩ : BufTy).Contents (Elt F)),
    StableHlo.unary main_arg9 main_v115 (broadcastInDim S1x32x1x1 ![1] bcast_S32_S1x32x1x1_1 : (⟨S32, .f32⟩ : BufTy).Contents (Elt F) → (⟨S1x32x1x1, .f32⟩ : BufTy).Contents (Elt F)),
    StableHlo.unary main_v115 main_v116 (broadcastInDim S2x32x128x128 ![0, 1, 2, 3] bcast_S1x32x1x1_S2x32x128x128_0_1_2_3 : (⟨S1x32x1x1, .f32⟩ : BufTy).Contents (Elt F) → (⟨S2x32x128x128, .f32⟩ : BufTy).Contents (Elt F)),
    StableHlo.binary main_v114 main_v116 main_v117 (mulf : (⟨S2x32x128x128, .f32⟩ : BufTy).Contents (Elt F) → (⟨S2x32x128x128, .f32⟩ : BufTy).Contents (Elt F) → (⟨S2x32x128x128, .f32⟩ : BufTy).Contents (Elt F)),
    StableHlo.unary main_arg10 main_v118 (broadcastInDim S1x32x1x1 ![1] bcast_S32_S1x32x1x1_1 : (⟨S32, .f32⟩ : BufTy).Contents (Elt F) → (⟨S1x32x1x1, .f32⟩ : BufTy).Contents (Elt F)),
    StableHlo.unary main_v118 main_v119 (broadcastInDim S2x32x128x128 ![0, 1, 2, 3] bcast_S1x32x1x1_S2x32x128x128_0_1_2_3 : (⟨S1x32x1x1, .f32⟩ : BufTy).Contents (Elt F) → (⟨S2x32x128x128, .f32⟩ : BufTy).Contents (Elt F)),
    StableHlo.binary main_v117 main_v119 main_v120 (addf : (⟨S2x32x128x128, .f32⟩ : BufTy).Contents (Elt F) → (⟨S2x32x128x128, .f32⟩ : BufTy).Contents (Elt F) → (⟨S2x32x128x128, .f32⟩ : BufTy).Contents (Elt F)) ]
/-- Each touches TensorCore references only (`HostSeg.ofOps` over `StableHlo.tcRefs`, or a subset by `sub_ucRefs`). -/
theorem main_part2_ops2_sub : (main_part2_ops2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The last window of `main` (`main_part2`, statements 121 … 142) is the chain of ITS items, each item aligned with the window's
    statements, then `chain_rfl`. -/
theorem main_part2_chain (c : Dev nD) : main_part2 (F := F) c = (Pipeline.chain
  [ StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    StableHlo.seq main_part1_ops0,
    StableHlo.seq main_part1_ops1,
    StableHlo.seq main_part1_ops2,
    HostLoop.enter 0,
    StableHlo.seq main_part1_ops3,
    StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2, main_part1_ops0],
    .ops [main_part1_ops1],
    .ops [main_part1_ops2],
    .prog (HostLoop.enter 0),
    .ops [main_part1_ops3, main_part2_ops0],
    .ops [main_part2_ops1],
    .ops [main_part2_ops2] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part0_ops1,
    StableHlo.seq main_part0_ops2,
    StableHlo.seq main_part1_ops0,
    StableHlo.seq main_part1_ops1,
    StableHlo.seq main_part1_ops2,
    HostLoop.enter 0,
    StableHlo.seq main_part1_ops3,
    StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    HostLoop.enter 0,
    StableHlo.seq hostOps0_5,
    StableHlo.seq hostOps0_6,
    StableHlo.seq hostOps0_7 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 3 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    HostLoop.enter 0,
    StableHlo.seq hostOps0_5,
    StableHlo.seq hostOps0_6,
    StableHlo.seq hostOps0_7 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 5 host operations of @dynamic_index_in_dim (main_while0b_call2), in order. -/
abbrev while0Ops0 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v92_0 : StableHlo.TRef sig ⟨S16384x2x2x32, .f32⟩) ![(.of main_v92_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x2x2x32, .f32⟩) (fun x i => Host.dynamicSlice S1x2x2x32 x (fun k => (i k (Shape.Idx.first h_S_)).toInt) sliceFits_S16384x2x2x32_S1x2x2x32),
    StableHlo.TRef.reshape (.of main_while0b_call2_v0 : StableHlo.TRef sig ⟨S1x2x2x32, .f32⟩) (.of main_while0b_v121 : StableHlo.TRef sig ⟨S2x2x32, .f32⟩) (rfl : (.f32 : EltTy) = .f32) shapeCasts_S1x2x2x32_S2x2x32 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while0b_call3), in order. -/
abbrev while0Ops0_1 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v92_1 : StableHlo.TRef sig ⟨S16384x2x2x32, .f32⟩) ![(.of main_v92_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x2x2x32, .f32⟩) (fun x i => Host.dynamicSlice S1x2x2x32 x (fun k => (i k (Shape.Idx.first h_S_)).toInt) sliceFits_S16384x2x2x32_S1x2x2x32),
    StableHlo.TRef.reshape (.of main_while0b_call3_v0 : StableHlo.TRef sig ⟨S1x2x2x32, .f32⟩) (.of main_while0b_v122 : StableHlo.TRef sig ⟨S2x2x32, .f32⟩) (rfl : (.f32 : EltTy) = .f32) shapeCasts_S1x2x2x32_S2x2x32 ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_0 (main_while0b_call4), in order. -/
abbrev while0Ops0_2 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v92_2 : StableHlo.TRef sig ⟨S16384x2x2x16, .f32⟩) ![(.of main_v92_6 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x2x2x16, .f32⟩) (fun x i => Host.dynamicSlice S1x2x2x16 x (fun k => (i k (Shape.Idx.first h_S_)).toInt) sliceFits_S16384x2x2x16_S1x2x2x16),
    StableHlo.TRef.reshape (.of main_while0b_call4_v0 : StableHlo.TRef sig ⟨S1x2x2x16, .f32⟩) (.of main_while0b_v123 : StableHlo.TRef sig ⟨S2x2x16, .f32⟩) (rfl : (.f32 : EltTy) = .f32) shapeCasts_S1x2x2x16_S2x2x16 ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_0 (main_while0b_call5), in order. -/
abbrev while0Ops0_3 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.unaryIndexed (.of main_v92_3 : StableHlo.TRef sig ⟨S16384x2x2x16, .f32⟩) ![(.of main_v92_6 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_call5_v0 : StableHlo.TRef sig ⟨S1x2x2x16, .f32⟩) (fun x i => Host.dynamicSlice S1x2x2x16 x (fun k => (i k (Shape.Idx.first h_S_)).toInt) sliceFits_S16384x2x2x16_S1x2x2x16),
    StableHlo.TRef.reshape (.of main_while0b_call5_v0 : StableHlo.TRef sig ⟨S1x2x2x16, .f32⟩) (.of main_while0b_v124 : StableHlo.TRef sig ⟨S2x2x16, .f32⟩) (rfl : (.f32 : EltTy) = .f32) shapeCasts_S1x2x2x16_S2x2x16 ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 19 host operations of host loop 0's body region, in order. -/
abbrev while0Ops0_4 : List (HloOp τ sig (Elt F)) :=
  [ StableHlo.unary main_while0b_v122 main_while0b_v125 (broadcastInDim S2x2x32x1 ![0, 1, 2] bcast_S2x2x32_S2x2x32x1_0_1_2 : (⟨S2x2x32, .f32⟩ : BufTy).Contents (Elt F) → (⟨S2x2x32x1, .f32⟩ : BufTy).Contents (Elt F)),
    StableHlo.unary main_v92_4 main_while0b_v126 (broadcastInDim S1x2x32x16 ![1, 2, 3] bcast_S2x32x16_S1x2x32x16_1_2_3 : (⟨S2x32x16, .f32⟩ : BufTy).Contents (Elt F) → (⟨S1x2x32x16, .f32⟩ : BufTy).Contents (Elt F)),
    StableHlo.unary main_while0b_v125 main_while0b_v127 (broadcastInDim S2x2x32x16 ![0, 1, 2, 3] bcast_S2x2x32x1_S2x2x32x16_0_1_2_3 : (⟨S2x2x32x1, .f32⟩ : BufTy).Contents (Elt F) → (⟨S2x2x32x16, .f32⟩ : BufTy).Contents (Elt F)),
    StableHlo.unary main_while0b_v126 main_while0b_v128 (broadcastInDim S2x2x32x16 ![0, 1, 2, 3] bcast_S1x2x32x16_S2x2x32x16_0_1_2_3 : (⟨S1x2x32x16, .f32⟩ : BufTy).Contents (Elt F) → (⟨S2x2x32x16, .f32⟩ : BufTy).Contents (Elt F)),
    StableHlo.binary main_while0b_v127 main_while0b_v128 main_while0b_v129 (mulf : (⟨S2x2x32x16, .f32⟩ : BufTy).Contents (Elt F) → (⟨S2x2x32x16, .f32⟩ : BufTy).Contents (Elt F) → (⟨S2x2x32x16, .f32⟩ : BufTy).Contents (Elt F)),
    StableHlo.unary main_while0b_v129 main_while0b_v130 (Host.exp : (⟨S2x2x32x16, .f32⟩ : BufTy).Contents (Elt F) → (⟨S2x2x32x16, .f32⟩ : BufTy).Contents (Elt F)),
    StableHlo.binary main_while0b_v130 main_v92_7 main_while0b_v131 (mulf : (⟨S2x2x32x16, .f32⟩ : BufTy).Contents (Elt F) → (⟨S2x2x32x16, .f32⟩ : BufTy).Contents (Elt F) → (⟨S2x2x32x16, .f32⟩ : BufTy).Contents (Elt F)),
    StableHlo.binary main_while0b_v122 main_while0b_v121 main_while0b_v132 (mulf : (⟨S2x2x32, .f32⟩ : BufTy).Contents (Elt F) → (⟨S2x2x32, .f32⟩ : BufTy).Contents (Elt F) → (⟨S2x2x32, .f32⟩ : BufTy).Contents (Elt F)),
    StableHlo.unary main_while0b_v132 main_while0b_v133 (broadcastInDim S2x2x32x1 ![0, 1, 2] bcast_S2x2x32_S2x2x32x1_0_1_2 : (⟨S2x2x32, .f32⟩ : BufTy).Contents (Elt F) → (⟨S2x2x32x1, .f32⟩ : BufTy).Contents (Elt F)),
    StableHlo.unary main_while0b_v123 main_while0b_v134 (broadcastInDim S2x2x1x16 ![0, 1, 3] bcast_S2x2x16_S2x2x1x16_0_1_3 : (⟨S2x2x16, .f32⟩ : BufTy).Contents (Elt F) → (⟨S2x2x1x16, .f32⟩ : BufTy).Contents (Elt F)),
    StableHlo.unary main_while0b_v133 main_while0b_v135 (broadcastInDim S2x2x32x16 ![0, 1, 2, 3] bcast_S2x2x32x1_S2x2x32x16_0_1_2_3 : (⟨S2x2x32x1, .f32⟩ : BufTy).Contents (Elt F) → (⟨S2x2x32x16, .f32⟩ : BufTy).Contents (Elt F)),
    StableHlo.unary main_while0b_v134 main_while0b_v136 (broadcastInDim S2x2x32x16 ![0, 1, 2, 3] bcast_S2x2x1x16_S2x2x32x16_0_1_2_3 : (⟨S2x2x1x16, .f32⟩ : BufTy).Contents (Elt F) → (⟨S2x2x32x16, .f32⟩ : BufTy).Contents (Elt F)),
    StableHlo.binary main_while0b_v135 main_while0b_v136 main_while0b_v137 (mulf : (⟨S2x2x32x16, .f32⟩ : BufTy).Contents (Elt F) → (⟨S2x2x32x16, .f32⟩ : BufTy).Contents (Elt F) → (⟨S2x2x32x16, .f32⟩ : BufTy).Contents (Elt F)),
    StableHlo.binary main_while0b_v131 main_while0b_v137 main_while0b_v138 (addf : (⟨S2x2x32x16, .f32⟩ : BufTy).Contents (Elt F) → (⟨S2x2x32x16, .f32⟩ : BufTy).Contents (Elt F) → (⟨S2x2x32x16, .f32⟩ : BufTy).Contents (Elt F)),
    StableHlo.binary main_while0b_v138 main_while0b_v124 main_while0b_v139 ((fun l r => Host.dotGeneral dot_S2x2x32x16_S2x2x16_S2x2x32_3_2_2_n_01_01 none l r) : (⟨S2x2x32x16, .f32⟩ : BufTy).Contents (Elt F) → (⟨S2x2x16, .f32⟩ : BufTy).Contents (Elt F) → (⟨S2x2x32, .f32⟩ : BufTy).Contents (Elt F)),
    StableHlo.unary main_v92_5 main_while0b_v140 (broadcastInDim S1x2x32 ![1, 2] bcast_S2x32_S1x2x32_1_2 : (⟨S2x32, .f32⟩ : BufTy).Contents (Elt F) → (⟨S1x2x32, .f32⟩ : BufTy).Contents (Elt F)),
    StableHlo.unary main_while0b_v140 main_while0b_v141 (broadcastInDim S2x2x32 ![0, 1, 2] bcast_S1x2x32_S2x2x32_0_1_2 : (⟨S1x2x32, .f32⟩ : BufTy).Contents (Elt F) → (⟨S2x2x32, .f32⟩ : BufTy).Contents (Elt F)),
    StableHlo.binary main_while0b_v141 main_while0b_v121 main_while0b_v142 (mulf : (⟨S2x2x32, .f32⟩ : BufTy).Contents (Elt F) → (⟨S2x2x32, .f32⟩ : BufTy).Contents (Elt F) → (⟨S2x2x32, .f32⟩ : BufTy).Contents (Elt F)),
    StableHlo.binary main_while0b_v139 main_while0b_v142 main_while0b_v143 (addf : (⟨S2x2x32, .f32⟩ : BufTy).Contents (Elt F) → (⟨S2x2x32, .f32⟩ : BufTy).Contents (Elt F) → (⟨S2x2x32, .f32⟩ : BufTy).Contents (Elt F)) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub ..⟩
/-- 5 host operations of @dynamic_update_index_in_dim (main_while0b_call6), in order. -/
abbrev while0Ops0_5 : List (HloOp τ sig (Elt F)) :=
  [ StableHlo.TRef.unary (.of main_while0b_v143 : StableHlo.TRef sig ⟨S2x2x32, .f32⟩) (.of main_while0b_call6_v0 : StableHlo.TRef sig ⟨S1x2x2x32, .f32⟩) (broadcastInDim S1x2x2x32 ![1, 2, 3] bcast_S2x2x32_S1x2x2x32_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v92_8 : StableHlo.TRef sig ⟨S16384x2x2x32, .f32⟩) (.of main_while0b_call6_v0 : StableHlo.TRef sig ⟨S1x2x2x32, .f32⟩) ![(.of main_v92_6 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v144 : StableHlo.TRef sig ⟨S16384x2x2x32, .f32⟩) (fun x u i => Host.dynamicUpdateSlice x u (fun k => (i k (Shape.Idx.first h_S_)).toInt) updateFits_S16384x2x2x32_S1x2x2x32) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of host loop 0's body region, in order. -/
abbrev while0Ops0_6 : List (HloOp τ sig (Elt F)) :=
  [ StableHlo.nullary main_while0b_c_17 (constantI S_ 32 1#32),
    StableHlo.binary main_v92_6 main_while0b_c_17 main_while0b_v145 (addi : (⟨S_, .i32⟩ : BufTy).Contents (Elt F) → (⟨S_, .i32⟩ : BufTy).Contents (Elt F) → (⟨S_, .i32⟩ : BufTy).Contents (Elt F)),
    StableHlo.unary main_while0b_v145 main_v92_6 id,
    StableHlo.unary main_while0b_v138 main_v92_7 id,
    StableHlo.unary main_while0b_v144 main_v92_8 id ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6 ] : Prog (TpuEff nD τ sig (Elt F) (HostLoop.Sig (Pipeline.Sig Λ₀ (Fin 0) fun p => (pcfgs (F := F) p).Adm) 1) .tc) PUnit) := by
  rewrite [Pipeline.chain_cons, Pipeline.chain_cons, Pipeline.chain_cons, Pipeline.chain_cons, StableHlo.chain_seq_cons, Pipeline.chain_cons, StableHlo.chain_seq_cons]
  chain_rfl

end Cert.ReferenceIdeal.Gen

end
-- ==== Proof.Ref.Trip.lean ====
/- The stretches of the reference program: what each writes, and what one trip of the loop makes of the carried buffers. -/
module

public import proofs.«01_k».proof.Proof.Ref.Segments
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 2084

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_cst, main_cst_0, main_v0, main_v1, main_v2, main_v3, main_v4, main_v5, main_c]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_v6]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_v7, main_v8, main_v9, main_v10, main_v11, main_cst_1, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_call1_cst, main_call1_v0, main_call1_v1, main_call1_v2, main_call1_v3, main_call1_v4, main_call1_v5, main_call1_v6, main_call1_v7, main_call1_v8, main_call1_v9, main_call1_v10, main_call1_v11, main_v85]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_4` writes, in order. -/
abbrev hostOps0_4_W : List (Ref sig .tc) := [main_v86, main_v87, main_v88, main_v89, main_cst_2, main_v90, main_cst_3, main_v91, main_c_4, main_v92_0, main_v92_1, main_v92_2, main_v92_3, main_v92_4, main_v92_5, main_v92_6, main_v92_7, main_v92_8]
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call2_c, main_while0b_call2_c_0, main_while0b_call2_c_1, main_while0b_call2_v0, main_while0b_v121]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call3_c, main_while0b_call3_c_0, main_while0b_call3_c_1, main_while0b_call3_v0, main_while0b_v122]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call4_c, main_while0b_call4_c_0, main_while0b_call4_c_1, main_while0b_call4_v0, main_while0b_v123]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call5_c, main_while0b_call5_c_0, main_while0b_call5_c_1, main_while0b_call5_v0, main_while0b_v124]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_v125, main_while0b_v126, main_while0b_v127, main_while0b_v128, main_while0b_v129, main_while0b_v130, main_while0b_v131, main_while0b_v132, main_while0b_v133, main_while0b_v134, main_while0b_v135, main_while0b_v136, main_while0b_v137, main_while0b_v138, main_while0b_v139, main_while0b_v140, main_while0b_v141, main_while0b_v142, main_while0b_v143]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_call6_v0, main_while0b_call6_c, main_while0b_call6_c_0, main_while0b_call6_c_1, main_while0b_v144]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_c_17, main_while0b_v145, main_v92_6, main_v92_7, main_v92_8]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- No operation of `hostOps0_6` allocates a buffer. -/
theorem hostOps0_6_fresh : (hostOps0_6 : List (HloOp τ sig (Elt F))).Forall fun op => op.fresh = ∅ :=
  StableHlo.forall_fresh_of_map rfl
/-- No operation of `hostOps0_7` allocates a buffer. -/
theorem hostOps0_7_fresh : (hostOps0_7 : List (HloOp τ sig (Elt F))).Forall fun op => op.fresh = ∅ :=
  StableHlo.forall_fresh_of_map rfl
/-- The reference each operation of `hostOps0_5` writes, in order. -/
abbrev hostOps0_5_W : List (Ref sig .tc) := [main_v93, main_v94, main_v95, main_v96, main_v97, main_v98, main_v99, main_v100, main_v101, main_v102, main_cst_5, main_v103, main_v104, main_cst_6, main_v105, main_v106, main_c_7]
theorem hostOps0_5_writes : (hostOps0_5 : List (HloOp τ sig (Elt F))).Forall fun op => op.writes ⊆ (hostOps0_5_W.map (Proc.devRef (τ := τ) .tc)).toFinset :=
  StableHlo.forall_writes_sub_of_map rfl
/-- The reference each operation of `hostOps0_6` writes, in order. -/
abbrev hostOps0_6_W : List (Ref sig .tc) := [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v107]
theorem hostOps0_6_writes : (hostOps0_6 : List (HloOp τ sig (Elt F))).Forall fun op => op.writes ⊆ (hostOps0_6_W.map (Proc.devRef (τ := τ) .tc)).toFinset :=
  StableHlo.forall_writes_sub_of_map rfl
/-- The reference each operation of `hostOps0_7` writes, in order. -/
abbrev hostOps0_7_W : List (Ref sig .tc) := [main_v108, main_v109, main_cst_8, main_v110, main_v111, main_v112, main_v113, main_v114, main_v115, main_v116, main_v117, main_v118, main_v119, main_v120]
theorem hostOps0_7_writes : (hostOps0_7 : List (HloOp τ sig (Elt F))).Forall fun op => op.writes ⊆ (hostOps0_7_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_17 (constantI S_ 32 16384#32),
    StableHlo.binary main_v92_6 main_while0c_c_17 main_while0c_v121 (cmpi .slt) ]

/-- @main's stretches before the loop, the loop body's, and @main's after the loop. -/
abbrev preI : List (List (HloOp τ sig (Elt F))) := [hostOps0, hostOps0_1, hostOps0_2, hostOps0_3, hostOps0_4]
abbrev bodyI : List (List (HloOp τ sig (Elt F))) := [while0Ops0, while0Ops0_1, while0Ops0_2, while0Ops0_3, while0Ops0_4, while0Ops0_5, while0Ops0_6]
abbrev postI : List (List (HloOp τ sig (Elt F))) := [hostOps0_5, hostOps0_6, hostOps0_7]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.nil)))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.nil)))))))
theorem hpost : Plain (postI (F := F)) := .cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.nil)))

/-- The reference each operation of `condOps` writes, in order. -/
abbrev condOps_W : List (Ref sig .tc) := [main_while0c_c_17, main_while0c_v121]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v92_6`) is written by one stretch of the body, `while0Ops0_6`: not by the condition, nor by the
    body's other stretches. -/
theorem ctr_cond (V : Valuation τ sig (Elt F)) : after condOps V (Proc.devRef .tc main_v92_6) = V (Proc.devRef .tc main_v92_6) :=
  after_of_writes_sub condOps V condOps_writes (by decide +kernel)
theorem ctr_while0Ops0 (V : Valuation τ sig (Elt F)) : after while0Ops0 V (Proc.devRef .tc main_v92_6) = V (Proc.devRef .tc main_v92_6) :=
  after_of_writes_sub while0Ops0 V while0Ops0_writes (by decide +kernel)
theorem ctr_while0Ops0_1 (V : Valuation τ sig (Elt F)) : after while0Ops0_1 V (Proc.devRef .tc main_v92_6) = V (Proc.devRef .tc main_v92_6) :=
  after_of_writes_sub while0Ops0_1 V while0Ops0_1_writes (by decide +kernel)
theorem ctr_while0Ops0_2 (V : Valuation τ sig (Elt F)) : after while0Ops0_2 V (Proc.devRef .tc main_v92_6) = V (Proc.devRef .tc main_v92_6) :=
  after_of_writes_sub while0Ops0_2 V while0Ops0_2_writes (by decide +kernel)
theorem ctr_while0Ops0_3 (V : Valuation τ sig (Elt F)) : after while0Ops0_3 V (Proc.devRef .tc main_v92_6) = V (Proc.devRef .tc main_v92_6) :=
  after_of_writes_sub while0Ops0_3 V while0Ops0_3_writes (by decide +kernel)
theorem ctr_while0Ops0_4 (V : Valuation τ sig (Elt F)) : after while0Ops0_4 V (Proc.devRef .tc main_v92_6) = V (Proc.devRef .tc main_v92_6) :=
  after_of_writes_sub while0Ops0_4 V while0Ops0_4_writes (by decide +kernel)
theorem ctr_while0Ops0_5 (V : Valuation τ sig (Elt F)) : after while0Ops0_5 V (Proc.devRef .tc main_v92_6) = V (Proc.devRef .tc main_v92_6) :=
  after_of_writes_sub while0Ops0_5 V while0Ops0_5_writes (by decide +kernel)

set_option maxRecDepth 100000 in
/-- `while0Ops0_6` leaves the counter one step on. -/
theorem ctr_step (X : Valuation τ sig (Elt F)) :
    after while0Ops0_6 X (Proc.devRef .tc main_v92_6) = addi (X (Proc.devRef .tc main_v92_6)) (constantI S_ 32 1#32) := by
  after_results
  rfl

/-- The counter is the loop's lower bound at the loop's entry: its last writer before the loop read back. -/
theorem ctr_entry (c : Dev nD) : entryContents preI m c (Proc.devRef .tc main_v92_6) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v92_6) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 16384 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v92_6 HostLoop.idx0)
        (HloOp.result _ (atK m k c) main_while0c_c_17 HostLoop.idx0) = 1#1) (k < 16384)
    rw [nullary_result_ne _ _ _ _ (by decide), nullary_result, hctr]
    exact Scf.cmpi_slt_iv_ub_iff (lb := 0#32) (ub := 16384#32) (st := 1#32) (by decide) (show k ≤ Scf.trips 0#32 16384#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 16384 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 16384 m ρ (cond_spec m)

/-! ## One trip's values -/

/-- The body's operations 1 … 4 of 49. -/
abbrev trip_w0 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v92_0 : StableHlo.TRef sig ⟨S16384x2x2x32, .f32⟩) ![(.of main_v92_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x2x2x32, .f32⟩) (fun x i => Host.dynamicSlice S1x2x2x32 x (fun k => (i k (Shape.Idx.first h_S_)).toInt) sliceFits_S16384x2x2x32_S1x2x2x32) ]

/-- The body's operations 5 … 5 of 49. -/
abbrev trip_w1 : List (HloOp τ sig (Elt F)) :=
  [ StableHlo.TRef.reshape (.of main_while0b_call2_v0 : StableHlo.TRef sig ⟨S1x2x2x32, .f32⟩) (.of main_while0b_v121 : StableHlo.TRef sig ⟨S2x2x32, .f32⟩) (rfl : (.f32 : EltTy) = .f32) shapeCasts_S1x2x2x32_S2x2x32 ]

/-- The body's operations 6 … 9 of 49. -/
abbrev trip_w2 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v92_1 : StableHlo.TRef sig ⟨S16384x2x2x32, .f32⟩) ![(.of main_v92_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x2x2x32, .f32⟩) (fun x i => Host.dynamicSlice S1x2x2x32 x (fun k => (i k (Shape.Idx.first h_S_)).toInt) sliceFits_S16384x2x2x32_S1x2x2x32) ]

/-- The body's operations 10 … 10 of 49. -/
abbrev trip_w3 : List (HloOp τ sig (Elt F)) :=
  [ StableHlo.TRef.reshape (.of main_while0b_call3_v0 : StableHlo.TRef sig ⟨S1x2x2x32, .f32⟩) (.of main_while0b_v122 : StableHlo.TRef sig ⟨S2x2x32, .f32⟩) (rfl : (.f32 : EltTy) = .f32) shapeCasts_S1x2x2x32_S2x2x32 ]

/-- The body's operations 11 … 14 of 49. -/
abbrev trip_w4 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v92_2 : StableHlo.TRef sig ⟨S16384x2x2x16, .f32⟩) ![(.of main_v92_6 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x2x2x16, .f32⟩) (fun x i => Host.dynamicSlice S1x2x2x16 x (fun k => (i k (Shape.Idx.first h_S_)).toInt) sliceFits_S16384x2x2x16_S1x2x2x16) ]

/-- The body's operations 15 … 15 of 49. -/
abbrev trip_w5 : List (HloOp τ sig (Elt F)) :=
  [ StableHlo.TRef.reshape (.of main_while0b_call4_v0 : StableHlo.TRef sig ⟨S1x2x2x16, .f32⟩) (.of main_while0b_v123 : StableHlo.TRef sig ⟨S2x2x16, .f32⟩) (rfl : (.f32 : EltTy) = .f32) shapeCasts_S1x2x2x16_S2x2x16 ]

/-- The body's operations 16 … 19 of 49. -/
abbrev trip_w6 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.unaryIndexed (.of main_v92_3 : StableHlo.TRef sig ⟨S16384x2x2x16, .f32⟩) ![(.of main_v92_6 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_call5_v0 : StableHlo.TRef sig ⟨S1x2x2x16, .f32⟩) (fun x i => Host.dynamicSlice S1x2x2x16 x (fun k => (i k (Shape.Idx.first h_S_)).toInt) sliceFits_S16384x2x2x16_S1x2x2x16) ]

/-- The body's operations 20 … 20 of 49. -/
abbrev trip_w7 : List (HloOp τ sig (Elt F)) :=
  [ StableHlo.TRef.reshape (.of main_while0b_call5_v0 : StableHlo.TRef sig ⟨S1x2x2x16, .f32⟩) (.of main_while0b_v124 : StableHlo.TRef sig ⟨S2x2x16, .f32⟩) (rfl : (.f32 : EltTy) = .f32) shapeCasts_S1x2x2x16_S2x2x16 ]

/-- The body's operations 21 … 39 of 49. -/
abbrev trip_w8 : List (HloOp τ sig (Elt F)) :=
  [ StableHlo.unary main_while0b_v122 main_while0b_v125 (broadcastInDim S2x2x32x1 ![0, 1, 2] bcast_S2x2x32_S2x2x32x1_0_1_2 : (⟨S2x2x32, .f32⟩ : BufTy).Contents (Elt F) → (⟨S2x2x32x1, .f32⟩ : BufTy).Contents (Elt F)),
    StableHlo.unary main_v92_4 main_while0b_v126 (broadcastInDim S1x2x32x16 ![1, 2, 3] bcast_S2x32x16_S1x2x32x16_1_2_3 : (⟨S2x32x16, .f32⟩ : BufTy).Contents (Elt F) → (⟨S1x2x32x16, .f32⟩ : BufTy).Contents (Elt F)),
    StableHlo.unary main_while0b_v125 main_while0b_v127 (broadcastInDim S2x2x32x16 ![0, 1, 2, 3] bcast_S2x2x32x1_S2x2x32x16_0_1_2_3 : (⟨S2x2x32x1, .f32⟩ : BufTy).Contents (Elt F) → (⟨S2x2x32x16, .f32⟩ : BufTy).Contents (Elt F)),
    StableHlo.unary main_while0b_v126 main_while0b_v128 (broadcastInDim S2x2x32x16 ![0, 1, 2, 3] bcast_S1x2x32x16_S2x2x32x16_0_1_2_3 : (⟨S1x2x32x16, .f32⟩ : BufTy).Contents (Elt F) → (⟨S2x2x32x16, .f32⟩ : BufTy).Contents (Elt F)),
    StableHlo.binary main_while0b_v127 main_while0b_v128 main_while0b_v129 (mulf : (⟨S2x2x32x16, .f32⟩ : BufTy).Contents (Elt F) → (⟨S2x2x32x16, .f32⟩ : BufTy).Contents (Elt F) → (⟨S2x2x32x16, .f32⟩ : BufTy).Contents (Elt F)),
    StableHlo.unary main_while0b_v129 main_while0b_v130 (Host.exp : (⟨S2x2x32x16, .f32⟩ : BufTy).Contents (Elt F) → (⟨S2x2x32x16, .f32⟩ : BufTy).Contents (Elt F)),
    StableHlo.binary main_while0b_v130 main_v92_7 main_while0b_v131 (mulf : (⟨S2x2x32x16, .f32⟩ : BufTy).Contents (Elt F) → (⟨S2x2x32x16, .f32⟩ : BufTy).Contents (Elt F) → (⟨S2x2x32x16, .f32⟩ : BufTy).Contents (Elt F)),
    StableHlo.binary main_while0b_v122 main_while0b_v121 main_while0b_v132 (mulf : (⟨S2x2x32, .f32⟩ : BufTy).Contents (Elt F) → (⟨S2x2x32, .f32⟩ : BufTy).Contents (Elt F) → (⟨S2x2x32, .f32⟩ : BufTy).Contents (Elt F)),
    StableHlo.unary main_while0b_v132 main_while0b_v133 (broadcastInDim S2x2x32x1 ![0, 1, 2] bcast_S2x2x32_S2x2x32x1_0_1_2 : (⟨S2x2x32, .f32⟩ : BufTy).Contents (Elt F) → (⟨S2x2x32x1, .f32⟩ : BufTy).Contents (Elt F)),
    StableHlo.unary main_while0b_v123 main_while0b_v134 (broadcastInDim S2x2x1x16 ![0, 1, 3] bcast_S2x2x16_S2x2x1x16_0_1_3 : (⟨S2x2x16, .f32⟩ : BufTy).Contents (Elt F) → (⟨S2x2x1x16, .f32⟩ : BufTy).Contents (Elt F)),
    StableHlo.unary main_while0b_v133 main_while0b_v135 (broadcastInDim S2x2x32x16 ![0, 1, 2, 3] bcast_S2x2x32x1_S2x2x32x16_0_1_2_3 : (⟨S2x2x32x1, .f32⟩ : BufTy).Contents (Elt F) → (⟨S2x2x32x16, .f32⟩ : BufTy).Contents (Elt F)),
    StableHlo.unary main_while0b_v134 main_while0b_v136 (broadcastInDim S2x2x32x16 ![0, 1, 2, 3] bcast_S2x2x1x16_S2x2x32x16_0_1_2_3 : (⟨S2x2x1x16, .f32⟩ : BufTy).Contents (Elt F) → (⟨S2x2x32x16, .f32⟩ : BufTy).Contents (Elt F)),
    StableHlo.binary main_while0b_v135 main_while0b_v136 main_while0b_v137 (mulf : (⟨S2x2x32x16, .f32⟩ : BufTy).Contents (Elt F) → (⟨S2x2x32x16, .f32⟩ : BufTy).Contents (Elt F) → (⟨S2x2x32x16, .f32⟩ : BufTy).Contents (Elt F)),
    StableHlo.binary main_while0b_v131 main_while0b_v137 main_while0b_v138 (addf : (⟨S2x2x32x16, .f32⟩ : BufTy).Contents (Elt F) → (⟨S2x2x32x16, .f32⟩ : BufTy).Contents (Elt F) → (⟨S2x2x32x16, .f32⟩ : BufTy).Contents (Elt F)),
    StableHlo.binary main_while0b_v138 main_while0b_v124 main_while0b_v139 ((fun l r => Host.dotGeneral dot_S2x2x32x16_S2x2x16_S2x2x32_3_2_2_n_01_01 none l r) : (⟨S2x2x32x16, .f32⟩ : BufTy).Contents (Elt F) → (⟨S2x2x16, .f32⟩ : BufTy).Contents (Elt F) → (⟨S2x2x32, .f32⟩ : BufTy).Contents (Elt F)),
    StableHlo.unary main_v92_5 main_while0b_v140 (broadcastInDim S1x2x32 ![1, 2] bcast_S2x32_S1x2x32_1_2 : (⟨S2x32, .f32⟩ : BufTy).Contents (Elt F) → (⟨S1x2x32, .f32⟩ : BufTy).Contents (Elt F)),
    StableHlo.unary main_while0b_v140 main_while0b_v141 (broadcastInDim S2x2x32 ![0, 1, 2] bcast_S1x2x32_S2x2x32_0_1_2 : (⟨S1x2x32, .f32⟩ : BufTy).Contents (Elt F) → (⟨S2x2x32, .f32⟩ : BufTy).Contents (Elt F)),
    StableHlo.binary main_while0b_v141 main_while0b_v121 main_while0b_v142 (mulf : (⟨S2x2x32, .f32⟩ : BufTy).Contents (Elt F) → (⟨S2x2x32, .f32⟩ : BufTy).Contents (Elt F) → (⟨S2x2x32, .f32⟩ : BufTy).Contents (Elt F)),
    StableHlo.binary main_while0b_v139 main_while0b_v142 main_while0b_v143 (addf : (⟨S2x2x32, .f32⟩ : BufTy).Contents (Elt F) → (⟨S2x2x32, .f32⟩ : BufTy).Contents (Elt F) → (⟨S2x2x32, .f32⟩ : BufTy).Contents (Elt F)) ]

/-- The body's operations 40 … 44 of 49. -/
abbrev trip_w9 : List (HloOp τ sig (Elt F)) :=
  [ StableHlo.TRef.unary (.of main_while0b_v143 : StableHlo.TRef sig ⟨S2x2x32, .f32⟩) (.of main_while0b_call6_v0 : StableHlo.TRef sig ⟨S1x2x2x32, .f32⟩) (broadcastInDim S1x2x2x32 ![1, 2, 3] bcast_S2x2x32_S1x2x2x32_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v92_8 : StableHlo.TRef sig ⟨S16384x2x2x32, .f32⟩) (.of main_while0b_call6_v0 : StableHlo.TRef sig ⟨S1x2x2x32, .f32⟩) ![(.of main_v92_6 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v144 : StableHlo.TRef sig ⟨S16384x2x2x32, .f32⟩) (fun x u i => Host.dynamicUpdateSlice x u (fun k => (i k (Shape.Idx.first h_S_)).toInt) updateFits_S16384x2x2x32_S1x2x2x32) ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 ++ (trip_w3) := rfl
set_option maxRecDepth 5000 in
/-- `while0Ops0_2` is its windows in order. -/
theorem while0Ops0_2_cut : (while0Ops0_2 : List (HloOp τ sig (Elt F))) = trip_w4 ++ (trip_w5) := rfl
set_option maxRecDepth 5000 in
/-- `while0Ops0_3` is its windows in order. -/
theorem while0Ops0_3_cut : (while0Ops0_3 : List (HloOp τ sig (Elt F))) = trip_w6 ++ (trip_w7) := rfl
set_option maxRecDepth 5000 in
/-- `while0Ops0_4` is its windows in order. -/
theorem while0Ops0_4_cut : (while0Ops0_4 : List (HloOp τ sig (Elt F))) = trip_w8 := rfl
set_option maxRecDepth 5000 in
/-- `while0Ops0_5` is its windows in order. -/
theorem while0Ops0_5_cut : (while0Ops0_5 : List (HloOp τ sig (Elt F))) = trip_w9 := rfl

set_option maxRecDepth 8192 in
/-- `main_while0b_v121`'s composed term of the carried buffers (named: it is used 2 times). -/
def res_main_while0b_v121 (V0 : Valuation τ sig (Elt F)) : (Proc.devRef .tc main_while0b_v121 : DevRef τ sig).ty.Contents (Elt F) :=
  shapeCast S2x2x32 (Host.dynamicSlice S1x2x2x32 (V0 (Proc.devRef .tc main_v92_0)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x32_S1x2x2x32) shapeCasts_S1x2x2x32_S2x2x32

set_option maxRecDepth 8192 in
/-- `main_while0b_v122`'s composed term of the carried buffers (named: it is used 2 times). -/
def res_main_while0b_v122 (V0 : Valuation τ sig (Elt F)) : (Proc.devRef .tc main_while0b_v122 : DevRef τ sig).ty.Contents (Elt F) :=
  shapeCast S2x2x32 (Host.dynamicSlice S1x2x2x32 (V0 (Proc.devRef .tc main_v92_1)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x32_S1x2x2x32) shapeCasts_S1x2x2x32_S2x2x32

set_option maxRecDepth 8192 in
/-- `main_while0b_v138`'s composed term of the carried buffers (named: it is used 2 times). -/
def res_main_while0b_v138 (V0 : Valuation τ sig (Elt F)) : (Proc.devRef .tc main_while0b_v138 : DevRef τ sig).ty.Contents (Elt F) :=
  addf (mulf (Host.exp (mulf (broadcastInDim S2x2x32x16 ![0, 1, 2, 3] bcast_S2x2x32x1_S2x2x32x16_0_1_2_3 (broadcastInDim S2x2x32x1 ![0, 1, 2] bcast_S2x2x32_S2x2x32x1_0_1_2 (res_main_while0b_v122 V0))) (broadcastInDim S2x2x32x16 ![0, 1, 2, 3] bcast_S1x2x32x16_S2x2x32x16_0_1_2_3 (broadcastInDim S1x2x32x16 ![1, 2, 3] bcast_S2x32x16_S1x2x32x16_1_2_3 (V0 (Proc.devRef .tc main_v92_4)))))) (V0 (Proc.devRef .tc main_v92_7))) (mulf (broadcastInDim S2x2x32x16 ![0, 1, 2, 3] bcast_S2x2x32x1_S2x2x32x16_0_1_2_3 (broadcastInDim S2x2x32x1 ![0, 1, 2] bcast_S2x2x32_S2x2x32x1_0_1_2 (mulf (res_main_while0b_v122 V0) (res_main_while0b_v121 V0)))) (broadcastInDim S2x2x32x16 ![0, 1, 2, 3] bcast_S2x2x1x16_S2x2x32x16_0_1_2_3 (broadcastInDim S2x2x1x16 ![0, 1, 3] bcast_S2x2x16_S2x2x1x16_0_1_3 (shapeCast S2x2x16 (Host.dynamicSlice S1x2x2x16 (V0 (Proc.devRef .tc main_v92_2)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16))))

/-- The device's buffer contents before the body's first window. -/
def val0 (V0 : Valuation τ sig (Elt F)) : Valuation τ sig (Elt F) := V0
theorem val0_main_v92_0 (V0 : Valuation τ sig (Elt F)) : val0 V0 (no_index (Proc.devRef .tc main_v92_0)) = V0 (Proc.devRef .tc main_v92_0) := rfl
theorem val0_main_v92_6 (V0 : Valuation τ sig (Elt F)) : val0 V0 (no_index (Proc.devRef .tc main_v92_6)) = V0 (Proc.devRef .tc main_v92_6) := rfl
theorem val0_main_v92_1 (V0 : Valuation τ sig (Elt F)) : val0 V0 (no_index (Proc.devRef .tc main_v92_1)) = V0 (Proc.devRef .tc main_v92_1) := rfl
theorem val0_main_v92_2 (V0 : Valuation τ sig (Elt F)) : val0 V0 (no_index (Proc.devRef .tc main_v92_2)) = V0 (Proc.devRef .tc main_v92_2) := rfl
theorem val0_main_v92_3 (V0 : Valuation τ sig (Elt F)) : val0 V0 (no_index (Proc.devRef .tc main_v92_3)) = V0 (Proc.devRef .tc main_v92_3) := rfl
theorem val0_main_v92_4 (V0 : Valuation τ sig (Elt F)) : val0 V0 (no_index (Proc.devRef .tc main_v92_4)) = V0 (Proc.devRef .tc main_v92_4) := rfl
theorem val0_main_v92_7 (V0 : Valuation τ sig (Elt F)) : val0 V0 (no_index (Proc.devRef .tc main_v92_7)) = V0 (Proc.devRef .tc main_v92_7) := rfl
theorem val0_main_v92_5 (V0 : Valuation τ sig (Elt F)) : val0 V0 (no_index (Proc.devRef .tc main_v92_5)) = V0 (Proc.devRef .tc main_v92_5) := rfl
theorem val0_main_v92_8 (V0 : Valuation τ sig (Elt F)) : val0 V0 (no_index (Proc.devRef .tc main_v92_8)) = V0 (Proc.devRef .tc main_v92_8) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call2_c, main_while0b_call2_c_0, main_while0b_call2_c_1, main_while0b_call2_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v92_0 (V0 : Valuation τ sig (Elt F)) : val1 V0 (no_index (Proc.devRef .tc main_v92_0)) = V0 (Proc.devRef .tc main_v92_0) :=
  (val1_keep V0 main_v92_0 (by decide)).trans (val0_main_v92_0 V0)
theorem val1_main_v92_6 (V0 : Valuation τ sig (Elt F)) : val1 V0 (no_index (Proc.devRef .tc main_v92_6)) = V0 (Proc.devRef .tc main_v92_6) :=
  (val1_keep V0 main_v92_6 (by decide)).trans (val0_main_v92_6 V0)
theorem val1_main_v92_1 (V0 : Valuation τ sig (Elt F)) : val1 V0 (no_index (Proc.devRef .tc main_v92_1)) = V0 (Proc.devRef .tc main_v92_1) :=
  (val1_keep V0 main_v92_1 (by decide)).trans (val0_main_v92_1 V0)
theorem val1_main_v92_2 (V0 : Valuation τ sig (Elt F)) : val1 V0 (no_index (Proc.devRef .tc main_v92_2)) = V0 (Proc.devRef .tc main_v92_2) :=
  (val1_keep V0 main_v92_2 (by decide)).trans (val0_main_v92_2 V0)
theorem val1_main_v92_3 (V0 : Valuation τ sig (Elt F)) : val1 V0 (no_index (Proc.devRef .tc main_v92_3)) = V0 (Proc.devRef .tc main_v92_3) :=
  (val1_keep V0 main_v92_3 (by decide)).trans (val0_main_v92_3 V0)
theorem val1_main_v92_4 (V0 : Valuation τ sig (Elt F)) : val1 V0 (no_index (Proc.devRef .tc main_v92_4)) = V0 (Proc.devRef .tc main_v92_4) :=
  (val1_keep V0 main_v92_4 (by decide)).trans (val0_main_v92_4 V0)
theorem val1_main_v92_7 (V0 : Valuation τ sig (Elt F)) : val1 V0 (no_index (Proc.devRef .tc main_v92_7)) = V0 (Proc.devRef .tc main_v92_7) :=
  (val1_keep V0 main_v92_7 (by decide)).trans (val0_main_v92_7 V0)
theorem val1_main_v92_5 (V0 : Valuation τ sig (Elt F)) : val1 V0 (no_index (Proc.devRef .tc main_v92_5)) = V0 (Proc.devRef .tc main_v92_5) :=
  (val1_keep V0 main_v92_5 (by decide)).trans (val0_main_v92_5 V0)
theorem val1_main_v92_8 (V0 : Valuation τ sig (Elt F)) : val1 V0 (no_index (Proc.devRef .tc main_v92_8)) = V0 (Proc.devRef .tc main_v92_8) :=
  (val1_keep V0 main_v92_8 (by decide)).trans (val0_main_v92_8 V0)
set_option maxRecDepth 8192 in
theorem val1_main_while0b_call2_v0 (V0 : Valuation τ sig (Elt F)) : val1 V0 (no_index (Proc.devRef .tc main_while0b_call2_v0)) = Host.dynamicSlice S1x2x2x32 (V0 (Proc.devRef .tc main_v92_0)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x32_S1x2x2x32 := by
  unfold val1
  simp only [trip_w0]
  after_results_entrywise [val0_main_v92_6, val0_main_v92_0, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v121]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v92_0 (V0 : Valuation τ sig (Elt F)) : val2 V0 (no_index (Proc.devRef .tc main_v92_0)) = V0 (Proc.devRef .tc main_v92_0) :=
  (val2_keep V0 main_v92_0 (by decide)).trans (val1_main_v92_0 V0)
theorem val2_main_v92_6 (V0 : Valuation τ sig (Elt F)) : val2 V0 (no_index (Proc.devRef .tc main_v92_6)) = V0 (Proc.devRef .tc main_v92_6) :=
  (val2_keep V0 main_v92_6 (by decide)).trans (val1_main_v92_6 V0)
theorem val2_main_v92_1 (V0 : Valuation τ sig (Elt F)) : val2 V0 (no_index (Proc.devRef .tc main_v92_1)) = V0 (Proc.devRef .tc main_v92_1) :=
  (val2_keep V0 main_v92_1 (by decide)).trans (val1_main_v92_1 V0)
theorem val2_main_v92_2 (V0 : Valuation τ sig (Elt F)) : val2 V0 (no_index (Proc.devRef .tc main_v92_2)) = V0 (Proc.devRef .tc main_v92_2) :=
  (val2_keep V0 main_v92_2 (by decide)).trans (val1_main_v92_2 V0)
theorem val2_main_v92_3 (V0 : Valuation τ sig (Elt F)) : val2 V0 (no_index (Proc.devRef .tc main_v92_3)) = V0 (Proc.devRef .tc main_v92_3) :=
  (val2_keep V0 main_v92_3 (by decide)).trans (val1_main_v92_3 V0)
theorem val2_main_v92_4 (V0 : Valuation τ sig (Elt F)) : val2 V0 (no_index (Proc.devRef .tc main_v92_4)) = V0 (Proc.devRef .tc main_v92_4) :=
  (val2_keep V0 main_v92_4 (by decide)).trans (val1_main_v92_4 V0)
theorem val2_main_v92_7 (V0 : Valuation τ sig (Elt F)) : val2 V0 (no_index (Proc.devRef .tc main_v92_7)) = V0 (Proc.devRef .tc main_v92_7) :=
  (val2_keep V0 main_v92_7 (by decide)).trans (val1_main_v92_7 V0)
theorem val2_main_v92_5 (V0 : Valuation τ sig (Elt F)) : val2 V0 (no_index (Proc.devRef .tc main_v92_5)) = V0 (Proc.devRef .tc main_v92_5) :=
  (val2_keep V0 main_v92_5 (by decide)).trans (val1_main_v92_5 V0)
theorem val2_main_v92_8 (V0 : Valuation τ sig (Elt F)) : val2 V0 (no_index (Proc.devRef .tc main_v92_8)) = V0 (Proc.devRef .tc main_v92_8) :=
  (val2_keep V0 main_v92_8 (by decide)).trans (val1_main_v92_8 V0)
set_option maxRecDepth 8192 in
theorem val2_main_while0b_v121 (V0 : Valuation τ sig (Elt F)) : val2 V0 (no_index (Proc.devRef .tc main_while0b_v121)) = res_main_while0b_v121 V0 := by
  unfold val2
  simp only [trip_w1]
  after_results_entrywise [val1_main_while0b_call2_v0, res_main_while0b_v121, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_call3_c, main_while0b_call3_c_0, main_while0b_call3_c_1, main_while0b_call3_v0]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v92_0 (V0 : Valuation τ sig (Elt F)) : val3 V0 (no_index (Proc.devRef .tc main_v92_0)) = V0 (Proc.devRef .tc main_v92_0) :=
  (val3_keep V0 main_v92_0 (by decide)).trans (val2_main_v92_0 V0)
theorem val3_main_v92_6 (V0 : Valuation τ sig (Elt F)) : val3 V0 (no_index (Proc.devRef .tc main_v92_6)) = V0 (Proc.devRef .tc main_v92_6) :=
  (val3_keep V0 main_v92_6 (by decide)).trans (val2_main_v92_6 V0)
theorem val3_main_v92_1 (V0 : Valuation τ sig (Elt F)) : val3 V0 (no_index (Proc.devRef .tc main_v92_1)) = V0 (Proc.devRef .tc main_v92_1) :=
  (val3_keep V0 main_v92_1 (by decide)).trans (val2_main_v92_1 V0)
theorem val3_main_v92_2 (V0 : Valuation τ sig (Elt F)) : val3 V0 (no_index (Proc.devRef .tc main_v92_2)) = V0 (Proc.devRef .tc main_v92_2) :=
  (val3_keep V0 main_v92_2 (by decide)).trans (val2_main_v92_2 V0)
theorem val3_main_v92_3 (V0 : Valuation τ sig (Elt F)) : val3 V0 (no_index (Proc.devRef .tc main_v92_3)) = V0 (Proc.devRef .tc main_v92_3) :=
  (val3_keep V0 main_v92_3 (by decide)).trans (val2_main_v92_3 V0)
theorem val3_main_v92_4 (V0 : Valuation τ sig (Elt F)) : val3 V0 (no_index (Proc.devRef .tc main_v92_4)) = V0 (Proc.devRef .tc main_v92_4) :=
  (val3_keep V0 main_v92_4 (by decide)).trans (val2_main_v92_4 V0)
theorem val3_main_v92_7 (V0 : Valuation τ sig (Elt F)) : val3 V0 (no_index (Proc.devRef .tc main_v92_7)) = V0 (Proc.devRef .tc main_v92_7) :=
  (val3_keep V0 main_v92_7 (by decide)).trans (val2_main_v92_7 V0)
theorem val3_main_v92_5 (V0 : Valuation τ sig (Elt F)) : val3 V0 (no_index (Proc.devRef .tc main_v92_5)) = V0 (Proc.devRef .tc main_v92_5) :=
  (val3_keep V0 main_v92_5 (by decide)).trans (val2_main_v92_5 V0)
theorem val3_main_v92_8 (V0 : Valuation τ sig (Elt F)) : val3 V0 (no_index (Proc.devRef .tc main_v92_8)) = V0 (Proc.devRef .tc main_v92_8) :=
  (val3_keep V0 main_v92_8 (by decide)).trans (val2_main_v92_8 V0)
theorem val3_main_while0b_v121 (V0 : Valuation τ sig (Elt F)) : val3 V0 (no_index (Proc.devRef .tc main_while0b_v121)) = res_main_while0b_v121 V0 :=
  (val3_keep V0 main_while0b_v121 (by decide)).trans (val2_main_while0b_v121 V0)
set_option maxRecDepth 8192 in
theorem val3_main_while0b_call3_v0 (V0 : Valuation τ sig (Elt F)) : val3 V0 (no_index (Proc.devRef .tc main_while0b_call3_v0)) = Host.dynamicSlice S1x2x2x32 (V0 (Proc.devRef .tc main_v92_1)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x32_S1x2x2x32 := by
  unfold val3
  simp only [trip_w2]
  after_results_entrywise [val2_main_v92_6, val2_main_v92_1, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v122]
set_option maxRecDepth 8192 in
theorem trip_w3_writes : (trip_w3 : List (HloOp τ sig (Elt F))).Forall fun op => op.writes ⊆ (trip_w3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v92_0 (V0 : Valuation τ sig (Elt F)) : val4 V0 (no_index (Proc.devRef .tc main_v92_0)) = V0 (Proc.devRef .tc main_v92_0) :=
  (val4_keep V0 main_v92_0 (by decide)).trans (val3_main_v92_0 V0)
theorem val4_main_v92_6 (V0 : Valuation τ sig (Elt F)) : val4 V0 (no_index (Proc.devRef .tc main_v92_6)) = V0 (Proc.devRef .tc main_v92_6) :=
  (val4_keep V0 main_v92_6 (by decide)).trans (val3_main_v92_6 V0)
theorem val4_main_v92_1 (V0 : Valuation τ sig (Elt F)) : val4 V0 (no_index (Proc.devRef .tc main_v92_1)) = V0 (Proc.devRef .tc main_v92_1) :=
  (val4_keep V0 main_v92_1 (by decide)).trans (val3_main_v92_1 V0)
theorem val4_main_v92_2 (V0 : Valuation τ sig (Elt F)) : val4 V0 (no_index (Proc.devRef .tc main_v92_2)) = V0 (Proc.devRef .tc main_v92_2) :=
  (val4_keep V0 main_v92_2 (by decide)).trans (val3_main_v92_2 V0)
theorem val4_main_v92_3 (V0 : Valuation τ sig (Elt F)) : val4 V0 (no_index (Proc.devRef .tc main_v92_3)) = V0 (Proc.devRef .tc main_v92_3) :=
  (val4_keep V0 main_v92_3 (by decide)).trans (val3_main_v92_3 V0)
theorem val4_main_v92_4 (V0 : Valuation τ sig (Elt F)) : val4 V0 (no_index (Proc.devRef .tc main_v92_4)) = V0 (Proc.devRef .tc main_v92_4) :=
  (val4_keep V0 main_v92_4 (by decide)).trans (val3_main_v92_4 V0)
theorem val4_main_v92_7 (V0 : Valuation τ sig (Elt F)) : val4 V0 (no_index (Proc.devRef .tc main_v92_7)) = V0 (Proc.devRef .tc main_v92_7) :=
  (val4_keep V0 main_v92_7 (by decide)).trans (val3_main_v92_7 V0)
theorem val4_main_v92_5 (V0 : Valuation τ sig (Elt F)) : val4 V0 (no_index (Proc.devRef .tc main_v92_5)) = V0 (Proc.devRef .tc main_v92_5) :=
  (val4_keep V0 main_v92_5 (by decide)).trans (val3_main_v92_5 V0)
theorem val4_main_v92_8 (V0 : Valuation τ sig (Elt F)) : val4 V0 (no_index (Proc.devRef .tc main_v92_8)) = V0 (Proc.devRef .tc main_v92_8) :=
  (val4_keep V0 main_v92_8 (by decide)).trans (val3_main_v92_8 V0)
theorem val4_main_while0b_v121 (V0 : Valuation τ sig (Elt F)) : val4 V0 (no_index (Proc.devRef .tc main_while0b_v121)) = res_main_while0b_v121 V0 :=
  (val4_keep V0 main_while0b_v121 (by decide)).trans (val3_main_while0b_v121 V0)
set_option maxRecDepth 8192 in
theorem val4_main_while0b_v122 (V0 : Valuation τ sig (Elt F)) : val4 V0 (no_index (Proc.devRef .tc main_while0b_v122)) = res_main_while0b_v122 V0 := by
  unfold val4
  simp only [trip_w3]
  after_results_entrywise [val3_main_while0b_call3_v0, res_main_while0b_v122, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_call4_c, main_while0b_call4_c_0, main_while0b_call4_c_1, main_while0b_call4_v0]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v92_0 (V0 : Valuation τ sig (Elt F)) : val5 V0 (no_index (Proc.devRef .tc main_v92_0)) = V0 (Proc.devRef .tc main_v92_0) :=
  (val5_keep V0 main_v92_0 (by decide)).trans (val4_main_v92_0 V0)
theorem val5_main_v92_6 (V0 : Valuation τ sig (Elt F)) : val5 V0 (no_index (Proc.devRef .tc main_v92_6)) = V0 (Proc.devRef .tc main_v92_6) :=
  (val5_keep V0 main_v92_6 (by decide)).trans (val4_main_v92_6 V0)
theorem val5_main_v92_1 (V0 : Valuation τ sig (Elt F)) : val5 V0 (no_index (Proc.devRef .tc main_v92_1)) = V0 (Proc.devRef .tc main_v92_1) :=
  (val5_keep V0 main_v92_1 (by decide)).trans (val4_main_v92_1 V0)
theorem val5_main_v92_2 (V0 : Valuation τ sig (Elt F)) : val5 V0 (no_index (Proc.devRef .tc main_v92_2)) = V0 (Proc.devRef .tc main_v92_2) :=
  (val5_keep V0 main_v92_2 (by decide)).trans (val4_main_v92_2 V0)
theorem val5_main_v92_3 (V0 : Valuation τ sig (Elt F)) : val5 V0 (no_index (Proc.devRef .tc main_v92_3)) = V0 (Proc.devRef .tc main_v92_3) :=
  (val5_keep V0 main_v92_3 (by decide)).trans (val4_main_v92_3 V0)
theorem val5_main_v92_4 (V0 : Valuation τ sig (Elt F)) : val5 V0 (no_index (Proc.devRef .tc main_v92_4)) = V0 (Proc.devRef .tc main_v92_4) :=
  (val5_keep V0 main_v92_4 (by decide)).trans (val4_main_v92_4 V0)
theorem val5_main_v92_7 (V0 : Valuation τ sig (Elt F)) : val5 V0 (no_index (Proc.devRef .tc main_v92_7)) = V0 (Proc.devRef .tc main_v92_7) :=
  (val5_keep V0 main_v92_7 (by decide)).trans (val4_main_v92_7 V0)
theorem val5_main_v92_5 (V0 : Valuation τ sig (Elt F)) : val5 V0 (no_index (Proc.devRef .tc main_v92_5)) = V0 (Proc.devRef .tc main_v92_5) :=
  (val5_keep V0 main_v92_5 (by decide)).trans (val4_main_v92_5 V0)
theorem val5_main_v92_8 (V0 : Valuation τ sig (Elt F)) : val5 V0 (no_index (Proc.devRef .tc main_v92_8)) = V0 (Proc.devRef .tc main_v92_8) :=
  (val5_keep V0 main_v92_8 (by decide)).trans (val4_main_v92_8 V0)
theorem val5_main_while0b_v121 (V0 : Valuation τ sig (Elt F)) : val5 V0 (no_index (Proc.devRef .tc main_while0b_v121)) = res_main_while0b_v121 V0 :=
  (val5_keep V0 main_while0b_v121 (by decide)).trans (val4_main_while0b_v121 V0)
theorem val5_main_while0b_v122 (V0 : Valuation τ sig (Elt F)) : val5 V0 (no_index (Proc.devRef .tc main_while0b_v122)) = res_main_while0b_v122 V0 :=
  (val5_keep V0 main_while0b_v122 (by decide)).trans (val4_main_while0b_v122 V0)
set_option maxRecDepth 8192 in
theorem val5_main_while0b_call4_v0 (V0 : Valuation τ sig (Elt F)) : val5 V0 (no_index (Proc.devRef .tc main_while0b_call4_v0)) = Host.dynamicSlice S1x2x2x16 (V0 (Proc.devRef .tc main_v92_2)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16 := by
  unfold val5
  simp only [trip_w4]
  after_results_entrywise [val4_main_v92_6, val4_main_v92_2, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_v123]
set_option maxRecDepth 8192 in
theorem trip_w5_writes : (trip_w5 : List (HloOp τ sig (Elt F))).Forall fun op => op.writes ⊆ (trip_w5_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v92_0 (V0 : Valuation τ sig (Elt F)) : val6 V0 (no_index (Proc.devRef .tc main_v92_0)) = V0 (Proc.devRef .tc main_v92_0) :=
  (val6_keep V0 main_v92_0 (by decide)).trans (val5_main_v92_0 V0)
theorem val6_main_v92_6 (V0 : Valuation τ sig (Elt F)) : val6 V0 (no_index (Proc.devRef .tc main_v92_6)) = V0 (Proc.devRef .tc main_v92_6) :=
  (val6_keep V0 main_v92_6 (by decide)).trans (val5_main_v92_6 V0)
theorem val6_main_v92_1 (V0 : Valuation τ sig (Elt F)) : val6 V0 (no_index (Proc.devRef .tc main_v92_1)) = V0 (Proc.devRef .tc main_v92_1) :=
  (val6_keep V0 main_v92_1 (by decide)).trans (val5_main_v92_1 V0)
theorem val6_main_v92_2 (V0 : Valuation τ sig (Elt F)) : val6 V0 (no_index (Proc.devRef .tc main_v92_2)) = V0 (Proc.devRef .tc main_v92_2) :=
  (val6_keep V0 main_v92_2 (by decide)).trans (val5_main_v92_2 V0)
theorem val6_main_v92_3 (V0 : Valuation τ sig (Elt F)) : val6 V0 (no_index (Proc.devRef .tc main_v92_3)) = V0 (Proc.devRef .tc main_v92_3) :=
  (val6_keep V0 main_v92_3 (by decide)).trans (val5_main_v92_3 V0)
theorem val6_main_v92_4 (V0 : Valuation τ sig (Elt F)) : val6 V0 (no_index (Proc.devRef .tc main_v92_4)) = V0 (Proc.devRef .tc main_v92_4) :=
  (val6_keep V0 main_v92_4 (by decide)).trans (val5_main_v92_4 V0)
theorem val6_main_v92_7 (V0 : Valuation τ sig (Elt F)) : val6 V0 (no_index (Proc.devRef .tc main_v92_7)) = V0 (Proc.devRef .tc main_v92_7) :=
  (val6_keep V0 main_v92_7 (by decide)).trans (val5_main_v92_7 V0)
theorem val6_main_v92_5 (V0 : Valuation τ sig (Elt F)) : val6 V0 (no_index (Proc.devRef .tc main_v92_5)) = V0 (Proc.devRef .tc main_v92_5) :=
  (val6_keep V0 main_v92_5 (by decide)).trans (val5_main_v92_5 V0)
theorem val6_main_v92_8 (V0 : Valuation τ sig (Elt F)) : val6 V0 (no_index (Proc.devRef .tc main_v92_8)) = V0 (Proc.devRef .tc main_v92_8) :=
  (val6_keep V0 main_v92_8 (by decide)).trans (val5_main_v92_8 V0)
theorem val6_main_while0b_v121 (V0 : Valuation τ sig (Elt F)) : val6 V0 (no_index (Proc.devRef .tc main_while0b_v121)) = res_main_while0b_v121 V0 :=
  (val6_keep V0 main_while0b_v121 (by decide)).trans (val5_main_while0b_v121 V0)
theorem val6_main_while0b_v122 (V0 : Valuation τ sig (Elt F)) : val6 V0 (no_index (Proc.devRef .tc main_while0b_v122)) = res_main_while0b_v122 V0 :=
  (val6_keep V0 main_while0b_v122 (by decide)).trans (val5_main_while0b_v122 V0)
set_option maxRecDepth 8192 in
theorem val6_main_while0b_v123 (V0 : Valuation τ sig (Elt F)) : val6 V0 (no_index (Proc.devRef .tc main_while0b_v123)) = shapeCast S2x2x16 (Host.dynamicSlice S1x2x2x16 (V0 (Proc.devRef .tc main_v92_2)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16 := by
  unfold val6
  simp only [trip_w5]
  after_results_entrywise [val5_main_while0b_call4_v0, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_call5_c, main_while0b_call5_c_0, main_while0b_call5_c_1, main_while0b_call5_v0]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v92_0 (V0 : Valuation τ sig (Elt F)) : val7 V0 (no_index (Proc.devRef .tc main_v92_0)) = V0 (Proc.devRef .tc main_v92_0) :=
  (val7_keep V0 main_v92_0 (by decide)).trans (val6_main_v92_0 V0)
theorem val7_main_v92_6 (V0 : Valuation τ sig (Elt F)) : val7 V0 (no_index (Proc.devRef .tc main_v92_6)) = V0 (Proc.devRef .tc main_v92_6) :=
  (val7_keep V0 main_v92_6 (by decide)).trans (val6_main_v92_6 V0)
theorem val7_main_v92_1 (V0 : Valuation τ sig (Elt F)) : val7 V0 (no_index (Proc.devRef .tc main_v92_1)) = V0 (Proc.devRef .tc main_v92_1) :=
  (val7_keep V0 main_v92_1 (by decide)).trans (val6_main_v92_1 V0)
theorem val7_main_v92_2 (V0 : Valuation τ sig (Elt F)) : val7 V0 (no_index (Proc.devRef .tc main_v92_2)) = V0 (Proc.devRef .tc main_v92_2) :=
  (val7_keep V0 main_v92_2 (by decide)).trans (val6_main_v92_2 V0)
theorem val7_main_v92_3 (V0 : Valuation τ sig (Elt F)) : val7 V0 (no_index (Proc.devRef .tc main_v92_3)) = V0 (Proc.devRef .tc main_v92_3) :=
  (val7_keep V0 main_v92_3 (by decide)).trans (val6_main_v92_3 V0)
theorem val7_main_v92_4 (V0 : Valuation τ sig (Elt F)) : val7 V0 (no_index (Proc.devRef .tc main_v92_4)) = V0 (Proc.devRef .tc main_v92_4) :=
  (val7_keep V0 main_v92_4 (by decide)).trans (val6_main_v92_4 V0)
theorem val7_main_v92_7 (V0 : Valuation τ sig (Elt F)) : val7 V0 (no_index (Proc.devRef .tc main_v92_7)) = V0 (Proc.devRef .tc main_v92_7) :=
  (val7_keep V0 main_v92_7 (by decide)).trans (val6_main_v92_7 V0)
theorem val7_main_v92_5 (V0 : Valuation τ sig (Elt F)) : val7 V0 (no_index (Proc.devRef .tc main_v92_5)) = V0 (Proc.devRef .tc main_v92_5) :=
  (val7_keep V0 main_v92_5 (by decide)).trans (val6_main_v92_5 V0)
theorem val7_main_v92_8 (V0 : Valuation τ sig (Elt F)) : val7 V0 (no_index (Proc.devRef .tc main_v92_8)) = V0 (Proc.devRef .tc main_v92_8) :=
  (val7_keep V0 main_v92_8 (by decide)).trans (val6_main_v92_8 V0)
theorem val7_main_while0b_v121 (V0 : Valuation τ sig (Elt F)) : val7 V0 (no_index (Proc.devRef .tc main_while0b_v121)) = res_main_while0b_v121 V0 :=
  (val7_keep V0 main_while0b_v121 (by decide)).trans (val6_main_while0b_v121 V0)
theorem val7_main_while0b_v122 (V0 : Valuation τ sig (Elt F)) : val7 V0 (no_index (Proc.devRef .tc main_while0b_v122)) = res_main_while0b_v122 V0 :=
  (val7_keep V0 main_while0b_v122 (by decide)).trans (val6_main_while0b_v122 V0)
theorem val7_main_while0b_v123 (V0 : Valuation τ sig (Elt F)) : val7 V0 (no_index (Proc.devRef .tc main_while0b_v123)) = shapeCast S2x2x16 (Host.dynamicSlice S1x2x2x16 (V0 (Proc.devRef .tc main_v92_2)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16 :=
  (val7_keep V0 main_while0b_v123 (by decide)).trans (val6_main_while0b_v123 V0)
set_option maxRecDepth 8192 in
theorem val7_main_while0b_call5_v0 (V0 : Valuation τ sig (Elt F)) : val7 V0 (no_index (Proc.devRef .tc main_while0b_call5_v0)) = Host.dynamicSlice S1x2x2x16 (V0 (Proc.devRef .tc main_v92_3)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16 := by
  unfold val7
  simp only [trip_w6]
  after_results_entrywise [val6_main_v92_6, val6_main_v92_3, cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_v124]
set_option maxRecDepth 8192 in
theorem trip_w7_writes : (trip_w7 : List (HloOp τ sig (Elt F))).Forall fun op => op.writes ⊆ (trip_w7_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v92_0 (V0 : Valuation τ sig (Elt F)) : val8 V0 (no_index (Proc.devRef .tc main_v92_0)) = V0 (Proc.devRef .tc main_v92_0) :=
  (val8_keep V0 main_v92_0 (by decide)).trans (val7_main_v92_0 V0)
theorem val8_main_v92_6 (V0 : Valuation τ sig (Elt F)) : val8 V0 (no_index (Proc.devRef .tc main_v92_6)) = V0 (Proc.devRef .tc main_v92_6) :=
  (val8_keep V0 main_v92_6 (by decide)).trans (val7_main_v92_6 V0)
theorem val8_main_v92_1 (V0 : Valuation τ sig (Elt F)) : val8 V0 (no_index (Proc.devRef .tc main_v92_1)) = V0 (Proc.devRef .tc main_v92_1) :=
  (val8_keep V0 main_v92_1 (by decide)).trans (val7_main_v92_1 V0)
theorem val8_main_v92_2 (V0 : Valuation τ sig (Elt F)) : val8 V0 (no_index (Proc.devRef .tc main_v92_2)) = V0 (Proc.devRef .tc main_v92_2) :=
  (val8_keep V0 main_v92_2 (by decide)).trans (val7_main_v92_2 V0)
theorem val8_main_v92_3 (V0 : Valuation τ sig (Elt F)) : val8 V0 (no_index (Proc.devRef .tc main_v92_3)) = V0 (Proc.devRef .tc main_v92_3) :=
  (val8_keep V0 main_v92_3 (by decide)).trans (val7_main_v92_3 V0)
theorem val8_main_v92_4 (V0 : Valuation τ sig (Elt F)) : val8 V0 (no_index (Proc.devRef .tc main_v92_4)) = V0 (Proc.devRef .tc main_v92_4) :=
  (val8_keep V0 main_v92_4 (by decide)).trans (val7_main_v92_4 V0)
theorem val8_main_v92_7 (V0 : Valuation τ sig (Elt F)) : val8 V0 (no_index (Proc.devRef .tc main_v92_7)) = V0 (Proc.devRef .tc main_v92_7) :=
  (val8_keep V0 main_v92_7 (by decide)).trans (val7_main_v92_7 V0)
theorem val8_main_v92_5 (V0 : Valuation τ sig (Elt F)) : val8 V0 (no_index (Proc.devRef .tc main_v92_5)) = V0 (Proc.devRef .tc main_v92_5) :=
  (val8_keep V0 main_v92_5 (by decide)).trans (val7_main_v92_5 V0)
theorem val8_main_v92_8 (V0 : Valuation τ sig (Elt F)) : val8 V0 (no_index (Proc.devRef .tc main_v92_8)) = V0 (Proc.devRef .tc main_v92_8) :=
  (val8_keep V0 main_v92_8 (by decide)).trans (val7_main_v92_8 V0)
theorem val8_main_while0b_v121 (V0 : Valuation τ sig (Elt F)) : val8 V0 (no_index (Proc.devRef .tc main_while0b_v121)) = res_main_while0b_v121 V0 :=
  (val8_keep V0 main_while0b_v121 (by decide)).trans (val7_main_while0b_v121 V0)
theorem val8_main_while0b_v122 (V0 : Valuation τ sig (Elt F)) : val8 V0 (no_index (Proc.devRef .tc main_while0b_v122)) = res_main_while0b_v122 V0 :=
  (val8_keep V0 main_while0b_v122 (by decide)).trans (val7_main_while0b_v122 V0)
theorem val8_main_while0b_v123 (V0 : Valuation τ sig (Elt F)) : val8 V0 (no_index (Proc.devRef .tc main_while0b_v123)) = shapeCast S2x2x16 (Host.dynamicSlice S1x2x2x16 (V0 (Proc.devRef .tc main_v92_2)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16 :=
  (val8_keep V0 main_while0b_v123 (by decide)).trans (val7_main_while0b_v123 V0)
set_option maxRecDepth 8192 in
theorem val8_main_while0b_v124 (V0 : Valuation τ sig (Elt F)) : val8 V0 (no_index (Proc.devRef .tc main_while0b_v124)) = shapeCast S2x2x16 (Host.dynamicSlice S1x2x2x16 (V0 (Proc.devRef .tc main_v92_3)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16 := by
  unfold val8
  simp only [trip_w7]
  after_results_entrywise [val7_main_while0b_call5_v0, cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while0b_v125, main_while0b_v126, main_while0b_v127, main_while0b_v128, main_while0b_v129, main_while0b_v130, main_while0b_v131, main_while0b_v132, main_while0b_v133, main_while0b_v134, main_while0b_v135, main_while0b_v136, main_while0b_v137, main_while0b_v138, main_while0b_v139, main_while0b_v140, main_while0b_v141, main_while0b_v142, main_while0b_v143]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v92_0 (V0 : Valuation τ sig (Elt F)) : val9 V0 (no_index (Proc.devRef .tc main_v92_0)) = V0 (Proc.devRef .tc main_v92_0) :=
  (val9_keep V0 main_v92_0 (by decide)).trans (val8_main_v92_0 V0)
theorem val9_main_v92_6 (V0 : Valuation τ sig (Elt F)) : val9 V0 (no_index (Proc.devRef .tc main_v92_6)) = V0 (Proc.devRef .tc main_v92_6) :=
  (val9_keep V0 main_v92_6 (by decide)).trans (val8_main_v92_6 V0)
theorem val9_main_v92_1 (V0 : Valuation τ sig (Elt F)) : val9 V0 (no_index (Proc.devRef .tc main_v92_1)) = V0 (Proc.devRef .tc main_v92_1) :=
  (val9_keep V0 main_v92_1 (by decide)).trans (val8_main_v92_1 V0)
theorem val9_main_v92_2 (V0 : Valuation τ sig (Elt F)) : val9 V0 (no_index (Proc.devRef .tc main_v92_2)) = V0 (Proc.devRef .tc main_v92_2) :=
  (val9_keep V0 main_v92_2 (by decide)).trans (val8_main_v92_2 V0)
theorem val9_main_v92_3 (V0 : Valuation τ sig (Elt F)) : val9 V0 (no_index (Proc.devRef .tc main_v92_3)) = V0 (Proc.devRef .tc main_v92_3) :=
  (val9_keep V0 main_v92_3 (by decide)).trans (val8_main_v92_3 V0)
theorem val9_main_v92_4 (V0 : Valuation τ sig (Elt F)) : val9 V0 (no_index (Proc.devRef .tc main_v92_4)) = V0 (Proc.devRef .tc main_v92_4) :=
  (val9_keep V0 main_v92_4 (by decide)).trans (val8_main_v92_4 V0)
theorem val9_main_v92_7 (V0 : Valuation τ sig (Elt F)) : val9 V0 (no_index (Proc.devRef .tc main_v92_7)) = V0 (Proc.devRef .tc main_v92_7) :=
  (val9_keep V0 main_v92_7 (by decide)).trans (val8_main_v92_7 V0)
theorem val9_main_v92_5 (V0 : Valuation τ sig (Elt F)) : val9 V0 (no_index (Proc.devRef .tc main_v92_5)) = V0 (Proc.devRef .tc main_v92_5) :=
  (val9_keep V0 main_v92_5 (by decide)).trans (val8_main_v92_5 V0)
theorem val9_main_v92_8 (V0 : Valuation τ sig (Elt F)) : val9 V0 (no_index (Proc.devRef .tc main_v92_8)) = V0 (Proc.devRef .tc main_v92_8) :=
  (val9_keep V0 main_v92_8 (by decide)).trans (val8_main_v92_8 V0)
set_option maxRecDepth 8192 in
set_option maxHeartbeats 1900000 in
theorem val9_main_while0b_v138 (V0 : Valuation τ sig (Elt F)) : val9 V0 (no_index (Proc.devRef .tc main_while0b_v138)) = res_main_while0b_v138 V0 := by
  unfold val9
  simp only [trip_w8]
  after_results_entrywise [val8_main_while0b_v123, val8_main_while0b_v121, val8_main_while0b_v122, val8_main_v92_7, val8_main_v92_4, res_main_while0b_v138, cast_eq]
set_option maxRecDepth 8192 in
set_option maxHeartbeats 1900000 in
theorem val9_main_while0b_v143 (V0 : Valuation τ sig (Elt F)) : val9 V0 (no_index (Proc.devRef .tc main_while0b_v143)) = addf (Host.dotGeneral dot_S2x2x32x16_S2x2x16_S2x2x32_3_2_2_n_01_01 none (res_main_while0b_v138 V0) (shapeCast S2x2x16 (Host.dynamicSlice S1x2x2x16 (V0 (Proc.devRef .tc main_v92_3)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16)) (mulf (broadcastInDim S2x2x32 ![0, 1, 2] bcast_S1x2x32_S2x2x32_0_1_2 (broadcastInDim S1x2x32 ![1, 2] bcast_S2x32_S1x2x32_1_2 (V0 (Proc.devRef .tc main_v92_5)))) (res_main_while0b_v121 V0)) := by
  unfold val9
  simp only [trip_w8]
  after_results_entrywise [val8_main_while0b_v121, val8_main_v92_5, val8_main_while0b_v124, val8_main_while0b_v123, val8_main_while0b_v122, val8_main_v92_7, val8_main_v92_4, res_main_while0b_v138, cast_eq]

/-- The device's buffer contents after the body's first 10 windows. -/
def val10 (V0 : Valuation τ sig (Elt F)) : Valuation τ sig (Elt F) := after trip_w9 (val9 V0)
/-- The buffers that window `trip_w9`'s operations write. -/
abbrev trip_w9_W : List (Ref sig .tc) := [main_while0b_call6_v0, main_while0b_call6_c, main_while0b_call6_c_0, main_while0b_call6_c_1, main_while0b_v144]
set_option maxRecDepth 8192 in
theorem trip_w9_writes : (trip_w9 : List (HloOp τ sig (Elt F))).Forall fun op => op.writes ⊆ (trip_w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v92_0 (V0 : Valuation τ sig (Elt F)) : val10 V0 (no_index (Proc.devRef .tc main_v92_0)) = V0 (Proc.devRef .tc main_v92_0) :=
  (val10_keep V0 main_v92_0 (by decide)).trans (val9_main_v92_0 V0)
theorem val10_main_v92_6 (V0 : Valuation τ sig (Elt F)) : val10 V0 (no_index (Proc.devRef .tc main_v92_6)) = V0 (Proc.devRef .tc main_v92_6) :=
  (val10_keep V0 main_v92_6 (by decide)).trans (val9_main_v92_6 V0)
theorem val10_main_v92_1 (V0 : Valuation τ sig (Elt F)) : val10 V0 (no_index (Proc.devRef .tc main_v92_1)) = V0 (Proc.devRef .tc main_v92_1) :=
  (val10_keep V0 main_v92_1 (by decide)).trans (val9_main_v92_1 V0)
theorem val10_main_v92_2 (V0 : Valuation τ sig (Elt F)) : val10 V0 (no_index (Proc.devRef .tc main_v92_2)) = V0 (Proc.devRef .tc main_v92_2) :=
  (val10_keep V0 main_v92_2 (by decide)).trans (val9_main_v92_2 V0)
theorem val10_main_v92_3 (V0 : Valuation τ sig (Elt F)) : val10 V0 (no_index (Proc.devRef .tc main_v92_3)) = V0 (Proc.devRef .tc main_v92_3) :=
  (val10_keep V0 main_v92_3 (by decide)).trans (val9_main_v92_3 V0)
theorem val10_main_v92_4 (V0 : Valuation τ sig (Elt F)) : val10 V0 (no_index (Proc.devRef .tc main_v92_4)) = V0 (Proc.devRef .tc main_v92_4) :=
  (val10_keep V0 main_v92_4 (by decide)).trans (val9_main_v92_4 V0)
theorem val10_main_v92_7 (V0 : Valuation τ sig (Elt F)) : val10 V0 (no_index (Proc.devRef .tc main_v92_7)) = V0 (Proc.devRef .tc main_v92_7) :=
  (val10_keep V0 main_v92_7 (by decide)).trans (val9_main_v92_7 V0)
theorem val10_main_v92_5 (V0 : Valuation τ sig (Elt F)) : val10 V0 (no_index (Proc.devRef .tc main_v92_5)) = V0 (Proc.devRef .tc main_v92_5) :=
  (val10_keep V0 main_v92_5 (by decide)).trans (val9_main_v92_5 V0)
theorem val10_main_v92_8 (V0 : Valuation τ sig (Elt F)) : val10 V0 (no_index (Proc.devRef .tc main_v92_8)) = V0 (Proc.devRef .tc main_v92_8) :=
  (val10_keep V0 main_v92_8 (by decide)).trans (val9_main_v92_8 V0)
theorem val10_main_while0b_v138 (V0 : Valuation τ sig (Elt F)) : val10 V0 (no_index (Proc.devRef .tc main_while0b_v138)) = res_main_while0b_v138 V0 :=
  (val10_keep V0 main_while0b_v138 (by decide)).trans (val9_main_while0b_v138 V0)
set_option maxRecDepth 8192 in
theorem val10_main_while0b_v144 (V0 : Valuation τ sig (Elt F)) : val10 V0 (no_index (Proc.devRef .tc main_while0b_v144)) = Host.dynamicUpdateSlice (V0 (Proc.devRef .tc main_v92_8)) (broadcastInDim S1x2x2x32 ![1, 2, 3] bcast_S2x2x32_S1x2x2x32_1_2_3 (addf (Host.dotGeneral dot_S2x2x32x16_S2x2x16_S2x2x32_3_2_2_n_01_01 none (res_main_while0b_v138 V0) (shapeCast S2x2x16 (Host.dynamicSlice S1x2x2x16 (V0 (Proc.devRef .tc main_v92_3)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16)) (mulf (broadcastInDim S2x2x32 ![0, 1, 2] bcast_S1x2x32_S2x2x32_0_1_2 (broadcastInDim S1x2x32 ![1, 2] bcast_S2x32_S1x2x32_1_2 (V0 (Proc.devRef .tc main_v92_5)))) (res_main_while0b_v121 V0)))) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) updateFits_S16384x2x2x32_S1x2x2x32 := by
  unfold val10
  simp only [trip_w9]
  after_results_entrywise [val9_main_v92_6, val9_main_while0b_v143, val9_main_v92_8, cast_eq]

set_option maxRecDepth 8192 in
/-- The body's stretches before `while0Ops0_6`, from any contents: their windows in order. -/
theorem trip_windows (V0 : Valuation τ sig (Elt F)) : after while0Ops0_5 (after while0Ops0_4 (after while0Ops0_3 (after while0Ops0_2 (after while0Ops0_1 (after while0Ops0 (V0)))))) = val10 V0 := by
  simp only [while0Ops0_cut, while0Ops0_1_cut, while0Ops0_2_cut, while0Ops0_3_cut, while0Ops0_4_cut, while0Ops0_5_cut, after_append]
  rfl

set_option maxRecDepth 8192 in
set_option maxHeartbeats 2000000 in
/-- `main_v92_0` after one trip's body, from any contents. -/
theorem trip_main_v92_0 (V0 : Valuation τ sig (Elt F)) : afterL bodyI V0 (no_index (Proc.devRef .tc main_v92_0)) = V0 (Proc.devRef .tc main_v92_0) := by
  simp only [bodyI, afterL_cons, afterL_nil, trip_windows]
  after_results
  all_goals (try simp only [val10_main_while0b_v138, val10_main_while0b_v144, val10_main_v92_0, val10_main_v92_1, val10_main_v92_2, val10_main_v92_3, val10_main_v92_4, val10_main_v92_5, val10_main_v92_6, val10_main_v92_7, val10_main_v92_8]) <;> rfl
set_option maxRecDepth 8192 in
set_option maxHeartbeats 2000000 in
/-- `main_v92_1` after one trip's body, from any contents. -/
theorem trip_main_v92_1 (V0 : Valuation τ sig (Elt F)) : afterL bodyI V0 (no_index (Proc.devRef .tc main_v92_1)) = V0 (Proc.devRef .tc main_v92_1) := by
  simp only [bodyI, afterL_cons, afterL_nil, trip_windows]
  after_results
  all_goals (try simp only [val10_main_while0b_v138, val10_main_while0b_v144, val10_main_v92_0, val10_main_v92_1, val10_main_v92_2, val10_main_v92_3, val10_main_v92_4, val10_main_v92_5, val10_main_v92_6, val10_main_v92_7, val10_main_v92_8]) <;> rfl
set_option maxRecDepth 8192 in
set_option maxHeartbeats 2000000 in
/-- `main_v92_2` after one trip's body, from any contents. -/
theorem trip_main_v92_2 (V0 : Valuation τ sig (Elt F)) : afterL bodyI V0 (no_index (Proc.devRef .tc main_v92_2)) = V0 (Proc.devRef .tc main_v92_2) := by
  simp only [bodyI, afterL_cons, afterL_nil, trip_windows]
  after_results
  all_goals (try simp only [val10_main_while0b_v138, val10_main_while0b_v144, val10_main_v92_0, val10_main_v92_1, val10_main_v92_2, val10_main_v92_3, val10_main_v92_4, val10_main_v92_5, val10_main_v92_6, val10_main_v92_7, val10_main_v92_8]) <;> rfl
set_option maxRecDepth 8192 in
set_option maxHeartbeats 2000000 in
/-- `main_v92_3` after one trip's body, from any contents. -/
theorem trip_main_v92_3 (V0 : Valuation τ sig (Elt F)) : afterL bodyI V0 (no_index (Proc.devRef .tc main_v92_3)) = V0 (Proc.devRef .tc main_v92_3) := by
  simp only [bodyI, afterL_cons, afterL_nil, trip_windows]
  after_results
  all_goals (try simp only [val10_main_while0b_v138, val10_main_while0b_v144, val10_main_v92_0, val10_main_v92_1, val10_main_v92_2, val10_main_v92_3, val10_main_v92_4, val10_main_v92_5, val10_main_v92_6, val10_main_v92_7, val10_main_v92_8]) <;> rfl
set_option maxRecDepth 8192 in
set_option maxHeartbeats 2000000 in
/-- `main_v92_4` after one trip's body, from any contents. -/
theorem trip_main_v92_4 (V0 : Valuation τ sig (Elt F)) : afterL bodyI V0 (no_index (Proc.devRef .tc main_v92_4)) = V0 (Proc.devRef .tc main_v92_4) := by
  simp only [bodyI, afterL_cons, afterL_nil, trip_windows]
  after_results
  all_goals (try simp only [val10_main_while0b_v138, val10_main_while0b_v144, val10_main_v92_0, val10_main_v92_1, val10_main_v92_2, val10_main_v92_3, val10_main_v92_4, val10_main_v92_5, val10_main_v92_6, val10_main_v92_7, val10_main_v92_8]) <;> rfl
set_option maxRecDepth 8192 in
set_option maxHeartbeats 2000000 in
/-- `main_v92_5` after one trip's body, from any contents. -/
theorem trip_main_v92_5 (V0 : Valuation τ sig (Elt F)) : afterL bodyI V0 (no_index (Proc.devRef .tc main_v92_5)) = V0 (Proc.devRef .tc main_v92_5) := by
  simp only [bodyI, afterL_cons, afterL_nil, trip_windows]
  after_results
  all_goals (try simp only [val10_main_while0b_v138, val10_main_while0b_v144, val10_main_v92_0, val10_main_v92_1, val10_main_v92_2, val10_main_v92_3, val10_main_v92_4, val10_main_v92_5, val10_main_v92_6, val10_main_v92_7, val10_main_v92_8]) <;> rfl
set_option maxRecDepth 8192 in
set_option maxHeartbeats 2000000 in
/-- `main_v92_6` after one trip's body, from any contents. -/
theorem trip_main_v92_6 (V0 : Valuation τ sig (Elt F)) : afterL bodyI V0 (no_index (Proc.devRef .tc main_v92_6)) = id (addi (V0 (Proc.devRef .tc main_v92_6)) (constantI S_ 32 1#32)) := by
  simp only [bodyI, afterL_cons, afterL_nil, trip_windows]
  after_results
  all_goals (try simp only [val10_main_while0b_v138, val10_main_while0b_v144, val10_main_v92_0, val10_main_v92_1, val10_main_v92_2, val10_main_v92_3, val10_main_v92_4, val10_main_v92_5, val10_main_v92_6, val10_main_v92_7, val10_main_v92_8]) <;> rfl
set_option maxRecDepth 8192 in
set_option maxHeartbeats 2000000 in
/-- `main_v92_7` after one trip's body, from any contents. -/
theorem trip_main_v92_7 (V0 : Valuation τ sig (Elt F)) : afterL bodyI V0 (no_index (Proc.devRef .tc main_v92_7)) = id (res_main_while0b_v138 V0) := by
  simp only [bodyI, afterL_cons, afterL_nil, trip_windows]
  after_results
  all_goals (try simp only [val10_main_while0b_v138, val10_main_while0b_v144, val10_main_v92_0, val10_main_v92_1, val10_main_v92_2, val10_main_v92_3, val10_main_v92_4, val10_main_v92_5, val10_main_v92_6, val10_main_v92_7, val10_main_v92_8]) <;> rfl
set_option maxRecDepth 8192 in
set_option maxHeartbeats 2000000 in
/-- `main_v92_8` after one trip's body, from any contents. -/
theorem trip_main_v92_8 (V0 : Valuation τ sig (Elt F)) : afterL bodyI V0 (no_index (Proc.devRef .tc main_v92_8)) = id (Host.dynamicUpdateSlice (V0 (Proc.devRef .tc main_v92_8)) (broadcastInDim S1x2x2x32 ![1, 2, 3] bcast_S2x2x32_S1x2x2x32_1_2_3 (addf (Host.dotGeneral dot_S2x2x32x16_S2x2x16_S2x2x32_3_2_2_n_01_01 none (res_main_while0b_v138 V0) (shapeCast S2x2x16 (Host.dynamicSlice S1x2x2x16 (V0 (Proc.devRef .tc main_v92_3)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16)) (mulf (broadcastInDim S2x2x32 ![0, 1, 2] bcast_S1x2x32_S2x2x32_0_1_2 (broadcastInDim S1x2x32 ![1, 2] bcast_S2x32_S1x2x32_1_2 (V0 (Proc.devRef .tc main_v92_5)))) (res_main_while0b_v121 V0)))) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) updateFits_S16384x2x2x32_S1x2x2x32) := by
  simp only [bodyI, afterL_cons, afterL_nil, trip_windows]
  after_results
  all_goals (try simp only [val10_main_while0b_v138, val10_main_while0b_v144, val10_main_v92_0, val10_main_v92_1, val10_main_v92_2, val10_main_v92_3, val10_main_v92_4, val10_main_v92_5, val10_main_v92_6, val10_main_v92_7, val10_main_v92_8]) <;> rfl

/-- The loop's carried buffers. -/
abbrev carriedRefs : List (Ref sig .tc) := [main_v92_0, main_v92_1, main_v92_2, main_v92_3, main_v92_4, main_v92_5, main_v92_6, main_v92_7, main_v92_8]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v121_congr {V0 V0' : Valuation τ sig (Elt F)} (h : Agree V0 V0') : res_main_while0b_v121 V0 = res_main_while0b_v121 V0' := by
  unfold res_main_while0b_v121
  rw [h main_v92_0 (by decide), h main_v92_6 (by decide)]
set_option maxRecDepth 8192 in
theorem res_main_while0b_v122_congr {V0 V0' : Valuation τ sig (Elt F)} (h : Agree V0 V0') : res_main_while0b_v122 V0 = res_main_while0b_v122 V0' := by
  unfold res_main_while0b_v122
  rw [h main_v92_1 (by decide), h main_v92_6 (by decide)]
set_option maxRecDepth 8192 in
theorem res_main_while0b_v138_congr {V0 V0' : Valuation τ sig (Elt F)} (h : Agree V0 V0') : res_main_while0b_v138 V0 = res_main_while0b_v138 V0' := by
  unfold res_main_while0b_v138
  rw [res_main_while0b_v122_congr h, res_main_while0b_v121_congr h, h main_v92_4 (by decide), h main_v92_7 (by decide), h main_v92_2 (by decide), h main_v92_6 (by decide)]

set_option maxRecDepth 8192 in
/-- `main_v92_6` after one trip, of the contents before it. -/
def step_main_v92_6 (V0 : Valuation τ sig (Elt F)) : (Proc.devRef .tc main_v92_6 : DevRef τ sig).ty.Contents (Elt F) :=
  id (addi (V0 (Proc.devRef .tc main_v92_6)) (constantI S_ 32 1#32))
set_option maxRecDepth 8192 in
theorem step_main_v92_6_congr {V0 V0' : Valuation τ sig (Elt F)} (h : Agree V0 V0') : step_main_v92_6 V0 = step_main_v92_6 V0' := by
  unfold step_main_v92_6
  rw [h main_v92_6 (by decide)]
set_option maxRecDepth 8192 in
/-- `main_v92_7` after one trip, of the contents before it. -/
def step_main_v92_7 (V0 : Valuation τ sig (Elt F)) : (Proc.devRef .tc main_v92_7 : DevRef τ sig).ty.Contents (Elt F) :=
  id (res_main_while0b_v138 V0)
set_option maxRecDepth 8192 in
theorem step_main_v92_7_congr {V0 V0' : Valuation τ sig (Elt F)} (h : Agree V0 V0') : step_main_v92_7 V0 = step_main_v92_7 V0' := by
  unfold step_main_v92_7
  rw [res_main_while0b_v138_congr h]
set_option maxRecDepth 8192 in
/-- `main_v92_8` after one trip, of the contents before it. -/
def step_main_v92_8 (V0 : Valuation τ sig (Elt F)) : (Proc.devRef .tc main_v92_8 : DevRef τ sig).ty.Contents (Elt F) :=
  id (Host.dynamicUpdateSlice (V0 (Proc.devRef .tc main_v92_8)) (broadcastInDim S1x2x2x32 ![1, 2, 3] bcast_S2x2x32_S1x2x2x32_1_2_3 (addf (Host.dotGeneral dot_S2x2x32x16_S2x2x16_S2x2x32_3_2_2_n_01_01 none (res_main_while0b_v138 V0) (shapeCast S2x2x16 (Host.dynamicSlice S1x2x2x16 (V0 (Proc.devRef .tc main_v92_3)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16)) (mulf (broadcastInDim S2x2x32 ![0, 1, 2] bcast_S1x2x32_S2x2x32_0_1_2 (broadcastInDim S1x2x32 ![1, 2] bcast_S2x32_S1x2x32_1_2 (V0 (Proc.devRef .tc main_v92_5)))) (res_main_while0b_v121 V0)))) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) updateFits_S16384x2x2x32_S1x2x2x32)
set_option maxRecDepth 8192 in
theorem step_main_v92_8_congr {V0 V0' : Valuation τ sig (Elt F)} (h : Agree V0 V0') : step_main_v92_8 V0 = step_main_v92_8 V0' := by
  unfold step_main_v92_8
  rw [res_main_while0b_v138_congr h, res_main_while0b_v121_congr h, h main_v92_8 (by decide), h main_v92_3 (by decide), h main_v92_6 (by decide), h main_v92_5 (by decide)]

/-- ONE TRIP on the carried buffers: the buffers the body writes step, everything else is as it was. -/
def STEP (V0 : Valuation τ sig (Elt F)) : Valuation τ sig (Elt F) :=
  Function.update (Function.update (Function.update (V0) (Proc.devRef .tc main_v92_6) (step_main_v92_6 V0)) (Proc.devRef .tc main_v92_7) (step_main_v92_7 V0)) (Proc.devRef .tc main_v92_8) (step_main_v92_8 V0)

theorem STEP_main_v92_0 (V0 : Valuation τ sig (Elt F)) : STEP V0 (Proc.devRef .tc main_v92_0) = V0 (Proc.devRef .tc main_v92_0) := by
  unfold STEP; rw [Function.update_of_ne (devRef_ne_of_ne (by decide))]; rw [Function.update_of_ne (devRef_ne_of_ne (by decide))]; rw [Function.update_of_ne (devRef_ne_of_ne (by decide))]
theorem STEP_main_v92_1 (V0 : Valuation τ sig (Elt F)) : STEP V0 (Proc.devRef .tc main_v92_1) = V0 (Proc.devRef .tc main_v92_1) := by
  unfold STEP; rw [Function.update_of_ne (devRef_ne_of_ne (by decide))]; rw [Function.update_of_ne (devRef_ne_of_ne (by decide))]; rw [Function.update_of_ne (devRef_ne_of_ne (by decide))]
theorem STEP_main_v92_2 (V0 : Valuation τ sig (Elt F)) : STEP V0 (Proc.devRef .tc main_v92_2) = V0 (Proc.devRef .tc main_v92_2) := by
  unfold STEP; rw [Function.update_of_ne (devRef_ne_of_ne (by decide))]; rw [Function.update_of_ne (devRef_ne_of_ne (by decide))]; rw [Function.update_of_ne (devRef_ne_of_ne (by decide))]
theorem STEP_main_v92_3 (V0 : Valuation τ sig (Elt F)) : STEP V0 (Proc.devRef .tc main_v92_3) = V0 (Proc.devRef .tc main_v92_3) := by
  unfold STEP; rw [Function.update_of_ne (devRef_ne_of_ne (by decide))]; rw [Function.update_of_ne (devRef_ne_of_ne (by decide))]; rw [Function.update_of_ne (devRef_ne_of_ne (by decide))]
theorem STEP_main_v92_4 (V0 : Valuation τ sig (Elt F)) : STEP V0 (Proc.devRef .tc main_v92_4) = V0 (Proc.devRef .tc main_v92_4) := by
  unfold STEP; rw [Function.update_of_ne (devRef_ne_of_ne (by decide))]; rw [Function.update_of_ne (devRef_ne_of_ne (by decide))]; rw [Function.update_of_ne (devRef_ne_of_ne (by decide))]
theorem STEP_main_v92_5 (V0 : Valuation τ sig (Elt F)) : STEP V0 (Proc.devRef .tc main_v92_5) = V0 (Proc.devRef .tc main_v92_5) := by
  unfold STEP; rw [Function.update_of_ne (devRef_ne_of_ne (by decide))]; rw [Function.update_of_ne (devRef_ne_of_ne (by decide))]; rw [Function.update_of_ne (devRef_ne_of_ne (by decide))]
theorem STEP_main_v92_6 (V0 : Valuation τ sig (Elt F)) : STEP V0 (Proc.devRef .tc main_v92_6) = step_main_v92_6 V0 := by
  unfold STEP; rw [Function.update_of_ne (devRef_ne_of_ne (by decide))]; rw [Function.update_of_ne (devRef_ne_of_ne (by decide))]; rw [Function.update_self]
theorem STEP_main_v92_7 (V0 : Valuation τ sig (Elt F)) : STEP V0 (Proc.devRef .tc main_v92_7) = step_main_v92_7 V0 := by
  unfold STEP; rw [Function.update_of_ne (devRef_ne_of_ne (by decide))]; rw [Function.update_self]
theorem STEP_main_v92_8 (V0 : Valuation τ sig (Elt F)) : STEP V0 (Proc.devRef .tc main_v92_8) = step_main_v92_8 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v92_0 (after condOps X)).trans ((hc main_v92_0 (by decide)).trans (STEP_main_v92_0 X).symm)
  · exact (trip_main_v92_1 (after condOps X)).trans ((hc main_v92_1 (by decide)).trans (STEP_main_v92_1 X).symm)
  · exact (trip_main_v92_2 (after condOps X)).trans ((hc main_v92_2 (by decide)).trans (STEP_main_v92_2 X).symm)
  · exact (trip_main_v92_3 (after condOps X)).trans ((hc main_v92_3 (by decide)).trans (STEP_main_v92_3 X).symm)
  · exact (trip_main_v92_4 (after condOps X)).trans ((hc main_v92_4 (by decide)).trans (STEP_main_v92_4 X).symm)
  · exact (trip_main_v92_5 (after condOps X)).trans ((hc main_v92_5 (by decide)).trans (STEP_main_v92_5 X).symm)
  · exact (trip_main_v92_6 (after condOps X)).trans ((step_main_v92_6_congr hc).trans (STEP_main_v92_6 X).symm)
  · exact (trip_main_v92_7 (after condOps X)).trans ((step_main_v92_7_congr hc).trans (STEP_main_v92_7 X).symm)
  · exact (trip_main_v92_8 (after condOps X)).trans ((step_main_v92_8_congr hc).trans (STEP_main_v92_8 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v92_0, STEP_main_v92_0]; exact h main_v92_0 (by decide)
  · rw [STEP_main_v92_1, STEP_main_v92_1]; exact h main_v92_1 (by decide)
  · rw [STEP_main_v92_2, STEP_main_v92_2]; exact h main_v92_2 (by decide)
  · rw [STEP_main_v92_3, STEP_main_v92_3]; exact h main_v92_3 (by decide)
  · rw [STEP_main_v92_4, STEP_main_v92_4]; exact h main_v92_4 (by decide)
  · rw [STEP_main_v92_5, STEP_main_v92_5]; exact h main_v92_5 (by decide)
  · rw [STEP_main_v92_6, STEP_main_v92_6]; exact step_main_v92_6_congr h
  · rw [STEP_main_v92_7, STEP_main_v92_7]; exact step_main_v92_7_congr h
  · rw [STEP_main_v92_8, STEP_main_v92_8]; exact step_main_v92_8_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

end Cert.ReferenceIdeal.Value

end
-- ==== Proof.Ref.Run.lean ====
/- The run of the reference program: the arguments stay, and the result is read off the loop's last state. -/
module

public import proofs.«01_k».proof.Proof.Ref.Trip
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 2084

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
variable (m : (ℓ : Loc nD τ sig) → Buf (Elt F) ℓ) (ρ : Dev nD → PrngReg)

/-! ## What stays -/

/-- The references that each stretch writes. -/
def writes : List (List (Ref sig .tc)) :=
  [hostOps0_W, hostOps0_1_W, hostOps0_2_W, hostOps0_3_W, hostOps0_4_W, hostOps0_5_W, hostOps0_6_W, hostOps0_7_W, condOps_W, while0Ops0_W, while0Ops0_1_W, while0Ops0_2_W, while0Ops0_3_W, while0Ops0_4_W, while0Ops0_5_W, while0Ops0_6_W]

/-- The arguments. -/
def args : List (Ref sig .tc) := [main_arg0, main_arg1, main_arg2, main_arg3, main_arg4, main_arg5, main_arg6, main_arg7, main_arg8, main_arg9, main_arg10]

/-- No stretch writes an argument. -/
theorem args_kept : ∀ r ∈ args, r ∉ writes.flatten := by decide +kernel

variable {r : Ref sig .tc}

/-- A stretch keeps what no stretch writes. -/
theorem keep (hr : r ∉ writes.flatten) {ops : List (HloOp τ sig (Elt F))} {W : List (Ref sig .tc)}
    (h : ops.Forall fun op => op.writes ⊆ (W.map (Proc.devRef (τ := τ) .tc)).toFinset) (V : Valuation τ sig (Elt F))
    (hW : W ∈ writes := by simp only [writes, List.mem_cons, true_or, or_true]) :
    after ops V (Proc.devRef .tc r) = V (Proc.devRef .tc r) :=
  after_of_writes_sub ops V h fun hm => hr (List.mem_flatten.mpr ⟨W, hW, hm⟩)

/-- What no stretch writes holds its launch contents before every condition. -/
theorem atK_kept (hr : r ∉ writes.flatten) (c : Dev nD) : ∀ k, atK m k c (Proc.devRef .tc r) = m ((c.tc : Thread nD τ).loc r)
  | 0 => by
    rw [show atK m 0 c = entryContents preI m c from rfl]
    simp only [entryContents, afterL_cons, afterL_nil]
    rw [keep hr hostOps0_4_writes, keep hr hostOps0_3_writes, keep hr hostOps0_2_writes, keep hr hostOps0_1_writes, keep hr hostOps0_writes]
  | k + 1 => by
    rw [show atK m (k + 1) c = afterL bodyI (after condOps (atK m k c)) from rfl]
    simp only [afterL_cons, afterL_nil]
    rw [keep hr while0Ops0_6_writes, keep hr while0Ops0_5_writes, keep hr while0Ops0_4_writes, keep hr while0Ops0_3_writes, keep hr while0Ops0_2_writes, keep hr while0Ops0_1_writes, keep hr while0Ops0_writes, keep hr condOps_writes, atK_kept hr c k]

/-- The condition and the operations after the loop keep it too. -/
theorem end_kept (hr : r ∉ writes.flatten) (c : Dev nD) :
    afterL postI (after condOps (atK m 16384 c)) (Proc.devRef .tc r) = m ((c.tc : Thread nD τ).loc r) := by
  simp only [postI, afterL_cons, afterL_nil]
  rw [keep hr hostOps0_7_writes, keep hr hostOps0_6_writes, keep hr hostOps0_5_writes, keep hr condOps_writes, atK_kept m hr c]

/-- `STEP` iterated on the loop's entry leaves it as the launch has it. -/
theorem iter_kept (hr : r ∉ writes.flatten) (c : Dev nD) :
    ∀ k, (STEP^[k] (entryContents preI m c)) (Proc.devRef .tc r) = m ((c.tc : Thread nD τ).loc r)
  | 0 => by rw [Function.iterate_zero, id_eq, ← atTrip_zero condOps bodyI (entryContents preI m)]; exact atK_kept m hr c 0
  | k + 1 => by
    have hn : ∀ {b : Ref sig .tc}, b ∈ writes.flatten → r ≠ b := fun hb e => hr (e ▸ hb)
    rw [Function.iterate_succ_apply']
    unfold STEP
    rw [Function.update_of_ne (devRef_ne_of_ne (hn (by decide +kernel))), Function.update_of_ne (devRef_ne_of_ne (hn (by decide +kernel))),
      Function.update_of_ne (devRef_ne_of_ne (hn (by decide +kernel)))]
    exact iter_kept hr c k

/-! ## After the loop -/

set_option maxRecDepth 8192 in
/-- `main_v120`, which the operations after the loop make, of the contents they start from. -/
def out_main_v120 (V0 : Valuation τ sig (Elt F)) : (Proc.devRef .tc main_v120 : DevRef τ sig).ty.Contents (Elt F) :=
  addf (mulf (Host.divf (subf (shapeCast _ (addf (shapeCast _ (extractStridedSlice S2x1x32x16384 ![0, 0, 0, 0] (transpose S2x2x32x16384 [1, 2, 3, 0] (V0 (Proc.devRef .tc main_v92_8)) transposes_S16384x2x2x32_S2x2x32x16384_1_2_3_0) slices_S2x2x32x16384_S2x1x32x16384_0_0_0_0) shapeCasts_S2x1x32x16384_S2x32x16384) (shapeCast _ (transpose S2x32x128x128 [0, 1, 3, 2] (shapeCast _ (shapeCast _ (extractStridedSlice S2x1x32x16384 ![0, 1, 0, 0] (transpose S2x2x32x16384 [1, 2, 3, 0] (V0 (Proc.devRef .tc main_v92_8)) transposes_S16384x2x2x32_S2x2x32x16384_1_2_3_0) slices_S2x2x32x16384_S2x1x32x16384_0_1_0_0) shapeCasts_S2x1x32x16384_S2x32x16384) shapeCasts_S2x32x16384_S2x32x128x128) transposes_S2x32x128x128_S2x32x128x128_0_1_3_2) shapeCasts_S2x32x128x128_S2x32x16384)) shapeCasts_S2x32x16384_S2x32x128x128) (broadcastInDim S2x32x128x128 ![0, 1, 2, 3] bcast_S2x1x128x128_S2x32x128x128_0_1_2_3 (Host.divf (broadcastInDim S2x1x128x128 ![0, 2, 3] bcast_S2x128x128_S2x1x128x128_0_2_3 (Host.reduceAdd (shapeCast _ (addf (shapeCast _ (extractStridedSlice S2x1x32x16384 ![0, 0, 0, 0] (transpose S2x2x32x16384 [1, 2, 3, 0] (V0 (Proc.devRef .tc main_v92_8)) transposes_S16384x2x2x32_S2x2x32x16384_1_2_3_0) slices_S2x2x32x16384_S2x1x32x16384_0_0_0_0) shapeCasts_S2x1x32x16384_S2x32x16384) (shapeCast _ (transpose S2x32x128x128 [0, 1, 3, 2] (shapeCast _ (shapeCast _ (extractStridedSlice S2x1x32x16384 ![0, 1, 0, 0] (transpose S2x2x32x16384 [1, 2, 3, 0] (V0 (Proc.devRef .tc main_v92_8)) transposes_S16384x2x2x32_S2x2x32x16384_1_2_3_0) slices_S2x2x32x16384_S2x1x32x16384_0_1_0_0) shapeCasts_S2x1x32x16384_S2x32x16384) shapeCasts_S2x32x16384_S2x32x128x128) transposes_S2x32x128x128_S2x32x128x128_0_1_3_2) shapeCasts_S2x32x128x128_S2x32x16384)) shapeCasts_S2x32x16384_S2x32x128x128) (constant (F := F) S_ .f32 0x00000000#32) reducesTo_S2x32x128x128_S2x128x128_d1 h_S_)) (broadcastInDim S2x1x128x128 ![] bcast_S_S2x1x128x128 (constant (F := F) S_ .f32 0x42000000#32))))) (broadcastInDim S2x32x128x128 ![0, 1, 2, 3] bcast_S2x1x128x128_S2x32x128x128_0_1_2_3 (Host.sqrt (addf (select (broadcastInDim S2x1x128x128 ![] bcast_S_S2x1x128x128 (cmpf .ogt (subf (constant (F := F) S_ .f32 0x42000000#32) (sitofp (F := F) .f32 (constantI S_ 32 0#32))) (constant (F := F) S_ .f32 0x00000000#32))) (Host.divf (broadcastInDim S2x1x128x128 ![0, 2, 3] bcast_S2x128x128_S2x1x128x128_0_2_3 (Host.reduceAdd (mulf (subf (shapeCast _ (addf (shapeCast _ (extractStridedSlice S2x1x32x16384 ![0, 0, 0, 0] (transpose S2x2x32x16384 [1, 2, 3, 0] (V0 (Proc.devRef .tc main_v92_8)) transposes_S16384x2x2x32_S2x2x32x16384_1_2_3_0) slices_S2x2x32x16384_S2x1x32x16384_0_0_0_0) shapeCasts_S2x1x32x16384_S2x32x16384) (shapeCast _ (transpose S2x32x128x128 [0, 1, 3, 2] (shapeCast _ (shapeCast _ (extractStridedSlice S2x1x32x16384 ![0, 1, 0, 0] (transpose S2x2x32x16384 [1, 2, 3, 0] (V0 (Proc.devRef .tc main_v92_8)) transposes_S16384x2x2x32_S2x2x32x16384_1_2_3_0) slices_S2x2x32x16384_S2x1x32x16384_0_1_0_0) shapeCasts_S2x1x32x16384_S2x32x16384) shapeCasts_S2x32x16384_S2x32x128x128) transposes_S2x32x128x128_S2x32x128x128_0_1_3_2) shapeCasts_S2x32x128x128_S2x32x16384)) shapeCasts_S2x32x16384_S2x32x128x128) (broadcastInDim S2x32x128x128 ![0, 1, 2, 3] bcast_S2x1x128x128_S2x32x128x128_0_1_2_3 (Host.divf (broadcastInDim S2x1x128x128 ![0, 2, 3] bcast_S2x128x128_S2x1x128x128_0_2_3 (Host.reduceAdd (shapeCast _ (addf (shapeCast _ (extractStridedSlice S2x1x32x16384 ![0, 0, 0, 0] (transpose S2x2x32x16384 [1, 2, 3, 0] (V0 (Proc.devRef .tc main_v92_8)) transposes_S16384x2x2x32_S2x2x32x16384_1_2_3_0) slices_S2x2x32x16384_S2x1x32x16384_0_0_0_0) shapeCasts_S2x1x32x16384_S2x32x16384) (shapeCast _ (transpose S2x32x128x128 [0, 1, 3, 2] (shapeCast _ (shapeCast _ (extractStridedSlice S2x1x32x16384 ![0, 1, 0, 0] (transpose S2x2x32x16384 [1, 2, 3, 0] (V0 (Proc.devRef .tc main_v92_8)) transposes_S16384x2x2x32_S2x2x32x16384_1_2_3_0) slices_S2x2x32x16384_S2x1x32x16384_0_1_0_0) shapeCasts_S2x1x32x16384_S2x32x16384) shapeCasts_S2x32x16384_S2x32x128x128) transposes_S2x32x128x128_S2x32x128x128_0_1_3_2) shapeCasts_S2x32x128x128_S2x32x16384)) shapeCasts_S2x32x16384_S2x32x128x128) (constant (F := F) S_ .f32 0x00000000#32) reducesTo_S2x32x128x128_S2x128x128_d1 h_S_)) (broadcastInDim S2x1x128x128 ![] bcast_S_S2x1x128x128 (constant (F := F) S_ .f32 0x42000000#32))))) (subf (shapeCast _ (addf (shapeCast _ (extractStridedSlice S2x1x32x16384 ![0, 0, 0, 0] (transpose S2x2x32x16384 [1, 2, 3, 0] (V0 (Proc.devRef .tc main_v92_8)) transposes_S16384x2x2x32_S2x2x32x16384_1_2_3_0) slices_S2x2x32x16384_S2x1x32x16384_0_0_0_0) shapeCasts_S2x1x32x16384_S2x32x16384) (shapeCast _ (transpose S2x32x128x128 [0, 1, 3, 2] (shapeCast _ (shapeCast _ (extractStridedSlice S2x1x32x16384 ![0, 1, 0, 0] (transpose S2x2x32x16384 [1, 2, 3, 0] (V0 (Proc.devRef .tc main_v92_8)) transposes_S16384x2x2x32_S2x2x32x16384_1_2_3_0) slices_S2x2x32x16384_S2x1x32x16384_0_1_0_0) shapeCasts_S2x1x32x16384_S2x32x16384) shapeCasts_S2x32x16384_S2x32x128x128) transposes_S2x32x128x128_S2x32x128x128_0_1_3_2) shapeCasts_S2x32x128x128_S2x32x16384)) shapeCasts_S2x32x16384_S2x32x128x128) (broadcastInDim S2x32x128x128 ![0, 1, 2, 3] bcast_S2x1x128x128_S2x32x128x128_0_1_2_3 (Host.divf (broadcastInDim S2x1x128x128 ![0, 2, 3] bcast_S2x128x128_S2x1x128x128_0_2_3 (Host.reduceAdd (shapeCast _ (addf (shapeCast _ (extractStridedSlice S2x1x32x16384 ![0, 0, 0, 0] (transpose S2x2x32x16384 [1, 2, 3, 0] (V0 (Proc.devRef .tc main_v92_8)) transposes_S16384x2x2x32_S2x2x32x16384_1_2_3_0) slices_S2x2x32x16384_S2x1x32x16384_0_0_0_0) shapeCasts_S2x1x32x16384_S2x32x16384) (shapeCast _ (transpose S2x32x128x128 [0, 1, 3, 2] (shapeCast _ (shapeCast _ (extractStridedSlice S2x1x32x16384 ![0, 1, 0, 0] (transpose S2x2x32x16384 [1, 2, 3, 0] (V0 (Proc.devRef .tc main_v92_8)) transposes_S16384x2x2x32_S2x2x32x16384_1_2_3_0) slices_S2x2x32x16384_S2x1x32x16384_0_1_0_0) shapeCasts_S2x1x32x16384_S2x32x16384) shapeCasts_S2x32x16384_S2x32x128x128) transposes_S2x32x128x128_S2x32x128x128_0_1_3_2) shapeCasts_S2x32x128x128_S2x32x16384)) shapeCasts_S2x32x16384_S2x32x128x128) (constant (F := F) S_ .f32 0x00000000#32) reducesTo_S2x32x128x128_S2x128x128_d1 h_S_)) (broadcastInDim S2x1x128x128 ![] bcast_S_S2x1x128x128 (constant (F := F) S_ .f32 0x42000000#32)))))) (constant (F := F) S_ .f32 0x00000000#32) reducesTo_S2x32x128x128_S2x128x128_d1 h_S_)) (broadcastInDim S2x1x128x128 ![] bcast_S_S2x1x128x128 (subf (constant (F := F) S_ .f32 0x42000000#32) (sitofp (F := F) .f32 (constantI S_ 32 0#32))))) (broadcastInDim S2x1x128x128 ![] bcast_S_S2x1x128x128 (id (constant (F := F) S_ .f32 0x7FC00000#32)))) (broadcastInDim S2x1x128x128 ![] bcast_S_S2x1x128x128 (constant (F := F) S_ .f32 0x3727C5AC#32)))))) (broadcastInDim S2x32x128x128 ![0, 1, 2, 3] bcast_S1x32x1x1_S2x32x128x128_0_1_2_3 (broadcastInDim S1x32x1x1 ![1] bcast_S32_S1x32x1x1_1 (V0 (Proc.devRef .tc main_arg9))))) (broadcastInDim S2x32x128x128 ![0, 1, 2, 3] bcast_S1x32x1x1_S2x32x128x128_0_1_2_3 (broadcastInDim S1x32x1x1 ![1] bcast_S32_S1x32x1x1_1 (V0 (Proc.devRef .tc main_arg10))))
set_option maxRecDepth 8192 in
set_option maxHeartbeats 2000000 in
theorem post_main_v120 (V0 : Valuation τ sig (Elt F)) : afterL postI V0 (no_index (Proc.devRef .tc main_v120)) = out_main_v120 V0 := by
  unfold out_main_v120
  simp only [postI, afterL_cons, afterL_nil, hostOps0_5, hostOps0_6, hostOps0_7]
  after_results_entrywise []
set_option maxRecDepth 8192 in
theorem out_main_v120_congr {V0 V0' : Valuation τ sig (Elt F)} (h : Agree V0 V0') (h_main_arg9 : V0 (Proc.devRef .tc main_arg9) = V0' (Proc.devRef .tc main_arg9)) (h_main_arg10 : V0 (Proc.devRef .tc main_arg10) = V0' (Proc.devRef .tc main_arg10)) : out_main_v120 V0 = out_main_v120 V0' := by
  unfold out_main_v120
  rw [h main_v92_8 (by decide), h_main_arg9, h_main_arg10]
/-- THE RUN: on every device, for any float values, from any memory with zero counters, every weakly fair execution
    of @main terminates with each result at its component of `STEP` iterated 16384 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v120) = out_main_v120 (STEP^[16384] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have stay : ∀ r ∈ args, afterL postI (after condOps (atK m 16384 c)) (Proc.devRef .tc r) = m ((c.tc : Thread nD τ).loc r) :=
      fun r hr => end_kept m (args_kept r hr) c
    have same : ∀ r ∈ args, after condOps (atK m 16384 c) (Proc.devRef .tc r) = (STEP^[16384] (entryContents preI m c)) (Proc.devRef .tc r) :=
      fun r hr => (keep (args_kept r hr) condOps_writes _).trans ((atK_kept m (args_kept r hr) c 16384).trans (iter_kept m (args_kept r hr) c 16384).symm)
    ⟨(h c main_v120 rfl).trans ((post_main_v120 _).trans (out_main_v120_congr (fun j hj => (cond_keeps _ j hj).trans (atK_agree m c 16384 j hj))
        (same main_arg9 (by decide)) (same main_arg10 (by decide)))),
      (h c main_arg0 rfl).trans (stay main_arg0 (by decide)),
      (h c main_arg1 rfl).trans (stay main_arg1 (by decide)),
      (h c main_arg2 rfl).trans (stay main_arg2 (by decide)),
      (h c main_arg3 rfl).trans (stay main_arg3 (by decide)),
      (h c main_arg4 rfl).trans (stay main_arg4 (by decide)),
      (h c main_arg5 rfl).trans (stay main_arg5 (by decide)),
      (h c main_arg6 rfl).trans (stay main_arg6 (by decide)),
      (h c main_arg7 rfl).trans (stay main_arg7 (by decide)),
      (h c main_arg8 rfl).trans (stay main_arg8 (by decide)),
      (h c main_arg9 rfl).trans (stay main_arg9 (by decide)),
      (h c main_arg10 rfl).trans (stay main_arg10 (by decide))⟩) (run_fold m ρ)

end Cert.ReferenceIdeal.Value

end
-- ==== Proof.Ref.Step.lean ====
/- One trip of the reference's loop as definitions of its own: the state, the values made before the loop, the step. -/
module

public import proofs.«01_k».proof.ReferenceIdeal
public import proofs.«01_k».proof.Proof.Gen.ReferenceIdeal

@[expose] public section

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v92_7 : (⟨S2x2x32x16, .f32⟩ : BufTy).Contents (Elt F)
  main_v92_8 : (⟨S16384x2x2x32, .f32⟩ : BufTy).Contents (Elt F)
  main_v92_0 : (⟨S16384x2x2x32, .f32⟩ : BufTy).Contents (Elt F)
  main_v92_1 : (⟨S16384x2x2x32, .f32⟩ : BufTy).Contents (Elt F)
  main_v92_2 : (⟨S16384x2x2x16, .f32⟩ : BufTy).Contents (Elt F)
  main_v92_3 : (⟨S16384x2x2x16, .f32⟩ : BufTy).Contents (Elt F)
  main_v92_4 : (⟨S2x32x16, .f32⟩ : BufTy).Contents (Elt F)
  main_v92_5 : (⟨S2x32, .f32⟩ : BufTy).Contents (Elt F)

/-! What @main computes before the loop without reading an argument. -/

def K_main_cst : (⟨S128x64, .f32⟩ : BufTy).Contents (Elt F) := fun i => FloatOps.ofBits .f32 (lit0 (S128x64.rowMajor i))
def K_main_cst_0 : (⟨S128x64, .f32⟩ : BufTy).Contents (Elt F) := fun i => FloatOps.ofBits .f32 (lit1 (S128x64.rowMajor i))
def K_main_c : (⟨S_, .i32⟩ : BufTy).Contents (Elt F) := constantI S_ 32 0#32
def K_main_call0_v0 : (⟨S_, .f32⟩ : BufTy).Contents (Elt F) := sitofp .f32 ((K_main_c (F := F)))
def K_main_cst_1 : (⟨S_, .f32⟩ : BufTy).Contents (Elt F) := constant S_ .f32 0x00000000#32
def K_main_v12 : (⟨S2x32x128x128, .f32⟩ : BufTy).Contents (Elt F) := broadcastInDim S2x32x128x128 ![] bcast_S_S2x32x128x128 ((K_main_cst_1 (F := F)))
def K_main_call1_cst : (⟨S_, .f32⟩ : BufTy).Contents (Elt F) := constant S_ .f32 0x00000000#32
def K_main_call1_v0 : (⟨S2x2x32x16384, .f32⟩ : BufTy).Contents (Elt F) := broadcastInDim S2x2x32x16384 ![] bcast_S_S2x2x32x16384 ((K_main_call1_cst (F := F)))
def K_main_call1_v2 : (⟨S2x2x32x16384, .f32⟩ : BufTy).Contents (Elt F) := broadcastInDim S2x2x32x16384 ![] bcast_S_S2x2x32x16384 ((K_main_call1_cst (F := F)))
def K_main_call1_v5 : (⟨S2x2x32x16384, .f32⟩ : BufTy).Contents (Elt F) := broadcastInDim S2x2x32x16384 ![] bcast_S_S2x2x32x16384 ((K_main_call1_cst (F := F)))
def K_main_cst_2 : (⟨S_, .f32⟩ : BufTy).Contents (Elt F) := constant S_ .f32 0x00000000#32
def K_main_v90 : (⟨S2x2x32x16, .f32⟩ : BufTy).Contents (Elt F) := broadcastInDim S2x2x32x16 ![] bcast_S_S2x2x32x16 ((K_main_cst_2 (F := F)))
def K_main_cst_3 : (⟨S_, .f32⟩ : BufTy).Contents (Elt F) := constant S_ .f32 0x00000000#32
def K_main_v91 : (⟨S16384x2x2x32, .f32⟩ : BufTy).Contents (Elt F) := broadcastInDim S16384x2x2x32 ![] bcast_S_S16384x2x2x32 ((K_main_cst_3 (F := F)))
def K_main_c_4 : (⟨S_, .i32⟩ : BufTy).Contents (Elt F) := constantI S_ 32 0#32

/-- An array of shape `s`. -/
abbrev Arr (F : FTy → Type) (s : Shape) (e : EltTy) : Type := (⟨s, e⟩ : BufTy).Contents (Elt F)

/-! What @main computes before the loop from its arguments, as functions of them. -/

def A_main_v0 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x64x64x32, .f32⟩ : BufTy).Contents (Elt F) := shapeCast _ (a0) shapeCasts_S2x64x2048_S2x64x64x32
def A_main_v1 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x64x64, .f32⟩ : BufTy).Contents (Elt F) := transpose S2x32x64x64 [0, 3, 1, 2] ((A_main_v0 a0 a1 a2 a3 a4 a5 a6 a7 a8)) transposes_S2x64x64x32_S2x32x64x64_0_3_1_2
def A_main_v2 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x64x128, .f32⟩ : BufTy).Contents (Elt F) := Host.dotGeneral dot_S2x32x64x64_S128x64_S2x32x64x128_2_1_013_0_n_n none ((A_main_v1 a0 a1 a2 a3 a4 a5 a6 a7 a8)) ((K_main_cst (F := F)))
def A_main_v3 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x64, .f32⟩ : BufTy).Contents (Elt F) := transpose S2x32x128x64 [0, 1, 3, 2] ((A_main_v2 a0 a1 a2 a3 a4 a5 a6 a7 a8)) transposes_S2x32x64x128_S2x32x128x64_0_1_3_2
def A_main_v4 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := Host.dotGeneral dot_S2x32x128x64_S128x64_S2x32x128x128_3_1_012_0_n_n none ((A_main_v3 a0 a1 a2 a3 a4 a5 a6 a7 a8)) ((K_main_cst_0 (F := F)))
def A_main_v5 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x128x128x128, .f32⟩ : BufTy).Contents (Elt F) := concatenate S2x128x128x128 1 [⟨S2x32x128x128, ((A_main_v4 a0 a1 a2 a3 a4 a5 a6 a7 a8))⟩, ⟨S2x96x128x128, (a1)⟩] concatenates_S2x32x128x128_S2x96x128x128_S2x128x128x128_d1
def A_main_v6 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x128x130x130, .f32⟩ : BufTy).Contents (Elt F) := pad S2x128x130x130 ![0, 0, 1, 1] ![0, 0, 1, 1] ![0, 0, 0, 0] ((A_main_v5 a0 a1 a2 a3 a4 a5 a6 a7 a8)) ((K_main_call0_v0 (F := F))) pads_S2x128x128x128_S2x128x130x130_000_000_110_110 h_S_
def A_main_v7 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x128x128x128, .f32⟩ : BufTy).Contents (Elt F) := extractStridedSlice S2x128x128x128 ![0, 0, 0, 0] ((A_main_v6 a0 a1 a2 a3 a4 a5 a6 a7 a8)) slices_S2x128x130x130_S2x128x128x128_0_0_0_0
def A_main_v8 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128x1x1, .f32⟩ : BufTy).Contents (Elt F) := extractStridedSlice S32x128x1x1 ![0, 0, 0, 0] (a2) slices_S32x128x3x3_S32x128x1x1_0_0_0_0
def A_main_v9 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128, .f32⟩ : BufTy).Contents (Elt F) := shapeCast _ ((A_main_v8 a0 a1 a2 a3 a4 a5 a6 a7 a8)) shapeCasts_S32x128x1x1_S32x128
def A_main_v10 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x2x128x128, .f32⟩ : BufTy).Contents (Elt F) := Host.dotGeneral dot_S32x128_S2x128x128x128_S32x2x128x128_1_1_0_023_n_n none ((A_main_v9 a0 a1 a2 a3 a4 a5 a6 a7 a8)) ((A_main_v7 a0 a1 a2 a3 a4 a5 a6 a7 a8))
def A_main_v11 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := transpose S2x32x128x128 [1, 0, 2, 3] ((A_main_v10 a0 a1 a2 a3 a4 a5 a6 a7 a8)) transposes_S32x2x128x128_S2x32x128x128_1_0_2_3
def A_main_v13 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := addf ((K_main_v12 (F := F))) ((A_main_v11 a0 a1 a2 a3 a4 a5 a6 a7 a8))
def A_main_v14 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x128x128x128, .f32⟩ : BufTy).Contents (Elt F) := extractStridedSlice S2x128x128x128 ![0, 0, 0, 1] ((A_main_v6 a0 a1 a2 a3 a4 a5 a6 a7 a8)) slices_S2x128x130x130_S2x128x128x128_0_0_0_1
def A_main_v15 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128x1x1, .f32⟩ : BufTy).Contents (Elt F) := extractStridedSlice S32x128x1x1 ![0, 0, 0, 1] (a2) slices_S32x128x3x3_S32x128x1x1_0_0_0_1
def A_main_v16 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128, .f32⟩ : BufTy).Contents (Elt F) := shapeCast _ ((A_main_v15 a0 a1 a2 a3 a4 a5 a6 a7 a8)) shapeCasts_S32x128x1x1_S32x128
def A_main_v17 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x2x128x128, .f32⟩ : BufTy).Contents (Elt F) := Host.dotGeneral dot_S32x128_S2x128x128x128_S32x2x128x128_1_1_0_023_n_n none ((A_main_v16 a0 a1 a2 a3 a4 a5 a6 a7 a8)) ((A_main_v14 a0 a1 a2 a3 a4 a5 a6 a7 a8))
def A_main_v18 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := transpose S2x32x128x128 [1, 0, 2, 3] ((A_main_v17 a0 a1 a2 a3 a4 a5 a6 a7 a8)) transposes_S32x2x128x128_S2x32x128x128_1_0_2_3
def A_main_v19 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := addf ((A_main_v13 a0 a1 a2 a3 a4 a5 a6 a7 a8)) ((A_main_v18 a0 a1 a2 a3 a4 a5 a6 a7 a8))
def A_main_v20 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x128x128x128, .f32⟩ : BufTy).Contents (Elt F) := extractStridedSlice S2x128x128x128 ![0, 0, 0, 2] ((A_main_v6 a0 a1 a2 a3 a4 a5 a6 a7 a8)) slices_S2x128x130x130_S2x128x128x128_0_0_0_2
def A_main_v21 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128x1x1, .f32⟩ : BufTy).Contents (Elt F) := extractStridedSlice S32x128x1x1 ![0, 0, 0, 2] (a2) slices_S32x128x3x3_S32x128x1x1_0_0_0_2
def A_main_v22 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128, .f32⟩ : BufTy).Contents (Elt F) := shapeCast _ ((A_main_v21 a0 a1 a2 a3 a4 a5 a6 a7 a8)) shapeCasts_S32x128x1x1_S32x128
def A_main_v23 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x2x128x128, .f32⟩ : BufTy).Contents (Elt F) := Host.dotGeneral dot_S32x128_S2x128x128x128_S32x2x128x128_1_1_0_023_n_n none ((A_main_v22 a0 a1 a2 a3 a4 a5 a6 a7 a8)) ((A_main_v20 a0 a1 a2 a3 a4 a5 a6 a7 a8))
def A_main_v24 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := transpose S2x32x128x128 [1, 0, 2, 3] ((A_main_v23 a0 a1 a2 a3 a4 a5 a6 a7 a8)) transposes_S32x2x128x128_S2x32x128x128_1_0_2_3
def A_main_v25 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := addf ((A_main_v19 a0 a1 a2 a3 a4 a5 a6 a7 a8)) ((A_main_v24 a0 a1 a2 a3 a4 a5 a6 a7 a8))
def A_main_v26 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x128x128x128, .f32⟩ : BufTy).Contents (Elt F) := extractStridedSlice S2x128x128x128 ![0, 0, 1, 0] ((A_main_v6 a0 a1 a2 a3 a4 a5 a6 a7 a8)) slices_S2x128x130x130_S2x128x128x128_0_0_1_0
def A_main_v27 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128x1x1, .f32⟩ : BufTy).Contents (Elt F) := extractStridedSlice S32x128x1x1 ![0, 0, 1, 0] (a2) slices_S32x128x3x3_S32x128x1x1_0_0_1_0
def A_main_v28 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128, .f32⟩ : BufTy).Contents (Elt F) := shapeCast _ ((A_main_v27 a0 a1 a2 a3 a4 a5 a6 a7 a8)) shapeCasts_S32x128x1x1_S32x128
def A_main_v29 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x2x128x128, .f32⟩ : BufTy).Contents (Elt F) := Host.dotGeneral dot_S32x128_S2x128x128x128_S32x2x128x128_1_1_0_023_n_n none ((A_main_v28 a0 a1 a2 a3 a4 a5 a6 a7 a8)) ((A_main_v26 a0 a1 a2 a3 a4 a5 a6 a7 a8))
def A_main_v30 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := transpose S2x32x128x128 [1, 0, 2, 3] ((A_main_v29 a0 a1 a2 a3 a4 a5 a6 a7 a8)) transposes_S32x2x128x128_S2x32x128x128_1_0_2_3
def A_main_v31 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := addf ((A_main_v25 a0 a1 a2 a3 a4 a5 a6 a7 a8)) ((A_main_v30 a0 a1 a2 a3 a4 a5 a6 a7 a8))
def A_main_v32 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x128x128x128, .f32⟩ : BufTy).Contents (Elt F) := extractStridedSlice S2x128x128x128 ![0, 0, 1, 1] ((A_main_v6 a0 a1 a2 a3 a4 a5 a6 a7 a8)) slices_S2x128x130x130_S2x128x128x128_0_0_1_1
def A_main_v33 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128x1x1, .f32⟩ : BufTy).Contents (Elt F) := extractStridedSlice S32x128x1x1 ![0, 0, 1, 1] (a2) slices_S32x128x3x3_S32x128x1x1_0_0_1_1
def A_main_v34 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128, .f32⟩ : BufTy).Contents (Elt F) := shapeCast _ ((A_main_v33 a0 a1 a2 a3 a4 a5 a6 a7 a8)) shapeCasts_S32x128x1x1_S32x128
def A_main_v35 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x2x128x128, .f32⟩ : BufTy).Contents (Elt F) := Host.dotGeneral dot_S32x128_S2x128x128x128_S32x2x128x128_1_1_0_023_n_n none ((A_main_v34 a0 a1 a2 a3 a4 a5 a6 a7 a8)) ((A_main_v32 a0 a1 a2 a3 a4 a5 a6 a7 a8))
def A_main_v36 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := transpose S2x32x128x128 [1, 0, 2, 3] ((A_main_v35 a0 a1 a2 a3 a4 a5 a6 a7 a8)) transposes_S32x2x128x128_S2x32x128x128_1_0_2_3
def A_main_v37 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := addf ((A_main_v31 a0 a1 a2 a3 a4 a5 a6 a7 a8)) ((A_main_v36 a0 a1 a2 a3 a4 a5 a6 a7 a8))
def A_main_v38 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x128x128x128, .f32⟩ : BufTy).Contents (Elt F) := extractStridedSlice S2x128x128x128 ![0, 0, 1, 2] ((A_main_v6 a0 a1 a2 a3 a4 a5 a6 a7 a8)) slices_S2x128x130x130_S2x128x128x128_0_0_1_2
def A_main_v39 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128x1x1, .f32⟩ : BufTy).Contents (Elt F) := extractStridedSlice S32x128x1x1 ![0, 0, 1, 2] (a2) slices_S32x128x3x3_S32x128x1x1_0_0_1_2
def A_main_v40 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128, .f32⟩ : BufTy).Contents (Elt F) := shapeCast _ ((A_main_v39 a0 a1 a2 a3 a4 a5 a6 a7 a8)) shapeCasts_S32x128x1x1_S32x128
def A_main_v41 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x2x128x128, .f32⟩ : BufTy).Contents (Elt F) := Host.dotGeneral dot_S32x128_S2x128x128x128_S32x2x128x128_1_1_0_023_n_n none ((A_main_v40 a0 a1 a2 a3 a4 a5 a6 a7 a8)) ((A_main_v38 a0 a1 a2 a3 a4 a5 a6 a7 a8))
def A_main_v42 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := transpose S2x32x128x128 [1, 0, 2, 3] ((A_main_v41 a0 a1 a2 a3 a4 a5 a6 a7 a8)) transposes_S32x2x128x128_S2x32x128x128_1_0_2_3
def A_main_v43 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := addf ((A_main_v37 a0 a1 a2 a3 a4 a5 a6 a7 a8)) ((A_main_v42 a0 a1 a2 a3 a4 a5 a6 a7 a8))
def A_main_v44 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x128x128x128, .f32⟩ : BufTy).Contents (Elt F) := extractStridedSlice S2x128x128x128 ![0, 0, 2, 0] ((A_main_v6 a0 a1 a2 a3 a4 a5 a6 a7 a8)) slices_S2x128x130x130_S2x128x128x128_0_0_2_0
def A_main_v45 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128x1x1, .f32⟩ : BufTy).Contents (Elt F) := extractStridedSlice S32x128x1x1 ![0, 0, 2, 0] (a2) slices_S32x128x3x3_S32x128x1x1_0_0_2_0
def A_main_v46 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128, .f32⟩ : BufTy).Contents (Elt F) := shapeCast _ ((A_main_v45 a0 a1 a2 a3 a4 a5 a6 a7 a8)) shapeCasts_S32x128x1x1_S32x128
def A_main_v47 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x2x128x128, .f32⟩ : BufTy).Contents (Elt F) := Host.dotGeneral dot_S32x128_S2x128x128x128_S32x2x128x128_1_1_0_023_n_n none ((A_main_v46 a0 a1 a2 a3 a4 a5 a6 a7 a8)) ((A_main_v44 a0 a1 a2 a3 a4 a5 a6 a7 a8))
def A_main_v48 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := transpose S2x32x128x128 [1, 0, 2, 3] ((A_main_v47 a0 a1 a2 a3 a4 a5 a6 a7 a8)) transposes_S32x2x128x128_S2x32x128x128_1_0_2_3
def A_main_v49 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := addf ((A_main_v43 a0 a1 a2 a3 a4 a5 a6 a7 a8)) ((A_main_v48 a0 a1 a2 a3 a4 a5 a6 a7 a8))
def A_main_v50 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x128x128x128, .f32⟩ : BufTy).Contents (Elt F) := extractStridedSlice S2x128x128x128 ![0, 0, 2, 1] ((A_main_v6 a0 a1 a2 a3 a4 a5 a6 a7 a8)) slices_S2x128x130x130_S2x128x128x128_0_0_2_1
def A_main_v51 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128x1x1, .f32⟩ : BufTy).Contents (Elt F) := extractStridedSlice S32x128x1x1 ![0, 0, 2, 1] (a2) slices_S32x128x3x3_S32x128x1x1_0_0_2_1
def A_main_v52 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128, .f32⟩ : BufTy).Contents (Elt F) := shapeCast _ ((A_main_v51 a0 a1 a2 a3 a4 a5 a6 a7 a8)) shapeCasts_S32x128x1x1_S32x128
def A_main_v53 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x2x128x128, .f32⟩ : BufTy).Contents (Elt F) := Host.dotGeneral dot_S32x128_S2x128x128x128_S32x2x128x128_1_1_0_023_n_n none ((A_main_v52 a0 a1 a2 a3 a4 a5 a6 a7 a8)) ((A_main_v50 a0 a1 a2 a3 a4 a5 a6 a7 a8))
def A_main_v54 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := transpose S2x32x128x128 [1, 0, 2, 3] ((A_main_v53 a0 a1 a2 a3 a4 a5 a6 a7 a8)) transposes_S32x2x128x128_S2x32x128x128_1_0_2_3
def A_main_v55 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := addf ((A_main_v49 a0 a1 a2 a3 a4 a5 a6 a7 a8)) ((A_main_v54 a0 a1 a2 a3 a4 a5 a6 a7 a8))
def A_main_v56 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x128x128x128, .f32⟩ : BufTy).Contents (Elt F) := extractStridedSlice S2x128x128x128 ![0, 0, 2, 2] ((A_main_v6 a0 a1 a2 a3 a4 a5 a6 a7 a8)) slices_S2x128x130x130_S2x128x128x128_0_0_2_2
def A_main_v57 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128x1x1, .f32⟩ : BufTy).Contents (Elt F) := extractStridedSlice S32x128x1x1 ![0, 0, 2, 2] (a2) slices_S32x128x3x3_S32x128x1x1_0_0_2_2
def A_main_v58 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x128, .f32⟩ : BufTy).Contents (Elt F) := shapeCast _ ((A_main_v57 a0 a1 a2 a3 a4 a5 a6 a7 a8)) shapeCasts_S32x128x1x1_S32x128
def A_main_v59 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S32x2x128x128, .f32⟩ : BufTy).Contents (Elt F) := Host.dotGeneral dot_S32x128_S2x128x128x128_S32x2x128x128_1_1_0_023_n_n none ((A_main_v58 a0 a1 a2 a3 a4 a5 a6 a7 a8)) ((A_main_v56 a0 a1 a2 a3 a4 a5 a6 a7 a8))
def A_main_v60 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := transpose S2x32x128x128 [1, 0, 2, 3] ((A_main_v59 a0 a1 a2 a3 a4 a5 a6 a7 a8)) transposes_S32x2x128x128_S2x32x128x128_1_0_2_3
def A_main_v61 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := addf ((A_main_v55 a0 a1 a2 a3 a4 a5 a6 a7 a8)) ((A_main_v60 a0 a1 a2 a3 a4 a5 a6 a7 a8))
def A_main_v62 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S1x32x1x1, .f32⟩ : BufTy).Contents (Elt F) := broadcastInDim S1x32x1x1 ![1] bcast_S32_S1x32x1x1_1 (a3)
def A_main_v63 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := broadcastInDim S2x32x128x128 ![0, 1, 2, 3] bcast_S1x32x1x1_S2x32x128x128_0_1_2_3 ((A_main_v62 a0 a1 a2 a3 a4 a5 a6 a7 a8))
def A_main_v64 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := addf ((A_main_v61 a0 a1 a2 a3 a4 a5 a6 a7 a8)) ((A_main_v63 a0 a1 a2 a3 a4 a5 a6 a7 a8))
def A_main_v65 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x16384, .f32⟩ : BufTy).Contents (Elt F) := shapeCast _ ((A_main_v64 a0 a1 a2 a3 a4 a5 a6 a7 a8)) shapeCasts_S2x32x128x128_S2x32x16384
def A_main_v66 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x128x128, .f32⟩ : BufTy).Contents (Elt F) := transpose S2x32x128x128 [0, 1, 3, 2] ((A_main_v64 a0 a1 a2 a3 a4 a5 a6 a7 a8)) transposes_S2x32x128x128_S2x32x128x128_0_1_3_2
def A_main_v67 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x16384, .f32⟩ : BufTy).Contents (Elt F) := shapeCast _ ((A_main_v66 a0 a1 a2 a3 a4 a5 a6 a7 a8)) shapeCasts_S2x32x128x128_S2x32x16384
def A_main_v68 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x1x32x16384, .f32⟩ : BufTy).Contents (Elt F) := broadcastInDim S2x1x32x16384 ![0, 2, 3] bcast_S2x32x16384_S2x1x32x16384_0_2_3 ((A_main_v65 a0 a1 a2 a3 a4 a5 a6 a7 a8))
def A_main_v69 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x1x32x16384, .f32⟩ : BufTy).Contents (Elt F) := broadcastInDim S2x1x32x16384 ![0, 2, 3] bcast_S2x32x16384_S2x1x32x16384_0_2_3 ((A_main_v67 a0 a1 a2 a3 a4 a5 a6 a7 a8))
def A_main_v70 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := concatenate S2x2x32x16384 1 [⟨S2x1x32x16384, ((A_main_v68 a0 a1 a2 a3 a4 a5 a6 a7 a8))⟩, ⟨S2x1x32x16384, ((A_main_v69 a0 a1 a2 a3 a4 a5 a6 a7 a8))⟩] concatenates_S2x1x32x16384_S2x1x32x16384_S2x2x32x16384_d1
def A_main_v71 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x64x2x16384, .f32⟩ : BufTy).Contents (Elt F) := Host.dotGeneral dot_S2x64x32_S2x2x32x16384_S2x64x2x16384_2_2_1_03_0_1 none (a4) ((A_main_v70 a0 a1 a2 a3 a4 a5 a6 a7 a8))
def A_main_v72 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x64x16384, .f32⟩ : BufTy).Contents (Elt F) := transpose S2x2x64x16384 [2, 0, 1, 3] ((A_main_v71 a0 a1 a2 a3 a4 a5 a6 a7 a8)) transposes_S2x64x2x16384_S2x2x64x16384_2_0_1_3
def A_main_v73 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := extractStridedSlice S2x2x32x16384 ![0, 0, 0, 0] ((A_main_v72 a0 a1 a2 a3 a4 a5 a6 a7 a8)) slices_S2x2x64x16384_S2x2x32x16384_0_0_0_0
def A_main_v74 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x16x16384, .f32⟩ : BufTy).Contents (Elt F) := extractStridedSlice S2x2x16x16384 ![0, 0, 32, 0] ((A_main_v72 a0 a1 a2 a3 a4 a5 a6 a7 a8)) slices_S2x2x64x16384_S2x2x16x16384_0_0_32_0
def A_main_v75 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x16x16384, .f32⟩ : BufTy).Contents (Elt F) := extractStridedSlice S2x2x16x16384 ![0, 0, 48, 0] ((A_main_v72 a0 a1 a2 a3 a4 a5 a6 a7 a8)) slices_S2x2x64x16384_S2x2x16x16384_0_0_48_0
def A_main_v76 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x2x16384, .f32⟩ : BufTy).Contents (Elt F) := Host.dotGeneral dot_S2x32x32_S2x2x32x16384_S2x32x2x16384_2_2_1_03_0_1 none (a5) ((A_main_v73 a0 a1 a2 a3 a4 a5 a6 a7 a8))
def A_main_v77 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := transpose S2x2x32x16384 [2, 0, 1, 3] ((A_main_v76 a0 a1 a2 a3 a4 a5 a6 a7 a8)) transposes_S2x32x2x16384_S2x2x32x16384_2_0_1_3
def A_main_v78 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S64x16, .f32⟩ : BufTy).Contents (Elt F) := Host.exp (a7)
def A_main_v79 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x16, .f32⟩ : BufTy).Contents (Elt F) := shapeCast _ ((A_main_v78 a0 a1 a2 a3 a4 a5 a6 a7 a8)) shapeCasts_S64x16_S2x32x16
def A_main_v80 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32x16, .f32⟩ : BufTy).Contents (Elt F) := Host.negf ((A_main_v79 a0 a1 a2 a3 a4 a5 a6 a7 a8))
def A_main_v81 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x32, .f32⟩ : BufTy).Contents (Elt F) := shapeCast _ (a8) shapeCasts_S64_S2x32
def A_main_v82 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S1x2x32x1, .f32⟩ : BufTy).Contents (Elt F) := broadcastInDim S1x2x32x1 ![1, 2] bcast_S2x32_S1x2x32x1_1_2 (a6)
def A_main_v83 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := broadcastInDim S2x2x32x16384 ![0, 1, 2, 3] bcast_S1x2x32x1_S2x2x32x16384_0_1_2_3 ((A_main_v82 a0 a1 a2 a3 a4 a5 a6 a7 a8))
def A_main_v84 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := addf ((A_main_v77 a0 a1 a2 a3 a4 a5 a6 a7 a8)) ((A_main_v83 a0 a1 a2 a3 a4 a5 a6 a7 a8))
def A_main_call1_v1 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := maximumf ((A_main_v84 a0 a1 a2 a3 a4 a5 a6 a7 a8)) ((K_main_call1_v0 (F := F)))
def A_main_call1_v3 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := subf ((A_main_v84 a0 a1 a2 a3 a4 a5 a6 a7 a8)) ((K_main_call1_v2 (F := F)))
def A_main_call1_v4 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .i1⟩ : BufTy).Contents (Elt F) := cmpf .une ((A_main_call1_v3 a0 a1 a2 a3 a4 a5 a6 a7 a8)) ((A_main_call1_v3 a0 a1 a2 a3 a4 a5 a6 a7 a8))
def A_main_call1_v6 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := addf ((A_main_v84 a0 a1 a2 a3 a4 a5 a6 a7 a8)) ((K_main_call1_v5 (F := F)))
def A_main_call1_v7 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := Host.absf ((A_main_call1_v3 a0 a1 a2 a3 a4 a5 a6 a7 a8))
def A_main_call1_v8 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := Host.negf ((A_main_call1_v7 a0 a1 a2 a3 a4 a5 a6 a7 a8))
def A_main_call1_v9 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := Host.exp ((A_main_call1_v8 a0 a1 a2 a3 a4 a5 a6 a7 a8))
def A_main_call1_v10 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := Host.log1p ((A_main_call1_v9 a0 a1 a2 a3 a4 a5 a6 a7 a8))
def A_main_call1_v11 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := addf ((A_main_call1_v1 a0 a1 a2 a3 a4 a5 a6 a7 a8)) ((A_main_call1_v10 a0 a1 a2 a3 a4 a5 a6 a7 a8))
def A_main_v85 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S2x2x32x16384, .f32⟩ : BufTy).Contents (Elt F) := select ((A_main_call1_v4 a0 a1 a2 a3 a4 a5 a6 a7 a8)) ((A_main_call1_v6 a0 a1 a2 a3 a4 a5 a6 a7 a8)) ((A_main_call1_v11 a0 a1 a2 a3 a4 a5 a6 a7 a8))
def A_main_v86 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S16384x2x2x32, .f32⟩ : BufTy).Contents (Elt F) := transpose S16384x2x2x32 [3, 0, 1, 2] ((A_main_v70 a0 a1 a2 a3 a4 a5 a6 a7 a8)) transposes_S2x2x32x16384_S16384x2x2x32_3_0_1_2
def A_main_v87 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S16384x2x2x32, .f32⟩ : BufTy).Contents (Elt F) := transpose S16384x2x2x32 [3, 0, 1, 2] ((A_main_v85 a0 a1 a2 a3 a4 a5 a6 a7 a8)) transposes_S2x2x32x16384_S16384x2x2x32_3_0_1_2
def A_main_v88 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S16384x2x2x16, .f32⟩ : BufTy).Contents (Elt F) := transpose S16384x2x2x16 [3, 0, 1, 2] ((A_main_v74 a0 a1 a2 a3 a4 a5 a6 a7 a8)) transposes_S2x2x16x16384_S16384x2x2x16_3_0_1_2
def A_main_v89 (a0 : Arr F S2x64x2048 .f32) (a1 : Arr F S2x96x128x128 .f32) (a2 : Arr F S32x128x3x3 .f32) (a3 : Arr F S32 .f32) (a4 : Arr F S2x64x32 .f32) (a5 : Arr F S2x32x32 .f32) (a6 : Arr F S2x32 .f32) (a7 : Arr F S64x16 .f32) (a8 : Arr F S64 .f32) : (⟨S16384x2x2x16, .f32⟩ : BufTy).Contents (Elt F) := transpose S16384x2x2x16 [3, 0, 1, 2] ((A_main_v75 a0 a1 a2 a3 a4 a5 a6 a7 a8)) transposes_S2x2x16x16384_S16384x2x2x16_3_0_1_2

/-! One trip's values, in the body's order. -/

def b0 (j : ℕ) (s : State F) : (⟨S_, .i32⟩ : BufTy).Contents (Elt F) :=
  constantI S_ 32 0#32
def b1 (j : ℕ) (s : State F) : (⟨S_, .i32⟩ : BufTy).Contents (Elt F) :=
  constantI S_ 32 0#32
def b2 (j : ℕ) (s : State F) : (⟨S_, .i32⟩ : BufTy).Contents (Elt F) :=
  constantI S_ 32 0#32
def b3 (j : ℕ) (s : State F) : (⟨S1x2x2x32, .f32⟩ : BufTy).Contents (Elt F) :=
  Host.dynamicSlice S1x2x2x32 (s.main_v92_0) (fun k => (((![(constantI S_ 32 (BitVec.ofNat 32 j) : (⟨S_, .i32⟩ : BufTy).Contents (Elt F)), (b0 j s), (b1 j s), (b2 j s)] : Fin 4 → (⟨S_, .i32⟩ : BufTy).Contents (Elt F))) k (Shape.Idx.first h_S_)).toInt) sliceFits_S16384x2x2x32_S1x2x2x32
def b4 (j : ℕ) (s : State F) : (⟨S2x2x32, .f32⟩ : BufTy).Contents (Elt F) :=
  shapeCast S2x2x32 ((b3 j s)) shapeCasts_S1x2x2x32_S2x2x32
def b5 (j : ℕ) (s : State F) : (⟨S_, .i32⟩ : BufTy).Contents (Elt F) :=
  constantI S_ 32 0#32
def b6 (j : ℕ) (s : State F) : (⟨S_, .i32⟩ : BufTy).Contents (Elt F) :=
  constantI S_ 32 0#32
def b7 (j : ℕ) (s : State F) : (⟨S_, .i32⟩ : BufTy).Contents (Elt F) :=
  constantI S_ 32 0#32
def b8 (j : ℕ) (s : State F) : (⟨S1x2x2x32, .f32⟩ : BufTy).Contents (Elt F) :=
  Host.dynamicSlice S1x2x2x32 (s.main_v92_1) (fun k => (((![(constantI S_ 32 (BitVec.ofNat 32 j) : (⟨S_, .i32⟩ : BufTy).Contents (Elt F)), (b5 j s), (b6 j s), (b7 j s)] : Fin 4 → (⟨S_, .i32⟩ : BufTy).Contents (Elt F))) k (Shape.Idx.first h_S_)).toInt) sliceFits_S16384x2x2x32_S1x2x2x32
def b9 (j : ℕ) (s : State F) : (⟨S2x2x32, .f32⟩ : BufTy).Contents (Elt F) :=
  shapeCast S2x2x32 ((b8 j s)) shapeCasts_S1x2x2x32_S2x2x32
def b10 (j : ℕ) (s : State F) : (⟨S_, .i32⟩ : BufTy).Contents (Elt F) :=
  constantI S_ 32 0#32
def b11 (j : ℕ) (s : State F) : (⟨S_, .i32⟩ : BufTy).Contents (Elt F) :=
  constantI S_ 32 0#32
def b12 (j : ℕ) (s : State F) : (⟨S_, .i32⟩ : BufTy).Contents (Elt F) :=
  constantI S_ 32 0#32
def b13 (j : ℕ) (s : State F) : (⟨S1x2x2x16, .f32⟩ : BufTy).Contents (Elt F) :=
  Host.dynamicSlice S1x2x2x16 (s.main_v92_2) (fun k => (((![(constantI S_ 32 (BitVec.ofNat 32 j) : (⟨S_, .i32⟩ : BufTy).Contents (Elt F)), (b10 j s), (b11 j s), (b12 j s)] : Fin 4 → (⟨S_, .i32⟩ : BufTy).Contents (Elt F))) k (Shape.Idx.first h_S_)).toInt) sliceFits_S16384x2x2x16_S1x2x2x16
def b14 (j : ℕ) (s : State F) : (⟨S2x2x16, .f32⟩ : BufTy).Contents (Elt F) :=
  shapeCast S2x2x16 ((b13 j s)) shapeCasts_S1x2x2x16_S2x2x16
def b15 (j : ℕ) (s : State F) : (⟨S_, .i32⟩ : BufTy).Contents (Elt F) :=
  constantI S_ 32 0#32
def b16 (j : ℕ) (s : State F) : (⟨S_, .i32⟩ : BufTy).Contents (Elt F) :=
  constantI S_ 32 0#32
def b17 (j : ℕ) (s : State F) : (⟨S_, .i32⟩ : BufTy).Contents (Elt F) :=
  constantI S_ 32 0#32
def b18 (j : ℕ) (s : State F) : (⟨S1x2x2x16, .f32⟩ : BufTy).Contents (Elt F) :=
  Host.dynamicSlice S1x2x2x16 (s.main_v92_3) (fun k => (((![(constantI S_ 32 (BitVec.ofNat 32 j) : (⟨S_, .i32⟩ : BufTy).Contents (Elt F)), (b15 j s), (b16 j s), (b17 j s)] : Fin 4 → (⟨S_, .i32⟩ : BufTy).Contents (Elt F))) k (Shape.Idx.first h_S_)).toInt) sliceFits_S16384x2x2x16_S1x2x2x16
def b19 (j : ℕ) (s : State F) : (⟨S2x2x16, .f32⟩ : BufTy).Contents (Elt F) :=
  shapeCast S2x2x16 ((b18 j s)) shapeCasts_S1x2x2x16_S2x2x16
def b20 (j : ℕ) (s : State F) : (⟨S2x2x32x1, .f32⟩ : BufTy).Contents (Elt F) :=
  broadcastInDim S2x2x32x1 ![0, 1, 2] bcast_S2x2x32_S2x2x32x1_0_1_2 ((b9 j s))
def b21 (j : ℕ) (s : State F) : (⟨S1x2x32x16, .f32⟩ : BufTy).Contents (Elt F) :=
  broadcastInDim S1x2x32x16 ![1, 2, 3] bcast_S2x32x16_S1x2x32x16_1_2_3 (s.main_v92_4)
def b22 (j : ℕ) (s : State F) : (⟨S2x2x32x16, .f32⟩ : BufTy).Contents (Elt F) :=
  broadcastInDim S2x2x32x16 ![0, 1, 2, 3] bcast_S2x2x32x1_S2x2x32x16_0_1_2_3 ((b20 j s))
def b23 (j : ℕ) (s : State F) : (⟨S2x2x32x16, .f32⟩ : BufTy).Contents (Elt F) :=
  broadcastInDim S2x2x32x16 ![0, 1, 2, 3] bcast_S1x2x32x16_S2x2x32x16_0_1_2_3 ((b21 j s))
def b24 (j : ℕ) (s : State F) : (⟨S2x2x32x16, .f32⟩ : BufTy).Contents (Elt F) :=
  mulf ((b22 j s)) ((b23 j s))
def b25 (j : ℕ) (s : State F) : (⟨S2x2x32x16, .f32⟩ : BufTy).Contents (Elt F) :=
  Host.exp ((b24 j s))
def b26 (j : ℕ) (s : State F) : (⟨S2x2x32x16, .f32⟩ : BufTy).Contents (Elt F) :=
  mulf ((b25 j s)) (s.main_v92_7)
def b27 (j : ℕ) (s : State F) : (⟨S2x2x32, .f32⟩ : BufTy).Contents (Elt F) :=
  mulf ((b9 j s)) ((b4 j s))
def b28 (j : ℕ) (s : State F) : (⟨S2x2x32x1, .f32⟩ : BufTy).Contents (Elt F) :=
  broadcastInDim S2x2x32x1 ![0, 1, 2] bcast_S2x2x32_S2x2x32x1_0_1_2 ((b27 j s))
def b29 (j : ℕ) (s : State F) : (⟨S2x2x1x16, .f32⟩ : BufTy).Contents (Elt F) :=
  broadcastInDim S2x2x1x16 ![0, 1, 3] bcast_S2x2x16_S2x2x1x16_0_1_3 ((b14 j s))
def b30 (j : ℕ) (s : State F) : (⟨S2x2x32x16, .f32⟩ : BufTy).Contents (Elt F) :=
  broadcastInDim S2x2x32x16 ![0, 1, 2, 3] bcast_S2x2x32x1_S2x2x32x16_0_1_2_3 ((b28 j s))
def b31 (j : ℕ) (s : State F) : (⟨S2x2x32x16, .f32⟩ : BufTy).Contents (Elt F) :=
  broadcastInDim S2x2x32x16 ![0, 1, 2, 3] bcast_S2x2x1x16_S2x2x32x16_0_1_2_3 ((b29 j s))
def b32 (j : ℕ) (s : State F) : (⟨S2x2x32x16, .f32⟩ : BufTy).Contents (Elt F) :=
  mulf ((b30 j s)) ((b31 j s))
def b33 (j : ℕ) (s : State F) : (⟨S2x2x32x16, .f32⟩ : BufTy).Contents (Elt F) :=
  addf ((b26 j s)) ((b32 j s))
def b34 (j : ℕ) (s : State F) : (⟨S2x2x32, .f32⟩ : BufTy).Contents (Elt F) :=
  Host.dotGeneral dot_S2x2x32x16_S2x2x16_S2x2x32_3_2_2_n_01_01 none ((b33 j s)) ((b19 j s))
def b35 (j : ℕ) (s : State F) : (⟨S1x2x32, .f32⟩ : BufTy).Contents (Elt F) :=
  broadcastInDim S1x2x32 ![1, 2] bcast_S2x32_S1x2x32_1_2 (s.main_v92_5)
def b36 (j : ℕ) (s : State F) : (⟨S2x2x32, .f32⟩ : BufTy).Contents (Elt F) :=
  broadcastInDim S2x2x32 ![0, 1, 2] bcast_S1x2x32_S2x2x32_0_1_2 ((b35 j s))
def b37 (j : ℕ) (s : State F) : (⟨S2x2x32, .f32⟩ : BufTy).Contents (Elt F) :=
  mulf ((b36 j s)) ((b4 j s))
def b38 (j : ℕ) (s : State F) : (⟨S2x2x32, .f32⟩ : BufTy).Contents (Elt F) :=
  addf ((b34 j s)) ((b37 j s))
def b39 (j : ℕ) (s : State F) : (⟨S1x2x2x32, .f32⟩ : BufTy).Contents (Elt F) :=
  broadcastInDim S1x2x2x32 ![1, 2, 3] bcast_S2x2x32_S1x2x2x32_1_2_3 ((b38 j s))
def b40 (j : ℕ) (s : State F) : (⟨S_, .i32⟩ : BufTy).Contents (Elt F) :=
  constantI S_ 32 0#32
def b41 (j : ℕ) (s : State F) : (⟨S_, .i32⟩ : BufTy).Contents (Elt F) :=
  constantI S_ 32 0#32
def b42 (j : ℕ) (s : State F) : (⟨S_, .i32⟩ : BufTy).Contents (Elt F) :=
  constantI S_ 32 0#32
def b43 (j : ℕ) (s : State F) : (⟨S16384x2x2x32, .f32⟩ : BufTy).Contents (Elt F) :=
  Host.dynamicUpdateSlice (s.main_v92_8) ((b39 j s)) (fun k => (((![(constantI S_ 32 (BitVec.ofNat 32 j) : (⟨S_, .i32⟩ : BufTy).Contents (Elt F)), (b40 j s), (b41 j s), (b42 j s)] : Fin 4 → (⟨S_, .i32⟩ : BufTy).Contents (Elt F))) k (Shape.Idx.first h_S_)).toInt) updateFits_S16384x2x2x32_S1x2x2x32

/-- The state @main hands the first trip, of the arguments it copies in or computes from. -/
def init (main_arg0 : (⟨S2x64x2048, .f32⟩ : BufTy).Contents (Elt F)) (main_arg1 : (⟨S2x96x128x128, .f32⟩ : BufTy).Contents (Elt F)) (main_arg2 : (⟨S32x128x3x3, .f32⟩ : BufTy).Contents (Elt F)) (main_arg3 : (⟨S32, .f32⟩ : BufTy).Contents (Elt F)) (main_arg4 : (⟨S2x64x32, .f32⟩ : BufTy).Contents (Elt F)) (main_arg5 : (⟨S2x32x32, .f32⟩ : BufTy).Contents (Elt F)) (main_arg6 : (⟨S2x32, .f32⟩ : BufTy).Contents (Elt F)) (main_arg7 : (⟨S64x16, .f32⟩ : BufTy).Contents (Elt F)) (main_arg8 : (⟨S64, .f32⟩ : BufTy).Contents (Elt F)) : State F :=
  { main_v92_7 := K_main_v90 (F := F), main_v92_8 := K_main_v91 (F := F), main_v92_0 := A_main_v86 main_arg0 main_arg1 main_arg2 main_arg3 main_arg4 main_arg5 main_arg6 main_arg7 main_arg8, main_v92_1 := A_main_v87 main_arg0 main_arg1 main_arg2 main_arg3 main_arg4 main_arg5 main_arg6 main_arg7 main_arg8, main_v92_2 := A_main_v88 main_arg0 main_arg1 main_arg2 main_arg3 main_arg4 main_arg5 main_arg6 main_arg7 main_arg8, main_v92_3 := A_main_v89 main_arg0 main_arg1 main_arg2 main_arg3 main_arg4 main_arg5 main_arg6 main_arg7 main_arg8, main_v92_4 := A_main_v80 main_arg0 main_arg1 main_arg2 main_arg3 main_arg4 main_arg5 main_arg6 main_arg7 main_arg8, main_v92_5 := A_main_v81 main_arg0 main_arg1 main_arg2 main_arg3 main_arg4 main_arg5 main_arg6 main_arg7 main_arg8 }

/-- One trip. -/
def step (j : ℕ) (s : State F) : State F :=
  { main_v92_7 := b33 j s, main_v92_8 := b43 j s, main_v92_0 := s.main_v92_0, main_v92_1 := s.main_v92_1, main_v92_2 := s.main_v92_2, main_v92_3 := s.main_v92_3, main_v92_4 := s.main_v92_4, main_v92_5 := s.main_v92_5 }
theorem step_main_v92_7 (j : ℕ) (s : State F) : (step j s).main_v92_7 = b33 j s := by unfold step; rfl
theorem step_main_v92_8 (j : ℕ) (s : State F) : (step j s).main_v92_8 = b43 j s := by unfold step; rfl

/-- `main_v120`, which the operations after the loop make, of the loop's last state and the arguments they read. -/
def R_main_v120 (s : State F) (main_arg9 : (⟨S32, .f32⟩ : BufTy).Contents (Elt F)) (main_arg10 : (⟨S32, .f32⟩ : BufTy).Contents (Elt F)) : (⟨S2x32x128x128, .f32⟩ : BufTy).Contents (Elt F) :=
  addf (mulf (Host.divf (subf (shapeCast _ (addf (shapeCast _ (extractStridedSlice S2x1x32x16384 ![0, 0, 0, 0] (transpose S2x2x32x16384 [1, 2, 3, 0] (s.main_v92_8) transposes_S16384x2x2x32_S2x2x32x16384_1_2_3_0) slices_S2x2x32x16384_S2x1x32x16384_0_0_0_0) shapeCasts_S2x1x32x16384_S2x32x16384) (shapeCast _ (transpose S2x32x128x128 [0, 1, 3, 2] (shapeCast _ (shapeCast _ (extractStridedSlice S2x1x32x16384 ![0, 1, 0, 0] (transpose S2x2x32x16384 [1, 2, 3, 0] (s.main_v92_8) transposes_S16384x2x2x32_S2x2x32x16384_1_2_3_0) slices_S2x2x32x16384_S2x1x32x16384_0_1_0_0) shapeCasts_S2x1x32x16384_S2x32x16384) shapeCasts_S2x32x16384_S2x32x128x128) transposes_S2x32x128x128_S2x32x128x128_0_1_3_2) shapeCasts_S2x32x128x128_S2x32x16384)) shapeCasts_S2x32x16384_S2x32x128x128) (broadcastInDim S2x32x128x128 ![0, 1, 2, 3] bcast_S2x1x128x128_S2x32x128x128_0_1_2_3 (Host.divf (broadcastInDim S2x1x128x128 ![0, 2, 3] bcast_S2x128x128_S2x1x128x128_0_2_3 (Host.reduceAdd (shapeCast _ (addf (shapeCast _ (extractStridedSlice S2x1x32x16384 ![0, 0, 0, 0] (transpose S2x2x32x16384 [1, 2, 3, 0] (s.main_v92_8) transposes_S16384x2x2x32_S2x2x32x16384_1_2_3_0) slices_S2x2x32x16384_S2x1x32x16384_0_0_0_0) shapeCasts_S2x1x32x16384_S2x32x16384) (shapeCast _ (transpose S2x32x128x128 [0, 1, 3, 2] (shapeCast _ (shapeCast _ (extractStridedSlice S2x1x32x16384 ![0, 1, 0, 0] (transpose S2x2x32x16384 [1, 2, 3, 0] (s.main_v92_8) transposes_S16384x2x2x32_S2x2x32x16384_1_2_3_0) slices_S2x2x32x16384_S2x1x32x16384_0_1_0_0) shapeCasts_S2x1x32x16384_S2x32x16384) shapeCasts_S2x32x16384_S2x32x128x128) transposes_S2x32x128x128_S2x32x128x128_0_1_3_2) shapeCasts_S2x32x128x128_S2x32x16384)) shapeCasts_S2x32x16384_S2x32x128x128) (constant (F := F) S_ .f32 0x00000000#32) reducesTo_S2x32x128x128_S2x128x128_d1 h_S_)) (broadcastInDim S2x1x128x128 ![] bcast_S_S2x1x128x128 (constant (F := F) S_ .f32 0x42000000#32))))) (broadcastInDim S2x32x128x128 ![0, 1, 2, 3] bcast_S2x1x128x128_S2x32x128x128_0_1_2_3 (Host.sqrt (addf (select (broadcastInDim S2x1x128x128 ![] bcast_S_S2x1x128x128 (cmpf .ogt (subf (constant (F := F) S_ .f32 0x42000000#32) (sitofp (F := F) .f32 (constantI S_ 32 0#32))) (constant (F := F) S_ .f32 0x00000000#32))) (Host.divf (broadcastInDim S2x1x128x128 ![0, 2, 3] bcast_S2x128x128_S2x1x128x128_0_2_3 (Host.reduceAdd (mulf (subf (shapeCast _ (addf (shapeCast _ (extractStridedSlice S2x1x32x16384 ![0, 0, 0, 0] (transpose S2x2x32x16384 [1, 2, 3, 0] (s.main_v92_8) transposes_S16384x2x2x32_S2x2x32x16384_1_2_3_0) slices_S2x2x32x16384_S2x1x32x16384_0_0_0_0) shapeCasts_S2x1x32x16384_S2x32x16384) (shapeCast _ (transpose S2x32x128x128 [0, 1, 3, 2] (shapeCast _ (shapeCast _ (extractStridedSlice S2x1x32x16384 ![0, 1, 0, 0] (transpose S2x2x32x16384 [1, 2, 3, 0] (s.main_v92_8) transposes_S16384x2x2x32_S2x2x32x16384_1_2_3_0) slices_S2x2x32x16384_S2x1x32x16384_0_1_0_0) shapeCasts_S2x1x32x16384_S2x32x16384) shapeCasts_S2x32x16384_S2x32x128x128) transposes_S2x32x128x128_S2x32x128x128_0_1_3_2) shapeCasts_S2x32x128x128_S2x32x16384)) shapeCasts_S2x32x16384_S2x32x128x128) (broadcastInDim S2x32x128x128 ![0, 1, 2, 3] bcast_S2x1x128x128_S2x32x128x128_0_1_2_3 (Host.divf (broadcastInDim S2x1x128x128 ![0, 2, 3] bcast_S2x128x128_S2x1x128x128_0_2_3 (Host.reduceAdd (shapeCast _ (addf (shapeCast _ (extractStridedSlice S2x1x32x16384 ![0, 0, 0, 0] (transpose S2x2x32x16384 [1, 2, 3, 0] (s.main_v92_8) transposes_S16384x2x2x32_S2x2x32x16384_1_2_3_0) slices_S2x2x32x16384_S2x1x32x16384_0_0_0_0) shapeCasts_S2x1x32x16384_S2x32x16384) (shapeCast _ (transpose S2x32x128x128 [0, 1, 3, 2] (shapeCast _ (shapeCast _ (extractStridedSlice S2x1x32x16384 ![0, 1, 0, 0] (transpose S2x2x32x16384 [1, 2, 3, 0] (s.main_v92_8) transposes_S16384x2x2x32_S2x2x32x16384_1_2_3_0) slices_S2x2x32x16384_S2x1x32x16384_0_1_0_0) shapeCasts_S2x1x32x16384_S2x32x16384) shapeCasts_S2x32x16384_S2x32x128x128) transposes_S2x32x128x128_S2x32x128x128_0_1_3_2) shapeCasts_S2x32x128x128_S2x32x16384)) shapeCasts_S2x32x16384_S2x32x128x128) (constant (F := F) S_ .f32 0x00000000#32) reducesTo_S2x32x128x128_S2x128x128_d1 h_S_)) (broadcastInDim S2x1x128x128 ![] bcast_S_S2x1x128x128 (constant (F := F) S_ .f32 0x42000000#32))))) (subf (shapeCast _ (addf (shapeCast _ (extractStridedSlice S2x1x32x16384 ![0, 0, 0, 0] (transpose S2x2x32x16384 [1, 2, 3, 0] (s.main_v92_8) transposes_S16384x2x2x32_S2x2x32x16384_1_2_3_0) slices_S2x2x32x16384_S2x1x32x16384_0_0_0_0) shapeCasts_S2x1x32x16384_S2x32x16384) (shapeCast _ (transpose S2x32x128x128 [0, 1, 3, 2] (shapeCast _ (shapeCast _ (extractStridedSlice S2x1x32x16384 ![0, 1, 0, 0] (transpose S2x2x32x16384 [1, 2, 3, 0] (s.main_v92_8) transposes_S16384x2x2x32_S2x2x32x16384_1_2_3_0) slices_S2x2x32x16384_S2x1x32x16384_0_1_0_0) shapeCasts_S2x1x32x16384_S2x32x16384) shapeCasts_S2x32x16384_S2x32x128x128) transposes_S2x32x128x128_S2x32x128x128_0_1_3_2) shapeCasts_S2x32x128x128_S2x32x16384)) shapeCasts_S2x32x16384_S2x32x128x128) (broadcastInDim S2x32x128x128 ![0, 1, 2, 3] bcast_S2x1x128x128_S2x32x128x128_0_1_2_3 (Host.divf (broadcastInDim S2x1x128x128 ![0, 2, 3] bcast_S2x128x128_S2x1x128x128_0_2_3 (Host.reduceAdd (shapeCast _ (addf (shapeCast _ (extractStridedSlice S2x1x32x16384 ![0, 0, 0, 0] (transpose S2x2x32x16384 [1, 2, 3, 0] (s.main_v92_8) transposes_S16384x2x2x32_S2x2x32x16384_1_2_3_0) slices_S2x2x32x16384_S2x1x32x16384_0_0_0_0) shapeCasts_S2x1x32x16384_S2x32x16384) (shapeCast _ (transpose S2x32x128x128 [0, 1, 3, 2] (shapeCast _ (shapeCast _ (extractStridedSlice S2x1x32x16384 ![0, 1, 0, 0] (transpose S2x2x32x16384 [1, 2, 3, 0] (s.main_v92_8) transposes_S16384x2x2x32_S2x2x32x16384_1_2_3_0) slices_S2x2x32x16384_S2x1x32x16384_0_1_0_0) shapeCasts_S2x1x32x16384_S2x32x16384) shapeCasts_S2x32x16384_S2x32x128x128) transposes_S2x32x128x128_S2x32x128x128_0_1_3_2) shapeCasts_S2x32x128x128_S2x32x16384)) shapeCasts_S2x32x16384_S2x32x128x128) (constant (F := F) S_ .f32 0x00000000#32) reducesTo_S2x32x128x128_S2x128x128_d1 h_S_)) (broadcastInDim S2x1x128x128 ![] bcast_S_S2x1x128x128 (constant (F := F) S_ .f32 0x42000000#32)))))) (constant (F := F) S_ .f32 0x00000000#32) reducesTo_S2x32x128x128_S2x128x128_d1 h_S_)) (broadcastInDim S2x1x128x128 ![] bcast_S_S2x1x128x128 (subf (constant (F := F) S_ .f32 0x42000000#32) (sitofp (F := F) .f32 (constantI S_ 32 0#32))))) (broadcastInDim S2x1x128x128 ![] bcast_S_S2x1x128x128 (id (constant (F := F) S_ .f32 0x7FC00000#32)))) (broadcastInDim S2x1x128x128 ![] bcast_S_S2x1x128x128 (constant (F := F) S_ .f32 0x3727C5AC#32)))))) (broadcastInDim S2x32x128x128 ![0, 1, 2, 3] bcast_S1x32x1x1_S2x32x128x128_0_1_2_3 (broadcastInDim S1x32x1x1 ![1] bcast_S32_S1x32x1x1_1 (main_arg9)))) (broadcastInDim S2x32x128x128 ![0, 1, 2, 3] bcast_S1x32x1x1_S2x32x128x128_0_1_2_3 (broadcastInDim S1x32x1x1 ![1] bcast_S32_S1x32x1x1_1 (main_arg10)))

end Cert.ReferenceIdeal.Step

end
-- ==== Proof.Ref.StepRun.lean ====
/- The reference's run, stated over the step: its result is the fields of the step iterated from the initial state. -/
module

public import proofs.«01_k».proof.Proof.Ref.Run
public import proofs.«01_k».proof.Proof.Ref.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v92_7) = s.main_v92_7
  f_8 : V0 (Proc.devRef .tc main_v92_8) = s.main_v92_8
  f_0 : V0 (Proc.devRef .tc main_v92_0) = s.main_v92_0
  f_1 : V0 (Proc.devRef .tc main_v92_1) = s.main_v92_1
  f_2 : V0 (Proc.devRef .tc main_v92_2) = s.main_v92_2
  f_3 : V0 (Proc.devRef .tc main_v92_3) = s.main_v92_3
  f_4 : V0 (Proc.devRef .tc main_v92_4) = s.main_v92_4
  f_5 : V0 (Proc.devRef .tc main_v92_5) = s.main_v92_5
  n_6 : V0 (Proc.devRef .tc main_v92_6) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call2_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x2x2x32 (V0 (Proc.devRef .tc main_v92_0)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x32_S1x2x2x32 : (Proc.devRef .tc main_while0b_call2_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (res_main_while0b_v121 V0 : (Proc.devRef .tc main_while0b_v121 : DevRef τ sig).ty.Contents (Elt F)) = Cert.ReferenceIdeal.Step.b4 j s := by
  unfold res_main_while0b_v121 Cert.ReferenceIdeal.Step.b4
  rw [← al_3 h]
  try rfl
set_option maxRecDepth 8192 in
theorem al_5 (h : Holds V0 s j) : (constantI S_ 32 0#32 : (Proc.devRef .tc main_while0b_call3_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call3_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call3_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x2x2x32 (V0 (Proc.devRef .tc main_v92_1)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x32_S1x2x2x32 : (Proc.devRef .tc main_while0b_call3_v0 : DevRef τ sig).ty.Contents (Elt F)) = Cert.ReferenceIdeal.Step.b8 j s := by
  unfold Cert.ReferenceIdeal.Step.b8
  rw [← al_5 h, ← al_6 h, ← al_7 h, h.f_1, h.n_6]
  try rfl
set_option maxRecDepth 8192 in
theorem al_9 (h : Holds V0 s j) : (res_main_while0b_v122 V0 : (Proc.devRef .tc main_while0b_v122 : DevRef τ sig).ty.Contents (Elt F)) = Cert.ReferenceIdeal.Step.b9 j s := by
  unfold res_main_while0b_v122 Cert.ReferenceIdeal.Step.b9
  rw [← al_8 h]
  try rfl
set_option maxRecDepth 8192 in
theorem al_10 (h : Holds V0 s j) : (constantI S_ 32 0#32 : (Proc.devRef .tc main_while0b_call4_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call4_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call4_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x2x2x16 (V0 (Proc.devRef .tc main_v92_2)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16 : (Proc.devRef .tc main_while0b_call4_v0 : DevRef τ sig).ty.Contents (Elt F)) = Cert.ReferenceIdeal.Step.b13 j s := by
  unfold Cert.ReferenceIdeal.Step.b13
  rw [← al_10 h, ← al_11 h, ← al_12 h, h.f_2, h.n_6]
  try rfl
set_option maxRecDepth 8192 in
theorem al_14 (h : Holds V0 s j) : (shapeCast S2x2x16 (Host.dynamicSlice S1x2x2x16 (V0 (Proc.devRef .tc main_v92_2)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16 : (Proc.devRef .tc main_while0b_v123 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call5_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call5_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call5_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x2x2x16 (V0 (Proc.devRef .tc main_v92_3)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16 : (Proc.devRef .tc main_while0b_call5_v0 : DevRef τ sig).ty.Contents (Elt F)) = Cert.ReferenceIdeal.Step.b18 j s := by
  unfold Cert.ReferenceIdeal.Step.b18
  rw [← al_15 h, ← al_16 h, ← al_17 h, h.f_3, h.n_6]
  try rfl
set_option maxRecDepth 8192 in
theorem al_19 (h : Holds V0 s j) : (shapeCast S2x2x16 (Host.dynamicSlice S1x2x2x16 (V0 (Proc.devRef .tc main_v92_3)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16 : (Proc.devRef .tc main_while0b_v124 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (broadcastInDim S2x2x32x1 ![0, 1, 2] bcast_S2x2x32_S2x2x32x1_0_1_2 (res_main_while0b_v122 V0) : (Proc.devRef .tc main_while0b_v125 : DevRef τ sig).ty.Contents (Elt F)) = Cert.ReferenceIdeal.Step.b20 j s := by
  unfold Cert.ReferenceIdeal.Step.b20
  rw [← al_9 h]
  try rfl
set_option maxRecDepth 8192 in
theorem al_21 (h : Holds V0 s j) : (broadcastInDim S1x2x32x16 ![1, 2, 3] bcast_S2x32x16_S1x2x32x16_1_2_3 (V0 (Proc.devRef .tc main_v92_4)) : (Proc.devRef .tc main_while0b_v126 : DevRef τ sig).ty.Contents (Elt F)) = Cert.ReferenceIdeal.Step.b21 j s := by
  unfold Cert.ReferenceIdeal.Step.b21
  rw [h.f_4]
  try rfl
set_option maxRecDepth 8192 in
theorem al_22 (h : Holds V0 s j) : (broadcastInDim S2x2x32x16 ![0, 1, 2, 3] bcast_S2x2x32x1_S2x2x32x16_0_1_2_3 (broadcastInDim S2x2x32x1 ![0, 1, 2] bcast_S2x2x32_S2x2x32x1_0_1_2 (res_main_while0b_v122 V0)) : (Proc.devRef .tc main_while0b_v127 : DevRef τ sig).ty.Contents (Elt F)) = Cert.ReferenceIdeal.Step.b22 j s := by
  unfold Cert.ReferenceIdeal.Step.b22
  rw [← al_20 h]
  try rfl
set_option maxRecDepth 8192 in
theorem al_23 (h : Holds V0 s j) : (broadcastInDim S2x2x32x16 ![0, 1, 2, 3] bcast_S1x2x32x16_S2x2x32x16_0_1_2_3 (broadcastInDim S1x2x32x16 ![1, 2, 3] bcast_S2x32x16_S1x2x32x16_1_2_3 (V0 (Proc.devRef .tc main_v92_4))) : (Proc.devRef .tc main_while0b_v128 : DevRef τ sig).ty.Contents (Elt F)) = Cert.ReferenceIdeal.Step.b23 j s := by
  unfold Cert.ReferenceIdeal.Step.b23
  rw [← al_21 h]
  try rfl
set_option maxRecDepth 8192 in
theorem al_24 (h : Holds V0 s j) : (mulf (broadcastInDim S2x2x32x16 ![0, 1, 2, 3] bcast_S2x2x32x1_S2x2x32x16_0_1_2_3 (broadcastInDim S2x2x32x1 ![0, 1, 2] bcast_S2x2x32_S2x2x32x1_0_1_2 (res_main_while0b_v122 V0))) (broadcastInDim S2x2x32x16 ![0, 1, 2, 3] bcast_S1x2x32x16_S2x2x32x16_0_1_2_3 (broadcastInDim S1x2x32x16 ![1, 2, 3] bcast_S2x32x16_S1x2x32x16_1_2_3 (V0 (Proc.devRef .tc main_v92_4)))) : (Proc.devRef .tc main_while0b_v129 : DevRef τ sig).ty.Contents (Elt F)) = Cert.ReferenceIdeal.Step.b24 j s := by
  unfold Cert.ReferenceIdeal.Step.b24
  rw [← al_22 h, ← al_23 h]
  try rfl
set_option maxRecDepth 8192 in
theorem al_25 (h : Holds V0 s j) : (Host.exp (mulf (broadcastInDim S2x2x32x16 ![0, 1, 2, 3] bcast_S2x2x32x1_S2x2x32x16_0_1_2_3 (broadcastInDim S2x2x32x1 ![0, 1, 2] bcast_S2x2x32_S2x2x32x1_0_1_2 (res_main_while0b_v122 V0))) (broadcastInDim S2x2x32x16 ![0, 1, 2, 3] bcast_S1x2x32x16_S2x2x32x16_0_1_2_3 (broadcastInDim S1x2x32x16 ![1, 2, 3] bcast_S2x32x16_S1x2x32x16_1_2_3 (V0 (Proc.devRef .tc main_v92_4))))) : (Proc.devRef .tc main_while0b_v130 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (mulf (Host.exp (mulf (broadcastInDim S2x2x32x16 ![0, 1, 2, 3] bcast_S2x2x32x1_S2x2x32x16_0_1_2_3 (broadcastInDim S2x2x32x1 ![0, 1, 2] bcast_S2x2x32_S2x2x32x1_0_1_2 (res_main_while0b_v122 V0))) (broadcastInDim S2x2x32x16 ![0, 1, 2, 3] bcast_S1x2x32x16_S2x2x32x16_0_1_2_3 (broadcastInDim S1x2x32x16 ![1, 2, 3] bcast_S2x32x16_S1x2x32x16_1_2_3 (V0 (Proc.devRef .tc main_v92_4)))))) (V0 (Proc.devRef .tc main_v92_7)) : (Proc.devRef .tc main_while0b_v131 : DevRef τ sig).ty.Contents (Elt F)) = Cert.ReferenceIdeal.Step.b26 j s := by
  unfold Cert.ReferenceIdeal.Step.b26
  rw [← al_25 h, h.f_7]
  try rfl
set_option maxRecDepth 8192 in
theorem al_27 (h : Holds V0 s j) : (mulf (res_main_while0b_v122 V0) (res_main_while0b_v121 V0) : (Proc.devRef .tc main_while0b_v132 : DevRef τ sig).ty.Contents (Elt F)) = Cert.ReferenceIdeal.Step.b27 j s := by
  unfold Cert.ReferenceIdeal.Step.b27
  rw [← al_9 h, ← al_4 h]
  try rfl
set_option maxRecDepth 8192 in
theorem al_28 (h : Holds V0 s j) : (broadcastInDim S2x2x32x1 ![0, 1, 2] bcast_S2x2x32_S2x2x32x1_0_1_2 (mulf (res_main_while0b_v122 V0) (res_main_while0b_v121 V0)) : (Proc.devRef .tc main_while0b_v133 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (broadcastInDim S2x2x1x16 ![0, 1, 3] bcast_S2x2x16_S2x2x1x16_0_1_3 (shapeCast S2x2x16 (Host.dynamicSlice S1x2x2x16 (V0 (Proc.devRef .tc main_v92_2)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16) : (Proc.devRef .tc main_while0b_v134 : DevRef τ sig).ty.Contents (Elt F)) = Cert.ReferenceIdeal.Step.b29 j s := by
  unfold Cert.ReferenceIdeal.Step.b29
  rw [← al_14 h]
  try rfl
set_option maxRecDepth 8192 in
theorem al_30 (h : Holds V0 s j) : (broadcastInDim S2x2x32x16 ![0, 1, 2, 3] bcast_S2x2x32x1_S2x2x32x16_0_1_2_3 (broadcastInDim S2x2x32x1 ![0, 1, 2] bcast_S2x2x32_S2x2x32x1_0_1_2 (mulf (res_main_while0b_v122 V0) (res_main_while0b_v121 V0))) : (Proc.devRef .tc main_while0b_v135 : DevRef τ sig).ty.Contents (Elt F)) = Cert.ReferenceIdeal.Step.b30 j s := by
  unfold Cert.ReferenceIdeal.Step.b30
  rw [← al_28 h]
  try rfl
set_option maxRecDepth 8192 in
theorem al_31 (h : Holds V0 s j) : (broadcastInDim S2x2x32x16 ![0, 1, 2, 3] bcast_S2x2x1x16_S2x2x32x16_0_1_2_3 (broadcastInDim S2x2x1x16 ![0, 1, 3] bcast_S2x2x16_S2x2x1x16_0_1_3 (shapeCast S2x2x16 (Host.dynamicSlice S1x2x2x16 (V0 (Proc.devRef .tc main_v92_2)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16)) : (Proc.devRef .tc main_while0b_v136 : DevRef τ sig).ty.Contents (Elt F)) = Cert.ReferenceIdeal.Step.b31 j s := by
  unfold Cert.ReferenceIdeal.Step.b31
  rw [← al_29 h]
  try rfl
set_option maxRecDepth 8192 in
theorem al_32 (h : Holds V0 s j) : (mulf (broadcastInDim S2x2x32x16 ![0, 1, 2, 3] bcast_S2x2x32x1_S2x2x32x16_0_1_2_3 (broadcastInDim S2x2x32x1 ![0, 1, 2] bcast_S2x2x32_S2x2x32x1_0_1_2 (mulf (res_main_while0b_v122 V0) (res_main_while0b_v121 V0)))) (broadcastInDim S2x2x32x16 ![0, 1, 2, 3] bcast_S2x2x1x16_S2x2x32x16_0_1_2_3 (broadcastInDim S2x2x1x16 ![0, 1, 3] bcast_S2x2x16_S2x2x1x16_0_1_3 (shapeCast S2x2x16 (Host.dynamicSlice S1x2x2x16 (V0 (Proc.devRef .tc main_v92_2)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16))) : (Proc.devRef .tc main_while0b_v137 : DevRef τ sig).ty.Contents (Elt F)) = Cert.ReferenceIdeal.Step.b32 j s := by
  unfold Cert.ReferenceIdeal.Step.b32
  rw [← al_30 h, ← al_31 h]
  try rfl
set_option maxRecDepth 8192 in
theorem al_33 (h : Holds V0 s j) : (res_main_while0b_v138 V0 : (Proc.devRef .tc main_while0b_v138 : DevRef τ sig).ty.Contents (Elt F)) = Cert.ReferenceIdeal.Step.b33 j s := by
  unfold res_main_while0b_v138 Cert.ReferenceIdeal.Step.b33
  rw [← al_26 h, ← al_32 h]
  try rfl
set_option maxRecDepth 8192 in
theorem al_34 (h : Holds V0 s j) : (Host.dotGeneral dot_S2x2x32x16_S2x2x16_S2x2x32_3_2_2_n_01_01 none (res_main_while0b_v138 V0) (shapeCast S2x2x16 (Host.dynamicSlice S1x2x2x16 (V0 (Proc.devRef .tc main_v92_3)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16) : (Proc.devRef .tc main_while0b_v139 : DevRef τ sig).ty.Contents (Elt F)) = Cert.ReferenceIdeal.Step.b34 j s := by
  unfold Cert.ReferenceIdeal.Step.b34
  rw [← al_33 h, ← al_19 h]
  try rfl
set_option maxRecDepth 8192 in
theorem al_35 (h : Holds V0 s j) : (broadcastInDim S1x2x32 ![1, 2] bcast_S2x32_S1x2x32_1_2 (V0 (Proc.devRef .tc main_v92_5)) : (Proc.devRef .tc main_while0b_v140 : DevRef τ sig).ty.Contents (Elt F)) = Cert.ReferenceIdeal.Step.b35 j s := by
  unfold Cert.ReferenceIdeal.Step.b35
  rw [h.f_5]
  try rfl
set_option maxRecDepth 8192 in
theorem al_36 (h : Holds V0 s j) : (broadcastInDim S2x2x32 ![0, 1, 2] bcast_S1x2x32_S2x2x32_0_1_2 (broadcastInDim S1x2x32 ![1, 2] bcast_S2x32_S1x2x32_1_2 (V0 (Proc.devRef .tc main_v92_5))) : (Proc.devRef .tc main_while0b_v141 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (mulf (broadcastInDim S2x2x32 ![0, 1, 2] bcast_S1x2x32_S2x2x32_0_1_2 (broadcastInDim S1x2x32 ![1, 2] bcast_S2x32_S1x2x32_1_2 (V0 (Proc.devRef .tc main_v92_5)))) (res_main_while0b_v121 V0) : (Proc.devRef .tc main_while0b_v142 : DevRef τ sig).ty.Contents (Elt F)) = Cert.ReferenceIdeal.Step.b37 j s := by
  unfold Cert.ReferenceIdeal.Step.b37
  rw [← al_36 h, ← al_4 h]
  try rfl
set_option maxRecDepth 8192 in
theorem al_38 (h : Holds V0 s j) : (addf (Host.dotGeneral dot_S2x2x32x16_S2x2x16_S2x2x32_3_2_2_n_01_01 none (res_main_while0b_v138 V0) (shapeCast S2x2x16 (Host.dynamicSlice S1x2x2x16 (V0 (Proc.devRef .tc main_v92_3)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16)) (mulf (broadcastInDim S2x2x32 ![0, 1, 2] bcast_S1x2x32_S2x2x32_0_1_2 (broadcastInDim S1x2x32 ![1, 2] bcast_S2x32_S1x2x32_1_2 (V0 (Proc.devRef .tc main_v92_5)))) (res_main_while0b_v121 V0)) : (Proc.devRef .tc main_while0b_v143 : DevRef τ sig).ty.Contents (Elt F)) = Cert.ReferenceIdeal.Step.b38 j s := by
  unfold Cert.ReferenceIdeal.Step.b38
  rw [← al_34 h, ← al_37 h]
  try rfl
set_option maxRecDepth 8192 in
theorem al_39 (h : Holds V0 s j) : (broadcastInDim S1x2x2x32 ![1, 2, 3] bcast_S2x2x32_S1x2x2x32_1_2_3 (addf (Host.dotGeneral dot_S2x2x32x16_S2x2x16_S2x2x32_3_2_2_n_01_01 none (res_main_while0b_v138 V0) (shapeCast S2x2x16 (Host.dynamicSlice S1x2x2x16 (V0 (Proc.devRef .tc main_v92_3)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16)) (mulf (broadcastInDim S2x2x32 ![0, 1, 2] bcast_S1x2x32_S2x2x32_0_1_2 (broadcastInDim S1x2x32 ![1, 2] bcast_S2x32_S1x2x32_1_2 (V0 (Proc.devRef .tc main_v92_5)))) (res_main_while0b_v121 V0))) : (Proc.devRef .tc main_while0b_call6_v0 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (constantI S_ 32 0#32 : (Proc.devRef .tc main_while0b_call6_c : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call6_c_0 : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call6_c_1 : DevRef τ sig).ty.Contents (Elt F)) = Cert.ReferenceIdeal.Step.b42 j s := by
  unfold Cert.ReferenceIdeal.Step.b42
  rfl
set_option maxRecDepth 8192 in
theorem al_43 (h : Holds V0 s j) : (Host.dynamicUpdateSlice (V0 (Proc.devRef .tc main_v92_8)) (broadcastInDim S1x2x2x32 ![1, 2, 3] bcast_S2x2x32_S1x2x2x32_1_2_3 (addf (Host.dotGeneral dot_S2x2x32x16_S2x2x16_S2x2x32_3_2_2_n_01_01 none (res_main_while0b_v138 V0) (shapeCast S2x2x16 (Host.dynamicSlice S1x2x2x16 (V0 (Proc.devRef .tc main_v92_3)) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) sliceFits_S16384x2x2x16_S1x2x2x16) shapeCasts_S1x2x2x16_S2x2x16)) (mulf (broadcastInDim S2x2x32 ![0, 1, 2] bcast_S1x2x32_S2x2x32_0_1_2 (broadcastInDim S1x2x32 ![1, 2] bcast_S2x32_S1x2x32_1_2 (V0 (Proc.devRef .tc main_v92_5)))) (res_main_while0b_v121 V0)))) (fun k => (((![V0 (Proc.devRef .tc main_v92_6), constantI S_ 32 0#32, constantI S_ 32 0#32, constantI S_ 32 0#32] : Fin 4 → (⟨S_, .i32⟩ : BufTy).Contents (Elt F))) k (Shape.Idx.first h_S_)).toInt) updateFits_S16384x2x2x32_S1x2x2x32 : (Proc.devRef .tc main_while0b_v144 : DevRef τ sig).ty.Contents (Elt F)) = Cert.ReferenceIdeal.Step.b43 j s := by
  unfold Cert.ReferenceIdeal.Step.b43
  rw [← al_39 h, ← al_40 h, ← al_41 h, ← al_42 h, h.f_8, h.n_6]
  try rfl

/-! One trip's step of the carried values is `step`, field by field; a counter steps to the next number. -/

theorem step_7 (h : Holds V0 s j) : step_main_v92_7 V0 = (step j s).main_v92_7 := by
  unfold step_main_v92_7 Cert.ReferenceIdeal.Step.step
  show id (res_main_while0b_v138 V0) = _
  rw [al_33 h]
  try rfl
theorem step_8 (h : Holds V0 s j) : step_main_v92_8 V0 = (step j s).main_v92_8 := by
  unfold step_main_v92_8 Cert.ReferenceIdeal.Step.step
  exact al_43 h
theorem step_6 (h : Holds V0 s j) : step_main_v92_6 V0 = constantI S_ 32 (BitVec.ofNat 32 (j + 1)) := by
  unfold step_main_v92_6
  rw [h.n_6]
  funext i
  show BitVec.ofNat 32 j + 1#32 = BitVec.ofNat 32 (j + 1)
  simp only [BitVec.ofNat_add]

set_option maxRecDepth 8192 in
theorem out_main_v120_holds (h : Holds V0 s j) {x_main_arg9 : (⟨S32, .f32⟩ : BufTy).Contents (Elt F)} (h_main_arg9 : V0 (Proc.devRef .tc main_arg9) = x_main_arg9) {x_main_arg10 : (⟨S32, .f32⟩ : BufTy).Contents (Elt F)} (h_main_arg10 : V0 (Proc.devRef .tc main_arg10) = x_main_arg10) : out_main_v120 V0 = Cert.ReferenceIdeal.Step.R_main_v120 s x_main_arg9 x_main_arg10 := by
  unfold out_main_v120 Cert.ReferenceIdeal.Step.R_main_v120
  rw [h.f_8, h_main_arg9, h_main_arg10]
  try rfl

/-- One trip keeps the valuation holding: `step` of the state, the same set-up values, the next number. -/
theorem holds_step (h : Holds V0 s j) : Holds (STEP V0) (step j s) (j + 1) where
  f_7 := (STEP_main_v92_7 V0).trans (step_7 h)
  f_8 := (STEP_main_v92_8 V0).trans (step_8 h)
  n_6 := (STEP_main_v92_6 V0).trans (step_6 h)
  f_0 := (STEP_main_v92_0 V0).trans h.f_0
  f_1 := (STEP_main_v92_1 V0).trans h.f_1
  f_2 := (STEP_main_v92_2 V0).trans h.f_2
  f_3 := (STEP_main_v92_3 V0).trans h.f_3
  f_4 := (STEP_main_v92_4 V0).trans h.f_4
  f_5 := (STEP_main_v92_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

variable (m : (ℓ : Loc nD τ sig) → Buf (Elt F) ℓ) (c : Dev nD)

set_option maxRecDepth 65536 in
set_option maxHeartbeats 1000000 in
/-- The loop's value `main_v92_7` before the first trip. -/
theorem entry_f_7 : (entryContents preI m c) (Proc.devRef .tc main_v92_7) = (initState m c).main_v92_7 := by
  simp only [entryContents, afterL_cons, afterL_nil]
  after_reads_simp <;> rfl

set_option maxRecDepth 65536 in
set_option maxHeartbeats 1000000 in
/-- The loop's value `main_v92_8` before the first trip. -/
theorem entry_f_8 : (entryContents preI m c) (Proc.devRef .tc main_v92_8) = (initState m c).main_v92_8 := by
  simp only [entryContents, afterL_cons, afterL_nil]
  after_reads_simp <;> rfl

set_option maxRecDepth 65536 in
set_option maxHeartbeats 1000000 in
/-- The loop's value `main_v92_0` before the first trip. -/
theorem entry_f_0 : (entryContents preI m c) (Proc.devRef .tc main_v92_0) = (initState m c).main_v92_0 := by
  simp only [entryContents, afterL_cons, afterL_nil]
  after_reads_simp
  unfold initState init
  dsimp only
  unfold Cert.ReferenceIdeal.Step.A_main_v86 Cert.ReferenceIdeal.Step.A_main_v70
  congr 2

set_option maxRecDepth 65536 in
set_option maxHeartbeats 1000000 in
/-- The loop's value `main_v92_1` before the first trip. -/
theorem entry_f_1 : (entryContents preI m c) (Proc.devRef .tc main_v92_1) = (initState m c).main_v92_1 := by
  simp only [entryContents, afterL_cons, afterL_nil]
  after_reads_simp
  unfold initState init
  dsimp only
  unfold Cert.ReferenceIdeal.Step.A_main_v87 Cert.ReferenceIdeal.Step.A_main_v85 Cert.ReferenceIdeal.Step.A_main_call1_v4 Cert.ReferenceIdeal.Step.A_main_call1_v6 Cert.ReferenceIdeal.Step.A_main_call1_v11 Cert.ReferenceIdeal.Step.A_main_call1_v10 Cert.ReferenceIdeal.Step.A_main_call1_v9 Cert.ReferenceIdeal.Step.A_main_call1_v8 Cert.ReferenceIdeal.Step.A_main_call1_v7 Cert.ReferenceIdeal.Step.A_main_call1_v3 Cert.ReferenceIdeal.Step.A_main_call1_v1
  refine congrArg (fun Y : (⟨S2x2x32x16384, .f32⟩ : BufTy).Contents (Elt F) => transpose S16384x2x2x32 [3, 0, 1, 2] (select (cmpf .une (subf Y Cert.ReferenceIdeal.Step.K_main_call1_v2) (subf Y Cert.ReferenceIdeal.Step.K_main_call1_v2)) (addf Y Cert.ReferenceIdeal.Step.K_main_call1_v5) (addf (maximumf Y Cert.ReferenceIdeal.Step.K_main_call1_v0) (Host.log1p (Host.exp (Host.negf (Host.absf (subf Y Cert.ReferenceIdeal.Step.K_main_call1_v2))))))) transposes_S2x2x32x16384_S16384x2x2x32_3_0_1_2) (?_ : _ = Cert.ReferenceIdeal.Step.A_main_v84 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
  rfl

set_option maxRecDepth 65536 in
set_option maxHeartbeats 1000000 in
/-- The loop's value `main_v92_2` before the first trip. -/
theorem entry_f_2 : (entryContents preI m c) (Proc.devRef .tc main_v92_2) = (initState m c).main_v92_2 := by
  simp only [entryContents, afterL_cons, afterL_nil]
  after_reads_simp <;> rfl

set_option maxRecDepth 65536 in
set_option maxHeartbeats 1000000 in
/-- The loop's value `main_v92_3` before the first trip. -/
theorem entry_f_3 : (entryContents preI m c) (Proc.devRef .tc main_v92_3) = (initState m c).main_v92_3 := by
  simp only [entryContents, afterL_cons, afterL_nil]
  after_reads_simp <;> rfl

set_option maxRecDepth 65536 in
set_option maxHeartbeats 1000000 in
/-- The loop's value `main_v92_4` before the first trip. -/
theorem entry_f_4 : (entryContents preI m c) (Proc.devRef .tc main_v92_4) = (initState m c).main_v92_4 := by
  simp only [entryContents, afterL_cons, afterL_nil]
  after_reads_simp <;> rfl

set_option maxRecDepth 65536 in
set_option maxHeartbeats 1000000 in
/-- The loop's value `main_v92_5` before the first trip. -/
theorem entry_f_5 : (entryContents preI m c) (Proc.devRef .tc main_v92_5) = (initState m c).main_v92_5 := by
  simp only [entryContents, afterL_cons, afterL_nil]
  after_reads_simp <;> rfl

set_option maxRecDepth 65536 in
/-- The loop's counter before the first trip. -/
theorem entry_n_6 : (entryContents preI m c) (Proc.devRef .tc main_v92_6) = constantI S_ 32 (BitVec.ofNat 32 0) := by
  simp only [entryContents, afterL_cons, afterL_nil]
  after_reads_simp <;> rfl

/-- What @main's operations before the loop leave: the set-up values, number 0, the initial state. -/
theorem entry_holds : Holds (entryContents preI m c) (initState m c) 0 :=
  ⟨entry_f_7 m c, entry_f_8 m c, entry_f_0 m c, entry_f_1 m c, entry_f_2 m c, entry_f_3 m c, entry_f_4 m c, entry_f_5 m c,
    entry_n_6 m c⟩

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 16384 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v120) = Cert.ReferenceIdeal.Step.R_main_v120 (it c 16384) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 16384
    ⟨(h c).1.trans (out_main_v120_holds hk (iter_kept m (args_kept main_arg9 (by decide)) c 16384) (iter_kept m (args_kept main_arg10 (by decide)) c 16384)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.ReferenceIdeal.StepRun

end
-- ==== Proof.Parts.lean ====
module

public import proofs.«01_k».proof.Proof.Gen.KernelIdeal.Skeleton

@[expose] public section

noncomputable section

/-! The parts of the idealized body that name no constant are their skeletons over any float operations: the same equations as the generated
    ones, without the named constants as a parameter. -/

namespace Cert.KernelIdeal

open Idealize.ShloMosaic Idealize.ShloMosaic.TcCoe
open Gen

variable {F : FTy → Type} [FloatOps F]

set_option maxRecDepth 65536

theorem k0_part1_eq_skeleton : k0_part1 (F := F) = k0_part1_skel (F := F) := rfl
theorem k0_part2_eq_skeleton : k0_part2 (F := F) = k0_part2_skel (F := F) := rfl
theorem k0_part3_eq_skeleton : k0_part3 (F := F) = k0_part3_skel (F := F) := rfl
theorem k0_part4_eq_skeleton : k0_part4 (F := F) = k0_part4_skel (F := F) := rfl
theorem k0_part5_eq_skeleton : k0_part5 (F := F) = k0_part5_skel (F := F) := rfl
theorem k0_part6_eq_skeleton : k0_part6 (F := F) = k0_part6_skel (F := F) := rfl
theorem k0_part7_eq_skeleton : k0_part7 (F := F) = k0_part7_skel (F := F) := rfl
theorem k0_part8_eq_skeleton : k0_part8 (F := F) = k0_part8_skel (F := F) := rfl
theorem k0_part9_eq_skeleton : k0_part9 (F := F) = k0_part9_skel (F := F) := rfl
theorem k0_part10_eq_skeleton : k0_part10 (F := F) = k0_part10_skel (F := F) := rfl
theorem k0_part11_eq_skeleton : k0_part11 (F := F) = k0_part11_skel (F := F) := rfl
theorem k0_part14_eq_skeleton : k0_part14 (F := F) = k0_part14_skel (F := F) := rfl
theorem k0_part15_eq_skeleton : k0_part15 (F := F) = k0_part15_skel (F := F) := rfl
theorem k0_part16_eq_skeleton : k0_part16 (F := F) = k0_part16_skel (F := F) := rfl
theorem k0_part17_eq_skeleton : k0_part17 (F := F) = k0_part17_skel (F := F) := rfl
theorem k0_part20_eq_skeleton : k0_part20 (F := F) = k0_part20_skel (F := F) := rfl
theorem k0_part21_eq_skeleton : k0_part21 (F := F) = k0_part21_skel (F := F) := rfl
theorem k0_part22_eq_skeleton : k0_part22 (F := F) = k0_part22_skel (F := F) := rfl
theorem k0_part23_eq_skeleton : k0_part23 (F := F) = k0_part23_skel (F := F) := rfl
theorem k0_part24_eq_skeleton : k0_part24 (F := F) = k0_part24_skel (F := F) := rfl
theorem k0_part27_eq_skeleton : k0_part27 (F := F) = k0_part27_skel (F := F) := rfl
theorem k0_part28_eq_skeleton : k0_part28 (F := F) = k0_part28_skel (F := F) := rfl
theorem k0_part29_eq_skeleton : k0_part29 (F := F) = k0_part29_skel (F := F) := rfl
theorem k0_part30_eq_skeleton : k0_part30 (F := F) = k0_part30_skel (F := F) := rfl
theorem k0_part33_eq_skeleton : k0_part33 (F := F) = k0_part33_skel (F := F) := rfl
theorem k0_part34_eq_skeleton : k0_part34 (F := F) = k0_part34_skel (F := F) := rfl
theorem k0_part35_eq_skeleton : k0_part35 (F := F) = k0_part35_skel (F := F) := rfl
theorem k0_part36_eq_skeleton : k0_part36 (F := F) = k0_part36_skel (F := F) := rfl

end Cert.KernelIdeal

end
-- ==== Proof.Body.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Parts
public import proofs.«01_k».proof.Proof.Gen.KernelIdeal.Points
public import Idealize.ShloMosaic.Lib.Tactic
public import Idealize.ShloMosaic.Lib.Pipeline.FrameBody

@[expose] public section

noncomputable section

namespace Cert.Proof.KernelIdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's resource algebra: the frame kit's. -/
local notation "𝕄" => MT nD τ sig Unit (Elt F) ℕ (UR sig nD τ) ℕ

abbrev 𝒱₀ : Variants := Variants.none

set_option maxHeartbeats 0 in
/-- What the body leaves in the result's buffer, with the run that leaves it there. -/
noncomputable def kernelRun (c : Dev nD) (i : grid0.Coords)
    (M1 : Memref sig .tc .vmem S1x64x2048 .f32) (h1 : M1.IsWhole)
    (M2 : Memref sig .tc .vmem S1x130x130x96 .f32) (h2 : M2.IsWhole)
    (M3 : Memref sig .tc .vmem S9x32x32 .f32) (h3 : M3.IsWhole)
    (M4 : Memref sig .tc .vmem S9x96x32 .f32) (h4 : M4.IsWhole)
    (M5 : Memref sig .tc .vmem S1x32 .f32) (h5 : M5.IsWhole)
    (M6 : Memref sig .tc .vmem S128x64 .f32) (h6 : M6.IsWhole)
    (M7 : Memref sig .tc .vmem S64x128 .f32) (h7 : M7.IsWhole)
    (M8 : Memref sig .tc .vmem S2x32x64 .f32) (h8 : M8.IsWhole)
    (M9 : Memref sig .tc .vmem S2x32x32 .f32) (h9 : M9.IsWhole)
    (M10 : Memref sig .tc .vmem S2x1x32 .f32) (h10 : M10.IsWhole)
    (M11 : Memref sig .tc .vmem S2x1x512 .f32) (h11 : M11.IsWhole)
    (M12 : Memref sig .tc .vmem S2x1x32 .f32) (h12 : M12.IsWhole)
    (M13 : Memref sig .tc .vmem S1x32 .f32) (h13 : M13.IsWhole)
    (M14 : Memref sig .tc .vmem S1x32 .f32) (h14 : M14.IsWhole)
    (M15 : Memref sig .tc .vmem S32x512 .f32) (h15 : M15.IsWhole)
    (M16 : Memref sig .tc .vmem S16x512 .f32) (h16 : M16.IsWhole)
    (M17 : Memref sig .tc .vmem S512x32 .f32) (h17 : M17.IsWhole)
    (M18 : Memref sig .tc .vmem S1x128x4096 .f32) (h18 : M18.IsWhole)
    (M19 : Memref sig .tc .vmem S32x64x32 .f32) (h19 : M19.IsWhole)
    (M20 : Memref sig .tc .vmem S130x130x32 .f32) (h20 : M20.IsWhole)
    (M21 : Memref sig .tc .vmem S128x128x128 .f32) (h21 : M21.IsWhole)
    (M22 : Memref sig .tc .vmem S128x128x128 .f32) (h22 : M22.IsWhole)
    (M23 : Memref sig .tc .vmem S128x4096 .f32) (h23 : M23.IsWhole)
    (x1 : Vec F S1x64x2048 .f32) (x2 : Vec F S1x130x130x96 .f32) (x3 : Vec F S9x32x32 .f32) (x4 : Vec F S9x96x32 .f32) (x5 : Vec F S1x32 .f32) (x6 : Vec F S128x64 .f32) (x7 : Vec F S64x128 .f32) (x8 : Vec F S2x32x64 .f32) (x9 : Vec F S2x32x32 .f32) (x10 : Vec F S2x1x32 .f32) (x11 : Vec F S2x1x512 .f32) (x12 : Vec F S2x1x32 .f32) (x13 : Vec F S1x32 .f32) (x14 : Vec F S1x32 .f32) (x15 : Vec F S32x512 .f32) (x16 : Vec F S16x512 .f32) (x17 : Vec F S512x32 .f32)
    (g18 : Vec F S1x128x4096 .f32) (g19 : Vec F S32x64x32 .f32) (g20 : Vec F S130x130x32 .f32) (g21 : Vec F S128x128x128 .f32) (g22 : Vec F S128x128x128 .f32) (g23 : Vec F S128x4096 .f32) :
    { Y : Vec F S1x128x4096 .f32 //
      ∀ (E : Set ℕ) (K : PUnit → sProp 𝕄),
        iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16 ∗ owns (c : Thread nD τ) M17 fullShare x17 ∗ owns (c : Thread nD τ) M18 fullShare g18 ∗ owns (c : Thread nD τ) M19 fullShare g19 ∗ owns (c : Thread nD τ) M20 fullShare g20 ∗ owns (c : Thread nD τ) M21 fullShare g21 ∗ owns (c : Thread nD τ) M22 fullShare g22 ∗ owns (c : Thread nD τ) M23 fullShare g23 ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16 ∗ owns (c : Thread nD τ) M17 fullShare x17 ∗ owns (c : Thread nD τ) M18 fullShare Y ∗ (∃ d, owns (c : Thread nD τ) M19 fullShare d) ∗ (∃ d, owns (c : Thread nD τ) M20 fullShare d) ∗ (∃ d, owns (c : Thread nD τ) M21 fullShare d) ∗ (∃ d, owns (c : Thread nD τ) M22 fullShare d) ∗ (∃ d, owns (c : Thread nD τ) M23 fullShare d)) -∗ K ⟨⟩))
          ⊢ wp frame (wpE (defs₀ (F := F)) 𝒱₀ c none) E (cc0__stage_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23) K } := by
  refine ⟨?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16; obtain rfl := h17.eq_unread hf17; obtain rfl := h18.eq_unread hf18; obtain rfl := h19.eq_unread hf19; obtain rfl := h20.eq_unread hf20; obtain rfl := h21.eq_unread hf21; obtain rfl := h22.eq_unread hf22; obtain rfl := h23.eq_unread hf23
    sl_unfold [cc0__stage_body]
    sl_exec!
    sl_step
    iapply Hk

    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]
    · iexists _; isplitr; · ipureintro; exact h14.read_unread _
      iexact H14
    isplitl [H15]
    · iexists _; isplitr; · ipureintro; exact h15.read_unread _
      iexact H15
    isplitl [H16]
    · iexists _; isplitr; · ipureintro; exact h16.read_unread _
      iexact H16
    isplitl [H17]
    · iexists _; isplitr; · ipureintro; exact h17.read_unread _
      iexact H17
    isplitl [H18]
    · iexists _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl

end Cert.Proof.KernelIdealRun

end
-- ==== Proof.Windows.lean ====
module

public import proofs.«01_k».proof.Proof.Body
public import Idealize.ShloMosaic.Lib.Pipeline.Frame
public import Idealize.ShloMosaic.Lib.Pipeline.FrameSuffix

@[expose] public section

noncomputable section

/-! The body's buffers at a grid point. -/

namespace Cert.Proof.KernelIdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F] [∀ e, Nonempty (Elt F e)]

/-- The proof's resource algebra: the frame kit's. -/
local notation "𝕄" => MT nD τ sig Unit (Elt F) ℕ (UR sig nD τ) ℕ

abbrev ms0 (t : Fin cfg0.N) : Memref sig .tc .vmem S1x64x2048 .f32 := win0_0.stage (cfg0.slots t 0)
abbrev hs0 (t : Fin cfg0.N) : (ms0 t).IsWhole := hstage0_0 (cfg0.slots t 0)
abbrev ms1 (t : Fin cfg0.N) : Memref sig .tc .vmem S1x130x130x96 .f32 := win0_1.stage (cfg0.slots t 1)
abbrev hs1 (t : Fin cfg0.N) : (ms1 t).IsWhole := hstage0_1 (cfg0.slots t 1)
abbrev ms2 (t : Fin cfg0.N) : Memref sig .tc .vmem S9x32x32 .f32 := win0_2.stage (cfg0.slots t 2)
abbrev hs2 (t : Fin cfg0.N) : (ms2 t).IsWhole := hstage0_2 (cfg0.slots t 2)
abbrev ms3 (t : Fin cfg0.N) : Memref sig .tc .vmem S9x96x32 .f32 := win0_3.stage (cfg0.slots t 3)
abbrev hs3 (t : Fin cfg0.N) : (ms3 t).IsWhole := hstage0_3 (cfg0.slots t 3)
abbrev ms4 (t : Fin cfg0.N) : Memref sig .tc .vmem S1x32 .f32 := win0_4.stage (cfg0.slots t 4)
abbrev hs4 (t : Fin cfg0.N) : (ms4 t).IsWhole := hstage0_4 (cfg0.slots t 4)
abbrev ms5 (t : Fin cfg0.N) : Memref sig .tc .vmem S128x64 .f32 := win0_5.stage (cfg0.slots t 5)
abbrev hs5 (t : Fin cfg0.N) : (ms5 t).IsWhole := hstage0_5 (cfg0.slots t 5)
abbrev ms6 (t : Fin cfg0.N) : Memref sig .tc .vmem S64x128 .f32 := win0_6.stage (cfg0.slots t 6)
abbrev hs6 (t : Fin cfg0.N) : (ms6 t).IsWhole := hstage0_6 (cfg0.slots t 6)
abbrev ms7 (t : Fin cfg0.N) : Memref sig .tc .vmem S2x32x64 .f32 := win0_7.stage (cfg0.slots t 7)
abbrev hs7 (t : Fin cfg0.N) : (ms7 t).IsWhole := hstage0_7 (cfg0.slots t 7)
abbrev ms8 (t : Fin cfg0.N) : Memref sig .tc .vmem S2x32x32 .f32 := win0_8.stage (cfg0.slots t 8)
abbrev hs8 (t : Fin cfg0.N) : (ms8 t).IsWhole := hstage0_8 (cfg0.slots t 8)
abbrev ms9 (t : Fin cfg0.N) : Memref sig .tc .vmem S2x1x32 .f32 := win0_9.stage (cfg0.slots t 9)
abbrev hs9 (t : Fin cfg0.N) : (ms9 t).IsWhole := hstage0_9 (cfg0.slots t 9)
abbrev ms10 (t : Fin cfg0.N) : Memref sig .tc .vmem S2x1x512 .f32 := win0_10.stage (cfg0.slots t 10)
abbrev hs10 (t : Fin cfg0.N) : (ms10 t).IsWhole := hstage0_10 (cfg0.slots t 10)
abbrev ms11 (t : Fin cfg0.N) : Memref sig .tc .vmem S2x1x32 .f32 := win0_11.stage (cfg0.slots t 11)
abbrev hs11 (t : Fin cfg0.N) : (ms11 t).IsWhole := hstage0_11 (cfg0.slots t 11)
abbrev ms12 (t : Fin cfg0.N) : Memref sig .tc .vmem S1x32 .f32 := win0_12.stage (cfg0.slots t 12)
abbrev hs12 (t : Fin cfg0.N) : (ms12 t).IsWhole := hstage0_12 (cfg0.slots t 12)
abbrev ms13 (t : Fin cfg0.N) : Memref sig .tc .vmem S1x32 .f32 := win0_13.stage (cfg0.slots t 13)
abbrev hs13 (t : Fin cfg0.N) : (ms13 t).IsWhole := hstage0_13 (cfg0.slots t 13)
abbrev ms14 (t : Fin cfg0.N) : Memref sig .tc .vmem S32x512 .f32 := win0_14.stage (cfg0.slots t 14)
abbrev hs14 (t : Fin cfg0.N) : (ms14 t).IsWhole := hstage0_14 (cfg0.slots t 14)
abbrev ms15 (t : Fin cfg0.N) : Memref sig .tc .vmem S16x512 .f32 := win0_15.stage (cfg0.slots t 15)
abbrev hs15 (t : Fin cfg0.N) : (ms15 t).IsWhole := hstage0_15 (cfg0.slots t 15)
abbrev ms16 (t : Fin cfg0.N) : Memref sig .tc .vmem S512x32 .f32 := win0_16.stage (cfg0.slots t 16)
abbrev hs16 (t : Fin cfg0.N) : (ms16 t).IsWhole := hstage0_16 (cfg0.slots t 16)
abbrev ms17 (t : Fin cfg0.N) : Memref sig .tc .vmem S1x128x4096 .f32 := win0_17.stage (cfg0.slots t 17)
abbrev hs17 (t : Fin cfg0.N) : (ms17 t).IsWhole := hstage0_17 (cfg0.slots t 17)
abbrev sc0 : Memref sig .tc .vmem S32x64x32 .f32 := Memref.whole cc0_scratch0
abbrev sc1 : Memref sig .tc .vmem S130x130x32 .f32 := Memref.whole cc0_scratch1
abbrev sc2 : Memref sig .tc .vmem S128x128x128 .f32 := Memref.whole cc0_scratch2
abbrev sc3 : Memref sig .tc .vmem S128x128x128 .f32 := Memref.whole cc0_scratch3
abbrev sc4 : Memref sig .tc .vmem S128x4096 .f32 := Memref.whole cc0_scratch4

/-- The invariant between the ends of a point: the five scratch buffers at some contents and the generator register. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA
  rw [scopedRest0_eq]; simp only [sc0, sc1, sc2, sc3, sc4, owns_whole]; try rfl

/-- The body at point `t`, on its staging buffers and the scratch. -/
def bodyHere (t : Fin cfg0.N) : Prog (TpuEff nD τ sig (Elt F) Λ₀ .tc) PUnit :=
  cc0__stage_body (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc0 (Memref.isWhole_whole _) sc1 (Memref.isWhole_whole _) sc2 (Memref.isWhole_whole _) sc3 (Memref.isWhole_whole _) sc4 (Memref.isWhole_whole _)

/-- The body table's row at the point is the body as `bodyHere` spells it. -/
theorem defs₀_row (t : Fin cfg0.N) : defs₀ (F := F) .tc cfg0.body (cfg0.bodyArgs t (cfg0.slots t)) = bodyHere t := by
  unfold defs₀; rw [Defs.onTc_tc]; rfl

end Cert.Proof.KernelIdealRun

end
-- ==== Proof.Val.Up.lean ====
module

public import proofs.«01_k».proof.Proof.Body
public import Idealize.ShloMosaic.Lib.Pointwise
public import Idealize.ShloMosaic.Lib.Pipeline.Value
public import Idealize.ShloMosaic.Lib.WholeRead

@[expose] public section

noncomputable section

/-! The upsampled image the body keeps in its second scratch buffer: its entries as sums over the
    arguments, zero on the border. -/

namespace Cert.Proof.KernelIdealRun

open Cert.KernelIdeal Cert.KernelIdeal.Gen
open Idealize.ShloMosaic

/-- The number `a` as an index below `n`. -/
def fn (n : ℕ) [NeZero n] (a : ℕ) : Fin n := Fin.ofNat n a

theorem fn_val {n : ℕ} [NeZero n] {a : ℕ} (h : a < n) : (fn n a).val = a := Nat.mod_eq_of_lt h

theorem eq_fn {n : ℕ} [NeZero n] {a : ℕ} (b : Fin n) (h : b.val = a) : b = fn n a :=
  Fin.ext (by rw [fn_val (h ▸ b.isLt)]; exact h)

/-- Row interpolation of the coarse array: row `h`, coarse column `j`, channel `c`. -/
def rowUp (x1 : Vec Ideal S1x64x2048 .f32) (x6 : Vec Ideal S128x64 .f32) (h j c : ℕ) : EReal :=
  ∑ k : Fin 64, x6 (ix2 (fn 128 h) k) * x1 (ix3 0 k (fn 2048 (j * 32 + c)))

/-- The upsampled image at row `y`, column `x`, channel `c`, without its border. -/
def up (x1 : Vec Ideal S1x64x2048 .f32) (x6 : Vec Ideal S128x64 .f32) (x7 : Vec Ideal S64x128 .f32) (y x c : ℕ) : EReal :=
  ∑ j : Fin 64, rowUp x1 x6 y j c * x7 (ix2 j (fn 128 x))

/-- The image with a border of zeros. -/
def upPad (x1 : Vec Ideal S1x64x2048 .f32) (x6 : Vec Ideal S128x64 .f32) (x7 : Vec Ideal S64x128 .f32) (y x c : ℕ) : EReal :=
  if y = 0 ∨ y = 129 ∨ x = 0 ∨ x = 129 then 0 else up x1 x6 x7 (y - 1) (x - 1) c

theorem fn_self {n : ℕ} [NeZero n] (a : Fin n) : fn n (a : ℕ) = a := (eq_fn a rfl).symm

theorem fn_mk {n : ℕ} [NeZero n] {a : ℕ} (h : a < n) : fn n a = ⟨a, h⟩ := Fin.ext (fn_val h)

variable (x1 : Vec Ideal S1x64x2048 .f32) (x6 : Vec Ideal S128x64 .f32) (x7 : Vec Ideal S64x128 .f32)

/-! The four row blocks of the interpolated rows. -/

theorem pay26_at (r : Fin 32) (j : Fin 64) (c : Fin 32) :
    k0_pay26 x6 x1 (ix3 r j c) = rowUp x1 x6 (0 + r) j c := by
  pointwise [k0_pay26, k0_pay25, rowUp]
  simp (disch := omega) only [fn_mk]

theorem pay28_at (r : Fin 32) (j : Fin 64) (c : Fin 32) :
    k0_pay28 x6 x1 (ix3 r j c) = rowUp x1 x6 (32 + r) j c := by
  pointwise [k0_pay28, k0_pay25, rowUp]
  simp (disch := omega) only [fn_mk]

theorem pay31_at (r : Fin 32) (j : Fin 64) (c : Fin 32) :
    k0_pay31 (k0_pay25 x6 x1) (ix3 r j c) = rowUp x1 x6 (64 + r) j c := by
  pointwise [k0_pay31, k0_pay25, rowUp]
  simp (disch := omega) only [fn_mk]

theorem pay33_at (r : Fin 32) (j : Fin 64) (c : Fin 32) :
    k0_pay33 (k0_pay25 x6 x1) (ix3 r j c) = rowUp x1 x6 (96 + r) j c := by
  pointwise [k0_pay33, k0_pay25, rowUp]
  simp (disch := omega) only [fn_mk]

/-! The four row blocks of the upsampled image. -/

theorem pay27_at (v : Vec Ideal S32x64x32 .f32) (r : Fin 32) (w : Fin 128) (c : Fin 32) :
    k0_pay27 v x7 (ix3 r w c) = ∑ j : Fin 64, v (ix3 r j c) * x7 (ix2 j w) := by
  pointwise [k0_pay27]

theorem pay30_at (v : Vec Ideal S32x64x32 .f32) (r : Fin 32) (w : Fin 128) (c : Fin 32) :
    k0_pay30 (k0_pay29 v x7) (ix3 r w c) = ∑ j : Fin 64, v (ix3 r j c) * x7 (ix2 j w) := by
  pointwise [k0_pay29, k0_pay30]

theorem pay32_at (v : Vec Ideal S32x64x32 .f32) (r : Fin 32) (w : Fin 128) (c : Fin 32) :
    k0_pay32 v x7 (ix3 r w c) = ∑ j : Fin 64, v (ix3 r j c) * x7 (ix2 j w) := by
  pointwise [k0_pay32]

theorem pay35_at (v : Vec Ideal S32x64x32 .f32) (r : Fin 32) (w : Fin 128) (c : Fin 32) :
    k0_pay35 (k0_pay34 v x7) (ix3 r w c) = ∑ j : Fin 64, v (ix3 r j c) * x7 (ix2 j w) := by
  pointwise [k0_pay34, k0_pay35]

/-! Loads through whole references. -/

/-- A load of a whole reference's box reads the contents at the box's indices. -/
theorem load_at {S : Shape} {M : Memref sig .tc .vmem S .f32} (h : M.IsWhole) (X : Vec Ideal S .f32) (B : LoadRect S) :
    View.readAt (Elt Ideal) M.view B (h.unread X) = fun j => X (B.idx j) :=
  funext fun j => Memref.IsWhole.readAt_unread h X B j

/-- A load of a whole reference through the box of its whole shape reads the contents. -/
theorem load_whole {S : Shape} {M : Memref sig .tc .vmem S .f32} (h : M.IsWhole) (X : Vec Ideal S .f32) (off : Fin S.rank → ℕ)
    (inb) (h0 : ∀ a, off a = 0) :
    View.readAt (Elt Ideal) M.view (Rect.unit off S.size inb).toLoadRect (h.unread X) = X := by
  rw [load_at]
  funext j
  refine congrArg X (funext fun a => Fin.ext ?_)
  show off a + 1 * (j a).val = (j a).val
  rw [h0 a]; omega

theorem load1 {M : Memref sig .tc .vmem S1x64x2048 .f32} (h : M.IsWhole) (X : Vec Ideal S1x64x2048 .f32) (inb) :
    View.readAt (Elt Ideal) M.view (Rect.unit (s := S1x64x2048) ![0, 0, 0] ![1, 64, 2048] inb).toLoadRect (h.unread X) = X :=
  load_whole h X _ inb (by decide)

theorem load6 {M : Memref sig .tc .vmem S128x64 .f32} (h : M.IsWhole) (X : Vec Ideal S128x64 .f32) (inb) :
    View.readAt (Elt Ideal) M.view (Rect.unit (s := S128x64) ![0, 0] ![128, 64] inb).toLoadRect (h.unread X) = X :=
  load_whole h X _ inb (by decide)

theorem load7 {M : Memref sig .tc .vmem S64x128 .f32} (h : M.IsWhole) (X : Vec Ideal S64x128 .f32) (inb) :
    View.readAt (Elt Ideal) M.view (Rect.unit (s := S64x128) ![0, 0] ![64, 128] inb).toLoadRect (h.unread X) = X :=
  load_whole h X _ inb (by decide)

/-- An index of rank three is its coordinates. -/
theorem ix3_surj {a b c : ℕ} (i : (⟨3, ![a, b, c]⟩ : Shape).Idx) : ∃ x y z, i = ix3 x y z :=
  ⟨i 0, i 1, i 2, funext fun k => by fin_cases k <;> rfl⟩

theorem ix2_surj {a b : ℕ} (i : (⟨2, ![a, b]⟩ : Shape).Idx) : ∃ x y, i = ix2 x y :=
  ⟨i 0, i 1, funext fun k => by fin_cases k <;> rfl⟩

/-- Where a box of unit stride puts its local index. -/
theorem emb3 {n0 n1 n2 : ℕ} (o0 o1 o2 : ℕ) (sz : Fin 3 → ℕ)
    (inb : ∀ a, ![o0, o1, o2] a + sz a ≤ (⟨3, ![n0, n1, n2]⟩ : Shape).size a)
    (x : (Rect.unit (s := ⟨3, ![n0, n1, n2]⟩) ![o0, o1, o2] sz inb).shape.Idx) :
    ((Rect.unit (s := ⟨3, ![n0, n1, n2]⟩) ![o0, o1, o2] sz inb).emb x 0 : ℕ) = o0 + x 0 ∧
    ((Rect.unit (s := ⟨3, ![n0, n1, n2]⟩) ![o0, o1, o2] sz inb).emb x 1 : ℕ) = o1 + x 1 ∧
    ((Rect.unit (s := ⟨3, ![n0, n1, n2]⟩) ![o0, o1, o2] sz inb).emb x 2 : ℕ) = o2 + x 2 := by
  refine ⟨?_, ?_, ?_⟩ <;> rw [Rect.emb_apply] <;> simp [Rect.unit]

/-- The indices of a box of unit stride. -/
theorem mem3 {n0 n1 n2 : ℕ} (o0 o1 o2 s0 s1 s2 : ℕ)
    (inb : ∀ a, ![o0, o1, o2] a + ![s0, s1, s2] a ≤ (⟨3, ![n0, n1, n2]⟩ : Shape).size a)
    (y : (⟨3, ![n0, n1, n2]⟩ : Shape).Idx) :
    y ∈ (Rect.unit (s := ⟨3, ![n0, n1, n2]⟩) ![o0, o1, o2] ![s0, s1, s2] inb).set ↔
      (o0 ≤ (y 0 : ℕ) ∧ (y 0 : ℕ) < o0 + s0) ∧ (o1 ≤ (y 1 : ℕ) ∧ (y 1 : ℕ) < o1 + s1) ∧ (o2 ≤ (y 2 : ℕ) ∧ (y 2 : ℕ) < o2 + s2) := by
  rw [Rect.mem_set_unit]
  constructor
  · intro h; exact ⟨h 0, h 1, h 2⟩
  · rintro ⟨h0, h1, h2⟩ a
    fin_cases a
    · exact h0
    · exact h1
    · exact h2

/-- The image as an array. -/
def upArr : Vec Ideal S130x130x32 .f32 := fun i => upPad x1 x6 x7 (i 0) (i 1) (i 2)

variable (c : Dev nD)
    (M1 : Memref sig .tc .vmem S1x64x2048 .f32) (h1 : M1.IsWhole)
    (M6 : Memref sig .tc .vmem S128x64 .f32) (h6 : M6.IsWhole)
    (M7 : Memref sig .tc .vmem S64x128 .f32) (h7 : M7.IsWhole)
    (M19 : Memref sig .tc .vmem S32x64x32 .f32) (M20 : Memref sig .tc .vmem S130x130x32 .f32)

/-- A covered load of the whole buffer reads the last payload written over the whole of it. -/
theorem whole_load (M : Memref sig .tc .vmem S32x64x32 .f32) (inb)
    (w : (Rect.unit (s := S32x64x32) ![0, 0, 0] ![32, 64, 32] inb).shape.Idx → Elt Ideal .f32)
    (L : List (View.Piece (Elt Ideal) S32x64x32 .f32)) :
    M.view.readCov (⟨Rect.unit (s := S32x64x32) ![0, 0, 0] ![32, 64, 32] inb, w⟩ :: L)
      (Rect.unit (s := S32x64x32) ![0, 0, 0] ![32, 64, 32] inb).toLoadRect = w :=
  View.readCov_cons_toLoadRect ..

/-- One piece of the image's interior. -/
theorem up_piece (o p : ℕ) (hp : p = o + 1) (ho : o + 32 ≤ 128) (v : Vec Ideal S32x64x32 .f32) (w : Vec Ideal S32x128x32 .f32)
    (inb) (hv : ∀ r j c, v (ix3 r j c) = rowUp x1 x6 (o + r.val) j.val c.val)
    (hw : ∀ r x c, w (ix3 r x c) = ∑ j : Fin 64, v (ix3 r j c) * x7 (ix2 j x))
    (x : (Rect.unit (s := S130x130x32) ![p, 1, 0] S32x128x32.size inb).shape.Idx) :
    w x = upArr x1 x6 x7 ((Rect.unit (s := S130x130x32) ![p, 1, 0] S32x128x32.size inb).emb x) := by
  subst hp
  obtain ⟨e0, e1, e2⟩ := emb3 (n0 := 130) (n1 := 130) (n2 := 32) (o + 1) 1 0 S32x128x32.size inb x
  obtain ⟨a, b, d, rfl⟩ := ix3_surj (a := 32) (b := 128) (c := 32) x
  unfold upArr
  rw [e0, e1, e2, hw]
  unfold upPad
  have ha := a.isLt
  have hb := b.isLt
  rw [if_neg (by show ¬ (o + 1 + a.val = 0 ∨ o + 1 + a.val = 129 ∨ 1 + b.val = 0 ∨ 1 + b.val = 129); omega)]
  unfold up
  refine Finset.sum_congr rfl fun j _ => ?_
  rw [hv]
  show rowUp x1 x6 (o + a.val) j.val d.val * x7 (ix2 j b) =
    rowUp x1 x6 (o + 1 + a.val - 1) j.val (0 + d.val) * x7 (ix2 j (fn 128 (1 + b.val - 1)))
  rw [show o + 1 + a.val - 1 = o + a.val by omega, Nat.zero_add, ← eq_fn b (show b.val = 1 + b.val - 1 by omega)]

/-- One piece of the image's border. -/
theorem zero_piece (o0 o1 o2 : ℕ) {s0 s1 s2 : ℕ} (w : Vec Ideal ⟨3, ![s0, s1, s2]⟩ .f32) (inb)
    (hw : ∀ a b d, w (ix3 a b d) = 0)
    (ho : ∀ (a : Fin s0) (b : Fin s1) (d : Fin s2), o0 + a.val = 0 ∨ o0 + a.val = 129 ∨ o1 + b.val = 0 ∨ o1 + b.val = 129)
    (x : (Rect.unit (s := S130x130x32) ![o0, o1, o2] ![s0, s1, s2] inb).shape.Idx) :
    w x = upArr x1 x6 x7 ((Rect.unit (s := S130x130x32) ![o0, o1, o2] ![s0, s1, s2] inb).emb x) := by
  obtain ⟨e0, e1, e2⟩ := emb3 (n0 := 130) (n1 := 130) (n2 := 32) o0 o1 o2 ![s0, s1, s2] inb x
  obtain ⟨a, b, d, rfl⟩ := ix3_surj (a := s0) (b := s1) (c := s2) x
  unfold upArr
  rw [e0, e1, e2, hw]
  exact (if_pos (ho a b d)).symm

set_option maxHeartbeats 400000 in
/-- Every piece written to the image's buffer carries the image's values, and the pieces cover it. -/
theorem canon_up : View.canon (kernelRun.sl.H20_8 (F := Ideal) c M1 h1 M6 h6 M7 h7 M19 x1 x6 x7) = upArr x1 x6 x7 := by
  funext y
  unfold kernelRun.sl.H20_8 kernelRun.sl.r_2 kernelRun.sl.r_1 kernelRun.sl.v9 kernelRun.sl.v24 kernelRun.sl.v39 kernelRun.sl.v54
      kernelRun.sl.H19_4 kernelRun.sl.H19_3 kernelRun.sl.H19_2 kernelRun.sl.H19_1 kernelRun.sl.r
  simp only [whole_load, load1, load6, load7]
  refine View.canon_apply_of_pieces _ _ ?_ y ?_
  · intro p hp x
    simp only [List.mem_cons, List.not_mem_nil, or_false] at hp
    rcases hp with rfl | rfl | rfl | rfl | rfl | rfl | rfl | rfl
    · exact zero_piece x1 x6 x7 0 129 0 (s0 := 130) (s1 := 1) (s2 := 32) (k0_pay41 (F := Ideal)) inb_S130x130x32_S130x1x32_0_129_0 (fun _ _ _ => by pointwise [k0_pay41, k0_pay39])
        (fun a b d => by omega) x
    · exact zero_piece x1 x6 x7 0 0 0 (s0 := 130) (s1 := 1) (s2 := 32) (k0_pay40 (F := Ideal)) inb_S130x130x32_S130x1x32_0_0_0 (fun _ _ _ => by pointwise [k0_pay40, k0_pay39])
        (fun a b d => by omega) x
    · exact zero_piece x1 x6 x7 129 0 0 (s0 := 1) (s1 := 130) (s2 := 32) (k0_pay38 (F := Ideal)) inb_S130x130x32_S1x130x32_129_0_0 (fun _ _ _ => by pointwise [k0_pay38, k0_pay36])
        (fun a b d => by omega) x
    · exact zero_piece x1 x6 x7 0 0 0 (s0 := 1) (s1 := 130) (s2 := 32) (k0_pay37 (F := Ideal)) inb_S130x130x32_S1x130x32_0_0_0 (fun _ _ _ => by pointwise [k0_pay37, k0_pay36])
        (fun a b d => by omega) x
    · exact up_piece x1 x6 x7 96 97 rfl (by omega) (k0_pay33 (k0_pay25 x6 x1)) (k0_pay35 (k0_pay34 (k0_pay33 (k0_pay25 x6 x1)) x7))
        inb_S130x130x32_S32x128x32_97_1_0 (pay33_at _ _) (pay35_at _ _) x
    · exact up_piece x1 x6 x7 64 65 rfl (by omega) (k0_pay31 (k0_pay25 x6 x1)) (k0_pay32 (k0_pay31 (k0_pay25 x6 x1)) x7)
        inb_S130x130x32_S32x128x32_65_1_0 (pay31_at _ _) (pay32_at _ _) x
    · exact up_piece x1 x6 x7 32 33 rfl (by omega) (k0_pay28 x6 x1) (k0_pay30 (k0_pay29 (k0_pay28 x6 x1) x7))
        inb_S130x130x32_S32x128x32_33_1_0 (pay28_at _ _) (pay30_at _ _) x
    · exact up_piece x1 x6 x7 0 1 rfl (by omega) (k0_pay26 x6 x1) (k0_pay27 (k0_pay26 x6 x1) x7)
        inb_S130x130x32_S32x128x32_1_1_0 (pay26_at _ _) (pay27_at _ _) x
  · have b0 : (y 0 : ℕ) < 130 := (y 0).isLt
    have b1 : (y 1 : ℕ) < 130 := (y 1).isLt
    have b2 : (y 2 : ℕ) < 32 := (y 2).isLt
    simp only [List.mem_cons, or_and_right, exists_or, exists_eq_left, List.not_mem_nil, false_and, exists_false, or_false]
    rw [mem3, mem3, mem3, mem3, mem3, mem3, mem3, mem3]
    omega

/-- What a covered load of the image's buffer reads. -/
theorem load_up (B : LoadRect S130x130x32) :
    M20.view.readCov (kernelRun.sl.H20_8 (F := Ideal) c M1 h1 M6 h6 M7 h7 M19 x1 x6 x7) B = fun j => upArr x1 x6 x7 (B.idx j) := by
  rw [View.readCov_eq_canon', canon_up]

end Cert.Proof.KernelIdealRun

end
-- ==== Proof.Val.Doubling.lean ====
module

public import proofs.«01_k».proof.Proof.Val.Up

@[expose] public section

noncomputable section

/-! The doubling scan: seven rounds of composing affine maps give the sequential recurrence. -/

namespace Cert.Proof.KernelIdealRun

open Cert.KernelIdeal Cert.KernelIdeal.Gen
open Idealize.ShloMosaic

/-- The last `n` of the first `t` steps `x ↦ a j * x + b j`, applied to `x`. -/
def steps (a b : ℕ → EReal) : ℕ → ℕ → EReal → EReal
  | 0, _, x => x
  | _ + 1, 0, x => x
  | n + 1, t + 1, x => a t * steps a b n t x + b t

theorem steps_zero (a b : ℕ → EReal) (n : ℕ) (x : EReal) : steps a b n 0 x = x := by
  cases n <;> rfl

theorem steps_add (a b : ℕ → EReal) (n m t : ℕ) (x : EReal) :
    steps a b (n + m) t x = steps a b n t (steps a b m (t - n) x) := by
  induction n generalizing t with
  | zero => simp [steps]
  | succ n ih =>
    cases t with
    | zero => simp [steps_zero]
    | succ t =>
      rw [Nat.add_right_comm]
      simp only [steps, ih, Nat.add_sub_add_right]

theorem steps_ge (a b : ℕ → EReal) (n t : ℕ) (h : t ≤ n) (x : EReal) : steps a b n t x = steps a b t t x := by
  obtain ⟨m, rfl⟩ := Nat.exists_eq_add_of_le h
  rw [steps_add, Nat.sub_self, steps_zero]

/-- `A` and `B` hold, at each place `t` below 128, the composition of the last `s` steps up to `t`. -/
structure Window (a b : ℕ → EReal) (s : ℕ) (A B : ℕ → EReal) : Prop where
  unit : ∀ t, t < 128 → 0 ≤ A t ∧ A t ≤ 1
  eq : ∀ t, t < 128 → ∀ x, B t + A t * x = steps a b s (t + 1) x

/-- A factor between zero and one distributes over every sum. -/
theorem unit_mul_add {a : EReal} (h : 0 ≤ a ∧ a ≤ 1) (x y : EReal) : a * (x + y) = a * x + a * y :=
  EReal.left_distrib_of_nonneg_of_ne_top h.1 (ne_top_of_le_ne_top (by decide) h.2) x y

theorem window_one (a b : ℕ → EReal) (h : ∀ t, t < 128 → 0 ≤ a t ∧ a t ≤ 1) : Window a b 1 a b where
  unit := h
  eq t _ x := by simp [steps, add_comm]

/-- One round: composing with the window `s` places before doubles the window. -/
theorem window_double {a b : ℕ → EReal} {s : ℕ} {A B A' B' : ℕ → EReal} (h : Window a b s A B)
    (hA : ∀ t, t < 128 → A' t = A t * (if t < s then 1 else A (t - s)))
    (hB : ∀ t, t < 128 → B' t = A t * (if t < s then 0 else B (t - s)) + B t) : Window a b (s + s) A' B' where
  unit t ht := by
    rw [hA t ht]
    have h1 := h.unit t ht
    have h2 : 0 ≤ (if t < s then (1 : EReal) else A (t - s)) ∧ (if t < s then (1 : EReal) else A (t - s)) ≤ 1 := by
      split
      · exact ⟨zero_le_one, le_refl 1⟩
      · exact h.unit _ (by omega)
    exact ⟨mul_nonneg h1.1 h2.1, (mul_le_mul_of_nonneg_left h2.2 h1.1).trans ((mul_one (A t)).symm ▸ h1.2)⟩
  eq t ht x := by
    rw [hA t ht, hB t ht]
    have h1 := h.eq t ht
    by_cases hs : t < s
    · simp only [hs, if_true, mul_zero, zero_add, mul_one]
      rw [h1, steps_ge a b s (t + 1) (by omega), steps_ge a b (s + s) (t + 1) (by omega)]
    · simp only [hs, if_false]
      rw [add_comm (A t * _), add_assoc, mul_assoc, ← unit_mul_add (h.unit t ht), h1, h.eq (t - s) (by omega), steps_add]
      congr 2
      omega

/-- The recurrence from the start: the state before step `l`. -/
def state (a b : ℕ → EReal) : ℕ → EReal
  | 0 => 0
  | l + 1 => a l * state a b l + b l

/-- Running `n` steps from the state at `l` reaches the state at `l + n`. -/
theorem steps_state (a b : ℕ → EReal) (l n : ℕ) :
    steps (fun t => a (l + t)) (fun t => b (l + t)) n n (state a b l) = state a b (l + n) := by
  induction n with
  | zero => rfl
  | succ n ih => simp only [steps, ih]; rfl

/-! The rounds on arrays of 128 rows and 512 columns. -/

/-- Column `m` of an array, by row number. -/
def col (V : Vec Ideal S128x512 .f32) (m : Fin 512) (t : ℕ) : EReal := V (ix2 (fn 128 t) m)

theorem shift_at {s r : ℕ} (hr : s + r = 128) (v : EReal) (O : (⟨2, ![s, 512]⟩ : Shape).Idx → EReal) (hO : ∀ i, O i = v)
    (V : S128x512.Idx → EReal) (hs : S128x512.Slices ![0, 0] ⟨2, ![r, 512]⟩)
    (hc : Shape.Concatenates [(⟨2, ![s, 512]⟩ : Shape), ⟨2, ![r, 512]⟩] S128x512 0) (m : Fin 512) (t : ℕ) (ht : t < 128) :
    concatenate S128x512 0 [⟨⟨2, ![s, 512]⟩, O⟩, ⟨⟨2, ![r, 512]⟩, extractStridedSlice ⟨2, ![r, 512]⟩ ![0, 0] V hs⟩] hc
        (ix2 (fn 128 t) m) = if t < s then v else V (ix2 (fn 128 (t - s)) m) := by
  split
  · next h =>
    refine (concatenate_pair_apply_left (t := S128x512) (0 : Fin 2) O _ hc (ix2 (fn 128 t) m) rfl (ix2 (⟨t, h⟩ : Fin s) m) ?_).trans (hO _)
    intro b
    fin_cases b
    · exact (fn_val ht).symm
    · rfl
  · next h =>
    refine (concatenate_pair_apply_right (t := S128x512) (0 : Fin 2) O _ hc (ix2 (fn 128 t) m) rfl rfl
      (ix2 (⟨t - s, by omega⟩ : Fin r) m) ?_ ?_).trans ?_
    · intro b hb
      fin_cases b
      · exact absurd rfl hb
      · rfl
    · have e : (fn 128 t).val = t := fn_val ht
      show t - s + s = (fn 128 t).val
      omega
    · refine extractStridedSlice_apply _ _ _ _ _ ?_
      intro a
      have e : (fn 128 (t - s)).val = t - s := fn_val (by omega)
      fin_cases a
      · show (fn 128 (t - s)).val = 0 + (t - s)
        omega
      · exact (Nat.zero_add _).symm

/-- One round of the kernel's scan doubles the window. -/
theorem round {a b : ℕ → EReal} {s r : ℕ} {m : Fin 512} {A B : FVec Ideal S128x512 .f32} (hr : s + r = 128)
    (h : Window a b s (col A m) (col B m))
    (O Z : (⟨2, ![s, 512]⟩ : Shape).Idx → EReal) (hO : ∀ i, O i = 1) (hZ : ∀ i, Z i = 0)
    (hs : S128x512.Slices ![0, 0] ⟨2, ![r, 512]⟩)
    (hc : Shape.Concatenates [(⟨2, ![s, 512]⟩ : Shape), ⟨2, ![r, 512]⟩] S128x512 0) :
    Window a b (s + s)
      (col (mulf A (concatenate S128x512 0 [⟨⟨2, ![s, 512]⟩, O⟩, ⟨⟨2, ![r, 512]⟩, extractStridedSlice ⟨2, ![r, 512]⟩ ![0, 0] A hs⟩] hc)) m)
      (col (addf (mulf A (concatenate S128x512 0 [⟨⟨2, ![s, 512]⟩, Z⟩, ⟨⟨2, ![r, 512]⟩, extractStridedSlice ⟨2, ![r, 512]⟩ ![0, 0] B hs⟩] hc)) B) m) := by
  refine window_double h (fun t ht => ?_) (fun t ht => ?_)
  · refine (mulf_apply _ _ _).trans ?_
    rw [shift_at hr 1 O hO A hs hc m t ht]
    rfl
  · refine (addf_apply _ _ _).trans (congrArg (· + _) ((mulf_apply _ _ _).trans ?_))
    rw [shift_at hr 0 Z hZ B hs hc m t ht]
    rfl

end Cert.Proof.KernelIdealRun

end
-- ==== Proof.Val.Chunk.lean ====
module

public import proofs.«01_k».proof.Proof.Val.Doubling

@[expose] public section

noncomputable section

/-! One chunk of 128 steps of the scan: the kernel's arrays against the sequential recurrence. -/

namespace Cert.Proof.KernelIdealRun

open Cert.KernelIdeal Cert.KernelIdeal.Gen
open Idealize.ShloMosaic

/-- The kernel's three expansion tables: entry one where the column's channel (or state) number agrees. -/
structure Tables (x15 : Vec Ideal S32x512 .f32) (x16 : Vec Ideal S16x512 .f32) (x17 : Vec Ideal S512x32 .f32) : Prop where
  ed : ∀ (d : Fin 32) (m : Fin 512), x15 (ix2 d m) = if m.val % 32 = d.val then 1 else 0
  en : ∀ (n : Fin 16) (m : Fin 512), x16 (ix2 n m) = if m.val / 32 = n.val then 1 else 0
  rn : ∀ (m : Fin 512) (d : Fin 32), x17 (ix2 m d) = if m.val % 32 = d.val then 1 else 0

/-- A sum against a table row holding a single one picks that entry. -/
theorem sum_pick {n : ℕ} (f : Fin n → EReal) (k : Fin n) (g : Fin n → EReal) (hg : ∀ i, g i = if k.val = i.val then 1 else 0) :
    ∑ i : Fin n, f i * g i = f k := by
  rw [Finset.sum_eq_single k]
  · rw [hg, if_pos rfl, mul_one]
  · intro i _ hi
    rw [hg, if_neg (fun h => hi (Fin.ext h.symm)), mul_zero]
  · intro h
    exact absurd (Finset.mem_univ k) h

/-- A sum over the 512 columns against the reducing table is a sum over the 16 states. -/
theorem sum_reduce (f : Fin 512 → EReal) (d : Fin 32) (g : Fin 512 → EReal)
    (hg : ∀ i : Fin 512, g i = if i.val % 32 = d.val then 1 else 0) :
    ∑ i : Fin 512, f i * g i = ∑ n : Fin 16, f (fn 512 (n.val * 32 + d.val)) := by
  have h1 : ∀ i : Fin 512, f i * g i = if i.val % 32 = d.val then f i else 0 := fun i => by
    rw [hg]; split <;> simp
  rw [Finset.sum_congr rfl fun i _ => h1 i, ← Finset.sum_filter]
  symm
  refine Finset.sum_bij (fun n _ => fn 512 (n.val * 32 + d.val)) ?_ ?_ ?_ ?_
  · intro n _
    have := n.isLt; have := d.isLt
    rw [Finset.mem_filter]
    refine ⟨Finset.mem_univ _, ?_⟩
    rw [fn_val (by omega)]
    omega
  · intro n _ n' _ h
    have h2 := congrArg Fin.val h
    have := n.isLt; have := n'.isLt; have := d.isLt
    rw [fn_val (by omega), fn_val (by omega)] at h2
    exact Fin.ext (by omega)
  · intro i hi
    have h2 := (Finset.mem_filter.mp hi).2
    have := i.isLt
    refine ⟨⟨i.val / 32, by omega⟩, Finset.mem_univ _, Fin.ext ?_⟩
    rw [fn_val (by show i.val / 32 * 32 + d.val < 512; omega)]
    show i.val / 32 * 32 + d.val = i.val
    omega
  · intro n _
    rfl

/-- The decay of column `m` at step `l`, the steps' data being `I`. -/
def decay (I : ℕ → ℕ → EReal) (A : ℕ → EReal) (m l : ℕ) : EReal := Ideal.exp (I l (m % 32) * A m)

/-- The input of column `m` at step `l`. -/
def input (I : ℕ → ℕ → EReal) (m l : ℕ) : EReal := I l (m % 32) * I l (32 + m % 32) * I l (64 + m / 32)

/-- The state of column `m` before step `l`. -/
def hid (I : ℕ → ℕ → EReal) (A : ℕ → EReal) (m l : ℕ) : EReal := state (decay I A m) (input I m) l

/-- The scan's output at step `l`, channel `d`. -/
def yout (I : ℕ → ℕ → EReal) (A D : ℕ → EReal) (l d : ℕ) : EReal :=
  (∑ n : Fin 16, I l (80 + n.val) * hid I A (n.val * 32 + d) (l + 1)) + I l (32 + d) * D d

variable (V : FVec Ideal S128x128 .f32) (x15 : FVec Ideal S32x512 .f32) (x16 : FVec Ideal S16x512 .f32)
  (x17 : FVec Ideal S512x32 .f32) (A : FVec Ideal S1x512 .f32) (acc : FVec Ideal S1x512 .f32)

/-- The decay array of a chunk. -/
def chA : FVec Ideal S128x512 .f32 :=
  exp (mulf (matmul dot_S128x32_S32x512_S128x512_1_0_0_1_n_n none
    (extractStridedSlice S128x32 ![0, 0] V slices_S128x128_o0_0_S128x32) x15 (constant (F := Ideal) S128x512 .f32 0x00000000#32))
    (broadcastTo S128x512 A broadcasts_S1x512_S128x512))

/-- The input array of a chunk. -/
def chB : FVec Ideal S128x512 .f32 :=
  mulf (matmul dot_S128x32_S32x512_S128x512_1_0_0_1_n_n none
    (mulf (extractStridedSlice S128x32 ![0, 0] V slices_S128x128_o0_0_S128x32)
      (extractStridedSlice S128x32 ![0, 32] V slices_S128x128_o0_32_S128x32)) x15 (constant (F := Ideal) S128x512 .f32 0x00000000#32))
    (matmul dot_S128x16_S16x512_S128x512_1_0_0_1_n_n none
      (extractStridedSlice S128x16 ![0, 64] V slices_S128x128_o0_64_S128x16) x16 (constant (F := Ideal) S128x512 .f32 0x00000000#32))

/-- The read-out array of a chunk. -/
def chC : FVec Ideal S128x512 .f32 :=
  matmul dot_S128x16_S16x512_S128x512_1_0_0_1_n_n none
      (extractStridedSlice S128x16 ![0, 80] V slices_S128x128_o0_80_S128x16) x16 (constant (F := Ideal) S128x512 .f32 0x00000000#32)

variable {V x15 x16 x17}

theorem chA_at (hT : Tables x15 x16 x17) (t : Fin 128) (m : Fin 512) :
    chA V x15 A (ix2 t m) = Ideal.exp (V (ix2 t (fn 128 (m.val % 32))) * A (ix2 0 m)) := by
  have hm := m.isLt
  pointwise [chA]
  rw [sum_pick _ (⟨m.val % 32, by omega⟩ : Fin 32) _ (fun i => hT.ed i m)]
  simp (disch := omega) only [fn_mk]

theorem chB_at (hT : Tables x15 x16 x17) (t : Fin 128) (m : Fin 512) :
    chB V x15 x16 (ix2 t m) = V (ix2 t (fn 128 (m.val % 32))) * V (ix2 t (fn 128 (32 + m.val % 32)))
      * V (ix2 t (fn 128 (64 + m.val / 32))) := by
  have hm := m.isLt
  pointwise [chB]
  rw [sum_pick _ (⟨m.val % 32, by omega⟩ : Fin 32) _ (fun i => hT.ed i m),
    sum_pick _ (⟨m.val / 32, by omega⟩ : Fin 16) _ (fun i => hT.en i m)]
  simp (disch := omega) only [fn_mk]

theorem chC_at (hT : Tables x15 x16 x17) (t : Fin 128) (m : Fin 512) :
    chC V x16 (ix2 t m) = V (ix2 t (fn 128 (80 + m.val / 32))) := by
  have hm := m.isLt
  pointwise [chC]
  rw [sum_pick _ (⟨m.val / 32, by omega⟩ : Fin 16) _ (fun i => hT.en i m)]
  simp (disch := omega) only [fn_mk]

/-- What a chunk needs of its data: row `t` of the array holds step `l0 + t`, and all rates are of one sign. -/
structure Data (I : ℕ → ℕ → EReal) (Af : ℕ → EReal) (l0 : ℕ) (V : FVec Ideal S128x128 .f32) (A acc : FVec Ideal S1x512 .f32) : Prop where
  row : ∀ (t e : ℕ), t < 128 → e < 96 → V (ix2 (fn 128 t) (fn 128 e)) = I (l0 + t) e
  rate : ∀ m : Fin 512, A (ix2 0 m) = Af m.val
  start : ∀ m : Fin 512, acc (ix2 0 m) = hid I Af m.val l0
  unit : ∀ (m l : ℕ), m < 512 → 0 ≤ decay I Af m l ∧ decay I Af m l ≤ 1

variable {A acc} {I : ℕ → ℕ → EReal} {Af : ℕ → EReal} {l0 : ℕ}

theorem col_chA (hT : Tables x15 x16 x17) (hD : Data I Af l0 V A acc) (m : Fin 512) (t : ℕ) (ht : t < 128) :
    col (chA V x15 A) m t = decay I Af m.val (l0 + t) := by
  unfold col decay
  rw [chA_at A hT, hD.row t _ ht (by omega), hD.rate]

theorem col_chB (hT : Tables x15 x16 x17) (hD : Data I Af l0 V A acc) (m : Fin 512) (t : ℕ) (ht : t < 128) :
    col (chB V x15 x16) m t = input I m.val (l0 + t) := by
  have hm := m.isLt
  unfold col input
  rw [chB_at hT, hD.row t _ ht (by omega), hD.row t _ ht (by omega), hD.row t _ ht (by omega)]

/-- The first window: the arrays themselves. -/
theorem window_start (hT : Tables x15 x16 x17) (hD : Data I Af l0 V A acc) (m : Fin 512) :
    Window (fun t => decay I Af m.val (l0 + t)) (fun t => input I m.val (l0 + t)) 1 (col (chA V x15 A) m) (col (chB V x15 x16) m) where
  unit t ht := by
    rw [col_chA hT hD m t ht]
    exact hD.unit _ _ m.isLt
  eq t ht x := by
    rw [col_chA hT hD m t ht, col_chB hT hD m t ht]
    simp [steps, add_comm]

/-- With the window at full length, adding the decayed start gives every state of the chunk. -/
theorem hs_at (hD : Data I Af l0 V A acc) {WA WB : FVec Ideal S128x512 .f32} (m : Fin 512)
    (hW : Window (fun t => decay I Af m.val (l0 + t)) (fun t => input I m.val (l0 + t)) 128 (col WA m) (col WB m))
    (t : ℕ) (ht : t < 128) :
    addf WB (mulf WA (broadcastTo S128x512 acc broadcasts_S1x512_S128x512)) (ix2 (fn 128 t) m) = hid I Af m.val (l0 + t + 1) := by
  have h : addf WB (mulf WA (broadcastTo S128x512 acc broadcasts_S1x512_S128x512)) (ix2 (fn 128 t) m)
      = col WB m t + col WA m t * acc (ix2 0 m) := by
    pointwise [col]
  rw [h, hD.start, hW.eq t ht, steps_ge _ _ _ _ (by omega)]
  exact steps_state _ _ l0 (t + 1)

/-- The next chunk's start. -/
theorem pay129_at (H : FVec Ideal S128x512 .f32) (m : Fin 512) : k0_pay129 H (ix2 0 m) = H (ix2 (fn 128 127) m) := by
  pointwise [k0_pay129]
  simp (disch := omega) only [fn_mk]
  rfl

theorem pay131_at (H : FVec Ideal S128x512 .f32) (m : Fin 512) : k0_pay131 H (ix2 0 m) = H (ix2 (fn 128 127) m) := by
  pointwise [k0_pay131]
  simp (disch := omega) only [fn_mk]
  rfl

/-- The chunk's outputs. -/
theorem pay130_at (hT : Tables x15 x16 x17) (D : FVec Ideal S1x32 .f32) (C H : FVec Ideal S128x512 .f32) (U : FVec Ideal S128x32 .f32)
    (t : Fin 128) (d : Fin 32) :
    k0_pay130 D U C H x17 (ix3 0 t d) =
      (∑ n : Fin 16, C (ix2 t (fn 512 (n.val * 32 + d.val))) * H (ix2 t (fn 512 (n.val * 32 + d.val)))) + U (ix2 t d) * D (ix2 0 d) := by
  pointwise [k0_pay130]
  rw [sum_reduce _ d _ (fun i => hT.rn i d)]

theorem pay132_at (hT : Tables x15 x16 x17) (D : FVec Ideal S1x32 .f32) (C H : FVec Ideal S128x512 .f32) (U : FVec Ideal S128x32 .f32)
    (t : Fin 128) (d : Fin 32) :
    k0_pay132 D U C H x17 (ix3 t 0 d) =
      (∑ n : Fin 16, C (ix2 t (fn 512 (n.val * 32 + d.val))) * H (ix2 t (fn 512 (n.val * 32 + d.val)))) + U (ix2 t d) * D (ix2 0 d) := by
  pointwise [k0_pay132]
  rw [sum_reduce _ d _ (fun i => hT.rn i d)]

/-- The outputs' sum is the scan's output. -/
theorem yout_of (hT : Tables x15 x16 x17) (hD : Data I Af l0 V A acc) {Df : ℕ → EReal} (D : FVec Ideal S1x32 .f32)
    (hDf : ∀ d : Fin 32, D (ix2 0 d) = Df d.val) (H : FVec Ideal S128x512 .f32)
    (hH : ∀ (t : ℕ) (m : Fin 512), t < 128 → H (ix2 (fn 128 t) m) = hid I Af m.val (l0 + t + 1)) (t : ℕ) (ht : t < 128) (d : Fin 32) :
    (∑ n : Fin 16, chC V x16 (ix2 (fn 128 t) (fn 512 (n.val * 32 + d.val))) * H (ix2 (fn 128 t) (fn 512 (n.val * 32 + d.val))))
        + extractStridedSlice S128x32 ![0, 32] V slices_S128x128_o0_32_S128x32 (ix2 (fn 128 t) d) * D (ix2 0 d)
      = yout I Af Df (l0 + t) d.val := by
  have hd := d.isLt
  have hu : extractStridedSlice S128x32 ![0, 32] V slices_S128x128_o0_32_S128x32 (ix2 (fn 128 t) d) = I (l0 + t) (32 + d.val) := by
    rw [← hD.row t _ ht (by omega)]
    pointwise []
    simp (disch := omega) only [fn_mk]
  rw [hu, hDf]
  unfold yout
  congr 1
  refine Finset.sum_congr rfl fun n _ => ?_
  have hn := n.isLt
  have e : (fn 512 (n.val * 32 + d.val)).val = n.val * 32 + d.val := fn_val (by omega)
  rw [chC_at hT, hH t _ ht, e, show (n.val * 32 + d.val) / 32 = n.val by omega, hD.row t _ ht (by omega)]

end Cert.Proof.KernelIdealRun

end
-- ==== Proof.Val.Loop.lean ====
module

public import proofs.«01_k».proof.Proof.Val.Chunk
public import Idealize.ShloMosaic.Lib.WritesUnit

@[expose] public section

noncomputable section

/-! The two scan loops: what each trip reads and leaves, and what the scratch buffer holds after all of them. -/

namespace Cert.Proof.KernelIdealRun

open Cert.KernelIdeal Cert.KernelIdeal.Gen
open Idealize.ShloMosaic

variable (c : Dev nD) (i : grid0.Coords)
    (M1 : Memref sig .tc .vmem S1x64x2048 .f32) (h1 : M1.IsWhole)
    (M2 : Memref sig .tc .vmem S1x130x130x96 .f32) (h2 : M2.IsWhole)
    (M3 : Memref sig .tc .vmem S9x32x32 .f32) (h3 : M3.IsWhole)
    (M4 : Memref sig .tc .vmem S9x96x32 .f32) (h4 : M4.IsWhole)
    (M5 : Memref sig .tc .vmem S1x32 .f32) (h5 : M5.IsWhole)
    (M6 : Memref sig .tc .vmem S128x64 .f32) (h6 : M6.IsWhole)
    (M7 : Memref sig .tc .vmem S64x128 .f32) (h7 : M7.IsWhole)
    (M8 : Memref sig .tc .vmem S2x32x64 .f32) (h8 : M8.IsWhole)
    (M9 : Memref sig .tc .vmem S2x32x32 .f32) (h9 : M9.IsWhole)
    (M10 : Memref sig .tc .vmem S2x1x32 .f32) (h10 : M10.IsWhole)
    (M11 : Memref sig .tc .vmem S2x1x512 .f32) (h11 : M11.IsWhole)
    (M12 : Memref sig .tc .vmem S2x1x32 .f32) (h12 : M12.IsWhole)
    (M13 : Memref sig .tc .vmem S1x32 .f32) (h13 : M13.IsWhole)
    (M14 : Memref sig .tc .vmem S1x32 .f32) (h14 : M14.IsWhole)
    (M15 : Memref sig .tc .vmem S32x512 .f32) (h15 : M15.IsWhole)
    (M16 : Memref sig .tc .vmem S16x512 .f32) (h16 : M16.IsWhole)
    (M17 : Memref sig .tc .vmem S512x32 .f32) (h17 : M17.IsWhole)
    (M18 : Memref sig .tc .vmem S1x128x4096 .f32) (h18 : M18.IsWhole)
    (M19 : Memref sig .tc .vmem S32x64x32 .f32) (h19 : M19.IsWhole)
    (M20 : Memref sig .tc .vmem S130x130x32 .f32) (h20 : M20.IsWhole)
    (M21 : Memref sig .tc .vmem S128x128x128 .f32) (h21 : M21.IsWhole)
    (M22 : Memref sig .tc .vmem S128x128x128 .f32) (h22 : M22.IsWhole)
    (M23 : Memref sig .tc .vmem S128x4096 .f32) (h23 : M23.IsWhole)
    (x12 : Vec Ideal S2x1x32 .f32) (x15 : Vec Ideal S32x512 .f32) (x16 : Vec Ideal S16x512 .f32) (x17 : Vec Ideal S512x32 .f32)
    (v773 : FVec Ideal S4096x32 .f32) (v812 : FVec Ideal S4096x64 .f32) (v831 : FVec Ideal S32x128x32 .f32)
    (va : Vec Ideal S1x1x512 .f32)

theorem load15 (inb) : View.readAt (Elt Ideal) M15.view (Rect.unit (s := S32x512) ![0, 0] ![32, 512] inb).toLoadRect (h15.unread x15) = x15 :=
  load_whole h15 x15 _ inb (by decide)

theorem load16 (inb) : View.readAt (Elt Ideal) M16.view (Rect.unit (s := S16x512) ![0, 0] ![16, 512] inb).toLoadRect (h16.unread x16) = x16 :=
  load_whole h16 x16 _ inb (by decide)

theorem load17 (inb) : View.readAt (Elt Ideal) M17.view (Rect.unit (s := S512x32) ![0, 0] ![512, 32] inb).toLoadRect (h17.unread x17) = x17 :=
  load_whole h17 x17 _ inb (by decide)

theorem load12 (k : ℕ) (inb) :
    View.readAt (Elt Ideal) M12.view (Rect.unit (s := S2x1x32) ![k, 0, 0] ![1, 1, 32] inb).toLoadRect (h12.unread x12)
      = fun j => x12 (ix3 (fn 2 (k + (j 0 : ℕ))) 0 (fn 32 (j 2 : ℕ))) := by
  rw [load_at]
  funext j
  refine congrArg x12 (funext fun a => ?_)
  fin_cases a
  · exact eq_fn (n := 2) _ (by show k + 1 * (j 0).val = _; omega)
  · exact Subsingleton.elim (α := Fin 1) _ _
  · exact eq_fn (n := 32) _ (by show 0 + 1 * (j 2).val = _; omega)

/-- A read of a scratch cell. -/
def cell (M : Memref sig .tc .vmem S128x128x128 .f32) (f : BufTy.Contents (Elt Ideal) M.view.ty) (r w e : ℕ) : EReal :=
  M.view.read (Elt Ideal) f (ix3 (fn 128 r) (fn 128 w) (fn 128 e))

theorem trips1 : k0_t1_loop.trips = 128 := by decide +kernel

theorem trips2 : k0_t2_loop.trips = 128 := by decide +kernel

/-! Direction 0. -/

theorem v1007_at1 (f : BufTy.Contents (Elt Ideal) M21.view.ty) (k : Fin k0_t1_loop.trips) (t e : ℕ) (ht : t < 128) (he : e < 128) :
    trip_k0_t1.sl.v1007 (F := Ideal) M21 k f (ix2 (fn 128 t) (fn 128 e)) = cell M21 f k t e := by
  have hk : k.val < 128 := Nat.lt_of_lt_of_le k.isLt k0_t1_abs.2.1
  unfold trip_k0_t1.sl.v1007
  pointwise []
  unfold View.readAt cell
  refine congrArg (M21.view.read (Elt Ideal) f) (funext fun a => Fin.ext ?_)
  have e0 := congrFun (k0_off1_eq k) a
  have ht' := fn_val ht
  have he' := fn_val he
  have hk' := fn_val hk
  fin_cases a
  · show k0_off1 k 0 + 1 * 0 = (fn 128 k.val).val
    have e1 : k0_off1 k 0 = k.val := e0
    omega
  · show k0_off1 k 1 + 1 * (fn 128 t).val = (fn 128 t).val
    have e1 : k0_off1 k 1 = 0 := e0
    omega
  · show k0_off1 k 2 + 1 * (fn 128 e).val = (fn 128 e).val
    have e1 : k0_off1 k 2 = 0 := e0
    omega

theorem trip_R1 (k : Fin k0_t1_loop.trips) (acc : FVec Ideal S1x512 .f32) (f : BufTy.Contents (Elt Ideal) M21.view.ty) :
    tripR_k0_t1 (F := Ideal) 𝒱₀ c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 v773 v812 v831 va (h12.unread x12) (h15.unread x15) (h16.unread x16) (h17.unread x17) k acc f
      = k0_pay129 (trip_k0_t1.sl.v1092 M15 M16 M21 va (h15.unread x15) (h16.unread x16) k acc f) := by
  unfold tripR_k0_t1 trip_k0_t1
  rfl

theorem trip_L1 (k : Fin k0_t1_loop.trips) (acc : FVec Ideal S1x512 .f32) (f : BufTy.Contents (Elt Ideal) M21.view.ty) :
    ∃ inb, tripL_k0_t1 (F := Ideal) 𝒱₀ c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 v773 v812 v831 va (h12.unread x12) (h15.unread x15) (h16.unread x16) (h17.unread x17) k acc f
      = [⟨Rect.unit (k0_off2 k) S1x128x32.size inb, k0_pay130 (trip_k0_t1.sl.v1009 M12 (h12.unread x12)) (trip_k0_t1.sl.v1011 M21 k f)
          (trip_k0_t1.sl.v1022 M16 M21 (h16.unread x16) k f) (trip_k0_t1.sl.v1092 M15 M16 M21 va (h15.unread x15) (h16.unread x16) k acc f)
          (View.readAt (Elt Ideal) M17.view (Rect.unit (s := S512x32) ![0, 0] S512x32.size inb_S512x32_S512x32_0_0).toLoadRect (h17.unread x17))⟩] := by
  unfold tripL_k0_t1 trip_k0_t1
  exact ⟨_, rfl⟩

/-- The chunk's states. -/
theorem v1092_at1 {I : ℕ → ℕ → EReal} {Af : ℕ → EReal} {l0 : ℕ} {x15 x16 x17} (hT : Tables x15 x16 x17) (k : Fin k0_t1_loop.trips)
    (acc : FVec Ideal S1x512 .f32) (f : BufTy.Contents (Elt Ideal) M21.view.ty)
    (hD : Data I Af l0 (trip_k0_t1.sl.v1007 M21 k f) (k0_pay127 va) acc) (t : ℕ) (m : Fin 512) (ht : t < 128) :
    trip_k0_t1.sl.v1092 M15 M16 M21 va (h15.unread x15) (h16.unread x16) k acc f (ix2 (fn 128 t) m) = hid I Af m.val (l0 + t + 1) := by
  have e1 : trip_k0_t1.sl.v1025 (F := Ideal) M15 M21 va (h15.unread x15) k f = chA (trip_k0_t1.sl.v1007 M21 k f) x15 (k0_pay127 va) := by
    unfold trip_k0_t1.sl.v1025 trip_k0_t1.sl.v1024 trip_k0_t1.sl.v1015 trip_k0_t1.sl.v1010 trip_k0_t1.sl.v1023 trip_k0_t1.sl.cst_889 chA
    rw [load15]
  have e2 : trip_k0_t1.sl.v1026 (F := Ideal) M15 M16 M21 (h15.unread x15) (h16.unread x16) k f = chB (trip_k0_t1.sl.v1007 M21 k f) x15 x16 := by
    unfold trip_k0_t1.sl.v1026 trip_k0_t1.sl.v1018 trip_k0_t1.sl.v1020 trip_k0_t1.sl.v1016 trip_k0_t1.sl.v1010 trip_k0_t1.sl.v1011 trip_k0_t1.sl.v1012 trip_k0_t1.sl.cst_889 chB
    rw [load15, load16]
  have w1 := window_start hT hD m
  rw [← e1, ← e2] at w1
  have one : ∀ {S : Shape} (i : S.Idx), broadcast S (FloatOps.ofBits (F := Ideal) FTy.f32 1065353216#32) i = 1 := fun i => by
    pointwise []
  have zero : ∀ {S : Shape} (i : S.Idx), broadcast S (FloatOps.ofBits (F := Ideal) FTy.f32 0#32) i = 0 := fun i => by
    pointwise []
  have w2 := round (s := 1) (r := 127) rfl w1 (trip_k0_t1.sl.v1027 (F := Ideal)) (trip_k0_t1.sl.v1028 (F := Ideal)) (fun i => one i) (fun i => zero i)
    slices_S128x512_o0_0_S127x512 (by decide)
  have w4 := round (s := 2) (r := 126) rfl w2 (trip_k0_t1.sl.v1036 (F := Ideal)) (trip_k0_t1.sl.v1037 (F := Ideal)) (fun i => one i) (fun i => zero i)
    slices_S128x512_o0_0_S126x512 (by decide)
  have w8 := round (s := 4) (r := 124) rfl w4 (trip_k0_t1.sl.v1045 (F := Ideal)) (trip_k0_t1.sl.v1046 (F := Ideal)) (fun i => one i) (fun i => zero i)
    slices_S128x512_o0_0_S124x512 (by decide)
  have w16 := round (s := 8) (r := 120) rfl w8 (trip_k0_t1.sl.v1054 (F := Ideal)) (trip_k0_t1.sl.v1055 (F := Ideal)) (fun i => one i) (fun i => zero i)
    slices_S128x512_o0_0_S120x512 (by decide)
  have w32 := round (s := 16) (r := 112) rfl w16 (trip_k0_t1.sl.v1063 (F := Ideal)) (trip_k0_t1.sl.v1064 (F := Ideal)) (fun i => one i) (fun i => zero i)
    slices_S128x512_o0_0_S112x512 (by decide)
  have w64 := round (s := 32) (r := 96) rfl w32 (trip_k0_t1.sl.v1072 (F := Ideal)) (trip_k0_t1.sl.v1073 (F := Ideal)) (fun i => one i) (fun i => zero i)
    slices_S128x512_o0_0_S96x512 (by decide)
  have w128 := round (s := 64) (r := 64) rfl w64 (trip_k0_t1.sl.v1081 (F := Ideal)) (trip_k0_t1.sl.v1082 (F := Ideal)) (fun i => one i) (fun i => zero i)
    slices_S128x512_o0_0_S64x512 (by decide)
  exact hs_at hD m w128 t ht

/-- The loop's value and pieces before trip `k`, from the buffer's contents `f0`. -/
def st1 (f0 : BufTy.Contents (Elt Ideal) M21.view.ty) (k : ℕ) : FVec Ideal S1x512 .f32 × List (View.Piece (Elt Ideal) S128x128x128 .f32) :=
  st_k0_t1 (F := Ideal) 𝒱₀ c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 v773 v812 v831 va (h12.unread x12) (h15.unread x15) (h16.unread x16) (h17.unread x17) f0 k0_pay126 k

/-- What one trip's piece changes in a cell's reading. -/
theorem cell_piece1 (f : BufTy.Contents (Elt Ideal) M21.view.ty) (k : Fin k0_t1_loop.trips) (inb)
    (W : FVec Ideal S1x128x32 .f32) (q t e : ℕ) (hq : q < 128) (ht : t < 128) (he : e < 128) :
    cell M21 (M21.view.writes (Elt Ideal) f [⟨Rect.unit (s := S128x128x128) (k0_off2 k) ![1, 128, 32] inb, W⟩]) q t e
      = if q = k.val ∧ 96 ≤ e then W (ix3 0 (fn 128 t) (fn 32 (e - 96))) else cell M21 f q t e := by
  have hk : k.val < 128 := Nat.lt_of_lt_of_le k.isLt k0_t1_abs.2.1
  have eq := fn_val hq
  have et := fn_val ht
  have ee := fn_val he
  split
  · next h =>
    have e3 : (fn 32 (e - 96)).val = e - 96 := fn_val (by omega)
    refine View.read_writes_cons_unit_of_mem M21.view f inb W [] (ix3 (fn 128 q) (fn 128 t) (fn 128 e)) (ix3 0 (fn 128 t) (fn 32 (e - 96))) (k0_off2_eq k) ?_
    intro a
    fin_cases a
    · show (fn 128 q).val = k.val + 0
      omega
    · show (fn 128 t).val = 0 + (fn 128 t).val
      omega
    · show (fn 128 e).val = 96 + (fn 32 (e - 96)).val
      omega
  · next h =>
    by_cases hqk : q = k.val
    · refine View.read_writes_cons_unit_of_not_mem M21.view f inb W [] (ix3 (fn 128 q) (fn 128 t) (fn 128 e)) (k0_off2_eq k) 2 (Or.inl ?_)
      show (fn 128 e).val < 96
      omega
    · refine View.read_writes_cons_unit_of_not_mem M21.view f inb W [] (ix3 (fn 128 q) (fn 128 t) (fn 128 e)) (k0_off2_eq k) 0 ?_
      show (fn 128 q).val < k.val ∨ k.val + 1 ≤ (fn 128 q).val
      omega

/-- Before trip `k`: the carried states, the untouched lanes, and the outputs written so far. -/
structure Inv1 (I : ℕ → ℕ → EReal) (Af Df : ℕ → EReal) (k : ℕ) (a : FVec Ideal S1x512 .f32) (f : BufTy.Contents (Elt Ideal) M21.view.ty) : Prop where
  carry : ∀ m : Fin 512, a (ix2 0 m) = hid I Af m.val (128 * k)
  data : ∀ q t e, q < 128 → t < 128 → e < 96 → cell M21 f q t e = I (128 * q + t) e
  out : ∀ q t d, q < k → t < 128 → d < 32 → cell M21 f q t (96 + d) = yout I Af Df (128 * q + t) d

theorem inv1_step {I : ℕ → ℕ → EReal} {Af Df : ℕ → EReal} (hT : Tables x15 x16 x17)
    (hA : ∀ m : Fin 512, k0_pay127 va (ix2 0 m) = Af m.val) (hDf : ∀ d : Fin 32, x12 (ix3 0 0 d) = Df d.val)
    (hU : ∀ (m l : ℕ), m < 512 → 0 ≤ decay I Af m l ∧ decay I Af m l ≤ 1)
    (f0 : BufTy.Contents (Elt Ideal) M21.view.ty) (k : Fin k0_t1_loop.trips)
    (h : Inv1 M21 I Af Df k.val (st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).1 (M21.view.writes (Elt Ideal) f0 (st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).2)) :
    Inv1 M21 I Af Df (k.val + 1) (st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 (k.val + 1)).1 (M21.view.writes (Elt Ideal) f0 (st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 (k.val + 1)).2) := by
  have hk : k.val < 128 := Nat.lt_of_lt_of_le k.isLt k0_t1_abs.2.1
  have hs : st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 (k.val + 1) = _ := st_k0_t1_succ (F := Ideal) 𝒱₀ c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 v773 v812 v831 va (h12.unread x12) (h15.unread x15) (h16.unread x16) (h17.unread x17) f0 k0_pay126 k
  rw [hs]
  change Inv1 M21 I Af Df (k.val + 1) (tripR_k0_t1 𝒱₀ c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 v773 v812 v831 va (h12.unread x12) (h15.unread x15) (h16.unread x16) (h17.unread x17) k
      (st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).1 (M21.view.writes (Elt Ideal) f0 (st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).2))
    (M21.view.writes (Elt Ideal) f0 (tripL_k0_t1 𝒱₀ c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 v773 v812 v831 va (h12.unread x12) (h15.unread x15) (h16.unread x16) (h17.unread x17) k
      (st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).1 (M21.view.writes (Elt Ideal) f0 (st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).2) ++ (st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).2))
  generalize st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val = p at h ⊢
  obtain ⟨a, L⟩ := p
  dsimp only at h ⊢
  rw [View.writes_append]
  generalize M21.view.writes (Elt Ideal) f0 L = f at h ⊢
  rw [trip_R1]
  obtain ⟨inb, hL⟩ := trip_L1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va k a f
  rw [hL, load17, show trip_k0_t1.sl.v1022 (F := Ideal) M16 M21 (h16.unread x16) k f = chC (trip_k0_t1.sl.v1007 M21 k f) x16 by
    unfold trip_k0_t1.sl.v1022 trip_k0_t1.sl.v1013 trip_k0_t1.sl.cst_889 chC
    rw [load16]]
  have hD : Data I Af (128 * k.val) (trip_k0_t1.sl.v1007 M21 k f) (k0_pay127 va) a :=
    ⟨fun t e ht he => by rw [v1007_at1 _ f k t e ht (by omega), h.data _ _ _ hk ht he], hA, h.carry, hU⟩
  have hH := v1092_at1 M15 h15 M16 h16 M21 va hT k a f hD
  refine ⟨fun m => ?_, fun q t e hq ht he => ?_, fun q t d hq ht hd => ?_⟩
  · rw [pay129_at, hH _ _ (by omega), Nat.mul_succ]
  · rw [cell_piece1 M21 f k inb _ q t e hq ht (by omega), if_neg (by omega), h.data q t e hq ht he]
  · rw [cell_piece1 M21 f k inb _ q t (96 + d) (by omega) ht (by omega)]
    by_cases hqk : q = k.val
    · subst hqk
      rw [if_pos (by omega), pay130_at hT, Nat.add_sub_cancel_left]
      refine (yout_of hT hD _ (Df := Df) ?_ _ (fun t m ht => hH t m ht) t ht (fn 32 d)).trans (by rw [fn_val hd])
      intro d
      unfold trip_k0_t1.sl.v1009
      rw [load12]
      pointwise []
      simp only [fn_self]
      exact hDf d
    · rw [if_neg (by omega), h.out q t d (by omega) ht hd]

/-- After all trips the output lanes hold the scan's outputs. -/
theorem loop1 {I : ℕ → ℕ → EReal} {Af Df : ℕ → EReal} (hT : Tables x15 x16 x17)
    (hA : ∀ m : Fin 512, k0_pay127 va (ix2 0 m) = Af m.val) (hDf : ∀ d : Fin 32, x12 (ix3 0 0 d) = Df d.val)
    (hU : ∀ (m l : ℕ), m < 512 → 0 ≤ decay I Af m l ∧ decay I Af m l ≤ 1)
    (f0 : BufTy.Contents (Elt Ideal) M21.view.ty)
    (hI : ∀ q t e, q < 128 → t < 128 → e < 96 → cell M21 f0 q t e = I (128 * q + t) e)
    (q t d : ℕ) (hq : q < 128) (ht : t < 128) (hd : d < 32) :
    cell M21 (M21.view.writes (Elt Ideal) f0 (st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 128).2) q t (96 + d) = yout I Af Df (128 * q + t) d := by
  have key : ∀ k : ℕ, k ≤ 128 → Inv1 M21 I Af Df k (st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k).1 (M21.view.writes (Elt Ideal) f0 (st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k).2) := by
    intro k
    induction k with
    | zero =>
      intro _
      refine ⟨fun m => ?_, hI, fun q t d hq => absurd hq (by omega)⟩
      show k0_pay126 (F := Ideal) (ix2 0 m) = 0
      pointwise [k0_pay126]
    | succ k ih =>
      intro hk
      exact inv1_step c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va hT hA hDf hU f0 ⟨k, by rw [trips1]; omega⟩ (ih (by omega))
  exact (key 128 le_rfl).out q t d hq ht hd

/-! Direction 1. -/

theorem v1007_at2 (f : BufTy.Contents (Elt Ideal) M22.view.ty) (k : Fin k0_t2_loop.trips) (t e : ℕ) (ht : t < 128) (he : e < 128) :
    trip_k0_t2.sl.v1007 (F := Ideal) M22 k f (ix2 (fn 128 t) (fn 128 e)) = cell M22 f t k e := by
  have hk : k.val < 128 := Nat.lt_of_lt_of_le k.isLt k0_t2_abs.2.1
  unfold trip_k0_t2.sl.v1007
  pointwise []
  unfold View.readAt cell
  refine congrArg (M22.view.read (Elt Ideal) f) (funext fun a => Fin.ext ?_)
  have e0 := congrFun (k0_off3_eq k) a
  have ht' := fn_val ht
  have he' := fn_val he
  have hk' := fn_val hk
  fin_cases a
  · show k0_off3 k 0 + 1 * (fn 128 t).val = (fn 128 t).val
    have e1 : k0_off3 k 0 = 0 := e0
    omega
  · show k0_off3 k 1 + 1 * 0 = (fn 128 k.val).val
    have e1 : k0_off3 k 1 = k.val := e0
    omega
  · show k0_off3 k 2 + 1 * (fn 128 e).val = (fn 128 e).val
    have e1 : k0_off3 k 2 = 0 := e0
    omega

theorem trip_R2 (k : Fin k0_t2_loop.trips) (acc : FVec Ideal S1x512 .f32) (f : BufTy.Contents (Elt Ideal) M22.view.ty) :
    tripR_k0_t2 (F := Ideal) 𝒱₀ c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 v773 v812 v831 va (h12.unread x12) (h15.unread x15) (h16.unread x16) (h17.unread x17) k acc f
      = k0_pay131 (trip_k0_t2.sl.v1092 M15 M16 M22 va (h15.unread x15) (h16.unread x16) k acc f) := by
  unfold tripR_k0_t2 trip_k0_t2
  rfl

theorem trip_L2 (k : Fin k0_t2_loop.trips) (acc : FVec Ideal S1x512 .f32) (f : BufTy.Contents (Elt Ideal) M22.view.ty) :
    ∃ inb, tripL_k0_t2 (F := Ideal) 𝒱₀ c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 v773 v812 v831 va (h12.unread x12) (h15.unread x15) (h16.unread x16) (h17.unread x17) k acc f
      = [⟨Rect.unit (k0_off4 k) S128x1x32.size inb, k0_pay132 (trip_k0_t2.sl.v1009 M12 (h12.unread x12)) (trip_k0_t2.sl.v1011 M22 k f)
          (trip_k0_t2.sl.v1022 M16 M22 (h16.unread x16) k f) (trip_k0_t2.sl.v1092 M15 M16 M22 va (h15.unread x15) (h16.unread x16) k acc f)
          (View.readAt (Elt Ideal) M17.view (Rect.unit (s := S512x32) ![0, 0] S512x32.size inb_S512x32_S512x32_0_0).toLoadRect (h17.unread x17))⟩] := by
  unfold tripL_k0_t2 trip_k0_t2
  exact ⟨_, rfl⟩

/-- The chunk's states. -/
theorem v1092_at2 {I : ℕ → ℕ → EReal} {Af : ℕ → EReal} {l0 : ℕ} {x15 x16 x17} (hT : Tables x15 x16 x17) (k : Fin k0_t2_loop.trips)
    (acc : FVec Ideal S1x512 .f32) (f : BufTy.Contents (Elt Ideal) M22.view.ty)
    (hD : Data I Af l0 (trip_k0_t2.sl.v1007 M22 k f) (k0_pay128 va) acc) (t : ℕ) (m : Fin 512) (ht : t < 128) :
    trip_k0_t2.sl.v1092 M15 M16 M22 va (h15.unread x15) (h16.unread x16) k acc f (ix2 (fn 128 t) m) = hid I Af m.val (l0 + t + 1) := by
  have e1 : trip_k0_t2.sl.v1025 (F := Ideal) M15 M22 va (h15.unread x15) k f = chA (trip_k0_t2.sl.v1007 M22 k f) x15 (k0_pay128 va) := by
    unfold trip_k0_t2.sl.v1025 trip_k0_t2.sl.v1024 trip_k0_t2.sl.v1015 trip_k0_t2.sl.v1010 trip_k0_t2.sl.v1023 trip_k0_t2.sl.cst_889 chA
    rw [load15]
  have e2 : trip_k0_t2.sl.v1026 (F := Ideal) M15 M16 M22 (h15.unread x15) (h16.unread x16) k f = chB (trip_k0_t2.sl.v1007 M22 k f) x15 x16 := by
    unfold trip_k0_t2.sl.v1026 trip_k0_t2.sl.v1018 trip_k0_t2.sl.v1020 trip_k0_t2.sl.v1016 trip_k0_t2.sl.v1010 trip_k0_t2.sl.v1011 trip_k0_t2.sl.v1012 trip_k0_t2.sl.cst_889 chB
    rw [load15, load16]
  have w1 := window_start hT hD m
  rw [← e1, ← e2] at w1
  have one : ∀ {S : Shape} (i : S.Idx), broadcast S (FloatOps.ofBits (F := Ideal) FTy.f32 1065353216#32) i = 1 := fun i => by
    pointwise []
  have zero : ∀ {S : Shape} (i : S.Idx), broadcast S (FloatOps.ofBits (F := Ideal) FTy.f32 0#32) i = 0 := fun i => by
    pointwise []
  have w2 := round (s := 1) (r := 127) rfl w1 (trip_k0_t2.sl.v1027 (F := Ideal)) (trip_k0_t2.sl.v1028 (F := Ideal)) (fun i => one i) (fun i => zero i)
    slices_S128x512_o0_0_S127x512 (by decide)
  have w4 := round (s := 2) (r := 126) rfl w2 (trip_k0_t2.sl.v1036 (F := Ideal)) (trip_k0_t2.sl.v1037 (F := Ideal)) (fun i => one i) (fun i => zero i)
    slices_S128x512_o0_0_S126x512 (by decide)
  have w8 := round (s := 4) (r := 124) rfl w4 (trip_k0_t2.sl.v1045 (F := Ideal)) (trip_k0_t2.sl.v1046 (F := Ideal)) (fun i => one i) (fun i => zero i)
    slices_S128x512_o0_0_S124x512 (by decide)
  have w16 := round (s := 8) (r := 120) rfl w8 (trip_k0_t2.sl.v1054 (F := Ideal)) (trip_k0_t2.sl.v1055 (F := Ideal)) (fun i => one i) (fun i => zero i)
    slices_S128x512_o0_0_S120x512 (by decide)
  have w32 := round (s := 16) (r := 112) rfl w16 (trip_k0_t2.sl.v1063 (F := Ideal)) (trip_k0_t2.sl.v1064 (F := Ideal)) (fun i => one i) (fun i => zero i)
    slices_S128x512_o0_0_S112x512 (by decide)
  have w64 := round (s := 32) (r := 96) rfl w32 (trip_k0_t2.sl.v1072 (F := Ideal)) (trip_k0_t2.sl.v1073 (F := Ideal)) (fun i => one i) (fun i => zero i)
    slices_S128x512_o0_0_S96x512 (by decide)
  have w128 := round (s := 64) (r := 64) rfl w64 (trip_k0_t2.sl.v1081 (F := Ideal)) (trip_k0_t2.sl.v1082 (F := Ideal)) (fun i => one i) (fun i => zero i)
    slices_S128x512_o0_0_S64x512 (by decide)
  exact hs_at hD m w128 t ht

/-- The loop's value and pieces before trip `k`, from the buffer's contents `f0`. -/
def st2 (f0 : BufTy.Contents (Elt Ideal) M22.view.ty) (k : ℕ) : FVec Ideal S1x512 .f32 × List (View.Piece (Elt Ideal) S128x128x128 .f32) :=
  st_k0_t2 (F := Ideal) 𝒱₀ c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 v773 v812 v831 va (h12.unread x12) (h15.unread x15) (h16.unread x16) (h17.unread x17) f0 k0_pay126 k

/-- What one trip's piece changes in a cell's reading. -/
theorem cell_piece2 (f : BufTy.Contents (Elt Ideal) M22.view.ty) (k : Fin k0_t2_loop.trips) (inb)
    (W : FVec Ideal S128x1x32 .f32) (q t e : ℕ) (hq : q < 128) (ht : t < 128) (he : e < 128) :
    cell M22 (M22.view.writes (Elt Ideal) f [⟨Rect.unit (s := S128x128x128) (k0_off4 k) ![128, 1, 32] inb, W⟩]) t q e
      = if q = k.val ∧ 96 ≤ e then W (ix3 (fn 128 t) 0 (fn 32 (e - 96))) else cell M22 f t q e := by
  have hk : k.val < 128 := Nat.lt_of_lt_of_le k.isLt k0_t2_abs.2.1
  have eq := fn_val hq
  have et := fn_val ht
  have ee := fn_val he
  split
  · next h =>
    have e3 : (fn 32 (e - 96)).val = e - 96 := fn_val (by omega)
    refine View.read_writes_cons_unit_of_mem M22.view f inb W [] (ix3 (fn 128 t) (fn 128 q) (fn 128 e)) (ix3 (fn 128 t) 0 (fn 32 (e - 96))) (k0_off4_eq k) ?_
    intro a
    fin_cases a
    · show (fn 128 t).val = 0 + (fn 128 t).val
      omega
    · show (fn 128 q).val = k.val + 0
      omega
    · show (fn 128 e).val = 96 + (fn 32 (e - 96)).val
      omega
  · next h =>
    by_cases hqk : q = k.val
    · refine View.read_writes_cons_unit_of_not_mem M22.view f inb W [] (ix3 (fn 128 t) (fn 128 q) (fn 128 e)) (k0_off4_eq k) 2 (Or.inl ?_)
      show (fn 128 e).val < 96
      omega
    · refine View.read_writes_cons_unit_of_not_mem M22.view f inb W [] (ix3 (fn 128 t) (fn 128 q) (fn 128 e)) (k0_off4_eq k) 1 ?_
      show (fn 128 q).val < k.val ∨ k.val + 1 ≤ (fn 128 q).val
      omega

/-- Before trip `k`: the carried states, the untouched lanes, and the outputs written so far. -/
structure Inv2 (I : ℕ → ℕ → EReal) (Af Df : ℕ → EReal) (k : ℕ) (a : FVec Ideal S1x512 .f32) (f : BufTy.Contents (Elt Ideal) M22.view.ty) : Prop where
  carry : ∀ m : Fin 512, a (ix2 0 m) = hid I Af m.val (128 * k)
  data : ∀ q t e, q < 128 → t < 128 → e < 96 → cell M22 f t q e = I (128 * q + t) e
  out : ∀ q t d, q < k → t < 128 → d < 32 → cell M22 f t q (96 + d) = yout I Af Df (128 * q + t) d

theorem inv2_step {I : ℕ → ℕ → EReal} {Af Df : ℕ → EReal} (hT : Tables x15 x16 x17)
    (hA : ∀ m : Fin 512, k0_pay128 va (ix2 0 m) = Af m.val) (hDf : ∀ d : Fin 32, x12 (ix3 1 0 d) = Df d.val)
    (hU : ∀ (m l : ℕ), m < 512 → 0 ≤ decay I Af m l ∧ decay I Af m l ≤ 1)
    (f0 : BufTy.Contents (Elt Ideal) M22.view.ty) (k : Fin k0_t2_loop.trips)
    (h : Inv2 M22 I Af Df k.val (st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).1 (M22.view.writes (Elt Ideal) f0 (st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).2)) :
    Inv2 M22 I Af Df (k.val + 1) (st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 (k.val + 1)).1 (M22.view.writes (Elt Ideal) f0 (st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 (k.val + 1)).2) := by
  have hk : k.val < 128 := Nat.lt_of_lt_of_le k.isLt k0_t2_abs.2.1
  have hs : st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 (k.val + 1) = _ := st_k0_t2_succ (F := Ideal) 𝒱₀ c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 v773 v812 v831 va (h12.unread x12) (h15.unread x15) (h16.unread x16) (h17.unread x17) f0 k0_pay126 k
  rw [hs]
  change Inv2 M22 I Af Df (k.val + 1) (tripR_k0_t2 𝒱₀ c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 v773 v812 v831 va (h12.unread x12) (h15.unread x15) (h16.unread x16) (h17.unread x17) k
      (st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).1 (M22.view.writes (Elt Ideal) f0 (st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).2))
    (M22.view.writes (Elt Ideal) f0 (tripL_k0_t2 𝒱₀ c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 v773 v812 v831 va (h12.unread x12) (h15.unread x15) (h16.unread x16) (h17.unread x17) k
      (st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).1 (M22.view.writes (Elt Ideal) f0 (st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).2) ++ (st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val).2))
  generalize st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k.val = p at h ⊢
  obtain ⟨a, L⟩ := p
  dsimp only at h ⊢
  rw [View.writes_append]
  generalize M22.view.writes (Elt Ideal) f0 L = f at h ⊢
  rw [trip_R2]
  obtain ⟨inb, hL⟩ := trip_L2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va k a f
  rw [hL, load17, show trip_k0_t2.sl.v1022 (F := Ideal) M16 M22 (h16.unread x16) k f = chC (trip_k0_t2.sl.v1007 M22 k f) x16 by
    unfold trip_k0_t2.sl.v1022 trip_k0_t2.sl.v1013 trip_k0_t2.sl.cst_889 chC
    rw [load16]]
  have hD : Data I Af (128 * k.val) (trip_k0_t2.sl.v1007 M22 k f) (k0_pay128 va) a :=
    ⟨fun t e ht he => by rw [v1007_at2 _ f k t e ht (by omega), h.data _ _ _ hk ht he], hA, h.carry, hU⟩
  have hH := v1092_at2 M15 h15 M16 h16 M22 va hT k a f hD
  refine ⟨fun m => ?_, fun q t e hq ht he => ?_, fun q t d hq ht hd => ?_⟩
  · rw [pay131_at, hH _ _ (by omega), Nat.mul_succ]
  · rw [cell_piece2 M22 f k inb _ q t e hq ht (by omega), if_neg (by omega), h.data q t e hq ht he]
  · rw [cell_piece2 M22 f k inb _ q t (96 + d) (by omega) ht (by omega)]
    by_cases hqk : q = k.val
    · subst hqk
      rw [if_pos (by omega), pay132_at hT, Nat.add_sub_cancel_left]
      refine (yout_of hT hD _ (Df := Df) ?_ _ (fun t m ht => hH t m ht) t ht (fn 32 d)).trans (by rw [fn_val hd])
      intro d
      unfold trip_k0_t2.sl.v1009
      rw [load12]
      pointwise []
      simp only [fn_self]
      exact hDf d
    · rw [if_neg (by omega), h.out q t d (by omega) ht hd]

/-- After all trips the output lanes hold the scan's outputs. -/
theorem loop2 {I : ℕ → ℕ → EReal} {Af Df : ℕ → EReal} (hT : Tables x15 x16 x17)
    (hA : ∀ m : Fin 512, k0_pay128 va (ix2 0 m) = Af m.val) (hDf : ∀ d : Fin 32, x12 (ix3 1 0 d) = Df d.val)
    (hU : ∀ (m l : ℕ), m < 512 → 0 ≤ decay I Af m l ∧ decay I Af m l ≤ 1)
    (f0 : BufTy.Contents (Elt Ideal) M22.view.ty)
    (hI : ∀ q t e, q < 128 → t < 128 → e < 96 → cell M22 f0 t q e = I (128 * q + t) e)
    (q t d : ℕ) (hq : q < 128) (ht : t < 128) (hd : d < 32) :
    cell M22 (M22.view.writes (Elt Ideal) f0 (st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 128).2) t q (96 + d) = yout I Af Df (128 * q + t) d := by
  have key : ∀ k : ℕ, k ≤ 128 → Inv2 M22 I Af Df k (st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k).1 (M22.view.writes (Elt Ideal) f0 (st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va f0 k).2) := by
    intro k
    induction k with
    | zero =>
      intro _
      refine ⟨fun m => ?_, hI, fun q t d hq => absurd hq (by omega)⟩
      show k0_pay126 (F := Ideal) (ix2 0 m) = 0
      pointwise [k0_pay126]
    | succ k ih =>
      intro hk
      exact inv2_step c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va hT hA hDf hU f0 ⟨k, by rw [trips2]; omega⟩ (ih (by omega))
  exact (key 128 le_rfl).out q t d hq ht hd

end Cert.Proof.KernelIdealRun

end
-- ==== Proof.Val.Lanes.lean ====
module

public import proofs.«01_k».proof.Proof.Val.Loop

@[expose] public section

noncomputable section

/-! What the convolution's row blocks leave in a scan buffer: step size, input, and the two state projections. -/

namespace Cert.Proof.KernelIdealRun

open Cert.KernelIdeal Cert.KernelIdeal.Gen
open Idealize.ShloMosaic

variable (Xf : ℕ → ℕ → ℕ → EReal) (x8 : Vec Ideal S2x32x64 .f32) (x9 : Vec Ideal S2x32x32 .f32) (x10 : Vec Ideal S2x1x32 .f32)

/-- The projection of the convolution's output at row `r`, column `w`, direction `k`, entry `e`. -/
def xd (k r w e : ℕ) : EReal := ∑ d : Fin 32, Xf r w d * x8 (ix3 (fn 2 k) d (fn 64 e))

/-- The step size before its activation. -/
def raw (k r w d : ℕ) : EReal :=
  (∑ e : Fin 32, xd Xf x8 k r w e * x9 (ix3 (fn 2 k) e (fn 32 d))) + x10 (ix3 (fn 2 k) 0 (fn 32 d))

/-- The step size. -/
def dlt (k r w d : ℕ) : EReal := Ideal.log1p (Ideal.exp (raw Xf x8 x9 x10 k r w d))

/-- The ninety-six lanes a scan reads at row `r`, column `w`. -/
def inn (k r w e : ℕ) : EReal :=
  if e < 32 then dlt Xf x8 x9 x10 k r w e else if e < 64 then Xf r w (e - 32) else xd Xf x8 k r w (e - 32)

variable (w8 : Vec Ideal S1x32x64 .f32) (w9 : Vec Ideal S1x32x32 .f32) (w10 : Vec Ideal S1x1x32 .f32)

/-- The sixteen pieces written to a scan buffer. -/
def pieces (X0 X1 X2 X3 : FVec Ideal S4096x32 .f32) : List (View.Piece (Elt Ideal) S128x128x128 .f32) :=
  [⟨Rect.unit ![96, 0, 80] S32x128x16.size inb_S128x128x128_S32x128x16_96_0_80, k0_pay55 X3 w8⟩,
   ⟨Rect.unit ![96, 0, 64] S32x128x16.size inb_S128x128x128_S32x128x16_96_0_64, k0_pay54 X3 w8⟩,
   ⟨Rect.unit ![96, 0, 32] S32x128x32.size inb_S128x128x128_S32x128x32_96_0_32, k0_pay53 X3⟩,
   ⟨Rect.unit ![96, 0, 0] S32x128x32.size inb_S128x128x128_S32x128x32_96_0_0, k0_pay52 X3 w8 w9 w10⟩,
   ⟨Rect.unit ![64, 0, 80] S32x128x16.size inb_S128x128x128_S32x128x16_64_0_80, k0_pay55 X2 w8⟩,
   ⟨Rect.unit ![64, 0, 64] S32x128x16.size inb_S128x128x128_S32x128x16_64_0_64, k0_pay54 X2 w8⟩,
   ⟨Rect.unit ![64, 0, 32] S32x128x32.size inb_S128x128x128_S32x128x32_64_0_32, k0_pay53 X2⟩,
   ⟨Rect.unit ![64, 0, 0] S32x128x32.size inb_S128x128x128_S32x128x32_64_0_0, k0_pay52 X2 w8 w9 w10⟩,
   ⟨Rect.unit ![32, 0, 80] S32x128x16.size inb_S128x128x128_S32x128x16_32_0_80, k0_pay55 X1 w8⟩,
   ⟨Rect.unit ![32, 0, 64] S32x128x16.size inb_S128x128x128_S32x128x16_32_0_64, k0_pay54 X1 w8⟩,
   ⟨Rect.unit ![32, 0, 32] S32x128x32.size inb_S128x128x128_S32x128x32_32_0_32, k0_pay53 X1⟩,
   ⟨Rect.unit ![32, 0, 0] S32x128x32.size inb_S128x128x128_S32x128x32_32_0_0, k0_pay52 X1 w8 w9 w10⟩,
   ⟨Rect.unit ![0, 0, 80] S32x128x16.size inb_S128x128x128_S32x128x16_0_0_80, k0_pay55 X0 w8⟩,
   ⟨Rect.unit ![0, 0, 64] S32x128x16.size inb_S128x128x128_S32x128x16_0_0_64, k0_pay54 X0 w8⟩,
   ⟨Rect.unit ![0, 0, 32] S32x128x32.size inb_S128x128x128_S32x128x32_0_0_32, k0_pay53 X0⟩,
   ⟨Rect.unit ![0, 0, 0] S32x128x32.size inb_S128x128x128_S32x128x32_0_0_0, k0_pay52 X0 w8 w9 w10⟩]

/-- A row block of the convolution's output, as the kernel flattens it. -/
def IsBlock (o : ℕ) (X : FVec Ideal S4096x32 .f32) : Prop :=
  ∀ (p : Fin 4096) (d : Fin 32), X (ix2 p d) = Xf (o + p.val / 128) (p.val % 128) d

/-- The direction's slices of the three weight arrays. -/
structure Weights (k : ℕ) : Prop where
  w8 : ∀ d e, w8 (ix3 0 d e) = x8 (ix3 (fn 2 k) d e)
  w9 : ∀ d e, w9 (ix3 0 d e) = x9 (ix3 (fn 2 k) d e)
  w10 : ∀ d, w10 (ix3 0 0 d) = x10 (ix3 (fn 2 k) 0 d)

variable {Xf x8 x9 x10 w8 w9 w10} {X : FVec Ideal S4096x32 .f32} {o k : ℕ}

/-- An index below 4096 made of a row below 32 and a column below 128. -/
theorem block_at (hX : IsBlock Xf o X) (r : Fin 32) (w : Fin 128) (d : Fin 32) (h) :
    X (ix2 (⟨r.val * 128 + w.val, h⟩ : Fin 4096) d) = Xf (o + r.val) w.val d := by
  have hw := w.isLt
  rw [hX]
  congr 1
  · show o + (r.val * 128 + w.val) / 128 = _
    omega
  · show (r.val * 128 + w.val) % 128 = _
    omega

theorem threshold : Named.named (F := Ideal) (φ := .f32) κ "softplus_threshold" 1101004800#32 = (⊤ : EReal) := rfl

theorem pay53_at (hX : IsBlock Xf o X) (r : Fin 32) (w : Fin 128) (d : Fin 32) :
    k0_pay53 X (ix3 r w d) = Xf (o + r.val) w.val d := by
  pointwise [k0_pay53]
  exact block_at hX r w d _

theorem pay54_at (hX : IsBlock Xf o X) (hw : Weights x8 x9 x10 w8 w9 w10 k) (r : Fin 32) (w : Fin 128) (d : Fin 16) :
    k0_pay54 X w8 (ix3 r w d) = xd Xf x8 k (o + r.val) w.val (32 + d.val) := by
  pointwise [k0_pay54, k0_pay51, xd]
  simp (disch := omega) only [block_at hX, hw.w8, fn_mk]

theorem pay55_at (hX : IsBlock Xf o X) (hw : Weights x8 x9 x10 w8 w9 w10 k) (r : Fin 32) (w : Fin 128) (d : Fin 16) :
    k0_pay55 X w8 (ix3 r w d) = xd Xf x8 k (o + r.val) w.val (48 + d.val) := by
  pointwise [k0_pay55, k0_pay51, xd]
  simp (disch := omega) only [block_at hX, hw.w8, fn_mk]

theorem pay52_at (hX : IsBlock Xf o X) (hw : Weights x8 x9 x10 w8 w9 w10 k) (r : Fin 32) (w : Fin 128) (d : Fin 32) :
    k0_pay52 X w8 w9 w10 (ix3 r w d) = dlt Xf x8 x9 x10 k (o + r.val) w.val d := by
  pointwise [k0_pay52, k0_pay51, dlt, raw, xd]
  rw [threshold, if_neg not_top_lt, min_eq_left le_top]
  simp (disch := omega) only [block_at hX, hw.w8, hw.w9, hw.w10, fn_mk, fn_self]

/-- A piece carrying the lanes' values at its place. -/
theorem lane_piece {s2 : ℕ} (o e : ℕ) (W : Vec Ideal ⟨3, ![32, 128, s2]⟩ .f32) (inb)
    (hW : ∀ r w d, W (ix3 r w d) = inn Xf x8 x9 x10 k (o + r.val) w.val (e + d.val))
    (x : (Rect.unit (s := S128x128x128) ![o, 0, e] ![32, 128, s2] inb).shape.Idx) :
    W x = (fun y : S128x128x128.Idx => inn Xf x8 x9 x10 k (y 0) (y 1) (y 2))
      ((Rect.unit (s := S128x128x128) ![o, 0, e] ![32, 128, s2] inb).emb x) := by
  obtain ⟨e0, e1, e2⟩ := emb3 (n0 := 128) (n1 := 128) (n2 := 128) o 0 e ![32, 128, s2] inb x
  obtain ⟨a, b, d, rfl⟩ := ix3_surj (a := 32) (b := 128) (c := s2) x
  beta_reduce
  rw [e0, e1, e2, hW, Nat.zero_add]
  rfl

theorem lane52 (hX : IsBlock Xf o X) (hw : Weights x8 x9 x10 w8 w9 w10 k) (r : Fin 32) (w : Fin 128) (d : Fin 32) :
    k0_pay52 X w8 w9 w10 (ix3 r w d) = inn Xf x8 x9 x10 k (o + r.val) w.val (0 + d.val) := by
  have hd := d.isLt
  rw [pay52_at hX hw, inn, if_pos (by omega), Nat.zero_add]

theorem lane53 (hX : IsBlock Xf o X) (r : Fin 32) (w : Fin 128) (d : Fin 32) :
    k0_pay53 X (ix3 r w d) = inn Xf x8 x9 x10 k (o + r.val) w.val (32 + d.val) := by
  have hd := d.isLt
  rw [pay53_at hX, inn, if_neg (by omega), if_pos (by omega), Nat.add_sub_cancel_left]

theorem lane54 (hX : IsBlock Xf o X) (hw : Weights x8 x9 x10 w8 w9 w10 k) (r : Fin 32) (w : Fin 128) (d : Fin 16) :
    k0_pay54 X w8 (ix3 r w d) = inn Xf x8 x9 x10 k (o + r.val) w.val (64 + d.val) := by
  have hd := d.isLt
  rw [pay54_at hX hw, inn, if_neg (by omega), if_neg (by omega), show 64 + d.val - 32 = 32 + d.val by omega]

theorem lane55 (hX : IsBlock Xf o X) (hw : Weights x8 x9 x10 w8 w9 w10 k) (r : Fin 32) (w : Fin 128) (d : Fin 16) :
    k0_pay55 X w8 (ix3 r w d) = inn Xf x8 x9 x10 k (o + r.val) w.val (80 + d.val) := by
  have hd := d.isLt
  rw [pay55_at hX hw, inn, if_neg (by omega), if_neg (by omega), show 80 + d.val - 32 = 48 + d.val by omega]

/-- A buffer the sixteen pieces were written to reads the lanes' values. -/
theorem cell_pieces {X0 X1 X2 X3 : FVec Ideal S4096x32 .f32} (hX0 : IsBlock Xf 0 X0) (hX1 : IsBlock Xf 32 X1)
    (hX2 : IsBlock Xf 64 X2) (hX3 : IsBlock Xf 96 X3) (hw : Weights x8 x9 x10 w8 w9 w10 k)
    (M : Memref sig .tc .vmem S128x128x128 .f32) (f : BufTy.Contents (Elt Ideal) M.view.ty) (r w e : ℕ)
    (hr : r < 128) (hw' : w < 128) (he : e < 96) :
    cell M (M.view.writes (Elt Ideal) f (pieces w8 w9 w10 X0 X1 X2 X3)) r w e = inn Xf x8 x9 x10 k r w e := by
  have h0 := fn_val hr
  have h1 := fn_val hw'
  have h2 : (fn 128 e).val = e := fn_val (by omega)
  have hcov : ∃ p ∈ pieces w8 w9 w10 X0 X1 X2 X3, (ix3 (fn 128 r) (fn 128 w) (fn 128 e) : S128x128x128.Idx) ∈ p.1.set := by
    unfold pieces
    simp only [List.mem_cons, or_and_right, exists_or, exists_eq_left, List.not_mem_nil, false_and, exists_false, or_false]
    rw [mem3, mem3, mem3, mem3, mem3, mem3, mem3, mem3, mem3, mem3, mem3, mem3, mem3, mem3, mem3, mem3]
    have g0 : ((ix3 (fn 128 r) (fn 128 w) (fn 128 e) : S128x128x128.Idx) 0).val = r := h0
    have g1 : ((ix3 (fn 128 r) (fn 128 w) (fn 128 e) : S128x128x128.Idx) 1).val = w := h1
    have g2 : ((ix3 (fn 128 r) (fn 128 w) (fn 128 e) : S128x128x128.Idx) 2).val = e := h2
    rw [g0, g1, g2]
    clear g0 g1 g2 h0 h1 h2
    rcases (by omega : r < 32 ∨ 32 ≤ r ∧ r < 64 ∨ 64 ≤ r ∧ r < 96 ∨ 96 ≤ r) with hb | hb | hb | hb <;>
      rcases (by omega : e < 32 ∨ 32 ≤ e ∧ e < 64 ∨ 64 ≤ e ∧ e < 80 ∨ 80 ≤ e) with hl | hl | hl | hl <;>
      repeat (first | (left; omega) | right | omega)
  unfold cell
  rw [View.read_writes_apply_eq_canon _ _ _ _ hcov]
  refine (View.canon_apply_of_pieces (fun y : S128x128x128.Idx => inn Xf x8 x9 x10 k (y 0) (y 1) (y 2)) _ ?_ _ hcov).trans ?_
  · intro p hp x
    unfold pieces at hp
    simp only [List.mem_cons, List.not_mem_nil, or_false] at hp
    rcases hp with rfl | rfl | rfl | rfl | rfl | rfl | rfl | rfl | rfl | rfl | rfl | rfl | rfl | rfl | rfl | rfl
    · exact lane_piece 96 80 (k0_pay55 X3 w8) inb_S128x128x128_S32x128x16_96_0_80 (lane55 hX3 hw) x
    · exact lane_piece 96 64 (k0_pay54 X3 w8) inb_S128x128x128_S32x128x16_96_0_64 (lane54 hX3 hw) x
    · exact lane_piece 96 32 (k0_pay53 X3) inb_S128x128x128_S32x128x32_96_0_32 (lane53 hX3) x
    · exact lane_piece 96 0 (k0_pay52 X3 w8 w9 w10) inb_S128x128x128_S32x128x32_96_0_0 (lane52 hX3 hw) x
    · exact lane_piece 64 80 (k0_pay55 X2 w8) inb_S128x128x128_S32x128x16_64_0_80 (lane55 hX2 hw) x
    · exact lane_piece 64 64 (k0_pay54 X2 w8) inb_S128x128x128_S32x128x16_64_0_64 (lane54 hX2 hw) x
    · exact lane_piece 64 32 (k0_pay53 X2) inb_S128x128x128_S32x128x32_64_0_32 (lane53 hX2) x
    · exact lane_piece 64 0 (k0_pay52 X2 w8 w9 w10) inb_S128x128x128_S32x128x32_64_0_0 (lane52 hX2 hw) x
    · exact lane_piece 32 80 (k0_pay55 X1 w8) inb_S128x128x128_S32x128x16_32_0_80 (lane55 hX1 hw) x
    · exact lane_piece 32 64 (k0_pay54 X1 w8) inb_S128x128x128_S32x128x16_32_0_64 (lane54 hX1 hw) x
    · exact lane_piece 32 32 (k0_pay53 X1) inb_S128x128x128_S32x128x32_32_0_32 (lane53 hX1) x
    · exact lane_piece 32 0 (k0_pay52 X1 w8 w9 w10) inb_S128x128x128_S32x128x32_32_0_0 (lane52 hX1 hw) x
    · exact lane_piece 0 80 (k0_pay55 X0 w8) inb_S128x128x128_S32x128x16_0_0_80 (lane55 hX0 hw) x
    · exact lane_piece 0 64 (k0_pay54 X0 w8) inb_S128x128x128_S32x128x16_0_0_64 (lane54 hX0 hw) x
    · exact lane_piece 0 32 (k0_pay53 X0) inb_S128x128x128_S32x128x32_0_0_32 (lane53 hX0) x
    · exact lane_piece 0 0 (k0_pay52 X0 w8 w9 w10) inb_S128x128x128_S32x128x32_0_0_0 (lane52 hX0 hw) x
  · beta_reduce
    congr 1

/-- The step size is never negative: the logarithm of one plus an exponential. -/
theorem dlt_nonneg (r w d : ℕ) : 0 ≤ dlt Xf x8 x9 x10 k r w d := by
  unfold dlt
  induction raw Xf x8 x9 x10 k r w d using EReal.rec with
  | bot =>
    have h : Ideal.log1p (Ideal.exp ⊥) = Ideal.log (((1 : ℝ) : EReal) + ((0 : ℝ) : EReal)) := rfl
    rw [h, ← EReal.coe_add]
    show (0 : EReal) ≤ if (1 + 0 : ℝ) ≤ 0 then ⊥ else (Real.log (1 + 0) : EReal)
    rw [if_neg (by norm_num)]
    norm_num
  | top =>
    have h : Ideal.log1p (Ideal.exp ⊤) = Ideal.log (((1 : ℝ) : EReal) + ⊤) := rfl
    rw [h, EReal.coe_add_top]
    exact le_top
  | coe x =>
    have h : (1 : EReal) + (Real.exp x : EReal) = ((1 + Real.exp x : ℝ) : EReal) := by push_cast; rfl
    have h1 := Real.exp_pos x
    simp only [Ideal.log1p, Ideal.exp, h]
    show (0 : EReal) ≤ if 1 + Real.exp x ≤ 0 then ⊥ else (Real.log (1 + Real.exp x) : EReal)
    rw [if_neg (by linarith)]
    exact_mod_cast Real.log_nonneg (by linarith)

/-- The exponential of a number that is not positive lies between zero and one. -/
theorem exp_unit {x : EReal} (h : x ≤ 0) : 0 ≤ Ideal.exp x ∧ Ideal.exp x ≤ 1 := by
  induction x using EReal.rec with
  | bot => exact ⟨le_refl _, zero_le_one⟩
  | top => exact absurd h (by simp)
  | coe x =>
    have hx : x ≤ 0 := by exact_mod_cast h
    show (0 : EReal) ≤ (Real.exp x : EReal) ∧ (Real.exp x : EReal) ≤ 1
    exact ⟨by exact_mod_cast (Real.exp_pos x).le, by exact_mod_cast Real.exp_le_one_iff.mpr hx⟩

/-- An exponential is never negative. -/
theorem exp_nonneg (x : EReal) : 0 ≤ Ideal.exp x := by
  induction x using EReal.rec with
  | bot => exact le_refl _
  | top => exact le_top
  | coe x => show (0 : EReal) ≤ (Real.exp x : EReal); exact_mod_cast (Real.exp_pos x).le

end Cert.Proof.KernelIdealRun

end
-- ==== Proof.Val.Conv.lean ====
module

public import proofs.«01_k».proof.Proof.Val.Up

@[expose] public section

noncomputable section

/-! The convolution: each row block's nine products over the upsampled image and the features, added up. -/

namespace Cert.Proof.KernelIdealRun

open Cert.KernelIdeal Cert.KernelIdeal.Gen
open Idealize.ShloMosaic

variable (x1 : Vec Ideal S1x64x2048 .f32) (x2 : Vec Ideal S1x130x130x96 .f32) (x3 : Vec Ideal S9x32x32 .f32)
  (x4 : Vec Ideal S9x96x32 .f32) (x5 : Vec Ideal S1x32 .f32) (x6 : Vec Ideal S128x64 .f32) (x7 : Vec Ideal S64x128 .f32)

/-- One tap of the convolution at output row `r`, column `w`, channel `d`: tap `t` looks `ky` rows and `kx` columns further. -/
def tap (t ky kx r w d : ℕ) : EReal :=
  (∑ c : Fin 32, upPad x1 x6 x7 (r + ky) (w + kx) c * x3 (ix3 (fn 9 t) c (fn 32 d))) +
    ∑ c : Fin 96, x2 (ix4 0 (fn 130 (r + ky)) (fn 130 (w + kx)) c) * x4 (ix3 (fn 9 t) c (fn 32 d))

/-- The convolution's output at row `r`, column `w`, channel `d`. -/
def conv (r w d : ℕ) : EReal :=
  tap x1 x2 x3 x4 x6 x7 0 0 0 r w d + tap x1 x2 x3 x4 x6 x7 1 0 1 r w d + tap x1 x2 x3 x4 x6 x7 2 0 2 r w d +
    tap x1 x2 x3 x4 x6 x7 3 1 0 r w d + tap x1 x2 x3 x4 x6 x7 4 1 1 r w d + tap x1 x2 x3 x4 x6 x7 5 1 2 r w d +
    tap x1 x2 x3 x4 x6 x7 6 2 0 r w d + tap x1 x2 x3 x4 x6 x7 7 2 1 r w d + tap x1 x2 x3 x4 x6 x7 8 2 2 r w d +
    x5 (ix2 0 (fn 32 d))

/-! What the loads read. -/

theorem load3 {M : Memref sig .tc .vmem S9x32x32 .f32} (h : M.IsWhole) (X : Vec Ideal S9x32x32 .f32) (t : ℕ) (inb) :
    View.readAt (Elt Ideal) M.view (Rect.unit (s := S9x32x32) ![t, 0, 0] ![1, 32, 32] inb).toLoadRect (h.unread X)
      = fun j => X (ix3 (fn 9 (t + (j 0 : ℕ))) (fn 32 (j 1 : ℕ)) (fn 32 (j 2 : ℕ))) := by
  rw [load_at]
  funext j
  refine congrArg X (funext fun a => ?_)
  fin_cases a
  · exact eq_fn (n := 9) _ (by show t + 1 * (j 0).val = _; omega)
  · exact eq_fn (n := 32) _ (by show 0 + 1 * (j 1).val = _; omega)
  · exact eq_fn (n := 32) _ (by show 0 + 1 * (j 2).val = _; omega)

theorem load4 {M : Memref sig .tc .vmem S9x96x32 .f32} (h : M.IsWhole) (X : Vec Ideal S9x96x32 .f32) (t : ℕ) (inb) :
    View.readAt (Elt Ideal) M.view (Rect.unit (s := S9x96x32) ![t, 0, 0] ![1, 96, 32] inb).toLoadRect (h.unread X)
      = fun j => X (ix3 (fn 9 (t + (j 0 : ℕ))) (fn 96 (j 1 : ℕ)) (fn 32 (j 2 : ℕ))) := by
  rw [load_at]
  funext j
  refine congrArg X (funext fun a => ?_)
  fin_cases a
  · exact eq_fn (n := 9) _ (by show t + 1 * (j 0).val = _; omega)
  · exact eq_fn (n := 96) _ (by show 0 + 1 * (j 1).val = _; omega)
  · exact eq_fn (n := 32) _ (by show 0 + 1 * (j 2).val = _; omega)

theorem load2 {M : Memref sig .tc .vmem S1x130x130x96 .f32} (h : M.IsWhole) (X : Vec Ideal S1x130x130x96 .f32) (o p : ℕ) (inb) :
    View.readAt (Elt Ideal) M.view (Rect.unit (s := S1x130x130x96) ![0, o, p, 0] ![1, 32, 128, 96] inb).toLoadRect (h.unread X)
      = fun j => X (ix4 0 (fn 130 (o + (j 1 : ℕ))) (fn 130 (p + (j 2 : ℕ))) (fn 96 (j 3 : ℕ))) := by
  rw [load_at]
  funext j
  refine congrArg X (funext fun a => ?_)
  fin_cases a
  · exact Subsingleton.elim (α := Fin 1) _ _
  · exact eq_fn (n := 130) _ (by show o + 1 * (j 1).val = _; omega)
  · exact eq_fn (n := 130) _ (by show p + 1 * (j 2).val = _; omega)
  · exact eq_fn (n := 96) _ (by show 0 + 1 * (j 3).val = _; omega)

theorem load5 {M : Memref sig .tc .vmem S1x32 .f32} (h : M.IsWhole) (X : Vec Ideal S1x32 .f32) (inb) :
    View.readAt (Elt Ideal) M.view (Rect.unit (s := S1x32) ![0, 0] ![1, 32] inb).toLoadRect (h.unread X) = X :=
  load_whole h X _ inb (by decide)

theorem load20 (c : Dev nD)
    (M1 : Memref sig .tc .vmem S1x64x2048 .f32) (h1 : M1.IsWhole)
    (M6 : Memref sig .tc .vmem S128x64 .f32) (h6 : M6.IsWhole)
    (M7 : Memref sig .tc .vmem S64x128 .f32) (h7 : M7.IsWhole)
    (M19 : Memref sig .tc .vmem S32x64x32 .f32) (M20 : Memref sig .tc .vmem S130x130x32 .f32) (o p : ℕ) (inb) :
    M20.view.readCov (kernelRun.sl.H20_8 (F := Ideal) c M1 h1 M6 h6 M7 h7 M19 x1 x6 x7)
        (Rect.unit (s := S130x130x32) ![o, p, 0] ![32, 128, 32] inb).toLoadRect
      = fun j => upPad x1 x6 x7 (o + (j 0 : ℕ)) (p + (j 1 : ℕ)) (j 2 : ℕ) := by
  rw [load_up]
  funext j
  unfold upArr
  congr 1
  · show o + 1 * (j 0).val = _; omega
  · show p + 1 * (j 1).val = _; omega
  · show 0 + 1 * (j 2).val = _; omega

variable (c : Dev nD)
    (M1 : Memref sig .tc .vmem S1x64x2048 .f32) (h1 : M1.IsWhole)
    (M2 : Memref sig .tc .vmem S1x130x130x96 .f32) (h2 : M2.IsWhole)
    (M3 : Memref sig .tc .vmem S9x32x32 .f32) (h3 : M3.IsWhole)
    (M4 : Memref sig .tc .vmem S9x96x32 .f32) (h4 : M4.IsWhole)
    (M5 : Memref sig .tc .vmem S1x32 .f32) (h5 : M5.IsWhole)
    (M6 : Memref sig .tc .vmem S128x64 .f32) (h6 : M6.IsWhole)
    (M7 : Memref sig .tc .vmem S64x128 .f32) (h7 : M7.IsWhole)
    (M19 : Memref sig .tc .vmem S32x64x32 .f32) (M20 : Memref sig .tc .vmem S130x130x32 .f32)

set_option maxHeartbeats 1000000 in
/-- Row block 0 of the convolution. -/
theorem conv_block0 (p : Fin 4096) (d : Fin 32) :
    kernelRun.sl.r_11 (F := Ideal) c M1 h1 M2 h2 M3 h3 M4 h4 M5 h5 M6 h6 M7 h7 M19 M20 x1 x2 x3 x4 x5 x6 x7 (ix2 p d)
      = conv x1 x2 x3 x4 x5 x6 x7 (p.val / 128) (p.val % 128) d := by
  simp only [kernelRun.sl.r_3, kernelRun.sl.r_4, kernelRun.sl.r_5, kernelRun.sl.r_6, kernelRun.sl.r_7, kernelRun.sl.r_8, kernelRun.sl.r_9, kernelRun.sl.r_10, kernelRun.sl.r_11,
    kernelRun.sl.v78, kernelRun.sl.v90, kernelRun.sl.v103, kernelRun.sl.v116, kernelRun.sl.v129, kernelRun.sl.v142, kernelRun.sl.v155, kernelRun.sl.v168, kernelRun.sl.v181,
    load20, load2, load3, load4, load5]
  pointwise [k0_pay42, k0_pay43, k0_pay44, k0_pay45, k0_pay46, k0_pay47, k0_pay48, k0_pay49, k0_pay50]
  simp only [conv, tap, fn_self, Nat.add_zero, Nat.zero_add, Nat.reduceAdd,
    show p.val / 128 + 1 = 1 + p.val / 128 by omega, show p.val / 128 + 2 = 2 + p.val / 128 by omega,
    Nat.add_comm (p.val % 128)]

set_option maxHeartbeats 1000000 in
/-- Row block 1 of the convolution. -/
theorem conv_block1 (p : Fin 4096) (d : Fin 32) :
    kernelRun.sl.r_23 (F := Ideal) c M1 h1 M2 h2 M3 h3 M4 h4 M5 h5 M6 h6 M7 h7 M19 M20 x1 x2 x3 x4 x5 x6 x7 (ix2 p d)
      = conv x1 x2 x3 x4 x5 x6 x7 (32 + p.val / 128) (p.val % 128) d := by
  simp only [kernelRun.sl.r_15, kernelRun.sl.r_16, kernelRun.sl.r_17, kernelRun.sl.r_18, kernelRun.sl.r_19, kernelRun.sl.r_20, kernelRun.sl.r_21, kernelRun.sl.r_22, kernelRun.sl.r_23,
    kernelRun.sl.v270, kernelRun.sl.v282, kernelRun.sl.v295, kernelRun.sl.v308, kernelRun.sl.v321, kernelRun.sl.v334, kernelRun.sl.v347, kernelRun.sl.v360, kernelRun.sl.v373,
    load20, load2, load3, load4, load5]
  pointwise [k0_pay62, k0_pay63, k0_pay64, k0_pay65, k0_pay66, k0_pay67, k0_pay68, k0_pay69, k0_pay70]
  simp only [conv, tap, fn_self, Nat.add_zero, Nat.zero_add, Nat.reduceAdd,
    show 32 + p.val / 128 + 1 = 33 + p.val / 128 by omega, show 32 + p.val / 128 + 2 = 34 + p.val / 128 by omega,
    Nat.add_comm (p.val % 128)]

set_option maxHeartbeats 1000000 in
/-- Row block 2 of the convolution. -/
theorem conv_block2 (p : Fin 4096) (d : Fin 32) :
    kernelRun.sl.r_35 (F := Ideal) c M1 h1 M2 h2 M3 h3 M4 h4 M5 h5 M6 h6 M7 h7 M19 M20 x1 x2 x3 x4 x5 x6 x7 (ix2 p d)
      = conv x1 x2 x3 x4 x5 x6 x7 (64 + p.val / 128) (p.val % 128) d := by
  simp only [kernelRun.sl.r_28, kernelRun.sl.r_29, kernelRun.sl.r_30, kernelRun.sl.r_31, kernelRun.sl.r_32, kernelRun.sl.r_33, kernelRun.sl.r_34, kernelRun.sl.r_35,
    kernelRun.sl.v462, kernelRun.sl.v474, kernelRun.sl.v487, kernelRun.sl.v500, kernelRun.sl.v513, kernelRun.sl.v526, kernelRun.sl.v539, kernelRun.sl.v552, kernelRun.sl.v565,
    load20, load2, load3, load4, load5]
  pointwise [k0_pay83, k0_pay84, k0_pay85, k0_pay86, k0_pay87, k0_pay88, k0_pay89, k0_pay90]
  simp only [conv, tap, fn_self, Nat.add_zero, Nat.zero_add, Nat.reduceAdd,
    show 64 + p.val / 128 + 1 = 65 + p.val / 128 by omega, show 64 + p.val / 128 + 2 = 66 + p.val / 128 by omega,
    Nat.add_comm (p.val % 128)]

set_option maxHeartbeats 1000000 in
/-- Row block 3 of the convolution. -/
theorem conv_block3 (p : Fin 4096) (d : Fin 32) :
    kernelRun.sl.r_50 (F := Ideal) c M1 h1 M2 h2 M3 h3 M4 h4 M5 h5 M6 h6 M7 h7 M19 M20 x1 x2 x3 x4 x5 x6 x7 (ix2 p d)
      = conv x1 x2 x3 x4 x5 x6 x7 (96 + p.val / 128) (p.val % 128) d := by
  simp only [kernelRun.sl.r_39, kernelRun.sl.r_40, kernelRun.sl.r_41, kernelRun.sl.r_42, kernelRun.sl.r_43, kernelRun.sl.r_44, kernelRun.sl.r_45, kernelRun.sl.r_46, kernelRun.sl.r_47, kernelRun.sl.r_48, kernelRun.sl.r_49, kernelRun.sl.r_50,
    kernelRun.sl.v654, kernelRun.sl.v666, kernelRun.sl.v679, kernelRun.sl.v692, kernelRun.sl.v705, kernelRun.sl.v718, kernelRun.sl.v731, kernelRun.sl.v744, kernelRun.sl.v757,
    load20, load2, load3, load4, load5]
  pointwise [k0_pay103, k0_pay104, k0_pay105, k0_pay106, k0_pay107, k0_pay108, k0_pay109, k0_pay110, k0_pay111, k0_pay112, k0_pay113, k0_pay114]
  simp only [conv, tap, fn_self, Nat.add_zero, Nat.zero_add, Nat.reduceAdd,
    show 96 + p.val / 128 + 1 = 97 + p.val / 128 by omega, show 96 + p.val / 128 + 2 = 98 + p.val / 128 by omega,
    Nat.add_comm (p.val % 128)]

end Cert.Proof.KernelIdealRun

end
-- ==== Proof.Val.Scan.lean ====
module

public import proofs.«01_k».proof.Proof.Val.Lanes
public import proofs.«01_k».proof.Proof.Val.Conv

@[expose] public section

noncomputable section

/-! The scans' outputs, as the kernel reads them back from the scan buffers. -/

namespace Cert.Proof.KernelIdealRun

open Cert.KernelIdeal Cert.KernelIdeal.Gen
open Idealize.ShloMosaic

/-! The row blocks write the same lanes by differently grouped steps. -/

theorem e76 (v372 : FVec Ideal S4096x32 .f32) (v374 : FVec Ideal S4096x32 .f32) (v376 : FVec Ideal S32x128x96 .f32) (v378 : Vec Ideal S1x32x32 .f32) (v381 : Vec Ideal S1x96x32 .f32) (v386 : Vec Ideal S1x32 .f32) (w8 : Vec Ideal S1x32x64 .f32) :
    k0_pay76 (k0_pay71 v372 v374 v376 v378 v381 v386 w8) = k0_pay55 (k0_pay70 v372 v374 v376 v378 v381 v386) w8 := rfl

theorem e75 (v372 : FVec Ideal S4096x32 .f32) (v374 : FVec Ideal S4096x32 .f32) (v376 : FVec Ideal S32x128x96 .f32) (v378 : Vec Ideal S1x32x32 .f32) (v381 : Vec Ideal S1x96x32 .f32) (v386 : Vec Ideal S1x32 .f32) (w8 : Vec Ideal S1x32x64 .f32) :
    k0_pay75 (k0_pay71 v372 v374 v376 v378 v381 v386 w8) = k0_pay54 (k0_pay70 v372 v374 v376 v378 v381 v386) w8 := rfl

theorem e74 (X : FVec Ideal S4096x32 .f32) :
    k0_pay74 X = k0_pay53 X := rfl

theorem e73 (v372 : FVec Ideal S4096x32 .f32) (v374 : FVec Ideal S4096x32 .f32) (v376 : FVec Ideal S32x128x96 .f32) (v378 : Vec Ideal S1x32x32 .f32) (v381 : Vec Ideal S1x96x32 .f32) (v386 : Vec Ideal S1x32 .f32) (w8 : Vec Ideal S1x32x64 .f32) (w9 : Vec Ideal S1x32x32 .f32) (w10 : Vec Ideal S1x1x32 .f32) :
    k0_pay73 (k0_pay72 v372 v374 v376 v378 v381 v386 w8 w9 w10) = k0_pay52 (k0_pay70 v372 v374 v376 v378 v381 v386) w8 w9 w10 := rfl

theorem e96 (v551 : FVec Ideal S4096x32 .f32) (v553 : FVec Ideal S4096x32 .f32) (v556 : FVec Ideal S4096x96 .f32) (v557 : Vec Ideal S1x32x32 .f32) (v560 : Vec Ideal S1x96x32 .f32) (v565 : Vec Ideal S32x128x32 .f32) (v567 : Vec Ideal S1x32x128x96 .f32) (v570 : Vec Ideal S1x32x32 .f32) (v573 : Vec Ideal S1x96x32 .f32) (v578 : Vec Ideal S1x32 .f32) (w8 : Vec Ideal S1x32x64 .f32) :
    k0_pay96 (k0_pay91 v551 v553 v556 v557 v560 v565 v567 v570 v573 v578 w8) = k0_pay55 (k0_pay90 v551 v553 v556 v557 v560 v565 v567 v570 v573 v578) w8 := rfl

theorem e95 (v551 : FVec Ideal S4096x32 .f32) (v553 : FVec Ideal S4096x32 .f32) (v556 : FVec Ideal S4096x96 .f32) (v557 : Vec Ideal S1x32x32 .f32) (v560 : Vec Ideal S1x96x32 .f32) (v565 : Vec Ideal S32x128x32 .f32) (v567 : Vec Ideal S1x32x128x96 .f32) (v570 : Vec Ideal S1x32x32 .f32) (v573 : Vec Ideal S1x96x32 .f32) (v578 : Vec Ideal S1x32 .f32) (w8 : Vec Ideal S1x32x64 .f32) :
    k0_pay95 (k0_pay91 v551 v553 v556 v557 v560 v565 v567 v570 v573 v578 w8) = k0_pay54 (k0_pay90 v551 v553 v556 v557 v560 v565 v567 v570 v573 v578) w8 := rfl

theorem e94 (X : FVec Ideal S4096x32 .f32) :
    k0_pay94 X = k0_pay53 X := rfl

theorem e93 (v551 : FVec Ideal S4096x32 .f32) (v553 : FVec Ideal S4096x32 .f32) (v556 : FVec Ideal S4096x96 .f32) (v557 : Vec Ideal S1x32x32 .f32) (v560 : Vec Ideal S1x96x32 .f32) (v565 : Vec Ideal S32x128x32 .f32) (v567 : Vec Ideal S1x32x128x96 .f32) (v570 : Vec Ideal S1x32x32 .f32) (v573 : Vec Ideal S1x96x32 .f32) (v578 : Vec Ideal S1x32 .f32) (w8 : Vec Ideal S1x32x64 .f32) (w9 : Vec Ideal S1x32x32 .f32) (w10 : Vec Ideal S1x1x32 .f32) :
    k0_pay93 (k0_pay92 v551 v553 v556 v557 v560 v565 v567 v570 v573 v578 w8) w9 w10 = k0_pay52 (k0_pay90 v551 v553 v556 v557 v560 v565 v567 v570 v573 v578) w8 w9 w10 := rfl

theorem e120 (v756 : FVec Ideal S4096x32 .f32) (v758 : FVec Ideal S4096x32 .f32) (v761 : FVec Ideal S4096x96 .f32) (v763 : FVec Ideal S32x32 .f32) (v765 : Vec Ideal S1x96x32 .f32) (v770 : Vec Ideal S1x32 .f32) (w8 : Vec Ideal S1x32x64 .f32) :
    k0_pay120 (k0_pay115 v756 v758 v761 v763 v765 v770 w8) = k0_pay55 (k0_pay114 v756 v758 v761 v763 v765 v770) w8 := rfl

theorem e119 (v756 : FVec Ideal S4096x32 .f32) (v758 : FVec Ideal S4096x32 .f32) (v761 : FVec Ideal S4096x96 .f32) (v763 : FVec Ideal S32x32 .f32) (v765 : Vec Ideal S1x96x32 .f32) (v770 : Vec Ideal S1x32 .f32) (w8 : Vec Ideal S1x32x64 .f32) :
    k0_pay119 (k0_pay115 v756 v758 v761 v763 v765 v770 w8) = k0_pay54 (k0_pay114 v756 v758 v761 v763 v765 v770) w8 := rfl

theorem e118 (v756 : FVec Ideal S4096x32 .f32) (v758 : FVec Ideal S4096x32 .f32) (v761 : FVec Ideal S4096x96 .f32) (v763 : FVec Ideal S32x32 .f32) (v765 : Vec Ideal S1x96x32 .f32) (v770 : Vec Ideal S1x32 .f32) :
    k0_pay118 (k0_pay117 v756 v758 v761 v763 v765 v770) = k0_pay53 (k0_pay114 v756 v758 v761 v763 v765 v770) := rfl

theorem e116 (v756 : FVec Ideal S4096x32 .f32) (v758 : FVec Ideal S4096x32 .f32) (v761 : FVec Ideal S4096x96 .f32) (v763 : FVec Ideal S32x32 .f32) (v765 : Vec Ideal S1x96x32 .f32) (v770 : Vec Ideal S1x32 .f32) (w8 : Vec Ideal S1x32x64 .f32) (w9 : Vec Ideal S1x32x32 .f32) (w10 : Vec Ideal S1x1x32 .f32) :
    k0_pay116 v756 v758 v761 v763 v765 v770 w8 w9 w10 = k0_pay52 (k0_pay114 v756 v758 v761 v763 v765 v770) w8 w9 w10 := rfl

theorem e125 (X : FVec Ideal S4096x32 .f32) (w8 : Vec Ideal S1x32x64 .f32) :
    k0_pay125 (k0_pay121 X w8) = k0_pay55 X w8 := rfl

theorem e124 (X : FVec Ideal S4096x32 .f32) (w8 : Vec Ideal S1x32x64 .f32) :
    k0_pay124 (k0_pay121 X w8) = k0_pay54 X w8 := rfl

theorem e123 (X : FVec Ideal S4096x32 .f32) :
    k0_pay123 X = k0_pay53 X := rfl

theorem e122 (X : FVec Ideal S4096x32 .f32) (w8 : Vec Ideal S1x32x64 .f32) (w9 : Vec Ideal S1x32x32 .f32) (w10 : Vec Ideal S1x1x32 .f32) :
    k0_pay122 X w8 w9 w10 = k0_pay52 X w8 w9 w10 := rfl

theorem e102 (X : FVec Ideal S4096x32 .f32) (w8 : Vec Ideal S1x32x64 .f32) :
    k0_pay102 X (k0_pay97 w8) = k0_pay55 X w8 := rfl

theorem e101 (X : FVec Ideal S4096x32 .f32) (w8 : Vec Ideal S1x32x64 .f32) :
    k0_pay101 X (k0_pay97 w8) = k0_pay54 X w8 := rfl

theorem e100 (X : FVec Ideal S4096x32 .f32) :
    k0_pay100 X = k0_pay53 X := rfl

theorem e99 (X : FVec Ideal S4096x32 .f32) (w8 : Vec Ideal S1x32x64 .f32) (w9 : Vec Ideal S1x32x32 .f32) (w10 : Vec Ideal S1x1x32 .f32) :
    k0_pay99 X (k0_pay97 w8) w9 w10 = k0_pay52 X w8 w9 w10 := rfl

theorem e82 (X : FVec Ideal S4096x32 .f32) (w8 : Vec Ideal S1x32x64 .f32) :
    k0_pay82 (k0_pay77 X w8) = k0_pay55 X w8 := rfl

theorem e81 (X : FVec Ideal S4096x32 .f32) (w8 : Vec Ideal S1x32x64 .f32) :
    k0_pay81 (k0_pay77 X w8) = k0_pay54 X w8 := rfl

theorem e80 (X : FVec Ideal S4096x32 .f32) :
    k0_pay80 X = k0_pay53 X := rfl

theorem e79 (X : FVec Ideal S4096x32 .f32) (w8 : Vec Ideal S1x32x64 .f32) (w9 : Vec Ideal S1x32x32 .f32) (w10 : Vec Ideal S1x1x32 .f32) :
    k0_pay79 (k0_pay78 X w8 w9 w10) = k0_pay52 X w8 w9 w10 := rfl

theorem e61 (X : FVec Ideal S4096x32 .f32) (w8 : Vec Ideal S1x32x64 .f32) :
    k0_pay61 (k0_pay60 X w8) = k0_pay55 X w8 := rfl

theorem e59 (X : FVec Ideal S4096x32 .f32) (w8 : Vec Ideal S1x32x64 .f32) :
    k0_pay59 X w8 = k0_pay54 X w8 := rfl

theorem e58 (X : FVec Ideal S4096x32 .f32) :
    k0_pay58 X = k0_pay53 X := rfl

theorem e57 (X : FVec Ideal S4096x32 .f32) (w8 : Vec Ideal S1x32x64 .f32) (w9 : Vec Ideal S1x32x32 .f32) (w10 : Vec Ideal S1x1x32 .f32) :
    k0_pay57 X w8 w9 w10 = k0_pay52 X w8 w9 w10 := rfl

variable (c : Dev nD) (i : grid0.Coords)
    (M1 : Memref sig .tc .vmem S1x64x2048 .f32) (h1 : M1.IsWhole)
    (M2 : Memref sig .tc .vmem S1x130x130x96 .f32) (h2 : M2.IsWhole)
    (M3 : Memref sig .tc .vmem S9x32x32 .f32) (h3 : M3.IsWhole)
    (M4 : Memref sig .tc .vmem S9x96x32 .f32) (h4 : M4.IsWhole)
    (M5 : Memref sig .tc .vmem S1x32 .f32) (h5 : M5.IsWhole)
    (M6 : Memref sig .tc .vmem S128x64 .f32) (h6 : M6.IsWhole)
    (M7 : Memref sig .tc .vmem S64x128 .f32) (h7 : M7.IsWhole)
    (M8 : Memref sig .tc .vmem S2x32x64 .f32) (h8 : M8.IsWhole)
    (M9 : Memref sig .tc .vmem S2x32x32 .f32) (h9 : M9.IsWhole)
    (M10 : Memref sig .tc .vmem S2x1x32 .f32) (h10 : M10.IsWhole)
    (M11 : Memref sig .tc .vmem S2x1x512 .f32) (h11 : M11.IsWhole)
    (M12 : Memref sig .tc .vmem S2x1x32 .f32) (h12 : M12.IsWhole)
    (M13 : Memref sig .tc .vmem S1x32 .f32) (h13 : M13.IsWhole)
    (M14 : Memref sig .tc .vmem S1x32 .f32) (h14 : M14.IsWhole)
    (M15 : Memref sig .tc .vmem S32x512 .f32) (h15 : M15.IsWhole)
    (M16 : Memref sig .tc .vmem S16x512 .f32) (h16 : M16.IsWhole)
    (M17 : Memref sig .tc .vmem S512x32 .f32) (h17 : M17.IsWhole)
    (M18 : Memref sig .tc .vmem S1x128x4096 .f32) (h18 : M18.IsWhole)
    (M19 : Memref sig .tc .vmem S32x64x32 .f32) (h19 : M19.IsWhole)
    (M20 : Memref sig .tc .vmem S130x130x32 .f32) (h20 : M20.IsWhole)
    (M21 : Memref sig .tc .vmem S128x128x128 .f32) (h21 : M21.IsWhole)
    (M22 : Memref sig .tc .vmem S128x128x128 .f32) (h22 : M22.IsWhole)
    (M23 : Memref sig .tc .vmem S128x4096 .f32) (h23 : M23.IsWhole)
    (x1 : Vec Ideal S1x64x2048 .f32) (x2 : Vec Ideal S1x130x130x96 .f32) (x3 : Vec Ideal S9x32x32 .f32) (x4 : Vec Ideal S9x96x32 .f32)
    (x5 : Vec Ideal S1x32 .f32) (x6 : Vec Ideal S128x64 .f32) (x7 : Vec Ideal S64x128 .f32)
    (x8 : Vec Ideal S2x32x64 .f32) (x9 : Vec Ideal S2x32x32 .f32) (x10 : Vec Ideal S2x1x32 .f32) (x11 : Vec Ideal S2x1x512 .f32)
    (x12 : Vec Ideal S2x1x32 .f32) (x15 : Vec Ideal S32x512 .f32) (x16 : Vec Ideal S16x512 .f32) (x17 : Vec Ideal S512x32 .f32)

/-- The projection weights' loaded slices. -/
theorem weights (k : ℕ) (hk : k < 2) (i8 i9 i10) :
    Weights x8 x9 x10
      (View.readAt (Elt Ideal) M8.view (Rect.unit (s := S2x32x64) ![k, 0, 0] ![1, 32, 64] i8).toLoadRect (h8.unread x8))
      (View.readAt (Elt Ideal) M9.view (Rect.unit (s := S2x32x32) ![k, 0, 0] ![1, 32, 32] i9).toLoadRect (h9.unread x9))
      (View.readAt (Elt Ideal) M10.view (Rect.unit (s := S2x1x32) ![k, 0, 0] ![1, 1, 32] i10).toLoadRect (h10.unread x10)) k := by
  have e := fn_val (n := 2) hk
  refine ⟨fun d e => ?_, fun d e => ?_, fun d => ?_⟩ <;> rw [load_at]
  · refine congrArg x8 (funext fun a => Fin.ext ?_)
    fin_cases a
    · show k + 1 * 0 = (fn 2 k).val
      omega
    · show 0 + 1 * _ = _
      rw [Nat.zero_add, Nat.one_mul]
      rfl
    · show 0 + 1 * _ = _
      rw [Nat.zero_add, Nat.one_mul]
      rfl
  · refine congrArg x9 (funext fun a => Fin.ext ?_)
    fin_cases a
    · show k + 1 * 0 = (fn 2 k).val
      omega
    · show 0 + 1 * _ = _
      rw [Nat.zero_add, Nat.one_mul]
      rfl
    · show 0 + 1 * _ = _
      rw [Nat.zero_add, Nat.one_mul]
      rfl
  · refine congrArg x10 (funext fun a => Fin.ext ?_)
    fin_cases a
    · show k + 1 * 0 = (fn 2 k).val
      omega
    · show 0 + 1 * _ = _
      rw [Nat.zero_add, Nat.one_mul]
      rfl
    · show 0 + 1 * _ = _
      rw [Nat.zero_add, Nat.one_mul]
      rfl

/-- The transition parameters from the loaded slice of their logarithms. -/
theorem params1 (inb) (m : Fin 512) :
    k0_pay127 (View.readAt (Elt Ideal) M11.view (Rect.unit (s := S2x1x512) ![0, 0, 0] ![1, 1, 512] inb).toLoadRect (h11.unread x11)) (ix2 0 m)
      = 0 - Ideal.exp (x11 (ix3 0 0 (fn 512 m.val))) := by
  rw [load_at]
  pointwise [k0_pay127]
  rw [fn_self]

theorem params2 (inb) (m : Fin 512) :
    k0_pay128 (View.readAt (Elt Ideal) M11.view (Rect.unit (s := S2x1x512) ![1, 0, 0] ![1, 1, 512] inb).toLoadRect (h11.unread x11)) (ix2 0 m)
      = 0 - Ideal.exp (x11 (ix3 1 0 (fn 512 m.val))) := by
  rw [load_at]
  pointwise [k0_pay128]
  rw [fn_self]

/-- The values direction `k`'s scan reads at sequence place `l`. -/
def seq (Xf : ℕ → ℕ → ℕ → EReal) (x8 : Vec Ideal S2x32x64 .f32) (x9 : Vec Ideal S2x32x32 .f32) (x10 : Vec Ideal S2x1x32 .f32)
    (k l e : ℕ) : EReal :=
  if k = 0 then inn Xf x8 x9 x10 0 (l / 128) (l % 128) e else inn Xf x8 x9 x10 1 (l % 128) (l / 128) e

/-- Direction `k`'s transition parameters. -/
def par (x11 : Vec Ideal S2x1x512 .f32) (k m : ℕ) : EReal := 0 - Ideal.exp (x11 (ix3 (fn 2 k) 0 (fn 512 m)))

/-- Direction `k`'s pass-through weights. -/
def pas (x12 : Vec Ideal S2x1x32 .f32) (k d : ℕ) : EReal := x12 (ix3 (fn 2 k) 0 (fn 32 d))

/-- What direction `k`'s scan puts out at sequence place `l`, channel `d`. -/
def scanOut (Xf : ℕ → ℕ → ℕ → EReal) (x8 : Vec Ideal S2x32x64 .f32) (x9 : Vec Ideal S2x32x32 .f32) (x10 : Vec Ideal S2x1x32 .f32)
    (x11 : Vec Ideal S2x1x512 .f32) (x12 : Vec Ideal S2x1x32 .f32) (k l d : ℕ) : EReal :=
  yout (seq Xf x8 x9 x10 k) (par x11 k) (pas x12 k) l d

/-- Every transition factor lies between zero and one. -/
theorem decay_unit (Xf : ℕ → ℕ → ℕ → EReal) (k m l : ℕ) :
    0 ≤ decay (seq Xf x8 x9 x10 k) (par x11 k) m l ∧ decay (seq Xf x8 x9 x10 k) (par x11 k) m l ≤ 1 := by
  have hm : m % 32 < 32 := Nat.mod_lt _ (by decide)
  refine exp_unit ?_
  have h1 : 0 ≤ seq Xf x8 x9 x10 k l (m % 32) := by
    unfold seq inn
    simp only [if_pos hm]
    split <;> exact dlt_nonneg _ _ _
  have h2 : par x11 k m ≤ 0 := by
    unfold par
    rw [zero_sub]
    exact EReal.neg_le_zero.mpr (exp_nonneg _)
  exact mul_nonpos_of_nonneg_of_nonpos h1 h2

/-- Reading direction 0's output back after its scan. -/
theorem read_scan1 (Xf : ℕ → ℕ → ℕ → EReal) (hT : Tables x15 x16 x17)
    (v773 : FVec Ideal S4096x32 .f32) (v812 : FVec Ideal S4096x64 .f32) (v831 : FVec Ideal S32x128x32 .f32) (va : Vec Ideal S1x1x512 .f32)
    (hA : ∀ m : Fin 512, k0_pay127 va (ix2 0 m) = par x11 0 m.val)
    (f : BufTy.Contents (Elt Ideal) M21.view.ty) (P : List (View.Piece (Elt Ideal) S128x128x128 .f32))
    (hI : ∀ r w e, r < 128 → w < 128 → e < 96 → cell M21 (M21.view.writes (Elt Ideal) f P) r w e = inn Xf x8 x9 x10 0 r w e)
    (o : ℕ) (ho : o + 32 ≤ 128) (inb) (r : Fin 32) (w : Fin 128) (d : Fin 32) :
    View.readAt (Elt Ideal) M21.view (Rect.unit (s := S128x128x128) ![o, 0, 96] ![32, 128, 32] inb).toLoadRect
        (M21.view.writes (Elt Ideal) f ((st1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va (M21.view.writes (Elt Ideal) f P) k0_t1_loop.trips).2 ++ P)) (ix3 r w d)
      = scanOut Xf x8 x9 x10 x11 x12 0 (128 * (o + r.val) + w.val) d := by
  have hr := r.isLt
  have hw := w.isLt
  have hd := d.isLt
  rw [trips1, View.writes_append]
  unfold scanOut
  have hI' : ∀ q t e, q < 128 → t < 128 → e < 96 →
      cell M21 (M21.view.writes (Elt Ideal) f P) q t e = seq Xf x8 x9 x10 0 (128 * q + t) e := by
    intro q t e hq ht he
    unfold seq
    rw [if_pos rfl, hI _ _ _ hq ht he, show (128 * q + t) / 128 = q by omega, show (128 * q + t) % 128 = t by omega]
  have e0 := fn_val (n := 128) (a := o + r.val) (by omega)
  have e2 := fn_val (n := 128) (a := 96 + d.val) (by omega)
  refine Eq.trans ?_ (loop1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va hT hA (Df := pas x12 0) (fun d => ?_) (fun m l _ => decay_unit x8 x9 x10 x11 Xf 0 m l)
    (M21.view.writes (Elt Ideal) f P) hI' (o + r.val) w.val d.val (by omega) (by omega) hd)
  · unfold View.readAt cell
    refine congrArg (M21.view.read (Elt Ideal) _) (funext fun a => Fin.ext ?_)
    fin_cases a
    · show o + 1 * r.val = (fn 128 (o + r.val)).val
      omega
    · show 0 + 1 * w.val = (fn 128 w.val).val
      rw [fn_val hw]
      omega
    · show 96 + 1 * d.val = (fn 128 (96 + d.val)).val
      omega
  · unfold pas
    rw [fn_self]
    rfl

/-- Reading direction 1's output back after its scan. -/
theorem read_scan2 (Xf : ℕ → ℕ → ℕ → EReal) (hT : Tables x15 x16 x17)
    (v773 : FVec Ideal S4096x32 .f32) (v812 : FVec Ideal S4096x64 .f32) (v831 : FVec Ideal S32x128x32 .f32) (va : Vec Ideal S1x1x512 .f32)
    (hA : ∀ m : Fin 512, k0_pay128 va (ix2 0 m) = par x11 1 m.val)
    (f : BufTy.Contents (Elt Ideal) M22.view.ty) (P : List (View.Piece (Elt Ideal) S128x128x128 .f32))
    (hI : ∀ r w e, r < 128 → w < 128 → e < 96 → cell M22 (M22.view.writes (Elt Ideal) f P) r w e = inn Xf x8 x9 x10 1 r w e)
    (o : ℕ) (ho : o + 32 ≤ 128) (inb) (r : Fin 32) (w : Fin 128) (d : Fin 32) :
    View.readAt (Elt Ideal) M22.view (Rect.unit (s := S128x128x128) ![o, 0, 96] ![32, 128, 32] inb).toLoadRect
        (M22.view.writes (Elt Ideal) f ((st2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va (M22.view.writes (Elt Ideal) f P) k0_t2_loop.trips).2 ++ P)) (ix3 r w d)
      = scanOut Xf x8 x9 x10 x11 x12 1 (128 * w.val + (o + r.val)) d := by
  have hr := r.isLt
  have hw := w.isLt
  have hd := d.isLt
  rw [trips2, View.writes_append]
  unfold scanOut
  have hI' : ∀ q t e, q < 128 → t < 128 → e < 96 →
      cell M22 (M22.view.writes (Elt Ideal) f P) t q e = seq Xf x8 x9 x10 1 (128 * q + t) e := by
    intro q t e hq ht he
    unfold seq
    rw [if_neg (by decide), hI _ _ _ ht hq he, show (128 * q + t) / 128 = q by omega, show (128 * q + t) % 128 = t by omega]
  have e0 := fn_val (n := 128) (a := o + r.val) (by omega)
  have e2 := fn_val (n := 128) (a := 96 + d.val) (by omega)
  refine Eq.trans ?_ (loop2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x12 x15 x16 x17 v773 v812 v831 va hT hA (Df := pas x12 1) (fun d => ?_) (fun m l _ => decay_unit x8 x9 x10 x11 Xf 1 m l)
    (M22.view.writes (Elt Ideal) f P) hI' w.val (o + r.val) d.val (by omega) (by omega) hd)
  · unfold View.readAt cell
    refine congrArg (M22.view.read (Elt Ideal) _) (funext fun a => Fin.ext ?_)
    fin_cases a
    · show o + 1 * r.val = (fn 128 (o + r.val)).val
      omega
    · show 0 + 1 * w.val = (fn 128 w.val).val
      rw [fn_val hw]
      omega
    · show 96 + 1 * d.val = (fn 128 (96 + d.val)).val
      omega
  · unfold pas
    rw [fn_self]
    rfl

set_option maxHeartbeats 1000000 in
/-- Row block 0 of direction 0's output. -/
theorem scan1_block0 (hT : Tables x15 x16 x17) (g : Vec Ideal S128x128x128 .f32) (r : Fin 32) (w : Fin 128) (d : Fin 32) :
    kernelRun.sl.v861 (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x15 x16 x17 g (ix3 r w d)
      = scanOut (conv x1 x2 x3 x4 x5 x6 x7) x8 x9 x10 x11 x12 0 (128 * (0 + r.val) + w.val) d := by
  simp only [kernelRun.sl.v861, kernelRun.sl.r_12, kernelRun.sl.r_13, kernelRun.sl.r_14, kernelRun.sl.r_23, kernelRun.sl.r_35, kernelRun.sl.r_50, kernelRun.sl.r_24, kernelRun.sl.r_25, kernelRun.sl.r_36, kernelRun.sl.r_37, kernelRun.sl.r_51, kernelRun.sl.r_52,
    e76, e75, e74, e73, e96, e95, e94, e93, e120, e119, e118, e116]
  refine read_scan1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x8 x9 x10 x11 x12 x15 x16 x17 (conv x1 x2 x3 x4 x5 x6 x7) hT _ _ _ _
    (params1 M11 h11 x11 _) _ _ (fun r w e hr hw he => ?_) 0 (by decide) _ r w d
  exact cell_pieces (X0 := kernelRun.sl.r_11 c M1 h1 M2 h2 M3 h3 M4 h4 M5 h5 M6 h6 M7 h7 M19 M20 x1 x2 x3 x4 x5 x6 x7)
    (X1 := kernelRun.sl.r_23 c M1 h1 M2 h2 M3 h3 M4 h4 M5 h5 M6 h6 M7 h7 M19 M20 x1 x2 x3 x4 x5 x6 x7)
    (X2 := kernelRun.sl.r_35 c M1 h1 M2 h2 M3 h3 M4 h4 M5 h5 M6 h6 M7 h7 M19 M20 x1 x2 x3 x4 x5 x6 x7)
    (X3 := kernelRun.sl.r_50 c M1 h1 M2 h2 M3 h3 M4 h4 M5 h5 M6 h6 M7 h7 M19 M20 x1 x2 x3 x4 x5 x6 x7)
    (fun p d => (conv_block0 x1 x2 x3 x4 x5 x6 x7 c M1 h1 M2 h2 M3 h3 M4 h4 M5 h5 M6 h6 M7 h7 M19 M20 p d).trans (by rw [Nat.zero_add]))
    (conv_block1 x1 x2 x3 x4 x5 x6 x7 c M1 h1 M2 h2 M3 h3 M4 h4 M5 h5 M6 h6 M7 h7 M19 M20)
    (conv_block2 x1 x2 x3 x4 x5 x6 x7 c M1 h1 M2 h2 M3 h3 M4 h4 M5 h5 M6 h6 M7 h7 M19 M20)
    (conv_block3 x1 x2 x3 x4 x5 x6 x7 c M1 h1 M2 h2 M3 h3 M4 h4 M5 h5 M6 h6 M7 h7 M19 M20)
    (weights M8 h8 M9 h9 M10 h10 x8 x9 x10 0 (by decide) _ _ _) M21 _ r w e hr hw he

set_option maxHeartbeats 1000000 in
/-- Row block 1 of direction 0's output. -/
theorem scan1_block1 (hT : Tables x15 x16 x17) (g : Vec Ideal S128x128x128 .f32) (r : Fin 32) (w : Fin 128) (d : Fin 32) :
    kernelRun.sl.v896 (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x15 x16 x17 g (ix3 r w d)
      = scanOut (conv x1 x2 x3 x4 x5 x6 x7) x8 x9 x10 x11 x12 0 (128 * (32 + r.val) + w.val) d := by
  simp only [kernelRun.sl.v896, kernelRun.sl.r_12, kernelRun.sl.r_13, kernelRun.sl.r_14, kernelRun.sl.r_23, kernelRun.sl.r_35, kernelRun.sl.r_50, kernelRun.sl.r_24, kernelRun.sl.r_25, kernelRun.sl.r_36, kernelRun.sl.r_37, kernelRun.sl.r_51, kernelRun.sl.r_52,
    e76, e75, e74, e73, e96, e95, e94, e93, e120, e119, e118, e116]
  refine read_scan1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x8 x9 x10 x11 x12 x15 x16 x17 (conv x1 x2 x3 x4 x5 x6 x7) hT _ _ _ _
    (params1 M11 h11 x11 _) _ _ (fun r w e hr hw he => ?_) 32 (by decide) _ r w d
  exact cell_pieces (X0 := kernelRun.sl.r_11 c M1 h1 M2 h2 M3 h3 M4 h4 M5 h5 M6 h6 M7 h7 M19 M20 x1 x2 x3 x4 x5 x6 x7)
    (X1 := kernelRun.sl.r_23 c M1 h1 M2 h2 M3 h3 M4 h4 M5 h5 M6 h6 M7 h7 M19 M20 x1 x2 x3 x4 x5 x6 x7)
    (X2 := kernelRun.sl.r_35 c M1 h1 M2 h2 M3 h3 M4 h4 M5 h5 M6 h6 M7 h7 M19 M20 x1 x2 x3 x4 x5 x6 x7)
    (X3 := kernelRun.sl.r_50 c M1 h1 M2 h2 M3 h3 M4 h4 M5 h5 M6 h6 M7 h7 M19 M20 x1 x2 x3 x4 x5 x6 x7)
    (fun p d => (conv_block0 x1 x2 x3 x4 x5 x6 x7 c M1 h1 M2 h2 M3 h3 M4 h4 M5 h5 M6 h6 M7 h7 M19 M20 p d).trans (by rw [Nat.zero_add]))
    (conv_block1 x1 x2 x3 x4 x5 x6 x7 c M1 h1 M2 h2 M3 h3 M4 h4 M5 h5 M6 h6 M7 h7 M19 M20)
    (conv_block2 x1 x2 x3 x4 x5 x6 x7 c M1 h1 M2 h2 M3 h3 M4 h4 M5 h5 M6 h6 M7 h7 M19 M20)
    (conv_block3 x1 x2 x3 x4 x5 x6 x7 c M1 h1 M2 h2 M3 h3 M4 h4 M5 h5 M6 h6 M7 h7 M19 M20)
    (weights M8 h8 M9 h9 M10 h10 x8 x9 x10 0 (by decide) _ _ _) M21 _ r w e hr hw he

set_option maxHeartbeats 1000000 in
/-- Row block 2 of direction 0's output. -/
theorem scan1_block2 (hT : Tables x15 x16 x17) (g : Vec Ideal S128x128x128 .f32) (r : Fin 32) (w : Fin 128) (d : Fin 32) :
    kernelRun.sl.v931 (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x15 x16 x17 g (ix3 r w d)
      = scanOut (conv x1 x2 x3 x4 x5 x6 x7) x8 x9 x10 x11 x12 0 (128 * (64 + r.val) + w.val) d := by
  simp only [kernelRun.sl.v931, kernelRun.sl.r_12, kernelRun.sl.r_13, kernelRun.sl.r_14, kernelRun.sl.r_23, kernelRun.sl.r_35, kernelRun.sl.r_50, kernelRun.sl.r_24, kernelRun.sl.r_25, kernelRun.sl.r_36, kernelRun.sl.r_37, kernelRun.sl.r_51, kernelRun.sl.r_52,
    e76, e75, e74, e73, e96, e95, e94, e93, e120, e119, e118, e116]
  refine read_scan1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x8 x9 x10 x11 x12 x15 x16 x17 (conv x1 x2 x3 x4 x5 x6 x7) hT _ _ _ _
    (params1 M11 h11 x11 _) _ _ (fun r w e hr hw he => ?_) 64 (by decide) _ r w d
  exact cell_pieces (X0 := kernelRun.sl.r_11 c M1 h1 M2 h2 M3 h3 M4 h4 M5 h5 M6 h6 M7 h7 M19 M20 x1 x2 x3 x4 x5 x6 x7)
    (X1 := kernelRun.sl.r_23 c M1 h1 M2 h2 M3 h3 M4 h4 M5 h5 M6 h6 M7 h7 M19 M20 x1 x2 x3 x4 x5 x6 x7)
    (X2 := kernelRun.sl.r_35 c M1 h1 M2 h2 M3 h3 M4 h4 M5 h5 M6 h6 M7 h7 M19 M20 x1 x2 x3 x4 x5 x6 x7)
    (X3 := kernelRun.sl.r_50 c M1 h1 M2 h2 M3 h3 M4 h4 M5 h5 M6 h6 M7 h7 M19 M20 x1 x2 x3 x4 x5 x6 x7)
    (fun p d => (conv_block0 x1 x2 x3 x4 x5 x6 x7 c M1 h1 M2 h2 M3 h3 M4 h4 M5 h5 M6 h6 M7 h7 M19 M20 p d).trans (by rw [Nat.zero_add]))
    (conv_block1 x1 x2 x3 x4 x5 x6 x7 c M1 h1 M2 h2 M3 h3 M4 h4 M5 h5 M6 h6 M7 h7 M19 M20)
    (conv_block2 x1 x2 x3 x4 x5 x6 x7 c M1 h1 M2 h2 M3 h3 M4 h4 M5 h5 M6 h6 M7 h7 M19 M20)
    (conv_block3 x1 x2 x3 x4 x5 x6 x7 c M1 h1 M2 h2 M3 h3 M4 h4 M5 h5 M6 h6 M7 h7 M19 M20)
    (weights M8 h8 M9 h9 M10 h10 x8 x9 x10 0 (by decide) _ _ _) M21 _ r w e hr hw he

set_option maxHeartbeats 1000000 in
/-- Row block 3 of direction 0's output. -/
theorem scan1_block3 (hT : Tables x15 x16 x17) (g : Vec Ideal S128x128x128 .f32) (r : Fin 32) (w : Fin 128) (d : Fin 32) :
    kernelRun.sl.v966 (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x15 x16 x17 g (ix3 r w d)
      = scanOut (conv x1 x2 x3 x4 x5 x6 x7) x8 x9 x10 x11 x12 0 (128 * (96 + r.val) + w.val) d := by
  simp only [kernelRun.sl.v966, kernelRun.sl.r_12, kernelRun.sl.r_13, kernelRun.sl.r_14, kernelRun.sl.r_23, kernelRun.sl.r_35, kernelRun.sl.r_50, kernelRun.sl.r_24, kernelRun.sl.r_25, kernelRun.sl.r_36, kernelRun.sl.r_37, kernelRun.sl.r_51, kernelRun.sl.r_52,
    e76, e75, e74, e73, e96, e95, e94, e93, e120, e119, e118, e116]
  refine read_scan1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x8 x9 x10 x11 x12 x15 x16 x17 (conv x1 x2 x3 x4 x5 x6 x7) hT _ _ _ _
    (params1 M11 h11 x11 _) _ _ (fun r w e hr hw he => ?_) 96 (by decide) _ r w d
  exact cell_pieces (X0 := kernelRun.sl.r_11 c M1 h1 M2 h2 M3 h3 M4 h4 M5 h5 M6 h6 M7 h7 M19 M20 x1 x2 x3 x4 x5 x6 x7)
    (X1 := kernelRun.sl.r_23 c M1 h1 M2 h2 M3 h3 M4 h4 M5 h5 M6 h6 M7 h7 M19 M20 x1 x2 x3 x4 x5 x6 x7)
    (X2 := kernelRun.sl.r_35 c M1 h1 M2 h2 M3 h3 M4 h4 M5 h5 M6 h6 M7 h7 M19 M20 x1 x2 x3 x4 x5 x6 x7)
    (X3 := kernelRun.sl.r_50 c M1 h1 M2 h2 M3 h3 M4 h4 M5 h5 M6 h6 M7 h7 M19 M20 x1 x2 x3 x4 x5 x6 x7)
    (fun p d => (conv_block0 x1 x2 x3 x4 x5 x6 x7 c M1 h1 M2 h2 M3 h3 M4 h4 M5 h5 M6 h6 M7 h7 M19 M20 p d).trans (by rw [Nat.zero_add]))
    (conv_block1 x1 x2 x3 x4 x5 x6 x7 c M1 h1 M2 h2 M3 h3 M4 h4 M5 h5 M6 h6 M7 h7 M19 M20)
    (conv_block2 x1 x2 x3 x4 x5 x6 x7 c M1 h1 M2 h2 M3 h3 M4 h4 M5 h5 M6 h6 M7 h7 M19 M20)
    (conv_block3 x1 x2 x3 x4 x5 x6 x7 c M1 h1 M2 h2 M3 h3 M4 h4 M5 h5 M6 h6 M7 h7 M19 M20)
    (weights M8 h8 M9 h9 M10 h10 x8 x9 x10 0 (by decide) _ _ _) M21 _ r w e hr hw he

set_option maxHeartbeats 1000000 in
/-- Row block 0 of direction 1's output. -/
theorem scan2_block0 (hT : Tables x15 x16 x17) (g : Vec Ideal S128x128x128 .f32) (r : Fin 32) (w : Fin 128) (d : Fin 32) :
    kernelRun.sl.v862 (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x15 x16 x17 g (ix3 r w d)
      = scanOut (conv x1 x2 x3 x4 x5 x6 x7) x8 x9 x10 x11 x12 1 (128 * w.val + (0 + r.val)) d := by
  simp only [kernelRun.sl.v862, kernelRun.sl.r_12, kernelRun.sl.r_13, kernelRun.sl.r_14, kernelRun.sl.r_23, kernelRun.sl.r_35, kernelRun.sl.r_50, kernelRun.sl.r_26, kernelRun.sl.r_27, kernelRun.sl.r_38, kernelRun.sl.r_53, kernelRun.sl.r_54,
    e125, e124, e123, e122, e102, e101, e100, e99, e82, e81, e80, e79, e61, e59, e58, e57]
  refine read_scan2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x8 x9 x10 x11 x12 x15 x16 x17 (conv x1 x2 x3 x4 x5 x6 x7) hT _ _ _ _
    (params2 M11 h11 x11 _) _ _ (fun r w e hr hw he => ?_) 0 (by decide) _ r w d
  exact cell_pieces (X0 := kernelRun.sl.r_11 c M1 h1 M2 h2 M3 h3 M4 h4 M5 h5 M6 h6 M7 h7 M19 M20 x1 x2 x3 x4 x5 x6 x7)
    (X1 := kernelRun.sl.r_23 c M1 h1 M2 h2 M3 h3 M4 h4 M5 h5 M6 h6 M7 h7 M19 M20 x1 x2 x3 x4 x5 x6 x7)
    (X2 := kernelRun.sl.r_35 c M1 h1 M2 h2 M3 h3 M4 h4 M5 h5 M6 h6 M7 h7 M19 M20 x1 x2 x3 x4 x5 x6 x7)
    (X3 := kernelRun.sl.r_50 c M1 h1 M2 h2 M3 h3 M4 h4 M5 h5 M6 h6 M7 h7 M19 M20 x1 x2 x3 x4 x5 x6 x7)
    (fun p d => (conv_block0 x1 x2 x3 x4 x5 x6 x7 c M1 h1 M2 h2 M3 h3 M4 h4 M5 h5 M6 h6 M7 h7 M19 M20 p d).trans (by rw [Nat.zero_add]))
    (conv_block1 x1 x2 x3 x4 x5 x6 x7 c M1 h1 M2 h2 M3 h3 M4 h4 M5 h5 M6 h6 M7 h7 M19 M20)
    (conv_block2 x1 x2 x3 x4 x5 x6 x7 c M1 h1 M2 h2 M3 h3 M4 h4 M5 h5 M6 h6 M7 h7 M19 M20)
    (conv_block3 x1 x2 x3 x4 x5 x6 x7 c M1 h1 M2 h2 M3 h3 M4 h4 M5 h5 M6 h6 M7 h7 M19 M20)
    (weights M8 h8 M9 h9 M10 h10 x8 x9 x10 1 (by decide) _ _ _) M22 _ r w e hr hw he

set_option maxHeartbeats 1000000 in
/-- Row block 1 of direction 1's output. -/
theorem scan2_block1 (hT : Tables x15 x16 x17) (g : Vec Ideal S128x128x128 .f32) (r : Fin 32) (w : Fin 128) (d : Fin 32) :
    kernelRun.sl.v897 (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x15 x16 x17 g (ix3 r w d)
      = scanOut (conv x1 x2 x3 x4 x5 x6 x7) x8 x9 x10 x11 x12 1 (128 * w.val + (32 + r.val)) d := by
  simp only [kernelRun.sl.v897, kernelRun.sl.r_12, kernelRun.sl.r_13, kernelRun.sl.r_14, kernelRun.sl.r_23, kernelRun.sl.r_35, kernelRun.sl.r_50, kernelRun.sl.r_26, kernelRun.sl.r_27, kernelRun.sl.r_38, kernelRun.sl.r_53, kernelRun.sl.r_54,
    e125, e124, e123, e122, e102, e101, e100, e99, e82, e81, e80, e79, e61, e59, e58, e57]
  refine read_scan2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x8 x9 x10 x11 x12 x15 x16 x17 (conv x1 x2 x3 x4 x5 x6 x7) hT _ _ _ _
    (params2 M11 h11 x11 _) _ _ (fun r w e hr hw he => ?_) 32 (by decide) _ r w d
  exact cell_pieces (X0 := kernelRun.sl.r_11 c M1 h1 M2 h2 M3 h3 M4 h4 M5 h5 M6 h6 M7 h7 M19 M20 x1 x2 x3 x4 x5 x6 x7)
    (X1 := kernelRun.sl.r_23 c M1 h1 M2 h2 M3 h3 M4 h4 M5 h5 M6 h6 M7 h7 M19 M20 x1 x2 x3 x4 x5 x6 x7)
    (X2 := kernelRun.sl.r_35 c M1 h1 M2 h2 M3 h3 M4 h4 M5 h5 M6 h6 M7 h7 M19 M20 x1 x2 x3 x4 x5 x6 x7)
    (X3 := kernelRun.sl.r_50 c M1 h1 M2 h2 M3 h3 M4 h4 M5 h5 M6 h6 M7 h7 M19 M20 x1 x2 x3 x4 x5 x6 x7)
    (fun p d => (conv_block0 x1 x2 x3 x4 x5 x6 x7 c M1 h1 M2 h2 M3 h3 M4 h4 M5 h5 M6 h6 M7 h7 M19 M20 p d).trans (by rw [Nat.zero_add]))
    (conv_block1 x1 x2 x3 x4 x5 x6 x7 c M1 h1 M2 h2 M3 h3 M4 h4 M5 h5 M6 h6 M7 h7 M19 M20)
    (conv_block2 x1 x2 x3 x4 x5 x6 x7 c M1 h1 M2 h2 M3 h3 M4 h4 M5 h5 M6 h6 M7 h7 M19 M20)
    (conv_block3 x1 x2 x3 x4 x5 x6 x7 c M1 h1 M2 h2 M3 h3 M4 h4 M5 h5 M6 h6 M7 h7 M19 M20)
    (weights M8 h8 M9 h9 M10 h10 x8 x9 x10 1 (by decide) _ _ _) M22 _ r w e hr hw he

set_option maxHeartbeats 1000000 in
/-- Row block 2 of direction 1's output. -/
theorem scan2_block2 (hT : Tables x15 x16 x17) (g : Vec Ideal S128x128x128 .f32) (r : Fin 32) (w : Fin 128) (d : Fin 32) :
    kernelRun.sl.v932 (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x15 x16 x17 g (ix3 r w d)
      = scanOut (conv x1 x2 x3 x4 x5 x6 x7) x8 x9 x10 x11 x12 1 (128 * w.val + (64 + r.val)) d := by
  simp only [kernelRun.sl.v932, kernelRun.sl.r_12, kernelRun.sl.r_13, kernelRun.sl.r_14, kernelRun.sl.r_23, kernelRun.sl.r_35, kernelRun.sl.r_50, kernelRun.sl.r_26, kernelRun.sl.r_27, kernelRun.sl.r_38, kernelRun.sl.r_53, kernelRun.sl.r_54,
    e125, e124, e123, e122, e102, e101, e100, e99, e82, e81, e80, e79, e61, e59, e58, e57]
  refine read_scan2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x8 x9 x10 x11 x12 x15 x16 x17 (conv x1 x2 x3 x4 x5 x6 x7) hT _ _ _ _
    (params2 M11 h11 x11 _) _ _ (fun r w e hr hw he => ?_) 64 (by decide) _ r w d
  exact cell_pieces (X0 := kernelRun.sl.r_11 c M1 h1 M2 h2 M3 h3 M4 h4 M5 h5 M6 h6 M7 h7 M19 M20 x1 x2 x3 x4 x5 x6 x7)
    (X1 := kernelRun.sl.r_23 c M1 h1 M2 h2 M3 h3 M4 h4 M5 h5 M6 h6 M7 h7 M19 M20 x1 x2 x3 x4 x5 x6 x7)
    (X2 := kernelRun.sl.r_35 c M1 h1 M2 h2 M3 h3 M4 h4 M5 h5 M6 h6 M7 h7 M19 M20 x1 x2 x3 x4 x5 x6 x7)
    (X3 := kernelRun.sl.r_50 c M1 h1 M2 h2 M3 h3 M4 h4 M5 h5 M6 h6 M7 h7 M19 M20 x1 x2 x3 x4 x5 x6 x7)
    (fun p d => (conv_block0 x1 x2 x3 x4 x5 x6 x7 c M1 h1 M2 h2 M3 h3 M4 h4 M5 h5 M6 h6 M7 h7 M19 M20 p d).trans (by rw [Nat.zero_add]))
    (conv_block1 x1 x2 x3 x4 x5 x6 x7 c M1 h1 M2 h2 M3 h3 M4 h4 M5 h5 M6 h6 M7 h7 M19 M20)
    (conv_block2 x1 x2 x3 x4 x5 x6 x7 c M1 h1 M2 h2 M3 h3 M4 h4 M5 h5 M6 h6 M7 h7 M19 M20)
    (conv_block3 x1 x2 x3 x4 x5 x6 x7 c M1 h1 M2 h2 M3 h3 M4 h4 M5 h5 M6 h6 M7 h7 M19 M20)
    (weights M8 h8 M9 h9 M10 h10 x8 x9 x10 1 (by decide) _ _ _) M22 _ r w e hr hw he

set_option maxHeartbeats 1000000 in
/-- Row block 3 of direction 1's output. -/
theorem scan2_block3 (hT : Tables x15 x16 x17) (g : Vec Ideal S128x128x128 .f32) (r : Fin 32) (w : Fin 128) (d : Fin 32) :
    kernelRun.sl.v967 (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x15 x16 x17 g (ix3 r w d)
      = scanOut (conv x1 x2 x3 x4 x5 x6 x7) x8 x9 x10 x11 x12 1 (128 * w.val + (96 + r.val)) d := by
  simp only [kernelRun.sl.v967, kernelRun.sl.r_12, kernelRun.sl.r_13, kernelRun.sl.r_14, kernelRun.sl.r_23, kernelRun.sl.r_35, kernelRun.sl.r_50, kernelRun.sl.r_26, kernelRun.sl.r_27, kernelRun.sl.r_38, kernelRun.sl.r_53, kernelRun.sl.r_54,
    e125, e124, e123, e122, e102, e101, e100, e99, e82, e81, e80, e79, e61, e59, e58, e57]
  refine read_scan2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x8 x9 x10 x11 x12 x15 x16 x17 (conv x1 x2 x3 x4 x5 x6 x7) hT _ _ _ _
    (params2 M11 h11 x11 _) _ _ (fun r w e hr hw he => ?_) 96 (by decide) _ r w d
  exact cell_pieces (X0 := kernelRun.sl.r_11 c M1 h1 M2 h2 M3 h3 M4 h4 M5 h5 M6 h6 M7 h7 M19 M20 x1 x2 x3 x4 x5 x6 x7)
    (X1 := kernelRun.sl.r_23 c M1 h1 M2 h2 M3 h3 M4 h4 M5 h5 M6 h6 M7 h7 M19 M20 x1 x2 x3 x4 x5 x6 x7)
    (X2 := kernelRun.sl.r_35 c M1 h1 M2 h2 M3 h3 M4 h4 M5 h5 M6 h6 M7 h7 M19 M20 x1 x2 x3 x4 x5 x6 x7)
    (X3 := kernelRun.sl.r_50 c M1 h1 M2 h2 M3 h3 M4 h4 M5 h5 M6 h6 M7 h7 M19 M20 x1 x2 x3 x4 x5 x6 x7)
    (fun p d => (conv_block0 x1 x2 x3 x4 x5 x6 x7 c M1 h1 M2 h2 M3 h3 M4 h4 M5 h5 M6 h6 M7 h7 M19 M20 p d).trans (by rw [Nat.zero_add]))
    (conv_block1 x1 x2 x3 x4 x5 x6 x7 c M1 h1 M2 h2 M3 h3 M4 h4 M5 h5 M6 h6 M7 h7 M19 M20)
    (conv_block2 x1 x2 x3 x4 x5 x6 x7 c M1 h1 M2 h2 M3 h3 M4 h4 M5 h5 M6 h6 M7 h7 M19 M20)
    (conv_block3 x1 x2 x3 x4 x5 x6 x7 c M1 h1 M2 h2 M3 h3 M4 h4 M5 h5 M6 h6 M7 h7 M19 M20)
    (weights M8 h8 M9 h9 M10 h10 x8 x9 x10 1 (by decide) _ _ _) M22 _ r w e hr hw he

end Cert.Proof.KernelIdealRun

end
-- ==== Proof.Val.Norm.lean ====
module

public import proofs.«01_k».proof.Proof.Val.Scan
public import proofs.«01_k».proof.Proof.Body

@[expose] public section

noncomputable section

/-! The layer normalisation, and what the body leaves in the result's buffer. -/

namespace Cert.Proof.KernelIdealRun

open Cert.KernelIdeal Cert.KernelIdeal.Gen
open Idealize.ShloMosaic

/-- The mean of thirty-two values. -/
def mean32 (Y : Fin 32 → EReal) : EReal := Ideal.div (∑ d : Fin 32, Y d) (Ideal.ofBits FTy.f32 1107296256#32)

/-- The normalised value of channel `d`, scaled by `g` and shifted by `b`. -/
def lnorm (Y : Fin 32 → EReal) (g b : EReal) (d : Fin 32) : EReal :=
  (Y d - mean32 Y) * Ideal.rsqrt (mean32 (fun e => (Y e - mean32 Y) * (Y e - mean32 Y)) + Ideal.ofBits FTy.f32 925353388#32) * g + b

theorem pay133_at (A B : FVec Ideal S32x128x32 .f32) (g b : Vec Ideal S1x32 .f32) (Y : Fin 32 → EReal) (r : Fin 32) (w : Fin 128) (d : Fin 32)
    (hY : ∀ e : Fin 32, A (ix3 r w e) + B (ix3 r w e) = Y e) :
    k0_pay133 (F := Ideal) A B g b (ix2 r (fn 4096 (32 * w.val + d.val))) = lnorm Y (g (ix2 0 d)) (b (ix2 0 d)) d := by
  have hw := w.isLt
  have hd := d.isLt
  have e := fn_val (n := 4096) (a := 32 * w.val + d.val) (by omega)
  have hq : ∀ h, (⟨(fn 4096 (32 * w.val + d.val)).val / 32, h⟩ : Fin 128) = w := fun h => Fin.ext (by show (fn 4096 (32 * w.val + d.val)).val / 32 = w.val; omega)
  have hm : ∀ h, (⟨(fn 4096 (32 * w.val + d.val)).val % 32, h⟩ : Fin 32) = d := fun h => Fin.ext (by show (fn 4096 (32 * w.val + d.val)).val % 32 = d.val; omega)
  pointwise [k0_pay133]
  simp only [hq, hm, hY]
  rfl

/-! The row blocks normalise by differently grouped steps. -/

theorem e141 (A B : FVec Ideal S32x128x32 .f32) (g b : Vec Ideal S1x32 .f32) :
    k0_pay1 (k0_pay141 (F := Ideal) (k0_pay138 A B) (k0_pay139 A B) (k0_pay140 A B) (Scalar.ofBits .f32 0x42000000#32) g b)
      = k0_pay133 (F := Ideal) A B g b := rfl

theorem e134 (A B : FVec Ideal S32x128x32 .f32) (g b : Vec Ideal S1x32 .f32) :
    k0_pay134 (F := Ideal) A B g b = k0_pay133 (F := Ideal) A B g b := rfl

theorem e137 (A B : FVec Ideal S32x128x32 .f32) (g b : Vec Ideal S1x32 .f32) :
    k0_pay137 (F := Ideal) (k0_pay135 A B) (k0_pay136 A B) g b = k0_pay133 (F := Ideal) A B g b := rfl

theorem mem2 {n0 n1 : ℕ} (o0 o1 s0 s1 : ℕ)
    (inb : ∀ a, ![o0, o1] a + ![s0, s1] a ≤ (⟨2, ![n0, n1]⟩ : Shape).size a) (y : (⟨2, ![n0, n1]⟩ : Shape).Idx) :
    y ∈ (Rect.unit (s := ⟨2, ![n0, n1]⟩) ![o0, o1] ![s0, s1] inb).set ↔
      (o0 ≤ (y 0 : ℕ) ∧ (y 0 : ℕ) < o0 + s0) ∧ (o1 ≤ (y 1 : ℕ) ∧ (y 1 : ℕ) < o1 + s1) := by
  rw [Rect.mem_set_unit]
  constructor
  · intro h; exact ⟨h 0, h 1⟩
  · rintro ⟨h0, h1⟩ a
    fin_cases a
    · exact h0
    · exact h1

section
variable (c : Dev nD) (i : grid0.Coords)
    (M1 : Memref sig .tc .vmem S1x64x2048 .f32) (h1 : M1.IsWhole)
    (M2 : Memref sig .tc .vmem S1x130x130x96 .f32) (h2 : M2.IsWhole)
    (M3 : Memref sig .tc .vmem S9x32x32 .f32) (h3 : M3.IsWhole)
    (M4 : Memref sig .tc .vmem S9x96x32 .f32) (h4 : M4.IsWhole)
    (M5 : Memref sig .tc .vmem S1x32 .f32) (h5 : M5.IsWhole)
    (M6 : Memref sig .tc .vmem S128x64 .f32) (h6 : M6.IsWhole)
    (M7 : Memref sig .tc .vmem S64x128 .f32) (h7 : M7.IsWhole)
    (M8 : Memref sig .tc .vmem S2x32x64 .f32) (h8 : M8.IsWhole)
    (M9 : Memref sig .tc .vmem S2x32x32 .f32) (h9 : M9.IsWhole)
    (M10 : Memref sig .tc .vmem S2x1x32 .f32) (h10 : M10.IsWhole)
    (M11 : Memref sig .tc .vmem S2x1x512 .f32) (h11 : M11.IsWhole)
    (M12 : Memref sig .tc .vmem S2x1x32 .f32) (h12 : M12.IsWhole)
    (M13 : Memref sig .tc .vmem S1x32 .f32) (h13 : M13.IsWhole)
    (M14 : Memref sig .tc .vmem S1x32 .f32) (h14 : M14.IsWhole)
    (M15 : Memref sig .tc .vmem S32x512 .f32) (h15 : M15.IsWhole)
    (M16 : Memref sig .tc .vmem S16x512 .f32) (h16 : M16.IsWhole)
    (M17 : Memref sig .tc .vmem S512x32 .f32) (h17 : M17.IsWhole)
    (M18 : Memref sig .tc .vmem S1x128x4096 .f32) (h18 : M18.IsWhole)
    (M19 : Memref sig .tc .vmem S32x64x32 .f32) (h19 : M19.IsWhole)
    (M20 : Memref sig .tc .vmem S130x130x32 .f32) (h20 : M20.IsWhole)
    (M21 : Memref sig .tc .vmem S128x128x128 .f32) (h21 : M21.IsWhole)
    (M22 : Memref sig .tc .vmem S128x128x128 .f32) (h22 : M22.IsWhole)
    (M23 : Memref sig .tc .vmem S128x4096 .f32) (h23 : M23.IsWhole)
    (x1 : Vec Ideal S1x64x2048 .f32) (x2 : Vec Ideal S1x130x130x96 .f32) (x3 : Vec Ideal S9x32x32 .f32) (x4 : Vec Ideal S9x96x32 .f32)
    (x5 : Vec Ideal S1x32 .f32) (x6 : Vec Ideal S128x64 .f32) (x7 : Vec Ideal S64x128 .f32)
    (x8 : Vec Ideal S2x32x64 .f32) (x9 : Vec Ideal S2x32x32 .f32) (x10 : Vec Ideal S2x1x32 .f32) (x11 : Vec Ideal S2x1x512 .f32)
    (x12 : Vec Ideal S2x1x32 .f32) (x13 : Vec Ideal S1x32 .f32) (x14 : Vec Ideal S1x32 .f32)
    (x15 : Vec Ideal S32x512 .f32) (x16 : Vec Ideal S16x512 .f32) (x17 : Vec Ideal S512x32 .f32)

theorem load13 (inb) : View.readAt (Elt Ideal) M13.view (Rect.unit (s := S1x32) ![0, 0] ![1, 32] inb).toLoadRect (h13.unread x13) = x13 :=
  load_whole h13 x13 _ inb (by decide)

theorem load14 (inb) : View.readAt (Elt Ideal) M14.view (Rect.unit (s := S1x32) ![0, 0] ![1, 32] inb).toLoadRect (h14.unread x14) = x14 :=
  load_whole h14 x14 _ inb (by decide)

/-- The two scans' outputs added at row `r`, column `w`. -/
def ysum (r w : ℕ) (d : Fin 32) : EReal :=
  scanOut (conv x1 x2 x3 x4 x5 x6 x7) x8 x9 x10 x11 x12 0 (128 * r + w) d
    + scanOut (conv x1 x2 x3 x4 x5 x6 x7) x8 x9 x10 x11 x12 1 (128 * w + r) d

/-- The body's result at row `r`, lane `32 w + d`. -/
def resAt (r m : ℕ) : EReal :=
  lnorm (ysum x1 x2 x3 x4 x5 x6 x7 x8 x9 x10 x11 x12 r (m / 32)) (x13 (ix2 0 (fn 32 (m % 32)))) (x14 (ix2 0 (fn 32 (m % 32)))) (fn 32 (m % 32))

/-- The body's result. -/
def G (y : S1x128x4096.Idx) : EReal := resAt x1 x2 x3 x4 x5 x6 x7 x8 x9 x10 x11 x12 x13 x14 (y 1) (y 2)

/-- One row block's normalised values. -/
theorem norm_piece (A B : FVec Ideal S32x128x32 .f32) (o : ℕ)
    (hA : ∀ (r : Fin 32) (w : Fin 128) (d : Fin 32), A (ix3 r w d) = scanOut (conv x1 x2 x3 x4 x5 x6 x7) x8 x9 x10 x11 x12 0 (128 * (o + r.val) + w.val) d)
    (hB : ∀ (r : Fin 32) (w : Fin 128) (d : Fin 32), B (ix3 r w d) = scanOut (conv x1 x2 x3 x4 x5 x6 x7) x8 x9 x10 x11 x12 1 (128 * w.val + (o + r.val)) d)
    (inb) (x : (Rect.unit (s := S128x4096) ![o, 0] ![32, 4096] inb).shape.Idx) :
    k0_pay133 (F := Ideal) A B x13 x14 x = (fun y : S128x4096.Idx => resAt x1 x2 x3 x4 x5 x6 x7 x8 x9 x10 x11 x12 x13 x14 (y 0) (y 1))
      ((Rect.unit (s := S128x4096) ![o, 0] ![32, 4096] inb).emb x) := by
  obtain ⟨a, b, rfl⟩ := ix2_surj (a := 32) (b := 4096) x
  have hb := b.isLt
  have e0 : (((Rect.unit (s := S128x4096) ![o, 0] ![32, 4096] inb).emb (ix2 a b)) 0).val = o + a.val := by
    show o + 1 * a.val = _
    omega
  have e1 : (((Rect.unit (s := S128x4096) ![o, 0] ![32, 4096] inb).emb (ix2 a b)) 1).val = b.val := by
    show 0 + 1 * b.val = _
    omega
  beta_reduce
  rw [e0, e1]
  have hw : (fn 128 (b.val / 32)).val = b.val / 32 := fn_val (by omega)
  have hd : (fn 32 (b.val % 32)).val = b.val % 32 := fn_val (by omega)
  have hbe : b = fn 4096 (32 * (fn 128 (b.val / 32)).val + (fn 32 (b.val % 32)).val) :=
    Fin.ext (by rw [fn_val (by omega)]; omega)
  refine (congrArg (fun z => k0_pay133 (F := Ideal) A B x13 x14 (ix2 a z)) hbe).trans ?_
  refine (pay133_at A B x13 x14 (ysum x1 x2 x3 x4 x5 x6 x7 x8 x9 x10 x11 x12 (o + a.val) (b.val / 32)) a _ _ (fun e => ?_)).trans rfl
  rw [hA, hB, hw]
  rfl

set_option maxHeartbeats 1000000 in
/-- The rows read back from the row scratch. -/
theorem rows_at (hT : Tables x15 x16 x17) (g21 g22 : Vec Ideal S128x128x128 .f32) (r : Fin 128) (m : Fin 4096) :
    kernelRun.sl.v1001 (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x13 x14 x15 x16 x17 g21 g22 (ix2 r m)
      = resAt x1 x2 x3 x4 x5 x6 x7 x8 x9 x10 x11 x12 x13 x14 r m := by
  have hr := r.isLt
  have hm := m.isLt
  unfold kernelRun.sl.v1001
  rw [View.readCov_eq_canon']
  unfold kernelRun.sl.H23_4
  simp only [kernelRun.sl.r_55, kernelRun.sl.r_56, kernelRun.sl.r_57, kernelRun.sl.r_58, kernelRun.sl.r_59, kernelRun.sl.r_60, kernelRun.sl.cst_869, load13, load14, e141, e137, e134]
  beta_reduce
  have hidx : ∀ (inb), (Rect.unit (s := S128x4096) ![0, 0] ![128, 4096] inb).toLoadRect.idx (ix2 r m) = (ix2 r m : S128x4096.Idx) := by
    intro inb
    refine funext fun a => Fin.ext ?_
    fin_cases a
    · show 0 + 1 * r.val = r.val
      omega
    · show 0 + 1 * m.val = m.val
      omega
  rw [hidx]
  refine View.canon_apply_of_pieces (e := .f32) (Val := Elt Ideal) (fun y : S128x4096.Idx => (resAt x1 x2 x3 x4 x5 x6 x7 x8 x9 x10 x11 x12 x13 x14 (y 0) (y 1) : EReal)) _ ?_ (ix2 r m) ?_
  · intro p hp x
    simp only [List.mem_cons, List.not_mem_nil, or_false] at hp
    rcases hp with rfl | rfl | rfl | rfl
    · refine norm_piece x1 x2 x3 x4 x5 x6 x7 x8 x9 x10 x11 x12 x13 x14 _ _ 96 (fun r w d => ?_) (fun r w d => ?_) inb_S128x4096_S32x4096_96_0 x
      · apply scan1_block3
        exact hT
      · apply scan2_block3
        exact hT
    · refine norm_piece x1 x2 x3 x4 x5 x6 x7 x8 x9 x10 x11 x12 x13 x14 _ _ 64 (fun r w d => ?_) (fun r w d => ?_) inb_S128x4096_S32x4096_64_0 x
      · apply scan1_block2
        exact hT
      · apply scan2_block2
        exact hT
    · refine norm_piece x1 x2 x3 x4 x5 x6 x7 x8 x9 x10 x11 x12 x13 x14 _ _ 32 (fun r w d => ?_) (fun r w d => ?_) inb_S128x4096_S32x4096_32_0 x
      · apply scan1_block1
        exact hT
      · apply scan2_block1
        exact hT
    · refine norm_piece x1 x2 x3 x4 x5 x6 x7 x8 x9 x10 x11 x12 x13 x14 _ _ 0 (fun r w d => ?_) (fun r w d => ?_) inb_S128x4096_S32x4096_0_0 x
      · apply scan1_block0
        exact hT
      · apply scan2_block0
        exact hT
  · simp only [List.mem_cons, or_and_right, exists_or, exists_eq_left, List.not_mem_nil, false_and, exists_false, or_false]
    rw [mem2, mem2, mem2, mem2]
    have g0 : ((ix2 r m : S128x4096.Idx) 0).val = r.val := rfl
    have g1 : ((ix2 r m : S128x4096.Idx) 1).val = m.val := rfl
    rw [g0, g1]
    omega

/-- What the body leaves in the result's buffer. -/
theorem result (hT : Tables x15 x16 x17) (g18 : Vec Ideal S1x128x4096 .f32) (g19 : Vec Ideal S32x64x32 .f32) (g20 : Vec Ideal S130x130x32 .f32)
    (g21 g22 : Vec Ideal S128x128x128 .f32) (g23 : Vec Ideal S128x4096 .f32) :
    (kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x13 x14 x15 x16 x17 g18 g19 g20 g21 g22 g23).1 = G x1 x2 x3 x4 x5 x6 x7 x8 x9 x10 x11 x12 x13 x14 := by
  funext y
  obtain ⟨a, r, m, rfl⟩ := ix3_surj (a := 1) (b := 128) (c := 4096) y
  have ha : a = 0 := Fin.ext (by omega)
  subst ha
  unfold kernelRun
  dsimp only
  unfold kernelRun.sl.H18_1
  have hc : ∃ p ∈ [(⟨Rect.unit (s := S1x128x4096) ![0, 0, 0] S1x128x4096.size inb_S1x128x4096_S1x128x4096_0_0_0,
      k0_pay2 (kernelRun.sl.v1001 (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x13 x14 x15 x16 x17 g21 g22)⟩ : View.Piece (Elt Ideal) S1x128x4096 .f32)],
      (ix3 0 r m : S1x128x4096.Idx) ∈ p.1.set := by
    refine ⟨_, List.mem_singleton.2 rfl, ?_⟩
    rw [mem3]
    have g0 : ((ix3 0 r m : S1x128x4096.Idx) 0).val = 0 := rfl
    have g1 : ((ix3 0 r m : S1x128x4096.Idx) 1).val = r.val := rfl
    have g2 : ((ix3 0 r m : S1x128x4096.Idx) 2).val = m.val := rfl
    have hr := r.isLt
    have hm := m.isLt
    rw [g0, g1, g2]
    omega
  rw [View.read_writes_apply_eq_canon _ _ _ _ hc]
  refine View.canon_apply_of_pieces (e := .f32) (Val := Elt Ideal) (G x1 x2 x3 x4 x5 x6 x7 x8 x9 x10 x11 x12 x13 x14) _ ?_ _ hc
  intro p hp x
  rw [List.mem_singleton] at hp
  subst hp
  obtain ⟨a, r, m, rfl⟩ := ix3_surj (a := 1) (b := 128) (c := 4096) x
  have hp1 : k0_pay2 (kernelRun.sl.v1001 (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x13 x14 x15 x16 x17 g21 g22) (ix3 a r m)
      = kernelRun.sl.v1001 (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x13 x14 x15 x16 x17 g21 g22 (ix2 r m) := by
    pointwise [k0_pay2]
  refine hp1.trans ((rows_at c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 x1 x2 x3 x4 x5 x6 x7 x8 x9 x10 x11 x12 x13 x14 x15 x16 x17 hT g21 g22 r m).trans ?_)
  obtain ⟨e0, e1, e2⟩ := emb3 (n0 := 1) (n1 := 128) (n2 := 4096) 0 0 0 ![1, 128, 4096] inb_S1x128x4096_S1x128x4096_0_0_0 (ix3 a r m)
  unfold G
  have f1 : ((ix3 a r m : S1x128x4096.Idx) 1).val = r.val := rfl
  have f2 : ((ix3 a r m : S1x128x4096.Idx) 2).val = m.val := rfl
  refine (congrArg₂ (resAt x1 x2 x3 x4 x5 x6 x7 x8 x9 x10 x11 x12 x13 x14) (e1.trans ?_) (e2.trans ?_)).symm
  · show 0 + r.val = r.val
    omega
  · show 0 + m.val = m.val
    omega

end

end Cert.Proof.KernelIdealRun

end
-- ==== Proof.Val.Inputs.lean ====
module

public import proofs.«01_k».proof.Proof.Val.Norm
public import proofs.«01_k».proof.Proof.Ref.StepRun

@[expose] public section

noncomputable section

/-! What one batch entry's windows hold of the arguments. -/

namespace Cert.Proof.Stage

open Cert.Proof.KernelIdealRun (fn)
open Idealize.ShloMosaic

/-- The integer zero converted. -/
theorem zero_conv : FloatOps.sitofp (F := Ideal) FTy.f32 (0#32) = (0 : EReal) := by
  show (((0#32 : BitVec 32).toInt : ℝ) : EReal) = 0
  simp

variable (b : Fin 2)
  (x1 : Vec Ideal Cert.KernelIdeal.S1x64x2048 .f32) (x2 : Vec Ideal Cert.KernelIdeal.S1x130x130x96 .f32)
  (x3 : Vec Ideal Cert.KernelIdeal.S9x32x32 .f32) (x4 : Vec Ideal Cert.KernelIdeal.S9x96x32 .f32)
  (x5 : Vec Ideal Cert.KernelIdeal.S1x32 .f32)
  (x6 : Vec Ideal Cert.KernelIdeal.S128x64 .f32) (x7 : Vec Ideal Cert.KernelIdeal.S64x128 .f32)
  (x8 : Vec Ideal Cert.KernelIdeal.S2x32x64 .f32) (x9 : Vec Ideal Cert.KernelIdeal.S2x32x32 .f32)
  (x10 : Vec Ideal Cert.KernelIdeal.S2x1x32 .f32) (x11 : Vec Ideal Cert.KernelIdeal.S2x1x512 .f32)
  (x12 : Vec Ideal Cert.KernelIdeal.S2x1x32 .f32)
  (x13 x14 : Vec Ideal Cert.KernelIdeal.S1x32 .f32)
  (a0 : Vec Ideal Cert.ReferenceIdeal.S2x64x2048 .f32) (a1 : Vec Ideal Cert.ReferenceIdeal.S2x96x128x128 .f32)
  (a2 : Vec Ideal Cert.ReferenceIdeal.S32x128x3x3 .f32) (a3 : Vec Ideal Cert.ReferenceIdeal.S32 .f32)
  (a4 : Vec Ideal Cert.ReferenceIdeal.S2x64x32 .f32) (a5 : Vec Ideal Cert.ReferenceIdeal.S2x32x32 .f32)
  (a6 : Vec Ideal Cert.ReferenceIdeal.S2x32 .f32) (a7 : Vec Ideal Cert.ReferenceIdeal.S64x16 .f32)
  (a8 : Vec Ideal Cert.ReferenceIdeal.S64 .f32) (a9 a10 : Vec Ideal Cert.ReferenceIdeal.S32 .f32)

/-- The image's part: what the convolution's windows hold. -/
structure ImageIn : Prop where
  fusion : ∀ (i : Fin 64) (j : Fin 2048), x1 (ix3 0 i j) = a0 (ix3 b i j)
  feat : ∀ (y x : ℕ) (e : Fin 96), y < 130 → x < 130 → x2 (ix4 0 (fn 130 y) (fn 130 x) e)
    = if y = 0 ∨ y = 129 ∨ x = 0 ∨ x = 129 then 0 else a1 (ix4 b e (fn 128 (y - 1)) (fn 128 (x - 1)))
  wup : ∀ (t : Fin 9) (c d : Fin 32), x3 (ix3 t c d) = a2 (ix4 d (fn 128 c) (fn 3 (t / 3)) (fn 3 (t % 3)))
  wft : ∀ (t : Fin 9) (c : Fin 96) (d : Fin 32), x4 (ix3 t c d) = a2 (ix4 d (fn 128 (32 + c)) (fn 3 (t / 3)) (fn 3 (t % 3)))
  bias : ∀ d : Fin 32, x5 (ix2 0 d) = a3 (ix1 d)
  rowT : ∀ (y : Fin 128) (k : Fin 64), x6 (ix2 y k) = Cert.ReferenceIdeal.Step.K_main_cst (F := Ideal) (ix2 y k)
  colT : ∀ (j : Fin 64) (x : Fin 128), x7 (ix2 j x) = Cert.ReferenceIdeal.Step.K_main_cst_0 (F := Ideal) (ix2 x j)

/-- The scan's part: what the projections' and the scan's windows hold. -/
structure ScanIn : Prop where
  proj : ∀ (k : Fin 2) (d : Fin 32) (e : Fin 64), x8 (ix3 k d e) = a4 (ix3 k e d)
  dtw : ∀ (k : Fin 2) (e d : Fin 32), x9 (ix3 k e d) = a5 (ix3 k d e)
  dtb : ∀ (k : Fin 2) (d : Fin 32), x10 (ix3 k 0 d) = a6 (ix2 k d)
  rate : ∀ (k : Fin 2) (n : Fin 16) (d : Fin 32), x11 (ix3 k 0 (fn 512 (n * 32 + d))) = a7 (ix2 (fn 64 (k * 32 + d)) n)
  skip : ∀ (k : Fin 2) (d : Fin 32), x12 (ix3 k 0 d) = a8 (ix1 (fn 64 (k * 32 + d)))
  scale : ∀ d : Fin 32, x13 (ix2 0 d) = a9 (ix1 d)
  shift : ∀ d : Fin 32, x14 (ix2 0 d) = a10 (ix1 d)

end Cert.Proof.Stage

end
-- ==== Proof.Val.Selectors.lean ====
module

public import proofs.«01_k».proof.KernelIdeal
public import Idealize.ShloMosaic.Lib.Pointwise
public import Idealize.ShloMosaic.Lib.IdealHost

@[expose] public section

noncomputable section

/-! The words of the tables of zeros and ones. -/

namespace Cert.Proof.KernelIdealRun

open Cert.KernelIdeal
open Idealize.ShloMosaic

/-- A word that is one or zero, as a number. -/
theorem bit_lit (p : Prop) [Decidable p] : Ideal.ofBits .f32 (if p then 0x3F800000#32 else 0x00000000#32) = if p then 1 else 0 := by
  split
  · exact Ideal.ofBits_one_f32
  · exact Ideal.ofBits_zero_f32

/-- The channel table's words. -/
theorem lit0_at : ∀ (d : Fin 32) (j : Fin 512), lit0 (S32x512.rowMajor (ix2 d j)) = if j.val % 32 = d.val then 0x3F800000#32 else 0x00000000#32 := by
  decide +kernel

/-- The state table's words. -/
theorem lit1_at : ∀ (n : Fin 16) (j : Fin 512), lit1 (S16x512.rowMajor (ix2 n j)) = if j.val / 32 = n.val then 0x3F800000#32 else 0x00000000#32 := by
  decide +kernel

/-- The read-out table's words. -/
theorem lit2_at : ∀ (j : Fin 512) (d : Fin 32), lit2 (S512x32.rowMajor (ix2 j d)) = if j.val % 32 = d.val then 0x3F800000#32 else 0x00000000#32 := by
  decide +kernel

end Cert.Proof.KernelIdealRun

end
-- ==== Proof.Val.Cubic.lean ====
module

public import proofs.«01_k».proof.KernelIdeal
public import proofs.«01_k».proof.ReferenceIdeal
public import Idealize.ShloMosaic.Lib.Pointwise

@[expose] public section

noncomputable section

/-! The interpolation tables are the reference's. -/

namespace Cert.Proof.KernelIdealRun

open Cert.KernelIdeal
open Idealize.ShloMosaic

/-- The row table is the reference's. -/
theorem lit3_at : ∀ (y : Fin 128) (k : Fin 64), lit3 (S128x64.rowMajor (ix2 y k)) = Cert.ReferenceIdeal.lit0 (Cert.ReferenceIdeal.S128x64.rowMajor (ix2 y k)) := by
  decide +kernel

/-- The column table is the reference's, transposed. -/
theorem lit4_at : ∀ (k : Fin 64) (x : Fin 128), lit4 (S64x128.rowMajor (ix2 k x)) = Cert.ReferenceIdeal.lit1 (Cert.ReferenceIdeal.S128x64.rowMajor (ix2 x k)) := by
  decide +kernel

end Cert.Proof.KernelIdealRun

end
-- ==== Proof.Val.Host.lean ====
module

public import proofs.«01_k».proof.Proof.Val.Inputs
public import proofs.«01_k».proof.Proof.Val.Selectors
public import proofs.«01_k».proof.Proof.Val.Cubic
public import proofs.«01_k».proof.Proof.Gen.KernelIdeal.Frame
public import Idealize.ShloMosaic.Lib.Pipeline.ValueKit

@[expose] public section

noncomputable section

/-! What the host operations before the region put in the windows' arrays, and the windows' blocks. -/

namespace Cert.Proof.KernelIdealRun

open Cert.KernelIdeal Cert.KernelIdeal.Gen
open Idealize.ShloMosaic Idealize.ShloMosaic.TcCoe

variable (m : (ℓ : Loc nD τ sig) → Buf (Elt Ideal) ℓ) (c : Dev nD) (t : Fin cfg0.N)

/-! The arguments. -/

/-- Argument 0 as launched. -/
abbrev arg0 : Vec Ideal S2x64x2048 .f32 := m ((c : Thread nD τ).loc main_arg0)

/-- Argument 1 as launched. -/
abbrev arg1 : Vec Ideal S2x96x128x128 .f32 := m ((c : Thread nD τ).loc main_arg1)

/-- Argument 2 as launched. -/
abbrev arg2 : Vec Ideal S32x128x3x3 .f32 := m ((c : Thread nD τ).loc main_arg2)

/-- Argument 3 as launched. -/
abbrev arg3 : Vec Ideal S32 .f32 := m ((c : Thread nD τ).loc main_arg3)

/-- Argument 4 as launched. -/
abbrev arg4 : Vec Ideal S2x64x32 .f32 := m ((c : Thread nD τ).loc main_arg4)

/-- Argument 5 as launched. -/
abbrev arg5 : Vec Ideal S2x32x32 .f32 := m ((c : Thread nD τ).loc main_arg5)

/-- Argument 6 as launched. -/
abbrev arg6 : Vec Ideal S2x32 .f32 := m ((c : Thread nD τ).loc main_arg6)

/-- Argument 7 as launched. -/
abbrev arg7 : Vec Ideal S64x16 .f32 := m ((c : Thread nD τ).loc main_arg7)

/-- Argument 8 as launched. -/
abbrev arg8 : Vec Ideal S64 .f32 := m ((c : Thread nD τ).loc main_arg8)

/-- Argument 9 as launched. -/
abbrev arg9 : Vec Ideal S32 .f32 := m ((c : Thread nD τ).loc main_arg9)

/-- Argument 10 as launched. -/
abbrev arg10 : Vec Ideal S32 .f32 := m ((c : Thread nD τ).loc main_arg10)

/-! The windows' arrays. -/

/-- The row table. -/
theorem V_cst_2 (y : Fin 128) (k : Fin 64) : V m c main_cst_2 (ix2 y k) = (Ideal.ofBits .f32 (lit3 (S128x64.rowMajor (ix2 y k))) : EReal) := by
  simp only [V, V0, hostOps0, hostOps0_1, hostOps0_2, List.flatten_cons, List.flatten_nil, List.append_nil, List.cons_append, List.nil_append]
  after_results
  rfl

/-- The column table. -/
theorem V_cst_3 (k : Fin 64) (x : Fin 128) : V m c main_cst_3 (ix2 k x) = (Ideal.ofBits .f32 (lit4 (S64x128.rowMajor (ix2 k x))) : EReal) := by
  simp only [V, V0, hostOps0, hostOps0_1, hostOps0_2, List.flatten_cons, List.flatten_nil, List.append_nil, List.cons_append, List.nil_append]
  after_results
  rfl

/-- The channel table. -/
theorem V_cst (d : Fin 32) (j : Fin 512) : V m c main_cst (ix2 d j) = (Ideal.ofBits .f32 (lit0 (S32x512.rowMajor (ix2 d j))) : EReal) := by
  simp only [V, V0, hostOps0, hostOps0_1, hostOps0_2, List.flatten_cons, List.flatten_nil, List.append_nil, List.cons_append, List.nil_append]
  after_results
  rfl

/-- The state table. -/
theorem V_cst_0 (n : Fin 16) (j : Fin 512) : V m c main_cst_0 (ix2 n j) = (Ideal.ofBits .f32 (lit1 (S16x512.rowMajor (ix2 n j))) : EReal) := by
  simp only [V, V0, hostOps0, hostOps0_1, hostOps0_2, List.flatten_cons, List.flatten_nil, List.append_nil, List.cons_append, List.nil_append]
  after_results
  rfl

/-- The read-out table. -/
theorem V_cst_1 (j : Fin 512) (d : Fin 32) : V m c main_cst_1 (ix2 j d) = (Ideal.ofBits .f32 (lit2 (S512x32.rowMajor (ix2 j d))) : EReal) := by
  simp only [V, V0, hostOps0, hostOps0_1, hostOps0_2, List.flatten_cons, List.flatten_nil, List.append_nil, List.cons_append, List.nil_append]
  after_results
  rfl

/-- The rates. -/
theorem V_v2 (k : Fin 2) (n : Fin 16) (d : Fin 32) : V m c main_v2 (ix3 k 0 (fn 512 (n * 32 + d))) = (arg7 m c (ix2 (fn 64 (k * 32 + d)) n) : EReal) := by
  have := k.isLt; have := n.isLt; have := d.isLt
  rw [fn_mk (a := n.val * 32 + d.val) (by omega), fn_mk (a := k.val * 32 + d.val) (by omega)]
  simp only [V, V0, hostOps0, hostOps0_1, hostOps0_2, List.flatten_cons, List.flatten_nil, List.append_nil, List.cons_append, List.nil_append]
  after_results
  pointwise []

/-- The skip factors. -/
theorem V_v3 (k : Fin 2) (d : Fin 32) : V m c main_v3 (ix3 k 0 d) = (arg8 m c (ix1 (fn 64 (k * 32 + d))) : EReal) := by
  have := k.isLt; have := d.isLt
  rw [fn_mk (by omega)]
  simp only [V, V0, hostOps0, hostOps0_1, hostOps0_2, List.flatten_cons, List.flatten_nil, List.append_nil, List.cons_append, List.nil_append]
  after_results
  pointwise []

/-- The step sizes' biases. -/
theorem V_v4 (k : Fin 2) (d : Fin 32) : V m c main_v4 (ix3 k 0 d) = (arg6 m c (ix2 k d) : EReal) := by
  simp only [V, V0, hostOps0, hostOps0_1, hostOps0_2, List.flatten_cons, List.flatten_nil, List.append_nil, List.cons_append, List.nil_append]
  after_results
  pointwise []

/-- The projection. -/
theorem V_v5 (k : Fin 2) (d : Fin 32) (e : Fin 64) : V m c main_v5 (ix3 k d e) = (arg4 m c (ix3 k e d) : EReal) := by
  simp only [V, V0, hostOps0, hostOps0_1, hostOps0_2, List.flatten_cons, List.flatten_nil, List.append_nil, List.cons_append, List.nil_append]
  after_results
  pointwise []

/-- The step sizes' projection. -/
theorem V_v6 (k : Fin 2) (e d : Fin 32) : V m c main_v6 (ix3 k e d) = (arg5 m c (ix3 k d e) : EReal) := by
  simp only [V, V0, hostOps0, hostOps0_1, hostOps0_2, List.flatten_cons, List.flatten_nil, List.append_nil, List.cons_append, List.nil_append]
  after_results
  pointwise []

/-- The norm's scale. -/
theorem V_v7 (d : Fin 32) : V m c main_v7 (ix2 0 d) = (arg9 m c (ix1 d) : EReal) := by
  simp only [V, V0, hostOps0, hostOps0_1, hostOps0_2, List.flatten_cons, List.flatten_nil, List.append_nil, List.cons_append, List.nil_append]
  after_results
  pointwise []

/-- The norm's shift. -/
theorem V_v8 (d : Fin 32) : V m c main_v8 (ix2 0 d) = (arg10 m c (ix1 d) : EReal) := by
  simp only [V, V0, hostOps0, hostOps0_1, hostOps0_2, List.flatten_cons, List.flatten_nil, List.append_nil, List.cons_append, List.nil_append]
  after_results
  pointwise []

/-- The convolution's bias. -/
theorem V_v15 (d : Fin 32) : V m c main_v15 (ix2 0 d) = (arg3 m c (ix1 d) : EReal) := by
  simp only [V, V0, hostOps0, hostOps0_1, hostOps0_2, List.flatten_cons, List.flatten_nil, List.append_nil, List.cons_append, List.nil_append]
  after_results
  pointwise []

/-- The convolution's weights at the upsampled channels. -/
theorem V_v13 (t : Fin 9) (e d : Fin 32) : V m c main_v13 (ix3 t e d) = (arg2 m c (ix4 d (fn 128 e) (fn 3 (t / 3)) (fn 3 (t % 3))) : EReal) := by
  have := t.isLt; have := e.isLt
  rw [fn_mk (a := e.val) (by omega), fn_mk (a := t.val / 3) (by omega), fn_mk (a := t.val % 3) (by omega)]
  simp only [V, V0, hostOps0, hostOps0_1, hostOps0_2, List.flatten_cons, List.flatten_nil, List.append_nil, List.cons_append, List.nil_append]
  after_results
  pointwise []

/-- The convolution's weights at the other channels. -/
theorem V_v14 (t : Fin 9) (e : Fin 96) (d : Fin 32) : V m c main_v14 (ix3 t e d) = (arg2 m c (ix4 d (fn 128 (32 + e)) (fn 3 (t / 3)) (fn 3 (t % 3))) : EReal) := by
  have := t.isLt; have := e.isLt
  rw [fn_mk (a := 32 + e.val) (by omega), fn_mk (a := t.val / 3) (by omega), fn_mk (a := t.val % 3) (by omega)]
  simp only [V, V0, hostOps0, hostOps0_1, hostOps0_2, List.flatten_cons, List.flatten_nil, List.append_nil, List.cons_append, List.nil_append]
  after_results
  pointwise []

/-- The padded features. -/
theorem V_v12 (b : Fin 2) (y x : ℕ) (e : Fin 96) (hy : y < 130) (hx : x < 130) : V m c main_v12 (ix4 b (fn 130 y) (fn 130 x) e) = (if y = 0 ∨ y = 129 ∨ x = 0 ∨ x = 129 then 0 else arg1 m c (ix4 b e (fn 128 (y - 1)) (fn 128 (x - 1))) : EReal) := by
  rw [fn_mk hy, fn_mk hx]
  simp only [V, V0, hostOps0, hostOps0_1, hostOps0_2, List.flatten_cons, List.flatten_nil, List.append_nil, List.cons_append, List.nil_append]
  after_results
  show pad S2x130x130x96 ![0, 1, 1, 0] ![0, 1, 1, 0] ![0, 0, 0, 0]
    (transpose S2x128x128x96 [0, 2, 3, 1] (arg1 m c) transposes_S2x96x128x128_S2x128x128x96_0_2_3_1)
    (sitofp (F := Ideal) .f32 (constantI S_ 32 0#32)) pads_S2x128x128x96_S2x130x130x96_000_110_110_000 h_S_ _ = _
  pointwise []
  by_cases h : y = 0 ∨ y = 129 ∨ x = 0 ∨ x = 129
  · rw [if_pos h, dif_neg (by omega), Cert.Proof.Stage.zero_conv]
  · rw [if_neg h, dif_pos (by omega)]
    simp (disch := omega) only [fn_mk]

/-! The windows' blocks: the whole array, or the point's batch entry. -/

/-- Window 2's block is its whole array. -/
theorem blk_2 (y : S9x32x32.Idx) : iblk m c 2 t y = V m c main_v13 y := by
  have hi : ∀ t : Fin cfg0.N, win0_2.index t = ![0, 0, 0] := by decide
  blk_simp [iblk]
  refine congrArg (V m c main_v13) (funext fun a => Fin.ext ?_)
  blk_simp [hi]
  fin_cases a <;> exact (congrArg (· + _) (Nat.zero_mul _)).trans (Nat.zero_add _)

/-- Window 3's block is its whole array. -/
theorem blk_3 (y : S9x96x32.Idx) : iblk m c 3 t y = V m c main_v14 y := by
  have hi : ∀ t : Fin cfg0.N, win0_3.index t = ![0, 0, 0] := by decide
  blk_simp [iblk]
  refine congrArg (V m c main_v14) (funext fun a => Fin.ext ?_)
  blk_simp [hi]
  fin_cases a <;> exact (congrArg (· + _) (Nat.zero_mul _)).trans (Nat.zero_add _)

/-- Window 4's block is its whole array. -/
theorem blk_4 (y : S1x32.Idx) : iblk m c 4 t y = V m c main_v15 y := by
  have hi : ∀ t : Fin cfg0.N, win0_4.index t = ![0, 0] := by decide
  blk_simp [iblk]
  refine congrArg (V m c main_v15) (funext fun a => Fin.ext ?_)
  blk_simp [hi]
  fin_cases a <;> exact (congrArg (· + _) (Nat.zero_mul _)).trans (Nat.zero_add _)

/-- Window 5's block is its whole array. -/
theorem blk_5 (y : S128x64.Idx) : iblk m c 5 t y = V m c main_cst_2 y := by
  have hi : ∀ t : Fin cfg0.N, win0_5.index t = ![0, 0] := by decide
  blk_simp [iblk]
  refine congrArg (V m c main_cst_2) (funext fun a => Fin.ext ?_)
  blk_simp [hi]
  fin_cases a <;> exact (congrArg (· + _) (Nat.zero_mul _)).trans (Nat.zero_add _)

/-- Window 6's block is its whole array. -/
theorem blk_6 (y : S64x128.Idx) : iblk m c 6 t y = V m c main_cst_3 y := by
  have hi : ∀ t : Fin cfg0.N, win0_6.index t = ![0, 0] := by decide
  blk_simp [iblk]
  refine congrArg (V m c main_cst_3) (funext fun a => Fin.ext ?_)
  blk_simp [hi]
  fin_cases a <;> exact (congrArg (· + _) (Nat.zero_mul _)).trans (Nat.zero_add _)

/-- Window 7's block is its whole array. -/
theorem blk_7 (y : S2x32x64.Idx) : iblk m c 7 t y = V m c main_v5 y := by
  have hi : ∀ t : Fin cfg0.N, win0_7.index t = ![0, 0, 0] := by decide
  blk_simp [iblk]
  refine congrArg (V m c main_v5) (funext fun a => Fin.ext ?_)
  blk_simp [hi]
  fin_cases a <;> exact (congrArg (· + _) (Nat.zero_mul _)).trans (Nat.zero_add _)

/-- Window 8's block is its whole array. -/
theorem blk_8 (y : S2x32x32.Idx) : iblk m c 8 t y = V m c main_v6 y := by
  have hi : ∀ t : Fin cfg0.N, win0_8.index t = ![0, 0, 0] := by decide
  blk_simp [iblk]
  refine congrArg (V m c main_v6) (funext fun a => Fin.ext ?_)
  blk_simp [hi]
  fin_cases a <;> exact (congrArg (· + _) (Nat.zero_mul _)).trans (Nat.zero_add _)

/-- Window 9's block is its whole array. -/
theorem blk_9 (y : S2x1x32.Idx) : iblk m c 9 t y = V m c main_v4 y := by
  have hi : ∀ t : Fin cfg0.N, win0_9.index t = ![0, 0, 0] := by decide
  blk_simp [iblk]
  refine congrArg (V m c main_v4) (funext fun a => Fin.ext ?_)
  blk_simp [hi]
  fin_cases a <;> exact (congrArg (· + _) (Nat.zero_mul _)).trans (Nat.zero_add _)

/-- Window 10's block is its whole array. -/
theorem blk_10 (y : S2x1x512.Idx) : iblk m c 10 t y = V m c main_v2 y := by
  have hi : ∀ t : Fin cfg0.N, win0_10.index t = ![0, 0, 0] := by decide
  blk_simp [iblk]
  refine congrArg (V m c main_v2) (funext fun a => Fin.ext ?_)
  blk_simp [hi]
  fin_cases a <;> exact (congrArg (· + _) (Nat.zero_mul _)).trans (Nat.zero_add _)

/-- Window 11's block is its whole array. -/
theorem blk_11 (y : S2x1x32.Idx) : iblk m c 11 t y = V m c main_v3 y := by
  have hi : ∀ t : Fin cfg0.N, win0_11.index t = ![0, 0, 0] := by decide
  blk_simp [iblk]
  refine congrArg (V m c main_v3) (funext fun a => Fin.ext ?_)
  blk_simp [hi]
  fin_cases a <;> exact (congrArg (· + _) (Nat.zero_mul _)).trans (Nat.zero_add _)

/-- Window 12's block is its whole array. -/
theorem blk_12 (y : S1x32.Idx) : iblk m c 12 t y = V m c main_v7 y := by
  have hi : ∀ t : Fin cfg0.N, win0_12.index t = ![0, 0] := by decide
  blk_simp [iblk]
  refine congrArg (V m c main_v7) (funext fun a => Fin.ext ?_)
  blk_simp [hi]
  fin_cases a <;> exact (congrArg (· + _) (Nat.zero_mul _)).trans (Nat.zero_add _)

/-- Window 13's block is its whole array. -/
theorem blk_13 (y : S1x32.Idx) : iblk m c 13 t y = V m c main_v8 y := by
  have hi : ∀ t : Fin cfg0.N, win0_13.index t = ![0, 0] := by decide
  blk_simp [iblk]
  refine congrArg (V m c main_v8) (funext fun a => Fin.ext ?_)
  blk_simp [hi]
  fin_cases a <;> exact (congrArg (· + _) (Nat.zero_mul _)).trans (Nat.zero_add _)

/-- Window 14's block is its whole array. -/
theorem blk_14 (y : S32x512.Idx) : iblk m c 14 t y = V m c main_cst y := by
  have hi : ∀ t : Fin cfg0.N, win0_14.index t = ![0, 0] := by decide
  blk_simp [iblk]
  refine congrArg (V m c main_cst) (funext fun a => Fin.ext ?_)
  blk_simp [hi]
  fin_cases a <;> exact (congrArg (· + _) (Nat.zero_mul _)).trans (Nat.zero_add _)

/-- Window 15's block is its whole array. -/
theorem blk_15 (y : S16x512.Idx) : iblk m c 15 t y = V m c main_cst_0 y := by
  have hi : ∀ t : Fin cfg0.N, win0_15.index t = ![0, 0] := by decide
  blk_simp [iblk]
  refine congrArg (V m c main_cst_0) (funext fun a => Fin.ext ?_)
  blk_simp [hi]
  fin_cases a <;> exact (congrArg (· + _) (Nat.zero_mul _)).trans (Nat.zero_add _)

/-- Window 16's block is its whole array. -/
theorem blk_16 (y : S512x32.Idx) : iblk m c 16 t y = V m c main_cst_1 y := by
  have hi : ∀ t : Fin cfg0.N, win0_16.index t = ![0, 0] := by decide
  blk_simp [iblk]
  refine congrArg (V m c main_cst_1) (funext fun a => Fin.ext ?_)
  blk_simp [hi]
  fin_cases a <;> exact (congrArg (· + _) (Nat.zero_mul _)).trans (Nat.zero_add _)

/-- Window 0's block is the point's batch entry. -/
theorem blk_0 (i : Fin 64) (j : Fin 2048) : iblk m c 0 t (ix3 0 i j) = arg0 m c (ix3 (fn 2 t) i j) := by
  have hi : ∀ t : Fin cfg0.N, win0_0.index t = ![t.val, 0, 0] := by decide
  have ht : t.val < 2 := t.isLt
  unfold arg0
  rw [← V_main_arg0 m c]
  blk_simp [iblk]
  refine congrArg (V m c main_arg0) (funext fun a => Fin.ext ?_)
  blk_simp [hi]
  fin_cases a
  · show t.val * 1 + 0 = (fn 2 t.val).val
    rw [fn_val ht]; omega
  · exact (congrArg (· + _) (Nat.zero_mul _)).trans (Nat.zero_add _)
  · exact (congrArg (· + _) (Nat.zero_mul _)).trans (Nat.zero_add _)

/-- Window 1's block is the point's batch entry. -/
theorem blk_1 (y x : Fin 130) (e : Fin 96) : iblk m c 1 t (ix4 0 y x e) = V m c main_v12 (ix4 (fn 2 t) y x e) := by
  have hi : ∀ t : Fin cfg0.N, win0_1.index t = ![t.val, 0, 0, 0] := by decide
  have ht : t.val < 2 := t.isLt
  blk_simp [iblk]
  refine congrArg (V m c main_v12) (funext fun a => Fin.ext ?_)
  blk_simp [hi]
  fin_cases a
  · show t.val * 1 + 0 = (fn 2 t.val).val
    rw [fn_val ht]; omega
  · exact (congrArg (· + _) (Nat.zero_mul _)).trans (Nat.zero_add _)
  · exact (congrArg (· + _) (Nat.zero_mul _)).trans (Nat.zero_add _)
  · exact (congrArg (· + _) (Nat.zero_mul _)).trans (Nat.zero_add _)

/-- The three tables of zeros and ones. -/
theorem tables : Tables (iblk m c 14 t) (iblk m c 15 t) (iblk m c 16 t) where
  ed d j := ((blk_14 m c t _).trans (V_cst m c d j)).trans (by rw [lit0_at, bit_lit])
  en n j := ((blk_15 m c t _).trans (V_cst_0 m c n j)).trans (by rw [lit1_at, bit_lit])
  rn j d := ((blk_16 m c t _).trans (V_cst_1 m c j d)).trans (by rw [lit2_at, bit_lit])

open Cert.Proof.Stage in
/-- The convolution's windows at a point. -/
theorem imageIn : ImageIn (fn 2 t) (iblk m c 0 t) (iblk m c 1 t) (iblk m c 2 t) (iblk m c 3 t) (iblk m c 4 t) (iblk m c 5 t) (iblk m c 6 t)
    (arg0 m c) (arg1 m c) (arg2 m c) (arg3 m c) where
  fusion i j := blk_0 m c t i j
  feat y x e hy hx := (blk_1 m c t _ _ e).trans (V_v12 m c _ y x e hy hx)
  wup k e d := (blk_2 m c t _).trans (V_v13 m c k e d)
  wft k e d := (blk_3 m c t _).trans (V_v14 m c k e d)
  bias d := (blk_4 m c t _).trans (V_v15 m c d)
  rowT y k := ((blk_5 m c t _).trans (V_cst_2 m c y k)).trans (congrArg _ (lit3_at y k))
  colT k x := ((blk_6 m c t _).trans (V_cst_3 m c k x)).trans (congrArg _ (lit4_at k x))

open Cert.Proof.Stage in
/-- The scan's windows at a point. -/
theorem scanIn : ScanIn (iblk m c 7 t) (iblk m c 8 t) (iblk m c 9 t) (iblk m c 10 t) (iblk m c 11 t) (iblk m c 12 t) (iblk m c 13 t)
    (arg4 m c) (arg5 m c) (arg6 m c) (arg7 m c) (arg8 m c) (arg9 m c) (arg10 m c) where
  proj k d e := (blk_7 m c t _).trans (V_v5 m c k d e)
  dtw k e d := (blk_8 m c t _).trans (V_v6 m c k e d)
  dtb k d := (blk_9 m c t _).trans (V_v4 m c k d)
  rate k n d := (blk_10 m c t _).trans (V_v2 m c k n d)
  skip k d := (blk_11 m c t _).trans (V_v3 m c k d)
  scale d := (blk_12 m c t _).trans (V_v7 m c d)
  shift d := (blk_13 m c t _).trans (V_v8 m c d)

end Cert.Proof.KernelIdealRun

end
-- ==== Proof.Val.Run.lean ====
module

public import proofs.«01_k».proof.Proof.Windows
public import proofs.«01_k».proof.Proof.Val.Norm
public import proofs.«01_k».proof.Proof.Val.Host

@[expose] public section

noncomputable section

/-! The run of the pipeline with the result's contents named. -/

namespace Cert.Proof.KernelIdealRun.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The proof's resource algebra: the frame kit's. -/
local notation "𝕄" => MT nD τ sig Unit (Elt Ideal) ℕ (UR sig nD τ) ℕ

variable (m : (ℓ : Loc nD τ sig) → Buf (Elt Ideal) ℓ) (ρ : Dev nD → PrngReg)

/-- The arrays as the region finds them; each input's buffer keeps its block; the output's holds the body's result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => G (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (A_eq m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (A_eq m c 14) (after_14 m c) t d
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  before0_15_of m (dats m 0 c) (A_eq m c 15) (after_15 m c) t d
theorem after_16 (c : Dev nD) (t : Fin cfg0.N) : (dats m 0 c).after 16 t = iblk m c 16 t := by dsimp only [dats]
theorem before_16 (c : Dev nD) (t : Fin cfg0.N) (d) : (dats m 0 c).before 16 t d = iblk m c 16 t :=
  before0_16_of m (dats m 0 c) (A_eq m c 16) (after_16 m c) t d

theorem after_17 (c : Dev nD) (t : Fin cfg0.N) : (dats m 0 c).after 17 t = G (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)) ∗ (∃ d, owns (c : Thread nD τ) (ms15 t) fullShare ((dats m 0 c).before 15 t d)) ∗ (∃ d, owns (c : Thread nD τ) (ms16 t) fullShare ((dats m 0 c).before 16 t d)) ∗ (∃ d, owns (c : Thread nD τ) (ms17 t) fullShare ((dats m 0 c).before 17 t d)))
/-- What it returns. -/
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t) ∗ owns (c : Thread nD τ) (ms12 t) fullShare ((dats m 0 c).after 12 t) ∗ owns (c : Thread nD τ) (ms13 t) fullShare ((dats m 0 c).after 13 t) ∗ owns (c : Thread nD τ) (ms14 t) fullShare ((dats m 0 c).after 14 t) ∗ owns (c : Thread nD τ) (ms15 t) fullShare ((dats m 0 c).after 15 t) ∗ owns (c : Thread nD τ) (ms16 t) fullShare ((dats m 0 c).after 16 t) ∗ owns (c : Thread nD τ) (ms17 t) fullShare ((dats m 0 c).after 17 t))

/-- The body at the point: the invariant opened, the body's run, the invariant closed. -/
theorem sound_body (c : Dev nD) (t : Fin cfg0.N) :
    bodyPre m c t ⊢ wp Idealize.ShloMosaic.frame (wpE (defs₀ (F := Ideal)) 𝒱₀ c none) Set.univ (bodyHere t) (fun _ => bodyPost m c t) := by
  unfold bodyPre bodyPost bodyHere
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before_0, after_0, before_1, after_1, before_2, after_2, before_3, after_3, before_4, after_4, before_5, after_5, before_6, after_6, before_7, after_7, before_8, after_8, before_9, after_9, before_10, after_10, before_11, after_11, before_12, after_12, before_13, after_13, before_14, after_14, before_15, after_15, before_16, after_16, after_17]
  iintro ⟨⟨⟨⟨%g0, S0⟩, ⟨%g1, S1⟩, ⟨%g2, S2⟩, ⟨%g3, S3⟩, ⟨%g4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  have hk := fun K => (kernelRun (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((dats m 0 c).before 17 t d17) g0 g1 g2 g3 g4).2 Set.univ K
  rw [result c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (tables m c t)] at hk
  iapply (hk _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, H17, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The library's body obligation. -/
theorem body_obligation (c : Dev nD) : BodyObligation (dats m 0 c) (defs₀ (F := Ideal)) 𝒱₀ () Set.univ := fun t => by
  rw [bigSep_W0, bigSep_W0, defs₀_row]
  exact triple_restated (sound_body m c t) rfl .rfl fun _ => .rfl

set_option backward.isDefEq.respectTransparency.types false in
/-- Every weakly fair execution of @main terminates, with every array as the operations after the region leave it and
    every counter at zero. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl) (hQ' := fun _ h => h)

end Cert.Proof.KernelIdealRun.Value

end
-- ==== Proof.Val.Out.lean ====
module

public import proofs.«01_k».proof.Proof.Val.Run

@[expose] public section

noncomputable section

/-! The kernel's result array, and the host operations after the region. -/

namespace Cert.Proof.KernelIdealRun.Value

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg) (c : Dev nD)

/-- The grid point of batch entry `b`. -/
def pt (b : ℕ) : Fin cfg0.N := ⟨b % 2, Nat.mod_lt _ (by decide)⟩

/-- The result of batch entry `b` at row `r`, lane `q`. -/
def resOf (b r q : ℕ) : EReal :=
  resAt (iblk m c 0 (pt b)) (iblk m c 1 (pt b)) (iblk m c 2 (pt b)) (iblk m c 3 (pt b)) (iblk m c 4 (pt b)) (iblk m c 5 (pt b)) (iblk m c 6 (pt b))
    (iblk m c 7 (pt b)) (iblk m c 8 (pt b)) (iblk m c 9 (pt b)) (iblk m c 10 (pt b)) (iblk m c 11 (pt b)) (iblk m c 12 (pt b)) (iblk m c 13 (pt b)) r q

/-- The result array as the region leaves it. -/
def arr (y : S2x128x4096.Idx) : EReal := resOf m c (y 0) (y 1) (y 2)

/-- What the result's window writes at point `t`, at index `y` of the block. -/
theorem after_17_apply (t : Fin cfg0.N) (y : S1x128x4096.Idx) : (dats m 0 c).after 17 t y = resOf m c t.val (y 1) (y 2) := by
  have h : pt t.val = t := Fin.ext (Nat.mod_eq_of_lt t.isLt)
  rw [after_17, resOf, h]
  rfl

/-- The result array after the region. -/
theorem arr_17 : (dats m 0 c).arrAt 17 cfg0.N = arr m c :=
  (dats m 0 c).arrAt_eq_of_covers 17 (arr m c) (by decide +kernel) fun t hf y => by
    have hi : ∀ t : Fin cfg0.N, win0_17.index t = ![t.val, 0, 0] := by decide
    blk_simp
    refine (after_17_apply m c t _).trans ?_
    unfold arr
    congr 1
    · have := (y 0).isLt
      blk_simp [hi]
    · blk_simp [hi]
    · blk_simp [hi]

/-- The kernel's result after the host operations that follow the region. -/
theorem tail_18 (b : Fin 2) (d : Fin 32) (r w : Fin 128) :
    Pipeline.afterTail₀ cfgs (dats m) 0 (V0 m) [hostOps1] c main_v18 (ix4 b d r w) = resOf m c b r (w.val * 32 + d.val) := by
  unfold Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v16) = arr m c :=
    (Pipeline.withArrays_arr spec0 launch0.win.arr_inj c (V0 m c) (fun w => (dats m 0 c).arrAt w (cfgs 0).N) 17).trans (arr_17 m c)
  rw [h]
  show transpose S2x32x128x128 [0, 3, 1, 2] (shapeCast S2x128x128x32 (arr m c) shapeCasts_S2x128x4096_S2x128x128x32)
    transposes_S2x128x128x32_S2x32x128x128_0_3_1_2 (ix4 b d r w) = _
  pointwise [arr]

/-- The run with the result named: it ends at what the operations after the region leave, the arguments stay, and every
    counter is zero. -/
theorem run_out : θ_run defs (onTc (τ := τ) (main (F := Ideal))) ⟨m, fun _ => 0, ρ⟩ (fun r => (∀ c : Dev nD,
      r.2.mem ((c.tc : Thread nD τ).loc main_v18) = Pipeline.afterTail₀ cfgs (dats m) 0 (V0 m) [hostOps1] c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun r h => ⟨fun c => ⟨((h.1 c).2 main_v18 (Pipeline.mem_restRefs_of main_v18 (by decide) (by decide))),
      ((h.1 c).1 0).trans (((dats m 0 c).arrAt_in 0 rfl _).trans ((A_eq m c 0).trans (V_main_arg0 m c))),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c),
      ((h.1 c).2 main_arg7 (Pipeline.mem_restRefs_of main_arg7 (by decide) (by decide))).trans (W_main_arg7 m (dats m) c),
      ((h.1 c).2 main_arg8 (Pipeline.mem_restRefs_of main_arg8 (by decide) (by decide))).trans (W_main_arg8 m (dats m) c),
      ((h.1 c).2 main_arg9 (Pipeline.mem_restRefs_of main_arg9 (by decide) (by decide))).trans (W_main_arg9 m (dats m) c),
      ((h.1 c).2 main_arg10 (Pipeline.mem_restRefs_of main_arg10 (by decide) (by decide))).trans (W_main_arg10 m (dats m) c)⟩, h.2⟩) (run_main m ρ)

end Cert.Proof.KernelIdealRun.Value

end
-- ==== Proof.Val.RefConv.lean ====
module

public import proofs.«01_k».proof.Proof.Val.Inputs

@[expose] public section

noncomputable section

/-! The reference's convolution is the kernel's. -/

namespace Cert.Proof.Stage

open Cert.ReferenceIdeal Cert.ReferenceIdeal.Step
open Cert.Proof.KernelIdealRun (fn fn_val fn_self fn_mk upPad up rowUp tap conv eq_fn)
open Idealize.ShloMosaic

section Image

variable (a0 : Vec Ideal S2x64x2048 .f32) (a1 : Vec Ideal S2x96x128x128 .f32)
  (a2 : Vec Ideal S32x128x3x3 .f32) (a3 : Vec Ideal S32 .f32)
  (a4 : Vec Ideal S2x64x32 .f32) (a5 : Vec Ideal S2x32x32 .f32)
  (a6 : Vec Ideal S2x32 .f32) (a7 : Vec Ideal S64x16 .f32) (a8 : Vec Ideal S64 .f32)

/-- The previous stage's array as an image. -/
theorem v1_at (b : Fin 2) (c : Fin 32) (j k : Fin 64) :
    A_main_v1 (F := Ideal) a0 a1 a2 a3 a4 a5 a6 a7 a8 (ix4 b c j k) = a0 (ix3 b j (fn 2048 (k * 32 + c))) := by
  have := k.isLt; have := c.isLt
  pointwise [A_main_v1, A_main_v0]
  simp (disch := omega) only [fn_mk]

/-- The upsampled image. -/
theorem v4_at (b : Fin 2) (c : Fin 32) (y x : Fin 128) :
    A_main_v4 (F := Ideal) a0 a1 a2 a3 a4 a5 a6 a7 a8 (ix4 b c y x)
      = ∑ k : Fin 64, (∑ j : Fin 64, A_main_v1 (F := Ideal) a0 a1 a2 a3 a4 a5 a6 a7 a8 (ix4 b c j k) * K_main_cst (F := Ideal) (ix2 y j))
          * K_main_cst_0 (F := Ideal) (ix2 x k) := by
  pointwise [A_main_v4, A_main_v3, A_main_v2]

/-- The concatenation's first channels. -/
theorem v5_up (b : Fin 2) (c : Fin 32) (y x : Fin 128) :
    A_main_v5 (F := Ideal) a0 a1 a2 a3 a4 a5 a6 a7 a8 (ix4 b (fn 128 c) y x) = A_main_v4 (F := Ideal) a0 a1 a2 a3 a4 a5 a6 a7 a8 (ix4 b c y x) := by
  have := c.isLt
  rw [fn_mk (by omega)]
  pointwise [A_main_v5]

/-- The concatenation's other channels. -/
theorem v5_feat (b : Fin 2) (c : Fin 96) (y x : Fin 128) :
    A_main_v5 (F := Ideal) a0 a1 a2 a3 a4 a5 a6 a7 a8 (ix4 b (fn 128 (32 + c)) y x) = a1 (ix4 b c y x) := by
  have := c.isLt
  rw [fn_mk (by omega)]
  pointwise [A_main_v5]

/-- The border of zeros. -/
theorem v6_at (b : Fin 2) (c : Fin 128) (y x : ℕ) (hy : y < 130) (hx : x < 130) :
    A_main_v6 (F := Ideal) a0 a1 a2 a3 a4 a5 a6 a7 a8 (ix4 b c (fn 130 y) (fn 130 x))
      = if y = 0 ∨ y = 129 ∨ x = 0 ∨ x = 129 then 0
        else A_main_v5 (F := Ideal) a0 a1 a2 a3 a4 a5 a6 a7 a8 (ix4 b c (fn 128 (y - 1)) (fn 128 (x - 1))) := by
  rw [fn_mk hy, fn_mk hx]
  pointwise [A_main_v6, K_main_call0_v0, K_main_c]
  by_cases h : y = 0 ∨ y = 129 ∨ x = 0 ∨ x = 129
  · rw [if_pos h, dif_neg (by omega), zero_conv]
  · rw [if_neg h, dif_pos (by omega)]
    simp (disch := omega) only [fn_mk]

/-- One tap of the convolution. -/
theorem tap_ref (P : Vec Ideal S2x128x130x130 .f32) (W : Vec Ideal S32x128x3x3 .f32) (ky kx : ℕ) (hky : ky < 3) (hkx : kx < 3)
    (h1 : S2x128x130x130.Slices ![0, 0, ky, kx] S2x128x128x128) (h2 : S32x128x3x3.Slices ![0, 0, ky, kx] S32x128x1x1)
    (b : Fin 2) (d : Fin 32) (r w : Fin 128) :
    transpose S2x32x128x128 [1, 0, 2, 3] (Host.dotGeneral (F := Ideal) (φ₁ := .f32) (φ₂ := .f32) dot_S32x128_S2x128x128x128_S32x2x128x128_1_1_0_023_n_n none
      (shapeCast _ (extractStridedSlice S32x128x1x1 ![0, 0, ky, kx] W h2) Facts₀.shapeCasts_S32x128x1x1_S32x128)
      (extractStridedSlice S2x128x128x128 ![0, 0, ky, kx] P h1)) Facts₀.transposes_S32x2x128x128_S2x32x128x128_1_0_2_3 (ix4 b d r w)
      = ∑ c : Fin 128, W (ix4 d c (fn 3 ky) (fn 3 kx)) * P (ix4 b c (fn 130 (r + ky)) (fn 130 (w + kx))) := by
  have := r.isLt; have := w.isLt
  pointwise []
  simp (disch := omega) only [fn_mk]
  simp only [Nat.add_comm]

/-- A sum over the channels splits into the upsampled ones and the others. -/
theorem sum_channels (f : Fin 128 → EReal) : ∑ c : Fin 128, f c = (∑ c : Fin 32, f (fn 128 c)) + ∑ c : Fin 96, f (fn 128 (32 + c)) := by
  rw [Fin.sum_univ_add (a := 32) (b := 96) f]
  refine congrArg₂ _ (Finset.sum_congr rfl fun c _ => congrArg f (Fin.ext ?_)) (Finset.sum_congr rfl fun c _ => congrArg f (Fin.ext ?_))
  · rw [fn_val (by omega)]; rfl
  · rw [fn_val (by omega)]; rfl

variable {a0 a1 a2 a3} {b : Fin 2}
  {x1 : Vec Ideal Cert.KernelIdeal.S1x64x2048 .f32} {x2 : Vec Ideal Cert.KernelIdeal.S1x130x130x96 .f32}
  {x3 : Vec Ideal Cert.KernelIdeal.S9x32x32 .f32} {x4 : Vec Ideal Cert.KernelIdeal.S9x96x32 .f32}
  {x5 : Vec Ideal Cert.KernelIdeal.S1x32 .f32}
  {x6 : Vec Ideal Cert.KernelIdeal.S128x64 .f32} {x7 : Vec Ideal Cert.KernelIdeal.S64x128 .f32}
  (h : ImageIn b x1 x2 x3 x4 x5 x6 x7 a0 a1 a2 a3)

include h

/-- The upsampled image is the kernel's. -/
theorem v4_up (c : Fin 32) (y x : ℕ) : A_main_v4 (F := Ideal) a0 a1 a2 a3 a4 a5 a6 a7 a8 (ix4 b c (fn 128 y) (fn 128 x)) = up x1 x6 x7 y x c := by
  rw [v4_at]
  unfold up rowUp
  refine Finset.sum_congr rfl fun k _ => ?_
  rw [h.colT]
  refine congrArg (· * _) (Finset.sum_congr rfl fun j _ => ?_)
  rw [v1_at, h.fusion, h.rowT, mul_comm]

/-- The padded image's first channels are the kernel's upsampled image with its border. -/
theorem v6_up (c : Fin 32) (y x : ℕ) (hy : y < 130) (hx : x < 130) :
    A_main_v6 (F := Ideal) a0 a1 a2 a3 a4 a5 a6 a7 a8 (ix4 b (fn 128 c) (fn 130 y) (fn 130 x)) = upPad x1 x6 x7 y x c := by
  rw [v6_at _ _ _ _ _ _ _ _ _ _ _ _ _ hy hx, v5_up, v4_up a4 a5 a6 a7 a8 h]
  rfl

/-- The padded image's other channels are the kernel's window. -/
theorem v6_feat (c : Fin 96) (y x : ℕ) (hy : y < 130) (hx : x < 130) :
    A_main_v6 (F := Ideal) a0 a1 a2 a3 a4 a5 a6 a7 a8 (ix4 b (fn 128 (32 + c)) (fn 130 y) (fn 130 x)) = x2 (ix4 0 (fn 130 y) (fn 130 x) c) := by
  rw [v6_at _ _ _ _ _ _ _ _ _ _ _ _ _ hy hx, v5_feat, h.feat _ _ _ hy hx]

/-- One tap is the kernel's. -/
theorem tap_eq (t ky kx : ℕ) (hky : ky < 3) (hkx : kx < 3) (ht : t = 3 * ky + kx) (d : Fin 32) (r w : Fin 128) :
    ∑ c : Fin 128, a2 (ix4 d c (fn 3 ky) (fn 3 kx)) * A_main_v6 (F := Ideal) a0 a1 a2 a3 a4 a5 a6 a7 a8 (ix4 b c (fn 130 (r + ky)) (fn 130 (w + kx)))
      = tap x1 x2 x3 x4 x6 x7 t ky kx r w d := by
  have := r.isLt; have := w.isLt
  have ht9 : (fn 9 t).val = t := fn_val (by omega)
  have e1 : t / 3 = ky := by omega
  have e2 : t % 3 = kx := by omega
  rw [sum_channels]
  unfold tap
  refine congrArg₂ _ (Finset.sum_congr rfl fun c _ => ?_) (Finset.sum_congr rfl fun c _ => ?_)
  · rw [v6_up a4 a5 a6 a7 a8 h c _ _ (by omega) (by omega), fn_self, h.wup, ht9, e1, e2, mul_comm]
  · rw [v6_feat a4 a5 a6 a7 a8 h c _ _ (by omega) (by omega), fn_self, h.wft, ht9, e1, e2, mul_comm]

/-- The reference's convolution is the kernel's. -/
theorem conv_eq (d : Fin 32) (r w : Fin 128) :
    A_main_v64 (F := Ideal) a0 a1 a2 a3 a4 a5 a6 a7 a8 (ix4 b d r w) = conv x1 x2 x3 x4 x5 x6 x7 r w d := by
  have hb : A_main_v63 (F := Ideal) a0 a1 a2 a3 a4 a5 a6 a7 a8 (ix4 b d r w) = a3 (ix1 d) := by pointwise [A_main_v63, A_main_v62]
  have hz : K_main_v12 (F := Ideal) (ix4 b d r w) = 0 := by pointwise [K_main_v12, K_main_cst_1]
  have key : A_main_v64 (F := Ideal) a0 a1 a2 a3 a4 a5 a6 a7 a8 (ix4 b d r w) = K_main_v12 (F := Ideal) (ix4 b d r w)
      + A_main_v11 (F := Ideal) a0 a1 a2 a3 a4 a5 a6 a7 a8 (ix4 b d r w)
      + A_main_v18 (F := Ideal) a0 a1 a2 a3 a4 a5 a6 a7 a8 (ix4 b d r w)
      + A_main_v24 (F := Ideal) a0 a1 a2 a3 a4 a5 a6 a7 a8 (ix4 b d r w)
      + A_main_v30 (F := Ideal) a0 a1 a2 a3 a4 a5 a6 a7 a8 (ix4 b d r w)
      + A_main_v36 (F := Ideal) a0 a1 a2 a3 a4 a5 a6 a7 a8 (ix4 b d r w)
      + A_main_v42 (F := Ideal) a0 a1 a2 a3 a4 a5 a6 a7 a8 (ix4 b d r w)
      + A_main_v48 (F := Ideal) a0 a1 a2 a3 a4 a5 a6 a7 a8 (ix4 b d r w)
      + A_main_v54 (F := Ideal) a0 a1 a2 a3 a4 a5 a6 a7 a8 (ix4 b d r w)
      + A_main_v60 (F := Ideal) a0 a1 a2 a3 a4 a5 a6 a7 a8 (ix4 b d r w)
      + A_main_v63 (F := Ideal) a0 a1 a2 a3 a4 a5 a6 a7 a8 (ix4 b d r w) := rfl
  have T : ∀ (t ky kx : ℕ) (hky : ky < 3) (hkx : kx < 3) (ht : t = 3 * ky + kx) h1 h2, _ := fun t ky kx hky hkx ht h1 h2 =>
    (tap_ref (A_main_v6 (F := Ideal) a0 a1 a2 a3 a4 a5 a6 a7 a8) a2 ky kx hky hkx h1 h2 b d r w).trans (tap_eq a4 a5 a6 a7 a8 h t ky kx hky hkx ht d r w)
  rw [key, hz, hb]
  rw [show A_main_v11 (F := Ideal) a0 a1 a2 a3 a4 a5 a6 a7 a8 (ix4 b d r w) = _ from T 0 0 0 (by decide) (by decide) rfl _ _]
  rw [show A_main_v18 (F := Ideal) a0 a1 a2 a3 a4 a5 a6 a7 a8 (ix4 b d r w) = _ from T 1 0 1 (by decide) (by decide) rfl _ _]
  rw [show A_main_v24 (F := Ideal) a0 a1 a2 a3 a4 a5 a6 a7 a8 (ix4 b d r w) = _ from T 2 0 2 (by decide) (by decide) rfl _ _]
  rw [show A_main_v30 (F := Ideal) a0 a1 a2 a3 a4 a5 a6 a7 a8 (ix4 b d r w) = _ from T 3 1 0 (by decide) (by decide) rfl _ _]
  rw [show A_main_v36 (F := Ideal) a0 a1 a2 a3 a4 a5 a6 a7 a8 (ix4 b d r w) = _ from T 4 1 1 (by decide) (by decide) rfl _ _]
  rw [show A_main_v42 (F := Ideal) a0 a1 a2 a3 a4 a5 a6 a7 a8 (ix4 b d r w) = _ from T 5 1 2 (by decide) (by decide) rfl _ _]
  rw [show A_main_v48 (F := Ideal) a0 a1 a2 a3 a4 a5 a6 a7 a8 (ix4 b d r w) = _ from T 6 2 0 (by decide) (by decide) rfl _ _]
  rw [show A_main_v54 (F := Ideal) a0 a1 a2 a3 a4 a5 a6 a7 a8 (ix4 b d r w) = _ from T 7 2 1 (by decide) (by decide) rfl _ _]
  rw [show A_main_v60 (F := Ideal) a0 a1 a2 a3 a4 a5 a6 a7 a8 (ix4 b d r w) = _ from T 8 2 2 (by decide) (by decide) rfl _ _]
  unfold conv
  rw [h.bias, zero_add, fn_self]

end Image

end Cert.Proof.Stage

end
-- ==== Proof.Val.RefSeq.lean ====
module

public import proofs.«01_k».proof.Proof.Val.Inputs

@[expose] public section

noncomputable section

/-! The sequences the reference scans are the kernel's. -/

namespace Cert.Proof.Stage

open Cert.ReferenceIdeal Cert.ReferenceIdeal.Step
open Cert.Proof.KernelIdealRun (fn fn_val fn_self fn_mk xd raw dlt inn)
open Cert.Proof
open Idealize.ShloMosaic

/-- The row that direction `k` visits at step `l`. -/
def rowOf (k l : ℕ) : ℕ := if k = 0 then l / 128 else l % 128

/-- The column that direction `k` visits at step `l`. -/
def colOf (k l : ℕ) : ℕ := if k = 0 then l % 128 else l / 128

/-- Negation as a difference from zero. -/
theorem neg_eq (x : EReal) : -x = 0 - x := by rw [sub_eq_add_neg, zero_add]

/-- The stable form of softplus is the direct one. -/
theorem softplus (y : EReal) : max y 0 + Ideal.log1p (Ideal.exp (-(max (y - 0) (-(y - 0))))) = Ideal.log1p (Ideal.exp y) := by
  induction y with
  | bot =>
    rw [sub_zero, EReal.neg_bot, max_eq_right bot_le, max_eq_right bot_le, EReal.neg_top, zero_add]
  | top =>
    have h : Ideal.log1p (Ideal.exp ⊤) = Ideal.log (((1 : ℝ) : EReal) + ⊤) := rfl
    rw [sub_zero, EReal.neg_top, max_eq_left le_top, max_eq_left bot_le, EReal.neg_top, h]
    have h0 : Ideal.log1p (Ideal.exp ⊥) = Ideal.log (((1 : ℝ) : EReal) + ((0 : ℝ) : EReal)) := rfl
    rw [h0, ← EReal.coe_add, EReal.coe_add_top]
    show (⊤ : EReal) + (if (1 + 0 : ℝ) ≤ 0 then ⊥ else ((Real.log (1 + 0) : ℝ) : EReal)) = ⊤
    rw [if_neg (by norm_num)]
    simp
  | coe r =>
    have key : ∀ s : ℝ, Ideal.log1p (Ideal.exp (s : EReal)) = ((Real.log (1 + Real.exp s) : ℝ) : EReal) := by
      intro s
      show Ideal.log (((1 : ℝ) : EReal) + ((Real.exp s : ℝ) : EReal)) = _
      rw [← EReal.coe_add]
      show (if 1 + Real.exp s ≤ 0 then ⊥ else ((Real.log (1 + Real.exp s) : ℝ) : EReal)) = _
      rw [if_neg (by have := Real.exp_pos s; linarith)]
    have hm : max ((r : EReal) - 0) (-((r : EReal) - 0)) = ((|r| : ℝ) : EReal) := by
      rw [sub_zero, ← EReal.coe_neg, ← EReal.coe_strictMono.monotone.map_max]; rfl
    rw [hm, ← EReal.coe_neg, key, key, ← EReal.coe_zero, ← EReal.coe_strictMono.monotone.map_max, ← EReal.coe_add]
    congr 1
    rcases le_total 0 r with h | h
    · rw [max_eq_left h, abs_of_nonneg h]
      have e : 1 + Real.exp r = Real.exp r * (1 + Real.exp (-r)) := by
        rw [mul_add, mul_one, ← Real.exp_add, add_neg_cancel, Real.exp_zero, add_comm]
      rw [e, Real.log_mul (Real.exp_pos r).ne' (by have := Real.exp_pos (-r); linarith), Real.log_exp]
    · rw [max_eq_right h, abs_of_nonpos h, neg_neg, zero_add]

variable (a0 : Vec Ideal S2x64x2048 .f32) (a1 : Vec Ideal S2x96x128x128 .f32)
  (a2 : Vec Ideal S32x128x3x3 .f32) (a3 : Vec Ideal S32 .f32)
  (a4 : Vec Ideal S2x64x32 .f32) (a5 : Vec Ideal S2x32x32 .f32)
  (a6 : Vec Ideal S2x32 .f32) (a7 : Vec Ideal S64x16 .f32) (a8 : Vec Ideal S64 .f32)

/-- The first direction's sequence. -/
theorem v65_at (b : Fin 2) (d : Fin 32) (l : Fin 16384) :
    A_main_v65 (F := Ideal) a0 a1 a2 a3 a4 a5 a6 a7 a8 (ix3 b d l) = A_main_v64 (F := Ideal) a0 a1 a2 a3 a4 a5 a6 a7 a8 (ix4 b d (fn 128 (l / 128)) (fn 128 (l % 128))) := by
  have := l.isLt
  pointwise [A_main_v65]
  simp (disch := omega) only [fn_mk]

/-- The second direction's sequence. -/
theorem v67_at (b : Fin 2) (d : Fin 32) (l : Fin 16384) :
    A_main_v67 (F := Ideal) a0 a1 a2 a3 a4 a5 a6 a7 a8 (ix3 b d l) = A_main_v64 (F := Ideal) a0 a1 a2 a3 a4 a5 a6 a7 a8 (ix4 b d (fn 128 (l % 128)) (fn 128 (l / 128))) := by
  have := l.isLt
  pointwise [A_main_v67, A_main_v66]
  simp (disch := omega) only [fn_mk]

/-- Both directions' sequences. -/
theorem v70_at (b k : Fin 2) (d : Fin 32) (l : Fin 16384) :
    A_main_v70 (F := Ideal) a0 a1 a2 a3 a4 a5 a6 a7 a8 (ix4 b k d l)
      = A_main_v64 (F := Ideal) a0 a1 a2 a3 a4 a5 a6 a7 a8 (ix4 b d (fn 128 (rowOf k l)) (fn 128 (colOf k l))) := by
  fin_cases k
  · refine Eq.trans ?_ (v65_at a0 a1 a2 a3 a4 a5 a6 a7 a8 b d l)
    pointwise [A_main_v70, A_main_v68]
  · refine Eq.trans ?_ (v67_at a0 a1 a2 a3 a4 a5 a6 a7 a8 b d l)
    pointwise [A_main_v70, A_main_v69]

/-- The projection. -/
theorem v72_at (b k : Fin 2) (e : Fin 64) (l : Fin 16384) :
    A_main_v72 (F := Ideal) a0 a1 a2 a3 a4 a5 a6 a7 a8 (ix4 b k e l)
      = ∑ d : Fin 32, a4 (ix3 k e d) * A_main_v70 (F := Ideal) a0 a1 a2 a3 a4 a5 a6 a7 a8 (ix4 b k d l) := by
  pointwise [A_main_v72, A_main_v71]

/-- The step sizes before their activation. -/
theorem v84_at (b k : Fin 2) (d : Fin 32) (l : Fin 16384) :
    A_main_v84 (F := Ideal) a0 a1 a2 a3 a4 a5 a6 a7 a8 (ix4 b k d l)
      = (∑ e : Fin 32, a5 (ix3 k d e) * A_main_v72 (F := Ideal) a0 a1 a2 a3 a4 a5 a6 a7 a8 (ix4 b k (fn 64 e) l)) + a6 (ix2 k d) := by
  pointwise [A_main_v84, A_main_v83, A_main_v82, A_main_v77, A_main_v76, A_main_v73]
  simp (disch := omega) only [fn_mk]

/-- The step sizes. -/
theorem v85_at (b k : Fin 2) (d : Fin 32) (l : Fin 16384) :
    A_main_v85 (F := Ideal) a0 a1 a2 a3 a4 a5 a6 a7 a8 (ix4 b k d l)
      = Ideal.log1p (Ideal.exp (A_main_v84 (F := Ideal) a0 a1 a2 a3 a4 a5 a6 a7 a8 (ix4 b k d l))) := by
  refine Eq.trans ?_ (softplus _)
  pointwise [A_main_v85, A_main_call1_v4, A_main_call1_v6, A_main_call1_v11, A_main_call1_v1, A_main_call1_v10, A_main_call1_v9, A_main_call1_v8, A_main_call1_v7, A_main_call1_v3, K_main_call1_v0, K_main_call1_v2, K_main_call1_v5, K_main_call1_cst]
  rw [if_neg (fun h => h rfl)]
  rfl

variable {a0 a1 a2 a3 a4 a5 a6 a7 a8} {Xf : ℕ → ℕ → ℕ → EReal} {b : Fin 2}
  {x8 : Vec Ideal Cert.KernelIdeal.S2x32x64 .f32} {x9 : Vec Ideal Cert.KernelIdeal.S2x32x32 .f32}
  {x10 : Vec Ideal Cert.KernelIdeal.S2x1x32 .f32} {x11 : Vec Ideal Cert.KernelIdeal.S2x1x512 .f32}
  {x12 : Vec Ideal Cert.KernelIdeal.S2x1x32 .f32}
  {x13 x14 : Vec Ideal Cert.KernelIdeal.S1x32 .f32} {a9 a10 : Vec Ideal S32 .f32}
  (hX : ∀ (d : Fin 32) (r w : Fin 128), A_main_v64 (F := Ideal) a0 a1 a2 a3 a4 a5 a6 a7 a8 (ix4 b d r w) = Xf r w d)
  (h : ScanIn x8 x9 x10 x11 x12 x13 x14 a4 a5 a6 a7 a8 a9 a10)

/-- A step's row is inside the image. -/
theorem rowOf_lt (k l : ℕ) (hl : l < 16384) : rowOf k l < 128 := by unfold rowOf; split <;> omega
/-- A step's column is inside the image. -/
theorem colOf_lt (k l : ℕ) (hl : l < 16384) : colOf k l < 128 := by unfold colOf; split <;> omega

include hX

/-- Both directions' sequences are the kernel's image. -/
theorem v70_eq (k : Fin 2) (d : Fin 32) (l : Fin 16384) :
    A_main_v70 (F := Ideal) a0 a1 a2 a3 a4 a5 a6 a7 a8 (ix4 b k d l) = Xf (rowOf k l) (colOf k l) d := by
  rw [v70_at, hX, fn_val (rowOf_lt _ _ l.isLt), fn_val (colOf_lt _ _ l.isLt)]

include h

/-- The projection is the kernel's. -/
theorem v72_eq (k : Fin 2) (e : Fin 64) (l : Fin 16384) :
    A_main_v72 (F := Ideal) a0 a1 a2 a3 a4 a5 a6 a7 a8 (ix4 b k e l) = xd Xf x8 k (rowOf k l) (colOf k l) e := by
  rw [v72_at]
  unfold xd
  refine Finset.sum_congr rfl fun d _ => ?_
  rw [v70_eq hX, fn_self, fn_self, h.proj, mul_comm]

/-- The step sizes before their activation are the kernel's. -/
theorem v84_eq (k : Fin 2) (d : Fin 32) (l : Fin 16384) :
    A_main_v84 (F := Ideal) a0 a1 a2 a3 a4 a5 a6 a7 a8 (ix4 b k d l) = raw Xf x8 x9 x10 k (rowOf k l) (colOf k l) d := by
  rw [v84_at]
  unfold raw
  rw [fn_self, fn_self, h.dtb]
  refine congrArg (· + _) (Finset.sum_congr rfl fun e _ => ?_)
  rw [v72_eq hX h, h.dtw, fn_val (by omega), mul_comm]

omit hX h in
/-- The scanned lanes at the direction's row and column. -/
theorem lanes_eq (k : Fin 2) (l e : ℕ) : KernelIdealRun.seq Xf x8 x9 x10 k l e = inn Xf x8 x9 x10 k (rowOf k l) (colOf k l) e := by
  fin_cases k
  · rfl
  · rfl

/-- The step sizes. -/
theorem delta_eq (k : Fin 2) (d : Fin 32) (l : Fin 16384) :
    A_main_v87 (F := Ideal) a0 a1 a2 a3 a4 a5 a6 a7 a8 (ix4 l b k d) = KernelIdealRun.seq Xf x8 x9 x10 k l d := by
  have e : A_main_v87 (F := Ideal) a0 a1 a2 a3 a4 a5 a6 a7 a8 (ix4 l b k d) = A_main_v85 (F := Ideal) a0 a1 a2 a3 a4 a5 a6 a7 a8 (ix4 b k d l) := by
    pointwise [A_main_v87]
  rw [e, v85_at, v84_eq hX h, lanes_eq]
  unfold inn
  rw [if_pos d.isLt]
  rfl

/-- The scanned inputs. -/
theorem u_eq (k : Fin 2) (d : Fin 32) (l : Fin 16384) :
    A_main_v86 (F := Ideal) a0 a1 a2 a3 a4 a5 a6 a7 a8 (ix4 l b k d) = KernelIdealRun.seq Xf x8 x9 x10 k l (32 + d) := by
  have e : A_main_v86 (F := Ideal) a0 a1 a2 a3 a4 a5 a6 a7 a8 (ix4 l b k d) = A_main_v70 (F := Ideal) a0 a1 a2 a3 a4 a5 a6 a7 a8 (ix4 b k d l) := by
    pointwise [A_main_v86]
  rw [e, v70_eq hX, lanes_eq]
  unfold inn
  rw [if_neg (by omega), if_pos (by omega), Nat.add_sub_cancel_left]

/-- The input matrix. -/
theorem B_eq (k : Fin 2) (n : Fin 16) (l : Fin 16384) :
    A_main_v88 (F := Ideal) a0 a1 a2 a3 a4 a5 a6 a7 a8 (ix4 l b k n) = KernelIdealRun.seq Xf x8 x9 x10 k l (64 + n) := by
  have e : A_main_v88 (F := Ideal) a0 a1 a2 a3 a4 a5 a6 a7 a8 (ix4 l b k n) = A_main_v72 (F := Ideal) a0 a1 a2 a3 a4 a5 a6 a7 a8 (ix4 b k (fn 64 (32 + n)) l) := by
    rw [fn_mk (by omega)]
    pointwise [A_main_v88, A_main_v74]
  rw [e, v72_eq hX h, lanes_eq, fn_val (by omega)]
  unfold inn
  rw [if_neg (by omega), if_neg (by omega)]
  congr 1
  omega

/-- The read-out matrix. -/
theorem C_eq (k : Fin 2) (n : Fin 16) (l : Fin 16384) :
    A_main_v89 (F := Ideal) a0 a1 a2 a3 a4 a5 a6 a7 a8 (ix4 l b k n) = KernelIdealRun.seq Xf x8 x9 x10 k l (80 + n) := by
  have e : A_main_v89 (F := Ideal) a0 a1 a2 a3 a4 a5 a6 a7 a8 (ix4 l b k n) = A_main_v72 (F := Ideal) a0 a1 a2 a3 a4 a5 a6 a7 a8 (ix4 b k (fn 64 (48 + n)) l) := by
    rw [fn_mk (by omega)]
    pointwise [A_main_v89, A_main_v75]
  rw [e, v72_eq hX h, lanes_eq, fn_val (by omega)]
  unfold inn
  rw [if_neg (by omega), if_neg (by omega)]
  congr 1
  omega

omit hX in
/-- The rates. -/
theorem A_eq (k : Fin 2) (d : Fin 32) (n : Fin 16) :
    A_main_v80 (F := Ideal) a0 a1 a2 a3 a4 a5 a6 a7 a8 (ix3 k d n) = KernelIdealRun.par x11 k (n * 32 + d) := by
  unfold KernelIdealRun.par
  have := k.isLt; have := d.isLt
  rw [fn_self, h.rate, fn_mk (by omega)]
  pointwise [A_main_v80, A_main_v79, A_main_v78]
  exact neg_eq _

omit hX in
/-- The skip factors. -/
theorem D_eq (k : Fin 2) (d : Fin 32) :
    A_main_v81 (F := Ideal) a0 a1 a2 a3 a4 a5 a6 a7 a8 (ix2 k d) = KernelIdealRun.pas x12 k d := by
  unfold KernelIdealRun.pas
  have := k.isLt; have := d.isLt
  rw [fn_self, fn_self, h.skip, fn_mk (by omega)]
  pointwise [A_main_v81]

end Cert.Proof.Stage

end
-- ==== Proof.Val.RefScan.lean ====
module

public import proofs.«01_k».proof.Proof.Val.RefSeq

@[expose] public section

noncomputable section

/-! The reference's sequential scan computes the kernel's states and outputs. -/

namespace Cert.Proof.Stage

open Cert.ReferenceIdeal Cert.ReferenceIdeal.Step
open Cert.Proof.KernelIdealRun (fn fn_val fn_self fn_mk)
open Cert.Proof
open Idealize.ShloMosaic

/-- A step's number read as an integer. -/
theorem toInt_step (j : Fin 16384) : (BitVec.ofNat 32 (j : ℕ)).toInt = (j : ℕ) := by
  have := j.isLt
  rw [BitVec.toInt_eq_toNat_of_lt (by rw [BitVec.toNat_ofNat]; omega), BitVec.toNat_ofNat]
  omega

/-- A step's offsets: its own number on the first axis, zero on the others. -/
def offs (j : ℕ) : Fin 4 → ℤ := fun k => (((![constantI S_ 32 (BitVec.ofNat 32 j), constantI S_ 32 0#32, constantI S_ 32 0#32, constantI S_ 32 0#32] : Fin 4 → (⟨S_, .i32⟩ : BufTy).Contents (Elt Ideal))) k (Shape.Idx.first Gen.h_S_)).toInt

/-- The offsets' values. -/
theorem offs_at (j : Fin 16384) : offs j 0 = (j : ℕ) ∧ offs j 1 = 0 ∧ offs j 2 = 0 ∧ offs j 3 = 0 :=
  ⟨toInt_step j, rfl, rfl, rfl⟩

/-- A step's row of a sequence of 32 lanes. -/
theorem slice32 (X : S16384x2x2x32.Idx → EReal) (o : Fin 4 → ℤ) (j : Fin 16384) (ho : o 0 = (j : ℕ) ∧ o 1 = 0 ∧ o 2 = 0 ∧ o 3 = 0)
    (hf : S16384x2x2x32.Slices (fun _ => 0) S1x2x2x32) (b k : Fin 2) (d : Fin 32) :
    Host.dynamicSlice S1x2x2x32 X o hf (ix4 0 b k d) = X (ix4 j b k d) := by
  have := j.isLt
  have h0 := Host.clampedStart_of_le (s := S16384x2x2x32) (t := S1x2x2x32) rfl o 0 j ho.1 (by show j.val + 1 ≤ 16384; omega)
  have h1 := Host.clampedStart_of_le (s := S16384x2x2x32) (t := S1x2x2x32) rfl o 1 0 ho.2.1 (by decide)
  have h2 := Host.clampedStart_of_le (s := S16384x2x2x32) (t := S1x2x2x32) rfl o 2 0 ho.2.2.1 (by decide)
  have h3 := Host.clampedStart_of_le (s := S16384x2x2x32) (t := S1x2x2x32) rfl o 3 0 ho.2.2.2 (by decide)
  pointwise []
  simp only [h0, h1, h2, h3, Nat.zero_add]

/-- A step's row of a sequence of 16 lanes. -/
theorem slice16 (X : S16384x2x2x16.Idx → EReal) (o : Fin 4 → ℤ) (j : Fin 16384) (ho : o 0 = (j : ℕ) ∧ o 1 = 0 ∧ o 2 = 0 ∧ o 3 = 0)
    (hf : S16384x2x2x16.Slices (fun _ => 0) S1x2x2x16) (b k : Fin 2) (d : Fin 16) :
    Host.dynamicSlice S1x2x2x16 X o hf (ix4 0 b k d) = X (ix4 j b k d) := by
  have := j.isLt
  have h0 := Host.clampedStart_of_le (s := S16384x2x2x16) (t := S1x2x2x16) rfl o 0 j ho.1 (by show j.val + 1 ≤ 16384; omega)
  have h1 := Host.clampedStart_of_le (s := S16384x2x2x16) (t := S1x2x2x16) rfl o 1 0 ho.2.1 (by decide)
  have h2 := Host.clampedStart_of_le (s := S16384x2x2x16) (t := S1x2x2x16) rfl o 2 0 ho.2.2.1 (by decide)
  have h3 := Host.clampedStart_of_le (s := S16384x2x2x16) (t := S1x2x2x16) rfl o 3 0 ho.2.2.2 (by decide)
  pointwise []
  simp only [h0, h1, h2, h3, Nat.zero_add]

/-- The step's row of a sequence. -/
theorem b4_at (j : Fin 16384) (s : State Ideal) (b k : Fin 2) (d : Fin 32) :
    b4 j s (ix3 b k d) = s.main_v92_0 (ix4 j b k d) := by
  refine Eq.trans ?_ (slice32 s.main_v92_0 (offs j) j (offs_at j) Gen.sliceFits_S16384x2x2x32_S1x2x2x32 b k d)
  refine Eq.trans (b := b3 j s (ix4 0 b k d)) ?_ rfl
  pointwise [b4]

/-- The step's row of a sequence. -/
theorem b9_at (j : Fin 16384) (s : State Ideal) (b k : Fin 2) (d : Fin 32) :
    b9 j s (ix3 b k d) = s.main_v92_1 (ix4 j b k d) := by
  refine Eq.trans ?_ (slice32 s.main_v92_1 (offs j) j (offs_at j) Gen.sliceFits_S16384x2x2x32_S1x2x2x32 b k d)
  refine Eq.trans (b := b8 j s (ix4 0 b k d)) ?_ rfl
  pointwise [b9]

/-- The step's row of a sequence. -/
theorem b14_at (j : Fin 16384) (s : State Ideal) (b k : Fin 2) (n : Fin 16) :
    b14 j s (ix3 b k n) = s.main_v92_2 (ix4 j b k n) := by
  refine Eq.trans ?_ (slice16 s.main_v92_2 (offs j) j (offs_at j) Gen.sliceFits_S16384x2x2x16_S1x2x2x16 b k n)
  refine Eq.trans (b := b13 j s (ix4 0 b k n)) ?_ rfl
  pointwise [b14]

/-- The step's row of a sequence. -/
theorem b19_at (j : Fin 16384) (s : State Ideal) (b k : Fin 2) (n : Fin 16) :
    b19 j s (ix3 b k n) = s.main_v92_3 (ix4 j b k n) := by
  refine Eq.trans ?_ (slice16 s.main_v92_3 (offs j) j (offs_at j) Gen.sliceFits_S16384x2x2x16_S1x2x2x16 b k n)
  refine Eq.trans (b := b18 j s (ix4 0 b k n)) ?_ rfl
  pointwise [b19]

/-- A step's row written into the outputs. -/
theorem update32 (X : S16384x2x2x32.Idx → EReal) (Y : S1x2x2x32.Idx → EReal) (o : Fin 4 → ℤ) (j : Fin 16384)
    (ho : o 0 = (j : ℕ) ∧ o 1 = 0 ∧ o 2 = 0 ∧ o 3 = 0) (hf : S16384x2x2x32.Slices (fun _ => 0) S1x2x2x32) (l : Fin 16384) (b k : Fin 2) (d : Fin 32) :
    Host.dynamicUpdateSlice X Y o hf (ix4 l b k d) = if l = j then Y (ix4 0 b k d) else X (ix4 l b k d) := by
  have := j.isLt
  have h0 := Host.clampedStart_of_le (s := S16384x2x2x32) (t := S1x2x2x32) rfl o 0 j ho.1 (by show j.val + 1 ≤ 16384; omega)
  have h1 := Host.clampedStart_of_le (s := S16384x2x2x32) (t := S1x2x2x32) rfl o 1 0 ho.2.1 (by decide)
  have h2 := Host.clampedStart_of_le (s := S16384x2x2x32) (t := S1x2x2x32) rfl o 2 0 ho.2.2.1 (by decide)
  have h3 := Host.clampedStart_of_le (s := S16384x2x2x32) (t := S1x2x2x32) rfl o 3 0 ho.2.2.2 (by decide)
  pointwise []
  simp only [h0, h1, h2, h3, Nat.sub_zero]
  by_cases h : l = j
  · subst h
    rw [if_pos rfl, dif_pos (by omega)]
    exact congrArg (fun z => Y (ix4 z b k d)) (Fin.ext (Nat.sub_self _))
  · rw [if_neg h, dif_neg (fun h' => h (Fin.ext (by omega)))]

/-- The outputs after a step: its row replaced. -/
theorem b43_at (j : Fin 16384) (s : State Ideal) (l : Fin 16384) (b k : Fin 2) (d : Fin 32) :
    b43 j s (ix4 l b k d) = if l = j then b38 j s (ix3 b k d) else s.main_v92_8 (ix4 l b k d) := by
  have e : b39 j s (ix4 0 b k d) = b38 j s (ix3 b k d) := by pointwise [b39]
  rw [← e]
  exact update32 s.main_v92_8 (b39 j s) (offs j) j (offs_at j) Gen.updateFits_S16384x2x2x32_S1x2x2x32 l b k d

/-- The state after a step. -/
theorem b33_at (j : ℕ) (s : State Ideal) (b k : Fin 2) (d : Fin 32) (n : Fin 16) :
    b33 j s (ix4 b k d n) = Ideal.exp (b9 j s (ix3 b k d) * s.main_v92_4 (ix3 k d n)) * s.main_v92_7 (ix4 b k d n)
      + b9 j s (ix3 b k d) * b4 j s (ix3 b k d) * b14 j s (ix3 b k n) := by
  pointwise [b33, b32, b31, b30, b29, b28, b27, b26, b25, b24, b23, b22, b21, b20]

/-- The output of a step. -/
theorem b38_at (j : ℕ) (s : State Ideal) (b k : Fin 2) (d : Fin 32) :
    b38 j s (ix3 b k d) = (∑ n : Fin 16, b33 j s (ix4 b k d n) * b19 j s (ix3 b k n))
      + s.main_v92_5 (ix2 k d) * b4 j s (ix3 b k d) := by
  pointwise [b38, b37, b36, b35, b34]

section Iterate

variable {a0 : Vec Ideal S2x64x2048 .f32} {a1 : Vec Ideal S2x96x128x128 .f32}
  {a2 : Vec Ideal S32x128x3x3 .f32} {a3 : Vec Ideal S32 .f32}
  {a4 : Vec Ideal S2x64x32 .f32} {a5 : Vec Ideal S2x32x32 .f32}
  {a6 : Vec Ideal S2x32 .f32} {a7 : Vec Ideal S64x16 .f32} {a8 : Vec Ideal S64 .f32}
  {Xf : ℕ → ℕ → ℕ → EReal} {b : Fin 2}
  {x8 : Vec Ideal Cert.KernelIdeal.S2x32x64 .f32} {x9 : Vec Ideal Cert.KernelIdeal.S2x32x32 .f32}
  {x10 : Vec Ideal Cert.KernelIdeal.S2x1x32 .f32} {x11 : Vec Ideal Cert.KernelIdeal.S2x1x512 .f32}
  {x12 : Vec Ideal Cert.KernelIdeal.S2x1x32 .f32}
  {x13 x14 : Vec Ideal Cert.KernelIdeal.S1x32 .f32} {a9 a10 : Vec Ideal S32 .f32}
  (hX : ∀ (d : Fin 32) (r w : Fin 128), A_main_v64 (F := Ideal) a0 a1 a2 a3 a4 a5 a6 a7 a8 (ix4 b d r w) = Xf r w d)
  (h : ScanIn x8 x9 x10 x11 x12 x13 x14 a4 a5 a6 a7 a8 a9 a10)
  (it : ℕ → State Ideal) (i0 : State Ideal) (hi : it 0 = i0) (hs : ∀ n, it (n + 1) = step n (it n))
  (e0 : i0.main_v92_0 = A_main_v86 (F := Ideal) a0 a1 a2 a3 a4 a5 a6 a7 a8)
  (e1 : i0.main_v92_1 = A_main_v87 (F := Ideal) a0 a1 a2 a3 a4 a5 a6 a7 a8)
  (e2 : i0.main_v92_2 = A_main_v88 (F := Ideal) a0 a1 a2 a3 a4 a5 a6 a7 a8)
  (e3 : i0.main_v92_3 = A_main_v89 (F := Ideal) a0 a1 a2 a3 a4 a5 a6 a7 a8)
  (e4 : i0.main_v92_4 = A_main_v80 (F := Ideal) a0 a1 a2 a3 a4 a5 a6 a7 a8)
  (e5 : i0.main_v92_5 = A_main_v81 (F := Ideal) a0 a1 a2 a3 a4 a5 a6 a7 a8)
  (e7 : i0.main_v92_7 = K_main_v90 (F := Ideal))

include hi hs in
/-- The sequences do not change over the steps. -/
theorem kept (n : ℕ) : (it n).main_v92_0 = i0.main_v92_0 ∧ (it n).main_v92_1 = i0.main_v92_1 ∧ (it n).main_v92_2 = i0.main_v92_2
    ∧ (it n).main_v92_3 = i0.main_v92_3 ∧ (it n).main_v92_4 = i0.main_v92_4 ∧ (it n).main_v92_5 = i0.main_v92_5 := by
  induction n with
  | zero => rw [hi]; exact ⟨rfl, rfl, rfl, rfl, rfl, rfl⟩
  | succ n ih => rw [hs]; exact ih

include hX h hi hs e0 e1 e2 e3 e4 e5 e7

/-- The state before step `n` is the kernel's. -/
theorem hid_eq (n : ℕ) (hn : n ≤ 16384) (k : Fin 2) (d : Fin 32) (s : Fin 16) :
    (it n).main_v92_7 (ix4 b k d s)
      = KernelIdealRun.hid (KernelIdealRun.seq Xf x8 x9 x10 k) (KernelIdealRun.par x11 k) (s * 32 + d) n := by
  induction n with
  | zero =>
    rw [hi, e7]
    pointwise [K_main_v90, K_main_cst_2]
    rfl
  | succ n ih =>
    obtain ⟨k0, k1, k2, k3, k4, k5⟩ := kept it i0 hi hs n
    have hd := d.isLt
    have m1 : (s.val * 32 + d.val) % 32 = d := by omega
    have m2 : (s.val * 32 + d.val) / 32 = s := by omega
    have q9 := b9_at ⟨n, by omega⟩ (it n) b k d
    have q4 := b4_at ⟨n, by omega⟩ (it n) b k d
    have q14 := b14_at ⟨n, by omega⟩ (it n) b k s
    rw [k1, e1, delta_eq hX h] at q9
    rw [k0, e0, u_eq hX h] at q4
    rw [k2, e2, B_eq hX h] at q14
    rw [hs, step_main_v92_7, b33_at, ih (by omega), q9, q4, q14, k4, e4, A_eq h]
    show _ = KernelIdealRun.decay _ _ _ n * KernelIdealRun.hid _ _ _ n + KernelIdealRun.input _ _ n
    unfold KernelIdealRun.decay KernelIdealRun.input
    rw [m1, m2]

/-- The output of step `n` is the kernel's. -/
theorem out_eq (n : Fin 16384) (k : Fin 2) (d : Fin 32) :
    b38 n (it n) (ix3 b k d) = KernelIdealRun.scanOut Xf x8 x9 x10 x11 x12 k n d := by
  obtain ⟨k0, k1, k2, k3, k4, k5⟩ := kept it i0 hi hs n
  have q4 := b4_at n (it n) b k d
  rw [k0, e0, u_eq hX h] at q4
  rw [b38_at, q4, k5, e5, D_eq h]
  unfold KernelIdealRun.scanOut KernelIdealRun.yout
  rw [mul_comm (KernelIdealRun.pas _ _ _)]
  refine congrArg (· + _) (Finset.sum_congr rfl fun s _ => ?_)
  have hn := hid_eq hX h it i0 hi hs e0 e1 e2 e3 e4 e5 e7 (n + 1) (by omega) k d s
  rw [hs, step_main_v92_7] at hn
  rw [hn, b19_at, k3, e3, C_eq hX h, mul_comm]

/-- The outputs after `n` steps: the kernel's at each step done. -/
theorem outs_eq (n : ℕ) (hn : n ≤ 16384) (l : Fin 16384) (hl : l.val < n) (k : Fin 2) (d : Fin 32) :
    (it n).main_v92_8 (ix4 l b k d) = KernelIdealRun.scanOut Xf x8 x9 x10 x11 x12 k l d := by
  induction n with
  | zero => exact absurd hl (Nat.not_lt_zero _)
  | succ n ih =>
    rw [hs, step_main_v92_8, show b43 n (it n) = b43 ((⟨n, by omega⟩ : Fin 16384) : ℕ) (it n) from rfl, b43_at]
    by_cases e : l = ⟨n, by omega⟩
    · rw [if_pos e, out_eq hX h it i0 hi hs e0 e1 e2 e3 e4 e5 e7, e]
    · rw [if_neg e]
      exact ih (by omega) (by have : l.val ≠ n := fun q => e (Fin.ext q); omega)

end Iterate

end Cert.Proof.Stage

end
-- ==== Proof.Val.RefNorm.lean ====
module

public import proofs.«01_k».proof.Proof.Val.RefScan
public import proofs.«01_k».proof.Proof.Val.RefConv

@[expose] public section

noncomputable section

/-! The reference's layer norm is the kernel's. -/

namespace Cert.Proof.Stage

open Cert.ReferenceIdeal Cert.ReferenceIdeal.Step
open Cert.Proof.KernelIdealRun (fn fn_val fn_self fn_mk mean32 lnorm)
open Cert.Proof
open Idealize.ShloMosaic

/-- The sum of the two directions at a pixel. -/
def both (ys : S16384x2x2x32.Idx → EReal) (b : Fin 2) (r w : ℕ) (d : Fin 32) : EReal :=
  ys (ix4 (fn 16384 (128 * r + w)) b 0 d) + ys (ix4 (fn 16384 (128 * w + r)) b 1 d)

/-- The channel count as a literal. -/
theorem lit_count : Ideal.ofBits .f32 1107296256#32 = ((32 : ℝ) : EReal) := by
  simp [Ideal.ofBits, Ideal.ieee, -EReal.coe_mul]
  norm_num

/-- The variance's offset is a positive number. -/
theorem lit_eps : ∃ e : ℝ, 0 < e ∧ Ideal.ofBits .f32 925353388#32 = ((e : ℝ) : EReal) := by
  refine ⟨(10995116 : ℝ) / 2 ^ 40, by positivity, ?_⟩
  simp [Ideal.ofBits, Ideal.ieee, -EReal.coe_mul]
  norm_num

/-- A square is not negative. -/
theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

/-- A mean of squares is not negative. -/
theorem mean_nonneg (f : Fin 32 → EReal) : 0 ≤ mean32 (fun d => f d * f d) := by
  unfold mean32 Ideal.div
  rw [lit_count, if_neg (by norm_num), ← EReal.coe_inv]
  exact mul_nonneg (Finset.sum_nonneg fun d _ => sq_nonneg _) (EReal.coe_nonneg.mpr (by norm_num))

/-- Division by a root is multiplication by the reciprocal root, of a positive number. -/
theorem div_sqrt (x v : EReal) (hv : 0 < v) : Ideal.div x (Ideal.sqrt v) = x * Ideal.rsqrt v := by
  induction v with
  | bot => exact absurd hv (by simp)
  | top =>
    show (if (⊤ : EReal) = 0 then _ else x * (⊤ : EReal)⁻¹) = x * 0
    rw [if_neg (by simp), EReal.inv_top]
  | coe r =>
    have hr : 0 < r := EReal.coe_pos.mp hv
    show Ideal.div x (if r < 0 then (⊥ : EReal) else ((Real.sqrt r : ℝ) : EReal)) = x * (if r < 0 then (⊥ : EReal) else if r = 0 then (⊤ : EReal) else (((Real.sqrt r)⁻¹ : ℝ) : EReal))
    rw [if_neg hr.not_gt, if_neg hr.not_gt, if_neg hr.ne']
    unfold Ideal.div
    rw [if_neg (by exact_mod_cast (Real.sqrt_pos.mpr hr).ne'), EReal.coe_inv]

/-- The reference's layer norm is the kernel's, of the two directions' sum. -/
theorem norm_ref (s : State Ideal) (a9 a10 : Vec Ideal S32 .f32) (b : Fin 2) (d : Fin 32) (r w : Fin 128) :
    R_main_v120 s a9 a10 (ix4 b d r w) = lnorm (both s.main_v92_8 b r w) (a9 (ix1 d)) (a10 (ix1 d)) d := by
  have := r.isLt; have := w.isLt
  obtain ⟨e, he, hq⟩ := lit_eps
  have hz : Ideal.ofBits .f32 1107296256#32 - FloatOps.sitofp (F := Ideal) FTy.f32 0#32 = Ideal.ofBits .f32 1107296256#32 := by
    rw [zero_conv, sub_zero]
  have hp : (0 : EReal) < Ideal.ofBits .f32 1107296256#32 := by
    rw [lit_count]; exact EReal.coe_pos.mpr (by norm_num)
  have hY : ∀ x : Fin 32, s.main_v92_8 (ix4 ⟨r.val * 128 + w.val, by omega⟩ b 0 x) + s.main_v92_8 (ix4 ⟨w.val * 128 + r.val, by omega⟩ b 1 x)
      = both s.main_v92_8 b r w x := by
    intro x
    unfold both
    rw [fn_mk (by omega), fn_mk (by omega)]
    simp only [Nat.mul_comm]
  pointwise [R_main_v120]
  simp only [hY]
  rw [hz, if_pos hp, div_sqrt]
  · rfl
  · have h0 := mean_nonneg (fun x => both s.main_v92_8 b r w x - mean32 (both s.main_v92_8 b r w))
    refine lt_of_lt_of_le ?_ (add_le_add_left h0 _)
    rw [zero_add, hq]
    exact EReal.coe_pos.mpr he

end Cert.Proof.Stage

end
-- ==== Proof.Val.Equal.lean ====
module

public import proofs.«01_k».proof.Proof.Val.Out
public import proofs.«01_k».proof.Proof.Val.RefConv
public import proofs.«01_k».proof.Proof.Val.RefScan
public import proofs.«01_k».proof.Proof.Val.RefNorm

@[expose] public section

noncomputable section

/-! The kernel's result is the reference's. -/

namespace Cert.Proof.Stage

open Cert.Proof.KernelIdealRun (fn)
open Cert.ReferenceIdeal Cert.ReferenceIdeal.Step
open Idealize.ShloMosaic

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.Proof.KernelIdealRun in
/-- Both memories hold the same arguments. -/
structure Same (c : Dev Cert.KernelIdeal.nD) : Prop where
  e0 : m' ((c.tc : Thread Cert.ReferenceIdeal.nD Cert.ReferenceIdeal.τ).loc main_arg0) = arg0 m c
  e1 : m' ((c.tc : Thread Cert.ReferenceIdeal.nD Cert.ReferenceIdeal.τ).loc main_arg1) = arg1 m c
  e2 : m' ((c.tc : Thread Cert.ReferenceIdeal.nD Cert.ReferenceIdeal.τ).loc main_arg2) = arg2 m c
  e3 : m' ((c.tc : Thread Cert.ReferenceIdeal.nD Cert.ReferenceIdeal.τ).loc main_arg3) = arg3 m c
  e4 : m' ((c.tc : Thread Cert.ReferenceIdeal.nD Cert.ReferenceIdeal.τ).loc main_arg4) = arg4 m c
  e5 : m' ((c.tc : Thread Cert.ReferenceIdeal.nD Cert.ReferenceIdeal.τ).loc main_arg5) = arg5 m c
  e6 : m' ((c.tc : Thread Cert.ReferenceIdeal.nD Cert.ReferenceIdeal.τ).loc main_arg6) = arg6 m c
  e7 : m' ((c.tc : Thread Cert.ReferenceIdeal.nD Cert.ReferenceIdeal.τ).loc main_arg7) = arg7 m c
  e8 : m' ((c.tc : Thread Cert.ReferenceIdeal.nD Cert.ReferenceIdeal.τ).loc main_arg8) = arg8 m c
  e9 : m' ((c.tc : Thread Cert.ReferenceIdeal.nD Cert.ReferenceIdeal.τ).loc main_arg9) = arg9 m c
  e10 : m' ((c.tc : Thread Cert.ReferenceIdeal.nD Cert.ReferenceIdeal.τ).loc main_arg10) = arg10 m c

/-- The reference's loop state after `n` trips. -/
def iter (c : Dev Cert.ReferenceIdeal.nD) : ℕ → State Ideal
  | 0 => StepRun.initState m' c
  | n + 1 => step n (iter c n)

open Cert.Proof.KernelIdealRun in
/-- The reference's result, of the kernel's arguments, is the kernel's. -/
theorem result_eq (c : Dev Cert.KernelIdeal.nD) (h : Same m m' c) (b : Fin 2) (d : Fin 32) (r w : Fin 128) :
    R_main_v120 (iter m' c 16384) (m' ((c.tc : Thread Cert.ReferenceIdeal.nD Cert.ReferenceIdeal.τ).loc main_arg9))
      (m' ((c.tc : Thread Cert.ReferenceIdeal.nD Cert.ReferenceIdeal.τ).loc main_arg10)) (ix4 b d r w)
      = Value.resOf m c b r (w.val * 32 + d.val) := by
  have := b.isLt; have := d.isLt; have := r.isLt; have := w.isLt
  have hb : fn 2 (Value.pt b) = b := by fin_cases b <;> rfl
  have him := imageIn m c (Value.pt b)
  have hsc := scanIn m c (Value.pt b)
  rw [hb] at him
  have i0 : iter m' c 0 = init (arg0 m c) (arg1 m c) (arg2 m c) (arg3 m c) (arg4 m c) (arg5 m c) (arg6 m c) (arg7 m c) (arg8 m c) := by
    show StepRun.initState m' c = _
    unfold StepRun.initState
    rw [h.e0, h.e1, h.e2, h.e3, h.e4, h.e5, h.e6, h.e7, h.e8]
  have hout := outs_eq (fun d r w => conv_eq (arg4 m c) (arg5 m c) (arg6 m c) (arg7 m c) (arg8 m c) him d r w) hsc (iter m' c) _ i0
    (fun n => rfl) rfl rfl rfl rfl rfl rfl rfl 16384 le_rfl
  rw [norm_ref, h.e9, h.e10, ← hsc.scale, ← hsc.shift]
  have hk : ∀ n : ℕ, (hn : n < 16384) → (fn 16384 n : Fin 16384).val = n := fun n hn => Nat.mod_eq_of_lt hn
  have hd : fn 32 d.val = d := Fin.ext (Nat.mod_eq_of_lt d.isLt)
  unfold Value.resOf resAt
  rw [show (w.val * 32 + d.val) / 32 = w.val by omega, show (w.val * 32 + d.val) % 32 = d.val by omega, hd]
  refine congrArg (fun f => lnorm f _ _ d) (funext fun e => ?_)
  unfold both ysum
  rw [hout _ (fn 16384 (128 * r.val + w.val)).isLt, hout _ (fn 16384 (128 * w.val + r.val)).isLt, hk _ (by omega), hk _ (by omega)]
  rfl

end Cert.Proof.Stage

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.K.Frame
public import proofs.«01_k».proof.Proof.Ref.StepRun
public import proofs.«01_k».proof.Proof.Val.Equal
public import Idealize.ShloMosaic.Adequacy
public import Idealize.ShloMosaic.Init

@[expose] public section

noncomputable section

namespace Cert.Proof

open Idealize.ShloMosaic Idealize.SL.Sem

/-- The kernel's frame: it terminates, its arguments stay, every counter ends at zero. -/
theorem frame_kernel : Cert.quiescent_Kernel := fun m ρ _ => KernelRun.frame (F := Bits) m ρ

/-- The idealized kernel's frame. -/
theorem frame_ideal : Cert.quiescent_KernelIdeal := fun m ρ _ =>
  (θ_run Cert.KernelIdeal.defs _ _).mono (fun r h => ⟨fun c => (h.1 c).2, h.2⟩) (KernelIdealRun.Value.run_out m ρ)

/-- The reference's frame; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The threshold named in the softplus is `+∞` in the idealized kernel. -/
theorem preserves : Cert.preserves_Kernel_KernelIdeal := IdealRules.named_const.statement _ _ _ _ _ rfl

/-- Of the same arguments the reference's result is the one the kernel ends at. -/
theorem result_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h : Stage.Same m m' c) :
    Cert.ReferenceIdeal.Step.R_main_v120 (Stage.iter m' c 16384)
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      = Pipeline.afterTail₀ Cert.KernelIdeal.cfgs (KernelIdealRun.Value.dats m) 0 (Cert.KernelIdeal.Gen.V0 m) [Cert.KernelIdeal.Gen.hostOps1]
          c Cert.KernelIdeal.main_v18 := by
  funext y
  have hy : y = ix4 (y 0) (y 1) (y 2) (y 3) := by
    funext a
    fin_cases a <;> rfl
  rw [hy]
  exact (Stage.result_eq m m' c h (y 0) (y 1) (y 2) (y 3)).trans (KernelIdealRun.Value.tail_18 m c (y 0) (y 1) (y 2) (y 3)).symm

/-- Over the reals the idealized kernel computes what the reference computes, from the same arguments. -/
theorem algebraic : Cert.algebraic_KernelIdeal_ReferenceIdeal := fun m g m' g' _ h =>
  ⟨_, (θ_run Cert.KernelIdeal.defs _ _).mono (fun r hr c => hr.1 c) (KernelIdealRun.Value.run_out m g),
    (θ_run Cert.ReferenceIdeal.defs _ _).mono (fun r hr c =>
      have ⟨h0, h1, h2, h3, h4, h5, h6, h7, h8, h9, h10⟩ := h c
      ⟨(hr c).1.trans (result_same m m' c ⟨h0, h1, h2, h3, h4, h5, h6, h7, h8, h9, h10⟩), (hr c).2⟩)
      (Cert.ReferenceIdeal.StepRun.run_iter m' g' (Stage.iter m') (fun _ => rfl) (fun _ _ => rfl))⟩

theorem claim : Cert.Claim :=
  ⟨Cert.Kernel.Gen.facts, Cert.KernelIdeal.Gen.facts, Cert.ReferenceIdeal.Gen.facts, frame_kernel, frame_ideal, frame_reference, preserves, algebraic⟩

end Cert.Proof

end
